-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def preserves_Kernel_KernelIdeal : Prop :=
  IdealRules.named_const.Statement Cert.KernelIdeal.κ "qscale" .f32 0x3E38AA3B#32 ((8⁻¹ * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v160) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v83) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v101) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v102) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v25_0)) (v1 : (c : Dev Cert.Kernel5Ideal.nD) → Buf (Elt Ideal) ((c.tc : Thread Cert.Kernel5Ideal.nD Cert.Kernel5Ideal.τ).loc Cert.Kernel5Ideal.main_v25_1)) (v2 : (c : Dev Cert.Kernel5Ideal.nD) → Buf (Elt Ideal) ((c.tc : Thread Cert.Kernel5Ideal.nD Cert.Kernel5Ideal.τ).loc Cert.Kernel5Ideal.main_v25_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v25_0) = v0 c
          ∧ r.2.mem ((c.tc : Thread Cert.Kernel5Ideal.nD Cert.Kernel5Ideal.τ).loc Cert.Kernel5Ideal.main_v25_1) = v1 c
          ∧ r.2.mem ((c.tc : Thread Cert.Kernel5Ideal.nD Cert.Kernel5Ideal.τ).loc Cert.Kernel5Ideal.main_v25_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v225) = v0 c
          ∧ r.2.mem ((c.tc : Thread Cert.Reference5Ideal.nD Cert.Reference5Ideal.τ).loc Cert.Reference5Ideal.main_v227) = v1 c
          ∧ r.2.mem ((c.tc : Thread Cert.Reference5Ideal.nD Cert.Reference5Ideal.τ).loc Cert.Reference5Ideal.main_v230) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S32x9x1024x256 : Shape := ⟨4, ![32, 9, 1024, 256]⟩
abbrev S32x2304x640 : Shape := ⟨3, ![32, 2304, 640]⟩
abbrev S32x9x640x256 : Shape := ⟨4, ![32, 9, 640, 256]⟩
abbrev S4x64 : Shape := ⟨2, ![4, 64]⟩
abbrev S128 : Shape := ⟨1, ![128]⟩
abbrev S_ : Shape := ⟨0, ![]⟩

class Facts : Prop where
  bcast_S_S32x9x1024x256 : S_.BroadcastsInDim S32x9x1024x256 (![] : Fin 0 → Fin S32x9x1024x256.rank)
  bitsLt_bf16_f32 : FTy.bits .bf16 < FTy.bits .f32
  bcast_S_S32x2304x640 : S_.BroadcastsInDim S32x2304x640 (![] : Fin 0 → Fin S32x2304x640.rank)
  bcast_S_S32x9x640x256 : S_.BroadcastsInDim S32x9x640x256 (![] : Fin 0 → Fin S32x9x640x256.rank)
  bcast_S_S4x64 : S_.BroadcastsInDim S4x64 (![] : Fin 0 → Fin S4x64.rank)

variable [Facts]

def fn {F : FTy → Type} [FloatOps F] (main_arg0 : FVec F S32x9x1024x256 .f32) (main_arg1 : FVec F S32x2304x640 .bf16) (main_arg2 : FVec F S32x9x640x256 .f32) (main_arg3 : FVec F S4x64 .f32) (main_arg4 : FVec F S128 .f32) : IVec S32x9x1024x256 1 × IVec S32x2304x640 1 × IVec S32x9x640x256 1 × IVec S4x64 1 :=
  let main_v0 : FVec F S32x9x1024x256 .f32 := Host.absf main_arg0
  let main_cst : FVec F S_ .f32 := constant S_ .f32 0x7F800000#32
  let main_v1 : FVec F S32x9x1024x256 .f32 := broadcastInDim S32x9x1024x256 ![] bcast_S_S32x9x1024x256 main_cst
  let main_v2 : IVec S32x9x1024x256 1 := cmpf .olt main_v0 main_v1
  let main_v3 : FVec F S32x2304x640 .f32 := (extf .f32 · bitsLt_bf16_f32) main_arg1
  let main_v4 : FVec F S32x2304x640 .f32 := Host.absf main_v3
  let main_cst_0 : FVec F S_ .f32 := constant S_ .f32 0x7F800000#32
  let main_v5 : FVec F S32x2304x640 .f32 := broadcastInDim S32x2304x640 ![] bcast_S_S32x2304x640 main_cst_0
  let main_v6 : IVec S32x2304x640 1 := cmpf .olt main_v4 main_v5
  let main_v7 : FVec F S32x9x640x256 .f32 := Host.absf main_arg2
  let main_cst_1 : FVec F S_ .f32 := constant S_ .f32 0x7F800000#32
  let main_v8 : FVec F S32x9x640x256 .f32 := broadcastInDim S32x9x640x256 ![] bcast_S_S32x9x640x256 main_cst_1
  let main_v9 : IVec S32x9x640x256 1 := cmpf .olt main_v7 main_v8
  let main_v10 : FVec F S4x64 .f32 := Host.absf main_arg3
  let main_cst_2 : FVec F S_ .f32 := constant S_ .f32 0x7F800000#32
  let main_v11 : FVec F S4x64 .f32 := broadcastInDim S4x64 ![] bcast_S_S4x64 main_cst_2
  let main_v12 : IVec S4x64 1 := cmpf .olt main_v10 main_v11
  (main_v2, main_v6, main_v9, main_v12)
-- ==== Kernel.lean ====
abbrev S32x9x1024x256 : Shape := ⟨4, ![32, 9, 1024, 256]⟩
abbrev S32x2304x640 : Shape := ⟨3, ![32, 2304, 640]⟩
abbrev S32x9x640x256 : Shape := ⟨4, ![32, 9, 640, 256]⟩
abbrev S4x64 : Shape := ⟨2, ![4, 64]⟩
abbrev S128 : Shape := ⟨1, ![128]⟩
abbrev S_ : Shape := ⟨0, ![]⟩
abbrev S32x9x16x256 : Shape := ⟨4, ![32, 9, 16, 256]⟩
abbrev S32x9x128x256 : Shape := ⟨4, ![32, 9, 128, 256]⟩
abbrev S32x9x64x256 : Shape := ⟨4, ![32, 9, 64, 256]⟩
abbrev S32x9x736x256 : Shape := ⟨4, ![32, 9, 736, 256]⟩
abbrev S128x1 : Shape := ⟨2, ![128, 1]⟩
abbrev S1x1x1024x256 : Shape := ⟨4, ![1, 1, 1024, 256]⟩
abbrev S1x2304x640 : Shape := ⟨3, ![1, 2304, 640]⟩
abbrev S1x9x736x256 : Shape := ⟨4, ![1, 9, 736, 256]⟩
abbrev S16x128x256 : Shape := ⟨3, ![16, 128, 256]⟩
abbrev S16x1x256 : Shape := ⟨3, ![16, 1, 256]⟩
abbrev S16x144x256 : Shape := ⟨3, ![16, 144, 256]⟩
abbrev S64x256 : Shape := ⟨2, ![64, 256]⟩
abbrev S1x1x64x256 : Shape := ⟨4, ![1, 1, 64, 256]⟩
abbrev S128x256 : Shape := ⟨2, ![128, 256]⟩
abbrev S1x128x256 : Shape := ⟨3, ![1, 128, 256]⟩
abbrev S1x256x128 : Shape := ⟨3, ![1, 256, 128]⟩
abbrev S256x128 : Shape := ⟨2, ![256, 128]⟩
abbrev S256x256 : Shape := ⟨2, ![256, 256]⟩
abbrev S256 : Shape := ⟨1, ![256]⟩
abbrev S1x256 : Shape := ⟨2, ![1, 256]⟩
abbrev S1x1x256 : Shape := ⟨3, ![1, 1, 256]⟩
abbrev S1x1x144x256 : Shape := ⟨4, ![1, 1, 144, 256]⟩
abbrev S144x256 : Shape := ⟨2, ![144, 256]⟩
abbrev S1x144x256 : Shape := ⟨3, ![1, 144, 256]⟩
abbrev S1x1x80x256 : Shape := ⟨4, ![1, 1, 80, 256]⟩
abbrev S80x256 : Shape := ⟨2, ![80, 256]⟩
abbrev S1x80x256 : Shape := ⟨3, ![1, 80, 256]⟩
abbrev S1x64 : Shape := ⟨2, ![1, 64]⟩
abbrev S1 : Shape := ⟨1, ![1]⟩
abbrev S1x1 : Shape := ⟨2, ![1, 1]⟩
abbrev S1x1x128x256 : Shape := ⟨4, ![1, 1, 128, 256]⟩
abbrev S1x64x256 : Shape := ⟨3, ![1, 64, 256]⟩

abbrev nBuf : Space → Nat
  | .hbm => 17
  | .vmem => 13
  | .smem => 0
  | _ => 0

abbrev bufTy : (tb : Table) → Fin (tcTables nBuf tb) → BufTy
  | .hbm, ⟨0, _⟩ => ⟨S32x9x1024x256, .f32⟩
  | .hbm, ⟨1, _⟩ => ⟨S32x2304x640, .bf16⟩
  | .hbm, ⟨2, _⟩ => ⟨S32x9x640x256, .f32⟩
  | .hbm, ⟨3, _⟩ => ⟨S4x64, .f32⟩
  | .hbm, ⟨4, _⟩ => ⟨S128, .f32⟩
  | .hbm, ⟨5, _⟩ => ⟨S_, .f32⟩
  | .hbm, ⟨6, _⟩ => ⟨S32x9x16x256, .f32⟩
  | .hbm, ⟨7, _⟩ => ⟨S32x9x128x256, .f32⟩
  | .hbm, ⟨8, _⟩ => ⟨S32x9x128x256, .f32⟩
  | .hbm, ⟨9, _⟩ => ⟨S32x9x128x256, .f32⟩
  | .hbm, ⟨10, _⟩ => ⟨S32x9x128x256, .f32⟩
  | .hbm, ⟨11, _⟩ => ⟨S32x9x64x256, .f32⟩
  | .hbm, ⟨12, _⟩ => ⟨S32x9x64x256, .f32⟩
  | .hbm, ⟨13, _⟩ => ⟨S32x9x736x256, .f32⟩
  | .hbm, ⟨14, _⟩ => ⟨S32x9x736x256, .bf16⟩
  | .hbm, ⟨15, _⟩ => ⟨S128x1, .f32⟩
  | .hbm, ⟨16, _⟩ => ⟨S32x9x1024x256, .bf16⟩
  | .local _ .vmem, ⟨0, _⟩ => ⟨S1x1x1024x256, .f32⟩
  | .local _ .vmem, ⟨1, _⟩ => ⟨S1x1x1024x256, .f32⟩
  | .local _ .vmem, ⟨2, _⟩ => ⟨S1x2304x640, .bf16⟩
  | .local _ .vmem, ⟨3, _⟩ => ⟨S1x2304x640, .bf16⟩
  | .local _ .vmem, ⟨4, _⟩ => ⟨S1x9x736x256, .bf16⟩
  | .local _ .vmem, ⟨5, _⟩ => ⟨S1x9x736x256, .bf16⟩
  | .local _ .vmem, ⟨6, _⟩ => ⟨S4x64, .f32⟩
  | .local _ .vmem, ⟨7, _⟩ => ⟨S128x1, .f32⟩
  | .local _ .vmem, ⟨8, _⟩ => ⟨S1x1x1024x256, .bf16⟩
  | .local _ .vmem, ⟨9, _⟩ => ⟨S1x1x1024x256, .bf16⟩
  | .local _ .vmem, ⟨10, _⟩ => ⟨S16x128x256, .bf16⟩
  | .local _ .vmem, ⟨11, _⟩ => ⟨S16x1x256, .f32⟩
  | .local _ .vmem, ⟨12, _⟩ => ⟨S16x144x256, .f32⟩
  | _, _ => ⟨S32x9x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 9], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2304x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x9x736x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "qscale" => some ((8⁻¹ * (Real.log 2)⁻¹ : ℝ) : EReal)
  | _ => none
-- ==== ReferenceIdeal.lean ====
abbrev S32x9x1024x256 : Shape := ⟨4, ![32, 9, 1024, 256]⟩
abbrev S32x2304x640 : Shape := ⟨3, ![32, 2304, 640]⟩
abbrev S32x9x640x256 : Shape := ⟨4, ![32, 9, 640, 256]⟩
abbrev S4x64 : Shape := ⟨2, ![4, 64]⟩
abbrev S128 : Shape := ⟨1, ![128]⟩
abbrev S32x9x256x1024 : Shape := ⟨4, ![32, 9, 256, 1024]⟩
abbrev S32x2304x1024 : Shape := ⟨3, ![32, 2304, 1024]⟩
abbrev S32x9x256x640 : Shape := ⟨4, ![32, 9, 256, 640]⟩
abbrev S32x2304x512 : Shape := ⟨3, ![32, 2304, 512]⟩
abbrev S32x2304x4x2x64 : Shape := ⟨5, ![32, 2304, 4, 2, 64]⟩
abbrev S32x2304x2x4x64 : Shape := ⟨5, ![32, 2304, 2, 4, 64]⟩
abbrev S32x2304x128 : Shape := ⟨3, ![32, 2304, 128]⟩
abbrev S32x2304x2x64 : Shape := ⟨4, ![32, 2304, 2, 64]⟩
abbrev S32x2304x4x128 : Shape := ⟨4, ![32, 2304, 4, 128]⟩
abbrev S1x64 : Shape := ⟨2, ![1, 64]⟩
abbrev S64 : Shape := ⟨1, ![64]⟩
abbrev S_ : Shape := ⟨0, ![]⟩
abbrev S32x256x4x2x64 : Shape := ⟨5, ![32, 256, 4, 2, 64]⟩
abbrev S32x256x4x128 : Shape := ⟨4, ![32, 256, 4, 128]⟩
abbrev S32x256x2x64 : Shape := ⟨4, ![32, 256, 2, 64]⟩
abbrev S32x2048x4x2x64 : Shape := ⟨5, ![32, 2048, 4, 2, 64]⟩
abbrev S32x2048x2x4x64 : Shape := ⟨5, ![32, 2048, 2, 4, 64]⟩
abbrev S32x4x2x2048x2304 : Shape := ⟨5, ![32, 4, 2, 2048, 2304]⟩
abbrev S32x4x2x2048 : Shape := ⟨4, ![32, 4, 2, 2048]⟩
abbrev S32x4x2x2048x1 : Shape := ⟨5, ![32, 4, 2, 2048, 1]⟩
abbrev S32x4x1x2048x2304 : Shape := ⟨5, ![32, 4, 1, 2048, 2304]⟩
abbrev S32x4x2048x2304 : Shape := ⟨4, ![32, 4, 2048, 2304]⟩
abbrev S32x4x128x2048 : Shape := ⟨4, ![32, 4, 128, 2048]⟩
abbrev S32x2048x4x128 : Shape := ⟨4, ![32, 2048, 4, 128]⟩
abbrev S32x2048x4 : Shape := ⟨3, ![32, 2048, 4]⟩
abbrev S32x2048x4x1 : Shape := ⟨4, ![32, 2048, 4, 1]⟩
abbrev S1x1x1x128 : Shape := ⟨4, ![1, 1, 1, 128]⟩
abbrev S32x2x2304x2048x4 : Shape := ⟨5, ![32, 2, 2304, 2048, 4]⟩
abbrev S32x2x4x2048x2304 : Shape := ⟨5, ![32, 2, 4, 2048, 2304]⟩
abbrev S32x2x4x2048 : Shape := ⟨4, ![32, 2, 4, 2048]⟩
abbrev S32x2x4x2048x1 : Shape := ⟨5, ![32, 2, 4, 2048, 1]⟩
abbrev S32x2x64x4x2048 : Shape := ⟨5, ![32, 2, 64, 4, 2048]⟩
abbrev S32x2048x512 : Shape := ⟨3, ![32, 2048, 512]⟩
abbrev S32x2048x1024 : Shape := ⟨3, ![32, 2048, 1024]⟩
abbrev S32x256x2x4x64 : Shape := ⟨5, ![32, 256, 2, 4, 64]⟩
abbrev S32x4x2x256x256 : Shape := ⟨5, ![32, 4, 2, 256, 256]⟩
abbrev S32x4x2x256 : Shape := ⟨4, ![32, 4, 2, 256]⟩
abbrev S32x4x2x256x1 : Shape := ⟨5, ![32, 4, 2, 256, 1]⟩
abbrev S32x4x1x256x256 : Shape := ⟨5, ![32, 4, 1, 256, 256]⟩
abbrev S32x4x256x256 : Shape := ⟨4, ![32, 4, 256, 256]⟩
abbrev S32x4x128x256 : Shape := ⟨4, ![32, 4, 128, 256]⟩
abbrev S32x256x4 : Shape := ⟨3, ![32, 256, 4]⟩
abbrev S32x256x4x1 : Shape := ⟨4, ![32, 256, 4, 1]⟩
abbrev S32x2x256x256x4 : Shape := ⟨5, ![32, 2, 256, 256, 4]⟩
abbrev S32x2x4x256x256 : Shape := ⟨5, ![32, 2, 4, 256, 256]⟩
abbrev S32x2x4x256 : Shape := ⟨4, ![32, 2, 4, 256]⟩
abbrev S32x2x4x256x1 : Shape := ⟨5, ![32, 2, 4, 256, 1]⟩
abbrev S32x2x64x4x256 : Shape := ⟨5, ![32, 2, 64, 4, 256]⟩
abbrev S32x256x512 : Shape := ⟨3, ![32, 256, 512]⟩
abbrev S32x256x1024 : Shape := ⟨3, ![32, 256, 1024]⟩

abbrev nBuf : Space → Nat
  | .hbm => 193
  | .vmem => 0
  | .smem => 0
  | _ => 0

abbrev hbmTy0_0 (i : Nat) : BufTy := match i % 128 with
  | 0 => ⟨S32x9x1024x256, .f32⟩
  | 1 => ⟨S32x2304x640, .bf16⟩
  | 2 => ⟨S32x9x640x256, .f32⟩
  | 3 => ⟨S4x64, .f32⟩
  | 4 => ⟨S128, .f32⟩
  | 5 => ⟨S32x2304x640, .f32⟩
  | 6 => ⟨S32x9x256x1024, .f32⟩
  | 7 => ⟨S32x2304x1024, .f32⟩
  | 8 => ⟨S32x9x256x640, .f32⟩
  | 9 => ⟨S32x2304x640, .f32⟩
  | 10 => ⟨S32x2304x512, .f32⟩
  | 11 => ⟨S32x2304x4x2x64, .f32⟩
  | 12 => ⟨S32x2304x512, .f32⟩
  | 13 => ⟨S32x2304x2x4x64, .f32⟩
  | 14 => ⟨S32x2304x512, .f32⟩
  | 15 => ⟨S32x2304x4x2x64, .f32⟩
  | 16 => ⟨S32x2304x128, .f32⟩
  | 17 => ⟨S32x2304x2x64, .f32⟩
  | 18 => ⟨S32x2304x512, .f32⟩
  | 19 => ⟨S32x2304x4x128, .f32⟩
  | 20 => ⟨S32x2304x128, .f32⟩
  | 21 => ⟨S32x2304x2x64, .f32⟩
  | 22 => ⟨S1x64, .f32⟩
  | 23 => ⟨S64, .f32⟩
  | 24 => ⟨S1x64, .f32⟩
  | 25 => ⟨S64, .f32⟩
  | 26 => ⟨S64, .f32⟩
  | 27 => ⟨S_, .f32⟩
  | 28 => ⟨S_, .f32⟩
  | 29 => ⟨S_, .f32⟩
  | 30 => ⟨S1x64, .f32⟩
  | 31 => ⟨S64, .f32⟩
  | 32 => ⟨S1x64, .f32⟩
  | 33 => ⟨S64, .f32⟩
  | 34 => ⟨S64, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S32x256x4x2x64, .f32⟩
  | 42 => ⟨S32x256x4x128, .f32⟩
  | 43 => ⟨S32x256x2x64, .f32⟩
  | 44 => ⟨S32x256x2x64, .f32⟩
  | 45 => ⟨S32x2048x4x2x64, .f32⟩
  | 46 => ⟨S32x2048x2x4x64, .f32⟩
  | 47 => ⟨S32x4x2x2048x2304, .f32⟩
  | 48 => ⟨S_, .f32⟩
  | 49 => ⟨S32x4x2x2048x2304, .f32⟩
  | 50 => ⟨S32x4x2x2048x2304, .f32⟩
  | 51 => ⟨S_, .f32⟩
  | 52 => ⟨S32x4x2x2048, .f32⟩
  | 53 => ⟨S_, .f32⟩
  | 54 => ⟨S32x4x2x2048, .f32⟩
  | 55 => ⟨S32x4x2x2048, .f32⟩
  | 56 => ⟨S32x4x2x2048x1, .f32⟩
  | 57 => ⟨S32x4x2x2048x2304, .f32⟩
  | 58 => ⟨S32x4x2x2048x2304, .f32⟩
  | 59 => ⟨S32x4x2x2048x2304, .f32⟩
  | 60 => ⟨S_, .f32⟩
  | 61 => ⟨S32x4x2x2048, .f32⟩
  | 62 => ⟨S32x4x2x2048x1, .f32⟩
  | 63 => ⟨S32x4x2x2048x2304, .f32⟩
  | 64 => ⟨S32x4x2x2048x2304, .f32⟩
  | 65 => ⟨S32x4x1x2048x2304, .f32⟩
  | 66 => ⟨S32x4x2048x2304, .f32⟩
  | 67 => ⟨S32x4x1x2048x2304, .f32⟩
  | 68 => ⟨S32x4x2048x2304, .f32⟩
  | 69 => ⟨S32x4x2048x2304, .f32⟩
  | 70 => ⟨S32x4x2048x2304, .f32⟩
  | 71 => ⟨S32x4x2048x2304, .f32⟩
  | 72 => ⟨S32x4x128x2048, .f32⟩
  | 73 => ⟨S32x2048x4x128, .f32⟩
  | 74 => ⟨S32x2048x4x128, .f32⟩
  | 75 => ⟨S_, .f32⟩
  | 76 => ⟨S32x2048x4, .f32⟩
  | 77 => ⟨S32x2048x4x1, .f32⟩
  | 78 => ⟨S_, .f32⟩
  | 79 => ⟨S32x2048x4x1, .f32⟩
  | 80 => ⟨S32x2048x4x1, .f32⟩
  | 81 => ⟨S_, .f32⟩
  | 82 => ⟨S32x2048x4x1, .f32⟩
  | 83 => ⟨S32x2048x4x1, .f32⟩
  | 84 => ⟨S32x2048x4x1, .f32⟩
  | 85 => ⟨S32x2048x4x128, .f32⟩
  | 86 => ⟨S32x2048x4x128, .f32⟩
  | 87 => ⟨S1x1x1x128, .f32⟩
  | 88 => ⟨S32x2048x4x128, .f32⟩
  | 89 => ⟨S32x2048x4x128, .f32⟩
  | 90 => ⟨S_, .f32⟩
  | 91 => ⟨S32x2048x4x128, .f32⟩
  | 92 => ⟨S32x2048x4x128, .f32⟩
  | 93 => ⟨S32x2x2304x2048x4, .f32⟩
  | 94 => ⟨S32x2x4x2048x2304, .f32⟩
  | 95 => ⟨S_, .f32⟩
  | 96 => ⟨S32x2x4x2048x2304, .f32⟩
  | 97 => ⟨S32x2x4x2048x2304, .f32⟩
  | 98 => ⟨S_, .f32⟩
  | 99 => ⟨S32x2x4x2048, .f32⟩
  | 100 => ⟨S_, .f32⟩
  | 101 => ⟨S32x2x4x2048, .f32⟩
  | 102 => ⟨S32x2x4x2048, .f32⟩
  | 103 => ⟨S32x2x4x2048x1, .f32⟩
  | 104 => ⟨S32x2x4x2048x2304, .f32⟩
  | 105 => ⟨S32x2x4x2048x2304, .f32⟩
  | 106 => ⟨S32x2x4x2048x2304, .f32⟩
  | 107 => ⟨S_, .f32⟩
  | 108 => ⟨S32x2x4x2048, .f32⟩
  | 109 => ⟨S32x2x4x2048x1, .f32⟩
  | 110 => ⟨S32x2x4x2048x2304, .f32⟩
  | 111 => ⟨S32x2x4x2048x2304, .f32⟩
  | 112 => ⟨S32x2x64x4x2048, .f32⟩
  | 113 => ⟨S32x2048x2x4x64, .f32⟩
  | 114 => ⟨S32x2048x512, .f32⟩
  | 115 => ⟨S32x2048x512, .f32⟩
  | 116 => ⟨S32x2048x1024, .f32⟩
  | 117 => ⟨S32x256x4x2x64, .f32⟩
  | 118 => ⟨S32x256x2x4x64, .f32⟩
  | 119 => ⟨S32x4x2x256x256, .f32⟩
  | 120 => ⟨S_, .f32⟩
  | 121 => ⟨S32x4x2x256x256, .f32⟩
  | 122 => ⟨S32x4x2x256x256, .f32⟩
  | 123 => ⟨S_, .f32⟩
  | 124 => ⟨S32x4x2x256, .f32⟩
  | 125 => ⟨S_, .f32⟩
  | 126 => ⟨S32x4x2x256, .f32⟩
  | 127 => ⟨S32x4x2x256, .f32⟩
  | _ => ⟨S32x9x1024x256, .f32⟩

abbrev hbmTy0_1 (i : Nat) : BufTy := match i % 128 with
  | 0 => ⟨S32x4x2x256x1, .f32⟩
  | 1 => ⟨S32x4x2x256x256, .f32⟩
  | 2 => ⟨S32x4x2x256x256, .f32⟩
  | 3 => ⟨S32x4x2x256x256, .f32⟩
  | 4 => ⟨S_, .f32⟩
  | 5 => ⟨S32x4x2x256, .f32⟩
  | 6 => ⟨S32x4x2x256x1, .f32⟩
  | 7 => ⟨S32x4x2x256x256, .f32⟩
  | 8 => ⟨S32x4x2x256x256, .f32⟩
  | 9 => ⟨S32x4x1x256x256, .f32⟩
  | 10 => ⟨S32x4x256x256, .f32⟩
  | 11 => ⟨S32x4x1x256x256, .f32⟩
  | 12 => ⟨S32x4x256x256, .f32⟩
  | 13 => ⟨S32x4x256x256, .f32⟩
  | 14 => ⟨S32x4x256x256, .f32⟩
  | 15 => ⟨S32x4x256x256, .f32⟩
  | 16 => ⟨S32x4x128x256, .f32⟩
  | 17 => ⟨S32x256x4x128, .f32⟩
  | 18 => ⟨S32x256x4x128, .f32⟩
  | 19 => ⟨S_, .f32⟩
  | 20 => ⟨S32x256x4, .f32⟩
  | 21 => ⟨S32x256x4x1, .f32⟩
  | 22 => ⟨S_, .f32⟩
  | 23 => ⟨S32x256x4x1, .f32⟩
  | 24 => ⟨S32x256x4x1, .f32⟩
  | 25 => ⟨S_, .f32⟩
  | 26 => ⟨S32x256x4x1, .f32⟩
  | 27 => ⟨S32x256x4x1, .f32⟩
  | 28 => ⟨S32x256x4x1, .f32⟩
  | 29 => ⟨S32x256x4x128, .f32⟩
  | 30 => ⟨S32x256x4x128, .f32⟩
  | 31 => ⟨S1x1x1x128, .f32⟩
  | 32 => ⟨S32x256x4x128, .f32⟩
  | 33 => ⟨S32x256x4x128, .f32⟩
  | 34 => ⟨S_, .f32⟩
  | 35 => ⟨S32x256x4x128, .f32⟩
  | 36 => ⟨S32x256x4x128, .f32⟩
  | 37 => ⟨S32x2x256x256x4, .f32⟩
  | 38 => ⟨S32x2x4x256x256, .f32⟩
  | 39 => ⟨S_, .f32⟩
  | 40 => ⟨S32x2x4x256x256, .f32⟩
  | 41 => ⟨S32x2x4x256x256, .f32⟩
  | 42 => ⟨S_, .f32⟩
  | 43 => ⟨S32x2x4x256, .f32⟩
  | 44 => ⟨S_, .f32⟩
  | 45 => ⟨S32x2x4x256, .f32⟩
  | 46 => ⟨S32x2x4x256, .f32⟩
  | 47 => ⟨S32x2x4x256x1, .f32⟩
  | 48 => ⟨S32x2x4x256x256, .f32⟩
  | 49 => ⟨S32x2x4x256x256, .f32⟩
  | 50 => ⟨S32x2x4x256x256, .f32⟩
  | 51 => ⟨S_, .f32⟩
  | 52 => ⟨S32x2x4x256, .f32⟩
  | 53 => ⟨S32x2x4x256x1, .f32⟩
  | 54 => ⟨S32x2x4x256x256, .f32⟩
  | 55 => ⟨S32x2x4x256x256, .f32⟩
  | 56 => ⟨S32x2x64x4x256, .f32⟩
  | 57 => ⟨S32x256x2x4x64, .f32⟩
  | 58 => ⟨S32x256x512, .f32⟩
  | 59 => ⟨S32x256x512, .f32⟩
  | 60 => ⟨S32x256x1024, .f32⟩
  | 61 => ⟨S32x2304x1024, .f32⟩
  | 62 => ⟨S32x9x256x1024, .f32⟩
  | 63 => ⟨S32x9x1024x256, .f32⟩
  | 64 => ⟨S32x9x1024x256, .bf16⟩
  | _ => ⟨S32x9x1024x256, .f32⟩

abbrev hbmTy (i : Nat) : BufTy := match i / 128 with
  | 0 => hbmTy0_0 i
  | 1 => hbmTy0_1 i
  | _ => ⟨S32x9x1024x256, .f32⟩

abbrev bufTy : (tb : Table) → Fin (tcTables nBuf tb) → BufTy
  | .hbm, ⟨i, _⟩ => hbmTy i
  | _, _ => ⟨S32x9x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst_0 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_1 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_cst_2 : Ref sig .tc := ⟨.hbm, 48, rfl⟩
abbrev main_v40 : Ref sig .tc := ⟨.hbm, 49, rfl⟩
abbrev main_v41 : Ref sig .tc := ⟨.hbm, 50, rfl⟩
abbrev main_cst_3 : Ref sig .tc := ⟨.hbm, 51, rfl⟩
abbrev main_v42 : Ref sig .tc := ⟨.hbm, 52, rfl⟩
abbrev main_cst_4 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_cst_5 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_cst_6 : Ref sig .tc := ⟨.hbm, 75, rfl⟩
abbrev main_v63 : Ref sig .tc := ⟨.hbm, 76, rfl⟩
abbrev main_v64 : Ref sig .tc := ⟨.hbm, 77, rfl⟩
abbrev main_cst_7 : Ref sig .tc := ⟨.hbm, 78, rfl⟩
abbrev main_v65 : Ref sig .tc := ⟨.hbm, 79, rfl⟩
abbrev main_v66 : Ref sig .tc := ⟨.hbm, 80, rfl⟩
abbrev main_cst_8 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_cst_9 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_cst_10 : Ref sig .tc := ⟨.hbm, 95, rfl⟩
abbrev main_v79 : Ref sig .tc := ⟨.hbm, 96, rfl⟩
abbrev main_v80 : Ref sig .tc := ⟨.hbm, 97, rfl⟩
abbrev main_cst_11 : Ref sig .tc := ⟨.hbm, 98, rfl⟩
abbrev main_v81 : Ref sig .tc := ⟨.hbm, 99, rfl⟩
abbrev main_cst_12 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_cst_13 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_cst_14 : Ref sig .tc := ⟨.hbm, 120, rfl⟩
abbrev main_v100 : Ref sig .tc := ⟨.hbm, 121, rfl⟩
abbrev main_v101 : Ref sig .tc := ⟨.hbm, 122, rfl⟩
abbrev main_cst_15 : Ref sig .tc := ⟨.hbm, 123, rfl⟩
abbrev main_v102 : Ref sig .tc := ⟨.hbm, 124, rfl⟩
abbrev main_cst_16 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_cst_17 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_cst_18 : Ref sig .tc := ⟨.hbm, 147, rfl⟩
abbrev main_v123 : Ref sig .tc := ⟨.hbm, 148, rfl⟩
abbrev main_v124 : Ref sig .tc := ⟨.hbm, 149, rfl⟩
abbrev main_cst_19 : Ref sig .tc := ⟨.hbm, 150, rfl⟩
abbrev main_v125 : Ref sig .tc := ⟨.hbm, 151, rfl⟩
abbrev main_v126 : Ref sig .tc := ⟨.hbm, 152, rfl⟩
abbrev main_cst_20 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_cst_21 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_cst_22 : Ref sig .tc := ⟨.hbm, 167, rfl⟩
abbrev main_v139 : Ref sig .tc := ⟨.hbm, 168, rfl⟩
abbrev main_v140 : Ref sig .tc := ⟨.hbm, 169, rfl⟩
abbrev main_cst_23 : Ref sig .tc := ⟨.hbm, 170, rfl⟩
abbrev main_v141 : Ref sig .tc := ⟨.hbm, 171, rfl⟩
abbrev main_cst_24 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_cst_25 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩
abbrev main_v160 : Ref sig .tc := ⟨.hbm, 192, rfl⟩

abbrev nD : Nat := 1
abbrev τ : Topo := Topo.v7x

variable {F : FTy → Type} [FloatOps F]
-- ==== Kernel2.lean ====
abbrev S32x2304x1024 : Shape := ⟨3, ![32, 2304, 1024]⟩
abbrev S32x9x1024x256 : Shape := ⟨4, ![32, 9, 1024, 256]⟩
abbrev S32x2x6x1024 : Shape := ⟨4, ![32, 2, 6, 1024]⟩
abbrev S4x1024 : Shape := ⟨2, ![4, 1024]⟩
abbrev S1024x1024 : Shape := ⟨2, ![1024, 1024]⟩
abbrev S1024x5632 : Shape := ⟨2, ![1024, 5632]⟩
abbrev S2816x1024 : Shape := ⟨2, ![2816, 1024]⟩
abbrev S144x512x1024 : Shape := ⟨3, ![144, 512, 1024]⟩
abbrev S1x256x1024 : Shape := ⟨3, ![1, 256, 1024]⟩
abbrev S1x1x1024x256 : Shape := ⟨4, ![1, 1, 1024, 256]⟩
abbrev S1x1x6x1024 : Shape := ⟨4, ![1, 1, 6, 1024]⟩
abbrev S1x512x1024 : Shape := ⟨3, ![1, 512, 1024]⟩
abbrev S2x256x2816 : Shape := ⟨3, ![2, 256, 2816]⟩
abbrev S1024x256 : Shape := ⟨2, ![1024, 256]⟩
abbrev S256x1024 : Shape := ⟨2, ![256, 1024]⟩
abbrev S6x1024 : Shape := ⟨2, ![6, 1024]⟩
abbrev S1x1024 : Shape := ⟨2, ![1, 1024]⟩
abbrev S256 : Shape := ⟨1, ![256]⟩
abbrev S256x1 : Shape := ⟨2, ![256, 1]⟩
abbrev S256x256 : Shape := ⟨2, ![256, 256]⟩
abbrev S1x256x256 : Shape := ⟨3, ![1, 256, 256]⟩
abbrev S1x256x2816 : Shape := ⟨3, ![1, 256, 2816]⟩
abbrev S256x2816 : Shape := ⟨2, ![256, 2816]⟩

abbrev nBuf : Space → Nat
  | .hbm => 8
  | .vmem => 19
  | .smem => 0
  | _ => 0

abbrev bufTy : (tb : Table) → Fin (tcTables nBuf tb) → BufTy
  | .hbm, ⟨0, _⟩ => ⟨S32x2304x1024, .f32⟩
  | .hbm, ⟨1, _⟩ => ⟨S32x9x1024x256, .bf16⟩
  | .hbm, ⟨2, _⟩ => ⟨S32x2x6x1024, .f32⟩
  | .hbm, ⟨3, _⟩ => ⟨S4x1024, .f32⟩
  | .hbm, ⟨4, _⟩ => ⟨S1024x1024, .bf16⟩
  | .hbm, ⟨5, _⟩ => ⟨S1024x5632, .bf16⟩
  | .hbm, ⟨6, _⟩ => ⟨S2816x1024, .bf16⟩
  | .hbm, ⟨7, _⟩ => ⟨S144x512x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1024x256, .bf16⟩
  | .local _ .vmem, ⟨3, _⟩ => ⟨S1x1x1024x256, .bf16⟩
  | .local _ .vmem, ⟨4, _⟩ => ⟨S1x1x6x1024, .f32⟩
  | .local _ .vmem, ⟨5, _⟩ => ⟨S1x1x6x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x1x1024x256, .bf16⟩
  | .local _ .vmem, ⟨9, _⟩ => ⟨S1x1x1024x256, .bf16⟩
  | .local _ .vmem, ⟨10, _⟩ => ⟨S1x1x6x1024, .f32⟩
  | .local _ .vmem, ⟨11, _⟩ => ⟨S1x1x6x1024, .f32⟩
  | .local _ .vmem, ⟨12, _⟩ => ⟨S4x1024, .f32⟩
  | .local _ .vmem, ⟨13, _⟩ => ⟨S1024x1024, .bf16⟩
  | .local _ .vmem, ⟨14, _⟩ => ⟨S1024x5632, .bf16⟩
  | .local _ .vmem, ⟨15, _⟩ => ⟨S2816x1024, .bf16⟩
  | .local _ .vmem, ⟨16, _⟩ => ⟨S1x512x1024, .f32⟩
  | .local _ .vmem, ⟨17, _⟩ => ⟨S1x512x1024, .f32⟩
  | .local _ .vmem, ⟨18, _⟩ => ⟨S2x256x2816, .bf16⟩
  | _, _ => ⟨S32x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![144], ![false]⟩

def cc0_transform_0 (i : grid0.Coords) : Fin 3 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c9_i32 : BitVec 32 := 9#32
  let v2 : BitVec 32 := Scalar.divsi v1 c9_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c9_i32 c0_i32_2
  let v9 : BitVec 32 := Scalar.extui v8
  let c0_i32_3 : BitVec 32 := 0#32
  let v10 : BitVec 1 := Scalar.cmpi .slt c9_i32 c0_i32_3
  let v11 : BitVec 32 := Scalar.extui v10
  let v12 : BitVec 32 := Scalar.subi v9 v11
  let v13 : BitVec 1 := Scalar.cmpi .ne v7 v12
  let v14 : BitVec 32 := Scalar.remsi v1 c9_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c9_i32_5 : BitVec 32 := 9#32
  let c0_i32_6 : BitVec 32 := 0#32
  let v19 : BitVec 1 := Scalar.cmpi .eq c9_i32_5 c0_i32_6
  let c1_i32_7 : BitVec 32 := 1#32
  let v20 : BitVec 32 := Scalar.select v19 c1_i32_7 c9_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let v29 : BitVec 32 := Scalar.addi v28 c0_i32_11
  let c0_i32_12 : BitVec 32 := 0#32
  let c0_i32_13 : BitVec 32 := 0#32
  ![v18.toNat, v29.toNat, c0_i32_12.toNat]

def cc0_transform_1 (i : grid0.Coords) : Fin 4 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c9_i32 : BitVec 32 := 9#32
  let v2 : BitVec 32 := Scalar.divsi v1 c9_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c9_i32 c0_i32_2
  let v9 : BitVec 32 := Scalar.extui v8
  let c0_i32_3 : BitVec 32 := 0#32
  let v10 : BitVec 1 := Scalar.cmpi .slt c9_i32 c0_i32_3
  let v11 : BitVec 32 := Scalar.extui v10
  let v12 : BitVec 32 := Scalar.subi v9 v11
  let v13 : BitVec 1 := Scalar.cmpi .ne v7 v12
  let v14 : BitVec 32 := Scalar.remsi v1 c9_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c9_i32_5 : BitVec 32 := 9#32
  let c0_i32_6 : BitVec 32 := 0#32
  let v19 : BitVec 1 := Scalar.cmpi .eq c9_i32_5 c0_i32_6
  let c1_i32_7 : BitVec 32 := 1#32
  let v20 : BitVec 32 := Scalar.select v19 c1_i32_7 c9_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let v29 : BitVec 32 := Scalar.addi v28 c0_i32_11
  let c0_i32_12 : BitVec 32 := 0#32
  let c0_i32_13 : BitVec 32 := 0#32
  let c0_i32_14 : BitVec 32 := 0#32
  ![v18.toNat, v29.toNat, c0_i32_12.toNat, c0_i32_13.toNat]

def cc0_transform_2 (i : grid0.Coords) : Fin 4 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c9_i32 : BitVec 32 := 9#32
  let v2 : BitVec 32 := Scalar.divsi v1 c9_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c9_i32 c0_i32_2
  let v9 : BitVec 32 := Scalar.extui v8
  let c0_i32_3 : BitVec 32 := 0#32
  let v10 : BitVec 1 := Scalar.cmpi .slt c9_i32 c0_i32_3
  let v11 : BitVec 32 := Scalar.extui v10
  let v12 : BitVec 32 := Scalar.subi v9 v11
  let v13 : BitVec 1 := Scalar.cmpi .ne v7 v12
  let v14 : BitVec 32 := Scalar.remsi v1 c9_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c9_i32_5 : BitVec 32 := 9#32
  let c0_i32_6 : BitVec 32 := 0#32
  let v19 : BitVec 1 := Scalar.cmpi .eq c9_i32_5 c0_i32_6
  let c1_i32_7 : BitVec 32 := 1#32
  let v20 : BitVec 32 := Scalar.select v19 c1_i32_7 c9_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let v29 : BitVec 32 := Scalar.addi v28 c0_i32_11
  let c1_i32_12 : BitVec 32 := 1#32
  let v30 : BitVec 32 := Scalar.minsi v29 c1_i32_12
  let c0_i32_13 : BitVec 32 := 0#32
  let c0_i32_14 : BitVec 32 := 0#32
  let c0_i32_15 : BitVec 32 := 0#32
  ![v18.toNat, v30.toNat, c0_i32_13.toNat, c0_i32_14.toNat]

def cc0_transform_3 (i : grid0.Coords) : Fin 3 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let c9_i32 : BitVec 32 := 9#32
  let v2 : BitVec 32 := Scalar.divsi v1 c9_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c9_i32 c0_i32_1
  let v9 : BitVec 32 := Scalar.extui v8
  let c0_i32_2 : BitVec 32 := 0#32
  let v10 : BitVec 1 := Scalar.cmpi .slt c9_i32 c0_i32_2
  let v11 : BitVec 32 := Scalar.extui v10
  let v12 : BitVec 32 := Scalar.subi v9 v11
  let v13 : BitVec 1 := Scalar.cmpi .ne v7 v12
  let v14 : BitVec 32 := Scalar.remsi v1 c9_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c9_i32_5 : BitVec 32 := 9#32
  let c0_i32_6 : BitVec 32 := 0#32
  let v19 : BitVec 1 := Scalar.cmpi .eq c9_i32_5 c0_i32_6
  let c1_i32_7 : BitVec 32 := 1#32
  let v20 : BitVec 32 := Scalar.select v19 c1_i32_7 c9_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let v29 : BitVec 32 := Scalar.addi v28 c0_i32_11
  let c0_i32_12 : BitVec 32 := 0#32
  let c0_i32_13 : BitVec 32 := 0#32
  ![v18.toNat, v29.toNat, c0_i32_12.toNat]

def cc0_transform_4 (i : grid0.Coords) : Fin 4 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let c9_i32 : BitVec 32 := 9#32
  let v2 : BitVec 32 := Scalar.divsi v1 c9_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c9_i32 c0_i32_1
  let v9 : BitVec 32 := Scalar.extui v8
  let c0_i32_2 : BitVec 32 := 0#32
  let v10 : BitVec 1 := Scalar.cmpi .slt c9_i32 c0_i32_2
  let v11 : BitVec 32 := Scalar.extui v10
  let v12 : BitVec 32 := Scalar.subi v9 v11
  let v13 : BitVec 1 := Scalar.cmpi .ne v7 v12
  let v14 : BitVec 32 := Scalar.remsi v1 c9_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c9_i32_5 : BitVec 32 := 9#32
  let c0_i32_6 : BitVec 32 := 0#32
  let v19 : BitVec 1 := Scalar.cmpi .eq c9_i32_5 c0_i32_6
  let c1_i32_7 : BitVec 32 := 1#32
  let v20 : BitVec 32 := Scalar.select v19 c1_i32_7 c9_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let v29 : BitVec 32 := Scalar.addi v28 c0_i32_11
  let c0_i32_12 : BitVec 32 := 0#32
  let c0_i32_13 : BitVec 32 := 0#32
  let c0_i32_14 : BitVec 32 := 0#32
  ![v18.toNat, v29.toNat, c0_i32_12.toNat, c0_i32_13.toNat]

def cc0_transform_5 (i : grid0.Coords) : Fin 4 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let c9_i32 : BitVec 32 := 9#32
  let v2 : BitVec 32 := Scalar.divsi v1 c9_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c9_i32 c0_i32_1
  let v9 : BitVec 32 := Scalar.extui v8
  let c0_i32_2 : BitVec 32 := 0#32
  let v10 : BitVec 1 := Scalar.cmpi .slt c9_i32 c0_i32_2
  let v11 : BitVec 32 := Scalar.extui v10
  let v12 : BitVec 32 := Scalar.subi v9 v11
  let v13 : BitVec 1 := Scalar.cmpi .ne v7 v12
  let v14 : BitVec 32 := Scalar.remsi v1 c9_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c9_i32_5 : BitVec 32 := 9#32
  let c0_i32_6 : BitVec 32 := 0#32
  let v19 : BitVec 1 := Scalar.cmpi .eq c9_i32_5 c0_i32_6
  let c1_i32_7 : BitVec 32 := 1#32
  let v20 : BitVec 32 := Scalar.select v19 c1_i32_7 c9_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let v29 : BitVec 32 := Scalar.addi v28 c0_i32_11
  let c1_i32_12 : BitVec 32 := 1#32
  let v30 : BitVec 32 := Scalar.minsi v29 c1_i32_12
  let c0_i32_13 : BitVec 32 := 0#32
  let c0_i32_14 : BitVec 32 := 0#32
  let c0_i32_15 : BitVec 32 := 0#32
  ![v18.toNat, v30.toNat, c0_i32_13.toNat, c0_i32_14.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x6x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x5632 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference2Ideal.lean ====
abbrev S32x2304x1024 : Shape := ⟨3, ![32, 2304, 1024]⟩
abbrev S32x9x1024x256 : Shape := ⟨4, ![32, 9, 1024, 256]⟩
abbrev S32x2x6x1024 : Shape := ⟨4, ![32, 2, 6, 1024]⟩
abbrev S4x1024 : Shape := ⟨2, ![4, 1024]⟩
abbrev S1024x1024 : Shape := ⟨2, ![1024, 1024]⟩
abbrev S1024x5632 : Shape := ⟨2, ![1024, 5632]⟩
abbrev S2816x1024 : Shape := ⟨2, ![2816, 1024]⟩
abbrev S32x9x256x1024 : Shape := ⟨4, ![32, 9, 256, 1024]⟩
abbrev S32x1x6x1024 : Shape := ⟨4, ![32, 1, 6, 1024]⟩
abbrev S32x6x1024 : Shape := ⟨3, ![32, 6, 1024]⟩
abbrev S32x256x6x1024 : Shape := ⟨4, ![32, 256, 6, 1024]⟩
abbrev S32x2048x6x1024 : Shape := ⟨4, ![32, 2048, 6, 1024]⟩
abbrev S32x2304x6x1024 : Shape := ⟨4, ![32, 2304, 6, 1024]⟩
abbrev S32x2304x1x1024 : Shape := ⟨4, ![32, 2304, 1, 1024]⟩
abbrev S1x1024 : Shape := ⟨2, ![1, 1024]⟩
abbrev S1024 : Shape := ⟨1, ![1024]⟩
abbrev S_ : Shape := ⟨0, ![]⟩
abbrev S32x2304 : Shape := ⟨2, ![32, 2304]⟩
abbrev S32x2304x1 : Shape := ⟨3, ![32, 2304, 1]⟩
abbrev S1x1x1024 : Shape := ⟨3, ![1, 1, 1024]⟩
abbrev S32x2304x5632 : Shape := ⟨3, ![32, 2304, 5632]⟩
abbrev S32x2304x2816 : Shape := ⟨3, ![32, 2304, 2816]⟩
abbrev S144x512x1024 : Shape := ⟨3, ![144, 512, 1024]⟩

abbrev nBuf : Space → Nat
  | .hbm => 109
  | .vmem => 0
  | .smem => 0
  | _ => 0

abbrev bufTy : (tb : Table) → Fin (tcTables nBuf tb) → BufTy
  | .hbm, ⟨0, _⟩ => ⟨S32x2304x1024, .f32⟩
  | .hbm, ⟨1, _⟩ => ⟨S32x9x1024x256, .bf16⟩
  | .hbm, ⟨2, _⟩ => ⟨S32x2x6x1024, .f32⟩
  | .hbm, ⟨3, _⟩ => ⟨S4x1024, .f32⟩
  | .hbm, ⟨4, _⟩ => ⟨S1024x1024, .bf16⟩
  | .hbm, ⟨5, _⟩ => ⟨S1024x5632, .bf16⟩
  | .hbm, ⟨6, _⟩ => ⟨S2816x1024, .bf16⟩
  | .hbm, ⟨7, _⟩ => ⟨S32x9x1024x256, .f32⟩
  | .hbm, ⟨8, _⟩ => ⟨S32x9x256x1024, .f32⟩
  | .hbm, ⟨9, _⟩ => ⟨S32x2304x1024, .f32⟩
  | .hbm, ⟨10, _⟩ => ⟨S1024x1024, .f32⟩
  | .hbm, ⟨11, _⟩ => ⟨S32x2304x1024, .f32⟩
  | .hbm, ⟨12, _⟩ => ⟨S32x1x6x1024, .f32⟩
  | .hbm, ⟨13, _⟩ => ⟨S32x6x1024, .f32⟩
  | .hbm, ⟨14, _⟩ => ⟨S32x1x6x1024, .f32⟩
  | .hbm, ⟨15, _⟩ => ⟨S32x6x1024, .f32⟩
  | .hbm, ⟨16, _⟩ => ⟨S32x1x6x1024, .f32⟩
  | .hbm, ⟨17, _⟩ => ⟨S32x256x6x1024, .f32⟩
  | .hbm, ⟨18, _⟩ => ⟨S32x1x6x1024, .f32⟩
  | .hbm, ⟨19, _⟩ => ⟨S32x2048x6x1024, .f32⟩
  | .hbm, ⟨20, _⟩ => ⟨S32x2304x6x1024, .f32⟩
  | .hbm, ⟨21, _⟩ => ⟨S32x2304x1x1024, .f32⟩
  | .hbm, ⟨22, _⟩ => ⟨S32x2304x1024, .f32⟩
  | .hbm, ⟨23, _⟩ => ⟨S32x2304x1x1024, .f32⟩
  | .hbm, ⟨24, _⟩ => ⟨S32x2304x1024, .f32⟩
  | .hbm, ⟨25, _⟩ => ⟨S32x2304x1x1024, .f32⟩
  | .hbm, ⟨26, _⟩ => ⟨S32x2304x1024, .f32⟩
  | .hbm, ⟨27, _⟩ => ⟨S32x2304x1x1024, .f32⟩
  | .hbm, ⟨28, _⟩ => ⟨S32x2304x1024, .f32⟩
  | .hbm, ⟨29, _⟩ => ⟨S1x1024, .f32⟩
  | .hbm, ⟨30, _⟩ => ⟨S1024, .f32⟩
  | .hbm, ⟨31, _⟩ => ⟨S32x2304x1024, .f32⟩
  | .hbm, ⟨32, _⟩ => ⟨S_, .f32⟩
  | .hbm, ⟨33, _⟩ => ⟨S32x2304, .f32⟩
  | .hbm, ⟨34, _⟩ => ⟨S32x2304x1, .f32⟩
  | .hbm, ⟨35, _⟩ => ⟨S_, .f32⟩
  | .hbm, ⟨36, _⟩ => ⟨S32x2304x1, .f32⟩
  | .hbm, ⟨37, _⟩ => ⟨S32x2304x1, .f32⟩
  | .hbm, ⟨38, _⟩ => ⟨S_, .f32⟩
  | .hbm, ⟨39, _⟩ => ⟨S32x2304x1, .f32⟩
  | .hbm, ⟨40, _⟩ => ⟨S32x2304x1, .f32⟩
  | .hbm, ⟨41, _⟩ => ⟨S32x2304x1, .f32⟩
  | .hbm, ⟨42, _⟩ => ⟨S32x2304x1024, .f32⟩
  | .hbm, ⟨43, _⟩ => ⟨S32x2304x1024, .f32⟩
  | .hbm, ⟨44, _⟩ => ⟨S1x1x1024, .f32⟩
  | .hbm, ⟨45, _⟩ => ⟨S32x2304x1024, .f32⟩
  | .hbm, ⟨46, _⟩ => ⟨S32x2304x1024, .f32⟩
  | .hbm, ⟨47, _⟩ => ⟨S32x2304x1024, .f32⟩
  | .hbm, ⟨48, _⟩ => ⟨S32x2304x1024, .f32⟩
  | .hbm, ⟨49, _⟩ => ⟨S1x1024, .f32⟩
  | .hbm, ⟨50, _⟩ => ⟨S1024, .f32⟩
  | .hbm, ⟨51, _⟩ => ⟨S32x2304x1024, .f32⟩
  | .hbm, ⟨52, _⟩ => ⟨S_, .f32⟩
  | .hbm, ⟨53, _⟩ => ⟨S32x2304, .f32⟩
  | .hbm, ⟨54, _⟩ => ⟨S32x2304x1, .f32⟩
  | .hbm, ⟨55, _⟩ => ⟨S_, .f32⟩
  | .hbm, ⟨56, _⟩ => ⟨S32x2304x1, .f32⟩
  | .hbm, ⟨57, _⟩ => ⟨S32x2304x1, .f32⟩
  | .hbm, ⟨58, _⟩ => ⟨S_, .f32⟩
  | .hbm, ⟨59, _⟩ => ⟨S32x2304x1, .f32⟩
  | .hbm, ⟨60, _⟩ => ⟨S32x2304x1, .f32⟩
  | .hbm, ⟨61, _⟩ => ⟨S32x2304x1, .f32⟩
  | .hbm, ⟨62, _⟩ => ⟨S32x2304x1024, .f32⟩
  | .hbm, ⟨63, _⟩ => ⟨S32x2304x1024, .f32⟩
  | .hbm, ⟨64, _⟩ => ⟨S1x1x1024, .f32⟩
  | .hbm, ⟨65, _⟩ => ⟨S32x2304x1024, .f32⟩
  | .hbm, ⟨66, _⟩ => ⟨S32x2304x1024, .f32⟩
  | .hbm, ⟨67, _⟩ => ⟨S_, .f32⟩
  | .hbm, ⟨68, _⟩ => ⟨S32x2304x1024, .f32⟩
  | .hbm, ⟨69, _⟩ => ⟨S32x2304x1024, .f32⟩
  | .hbm, ⟨70, _⟩ => ⟨S32x2304x1024, .f32⟩
  | .hbm, ⟨71, _⟩ => ⟨S32x2304x1024, .f32⟩
  | .hbm, ⟨72, _⟩ => ⟨S1024x5632, .f32⟩
  | .hbm, ⟨73, _⟩ => ⟨S2816x1024, .f32⟩
  | .hbm, ⟨74, _⟩ => ⟨S32x2304x5632, .f32⟩
  | .hbm, ⟨75, _⟩ => ⟨S32x2304x2816, .f32⟩
  | .hbm, ⟨76, _⟩ => ⟨S32x2304x2816, .f32⟩
  | .hbm, ⟨77, _⟩ => ⟨S32x2304x2816, .f32⟩
  | .hbm, ⟨78, _⟩ => ⟨S32x2304x2816, .f32⟩
  | .hbm, ⟨79, _⟩ => ⟨S_, .f32⟩
  | .hbm, ⟨80, _⟩ => ⟨S32x2304x2816, .f32⟩
  | .hbm, ⟨81, _⟩ => ⟨S32x2304x2816, .f32⟩
  | .hbm, ⟨82, _⟩ => ⟨S_, .f32⟩
  | .hbm, ⟨83, _⟩ => ⟨S32x2304x2816, .f32⟩
  | .hbm, ⟨84, _⟩ => ⟨S32x2304x2816, .f32⟩
  | .hbm, ⟨85, _⟩ => ⟨S32x2304x2816, .f32⟩
  | .hbm, ⟨86, _⟩ => ⟨S32x2304x2816, .f32⟩
  | .hbm, ⟨87, _⟩ => ⟨S32x2304x1024, .f32⟩
  | .hbm, ⟨88, _⟩ => ⟨S1x1024, .f32⟩
  | .hbm, ⟨89, _⟩ => ⟨S1024, .f32⟩
  | .hbm, ⟨90, _⟩ => ⟨S32x2304x1024, .f32⟩
  | .hbm, ⟨91, _⟩ => ⟨S_, .f32⟩
  | .hbm, ⟨92, _⟩ => ⟨S32x2304, .f32⟩
  | .hbm, ⟨93, _⟩ => ⟨S32x2304x1, .f32⟩
  | .hbm, ⟨94, _⟩ => ⟨S_, .f32⟩
  | .hbm, ⟨95, _⟩ => ⟨S32x2304x1, .f32⟩
  | .hbm, ⟨96, _⟩ => ⟨S32x2304x1, .f32⟩
  | .hbm, ⟨97, _⟩ => ⟨S_, .f32⟩
  | .hbm, ⟨98, _⟩ => ⟨S32x2304x1, .f32⟩
  | .hbm, ⟨99, _⟩ => ⟨S32x2304x1, .f32⟩
  | .hbm, ⟨100, _⟩ => ⟨S32x2304x1, .f32⟩
  | .hbm, ⟨101, _⟩ => ⟨S32x2304x1024, .f32⟩
  | .hbm, ⟨102, _⟩ => ⟨S32x2304x1024, .f32⟩
  | .hbm, ⟨103, _⟩ => ⟨S1x1x1024, .f32⟩
  | .hbm, ⟨104, _⟩ => ⟨S32x2304x1024, .f32⟩
  | .hbm, ⟨105, _⟩ => ⟨S32x2304x1024, .f32⟩
  | .hbm, ⟨106, _⟩ => ⟨S32x2304x1024, .f32⟩
  | .hbm, ⟨107, _⟩ => ⟨S32x2304x1024, .f32⟩
  | .hbm, ⟨108, _⟩ => ⟨S144x512x1024, .f32⟩
  | _, _ => ⟨S32x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst : Ref sig .tc := ⟨.hbm, 32, rfl⟩
abbrev main_v25 : Ref sig .tc := ⟨.hbm, 33, rfl⟩
abbrev main_v26 : Ref sig .tc := ⟨.hbm, 34, rfl⟩
abbrev main_cst_0 : Ref sig .tc := ⟨.hbm, 35, rfl⟩
abbrev main_v27 : Ref sig .tc := ⟨.hbm, 36, rfl⟩
abbrev main_v28 : Ref sig .tc := ⟨.hbm, 37, rfl⟩
abbrev main_cst_1 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_2 : Ref sig .tc := ⟨.hbm, 52, rfl⟩
abbrev main_v42 : Ref sig .tc := ⟨.hbm, 53, rfl⟩
abbrev main_v43 : Ref sig .tc := ⟨.hbm, 54, rfl⟩
abbrev main_cst_3 : Ref sig .tc := ⟨.hbm, 55, rfl⟩
abbrev main_v44 : Ref sig .tc := ⟨.hbm, 56, rfl⟩
abbrev main_v45 : Ref sig .tc := ⟨.hbm, 57, rfl⟩
abbrev main_cst_4 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_5 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_call0_v0 : Ref sig .tc := ⟨.hbm, 77, rfl⟩
abbrev main_call0_v1 : Ref sig .tc := ⟨.hbm, 78, rfl⟩
abbrev main_call0_cst : Ref sig .tc := ⟨.hbm, 79, rfl⟩
abbrev main_call0_v2 : Ref sig .tc := ⟨.hbm, 80, rfl⟩
abbrev main_call0_v3 : Ref sig .tc := ⟨.hbm, 81, rfl⟩
abbrev main_call0_cst_0 : Ref sig .tc := ⟨.hbm, 82, rfl⟩
abbrev main_call0_v4 : Ref sig .tc := ⟨.hbm, 83, rfl⟩
abbrev main_call0_v5 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_6 : Ref sig .tc := ⟨.hbm, 91, rfl⟩
abbrev main_v69 : Ref sig .tc := ⟨.hbm, 92, rfl⟩
abbrev main_v70 : Ref sig .tc := ⟨.hbm, 93, rfl⟩
abbrev main_cst_7 : Ref sig .tc := ⟨.hbm, 94, rfl⟩
abbrev main_v71 : Ref sig .tc := ⟨.hbm, 95, rfl⟩
abbrev main_v72 : Ref sig .tc := ⟨.hbm, 96, rfl⟩
abbrev main_cst_8 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩

abbrev nD : Nat := 1
abbrev τ : Topo := Topo.v7x

variable {F : FTy → Type} [FloatOps F]
-- ==== Kernel3.lean ====
abbrev S32x2304x1024 : Shape := ⟨3, ![32, 2304, 1024]⟩
abbrev S32x8x2304x128 : Shape := ⟨4, ![32, 8, 2304, 128]⟩
abbrev S128 : Shape := ⟨1, ![128]⟩
abbrev S32x2x6x1024 : Shape := ⟨4, ![32, 2, 6, 1024]⟩
abbrev S4x1024 : Shape := ⟨2, ![4, 1024]⟩
abbrev S1024x1024 : Shape := ⟨2, ![1024, 1024]⟩
abbrev S1024x5632 : Shape := ⟨2, ![1024, 5632]⟩
abbrev S2816x1024 : Shape := ⟨2, ![2816, 1024]⟩
abbrev S1x128 : Shape := ⟨2, ![1, 128]⟩
abbrev S144x512x1024 : Shape := ⟨3, ![144, 512, 1024]⟩
abbrev S1x256x1024 : Shape := ⟨3, ![1, 256, 1024]⟩
abbrev S1x8x256x128 : Shape := ⟨4, ![1, 8, 256, 128]⟩
abbrev S1x1x6x1024 : Shape := ⟨4, ![1, 1, 6, 1024]⟩
abbrev S1x512x1024 : Shape := ⟨3, ![1, 512, 1024]⟩
abbrev S2x256x2816 : Shape := ⟨3, ![2, 256, 2816]⟩
abbrev S1x1x256x128 : Shape := ⟨4, ![1, 1, 256, 128]⟩
abbrev S256x128 : Shape := ⟨2, ![256, 128]⟩
abbrev S256 : Shape := ⟨1, ![256]⟩
abbrev S256x1 : Shape := ⟨2, ![256, 1]⟩
abbrev S256x1024 : Shape := ⟨2, ![256, 1024]⟩
abbrev S6x1024 : Shape := ⟨2, ![6, 1024]⟩
abbrev S1x1024 : Shape := ⟨2, ![1, 1024]⟩
abbrev S1024x256 : Shape := ⟨2, ![1024, 256]⟩
abbrev S256x256 : Shape := ⟨2, ![256, 256]⟩
abbrev S1x256x256 : Shape := ⟨3, ![1, 256, 256]⟩
abbrev S1x256x2816 : Shape := ⟨3, ![1, 256, 2816]⟩
abbrev S256x2816 : Shape := ⟨2, ![256, 2816]⟩

abbrev nBuf : Space → Nat
  | .hbm => 12
  | .vmem => 28
  | .smem => 0
  | _ => 0

abbrev bufTy : (tb : Table) → Fin (tcTables nBuf tb) → BufTy
  | .hbm, ⟨0, _⟩ => ⟨S32x2304x1024, .f32⟩
  | .hbm, ⟨1, _⟩ => ⟨S32x8x2304x128, .bf16⟩
  | .hbm, ⟨2, _⟩ => ⟨S32x8x2304x128, .bf16⟩
  | .hbm, ⟨3, _⟩ => ⟨S32x2304x1024, .bf16⟩
  | .hbm, ⟨4, _⟩ => ⟨S128, .f32⟩
  | .hbm, ⟨5, _⟩ => ⟨S32x2x6x1024, .f32⟩
  | .hbm, ⟨6, _⟩ => ⟨S4x1024, .f32⟩
  | .hbm, ⟨7, _⟩ => ⟨S1024x1024, .bf16⟩
  | .hbm, ⟨8, _⟩ => ⟨S1024x5632, .bf16⟩
  | .hbm, ⟨9, _⟩ => ⟨S2816x1024, .bf16⟩
  | .hbm, ⟨10, _⟩ => ⟨S1x128, .f32⟩
  | .hbm, ⟨11, _⟩ => ⟨S144x512x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x8x256x128, .bf16⟩
  | .local _ .vmem, ⟨3, _⟩ => ⟨S1x8x256x128, .bf16⟩
  | .local _ .vmem, ⟨4, _⟩ => ⟨S1x8x256x128, .bf16⟩
  | .local _ .vmem, ⟨5, _⟩ => ⟨S1x8x256x128, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x1x6x1024, .f32⟩
  | .local _ .vmem, ⟨9, _⟩ => ⟨S1x1x6x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x8x256x128, .bf16⟩
  | .local _ .vmem, ⟨13, _⟩ => ⟨S1x8x256x128, .bf16⟩
  | .local _ .vmem, ⟨14, _⟩ => ⟨S1x8x256x128, .bf16⟩
  | .local _ .vmem, ⟨15, _⟩ => ⟨S1x8x256x128, .bf16⟩
  | .local _ .vmem, ⟨16, _⟩ => ⟨S1x256x1024, .bf16⟩
  | .local _ .vmem, ⟨17, _⟩ => ⟨S1x256x1024, .bf16⟩
  | .local _ .vmem, ⟨18, _⟩ => ⟨S1x1x6x1024, .f32⟩
  | .local _ .vmem, ⟨19, _⟩ => ⟨S1x1x6x1024, .f32⟩
  | .local _ .vmem, ⟨20, _⟩ => ⟨S1x128, .f32⟩
  | .local _ .vmem, ⟨21, _⟩ => ⟨S4x1024, .f32⟩
  | .local _ .vmem, ⟨22, _⟩ => ⟨S1024x1024, .bf16⟩
  | .local _ .vmem, ⟨23, _⟩ => ⟨S1024x5632, .bf16⟩
  | .local _ .vmem, ⟨24, _⟩ => ⟨S2816x1024, .bf16⟩
  | .local _ .vmem, ⟨25, _⟩ => ⟨S1x512x1024, .f32⟩
  | .local _ .vmem, ⟨26, _⟩ => ⟨S1x512x1024, .f32⟩
  | .local _ .vmem, ⟨27, _⟩ => ⟨S2x256x2816, .bf16⟩
  | _, _ => ⟨S32x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg15_1 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem15_1 : DmaSem sig := 26

abbrev nD : Nat := 1
abbrev τ : Topo := Topo.v7x

variable {F : FTy → Type} [FloatOps F]

abbrev grid0 : Pipeline.Grid := ⟨1, ![144], ![false]⟩

def cc0_transform_0 (i : grid0.Coords) : Fin 3 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c9_i32 : BitVec 32 := 9#32
  let v2 : BitVec 32 := Scalar.divsi v1 c9_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c9_i32 c0_i32_2
  let v9 : BitVec 32 := Scalar.extui v8
  let c0_i32_3 : BitVec 32 := 0#32
  let v10 : BitVec 1 := Scalar.cmpi .slt c9_i32 c0_i32_3
  let v11 : BitVec 32 := Scalar.extui v10
  let v12 : BitVec 32 := Scalar.subi v9 v11
  let v13 : BitVec 1 := Scalar.cmpi .ne v7 v12
  let v14 : BitVec 32 := Scalar.remsi v1 c9_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c9_i32_5 : BitVec 32 := 9#32
  let c0_i32_6 : BitVec 32 := 0#32
  let v19 : BitVec 1 := Scalar.cmpi .eq c9_i32_5 c0_i32_6
  let c1_i32_7 : BitVec 32 := 1#32
  let v20 : BitVec 32 := Scalar.select v19 c1_i32_7 c9_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let v29 : BitVec 32 := Scalar.addi v28 c0_i32_11
  let c0_i32_12 : BitVec 32 := 0#32
  let c0_i32_13 : BitVec 32 := 0#32
  ![v18.toNat, v29.toNat, c0_i32_12.toNat]

def cc0_transform_1 (i : grid0.Coords) : Fin 4 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c9_i32 : BitVec 32 := 9#32
  let v2 : BitVec 32 := Scalar.divsi v1 c9_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c9_i32 c0_i32_2
  let v9 : BitVec 32 := Scalar.extui v8
  let c0_i32_3 : BitVec 32 := 0#32
  let v10 : BitVec 1 := Scalar.cmpi .slt c9_i32 c0_i32_3
  let v11 : BitVec 32 := Scalar.extui v10
  let v12 : BitVec 32 := Scalar.subi v9 v11
  let v13 : BitVec 1 := Scalar.cmpi .ne v7 v12
  let v14 : BitVec 32 := Scalar.remsi v1 c9_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c9_i32_5 : BitVec 32 := 9#32
  let c0_i32_6 : BitVec 32 := 0#32
  let v19 : BitVec 1 := Scalar.cmpi .eq c9_i32_5 c0_i32_6
  let c1_i32_7 : BitVec 32 := 1#32
  let v20 : BitVec 32 := Scalar.select v19 c1_i32_7 c9_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let v29 : BitVec 32 := Scalar.addi v28 c0_i32_11
  let c0_i32_12 : BitVec 32 := 0#32
  let c0_i32_13 : BitVec 32 := 0#32
  let c0_i32_14 : BitVec 32 := 0#32
  ![v18.toNat, c0_i32_12.toNat, v29.toNat, c0_i32_13.toNat]

def cc0_transform_2 (i : grid0.Coords) : Fin 4 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c9_i32 : BitVec 32 := 9#32
  let v2 : BitVec 32 := Scalar.divsi v1 c9_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c9_i32 c0_i32_2
  let v9 : BitVec 32 := Scalar.extui v8
  let c0_i32_3 : BitVec 32 := 0#32
  let v10 : BitVec 1 := Scalar.cmpi .slt c9_i32 c0_i32_3
  let v11 : BitVec 32 := Scalar.extui v10
  let v12 : BitVec 32 := Scalar.subi v9 v11
  let v13 : BitVec 1 := Scalar.cmpi .ne v7 v12
  let v14 : BitVec 32 := Scalar.remsi v1 c9_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c9_i32_5 : BitVec 32 := 9#32
  let c0_i32_6 : BitVec 32 := 0#32
  let v19 : BitVec 1 := Scalar.cmpi .eq c9_i32_5 c0_i32_6
  let c1_i32_7 : BitVec 32 := 1#32
  let v20 : BitVec 32 := Scalar.select v19 c1_i32_7 c9_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let v29 : BitVec 32 := Scalar.addi v28 c0_i32_11
  let c0_i32_12 : BitVec 32 := 0#32
  let c0_i32_13 : BitVec 32 := 0#32
  let c0_i32_14 : BitVec 32 := 0#32
  ![v18.toNat, c0_i32_12.toNat, v29.toNat, c0_i32_13.toNat]

def cc0_transform_3 (i : grid0.Coords) : Fin 3 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c9_i32 : BitVec 32 := 9#32
  let v2 : BitVec 32 := Scalar.divsi v1 c9_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c9_i32 c0_i32_2
  let v9 : BitVec 32 := Scalar.extui v8
  let c0_i32_3 : BitVec 32 := 0#32
  let v10 : BitVec 1 := Scalar.cmpi .slt c9_i32 c0_i32_3
  let v11 : BitVec 32 := Scalar.extui v10
  let v12 : BitVec 32 := Scalar.subi v9 v11
  let v13 : BitVec 1 := Scalar.cmpi .ne v7 v12
  let v14 : BitVec 32 := Scalar.remsi v1 c9_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c9_i32_5 : BitVec 32 := 9#32
  let c0_i32_6 : BitVec 32 := 0#32
  let v19 : BitVec 1 := Scalar.cmpi .eq c9_i32_5 c0_i32_6
  let c1_i32_7 : BitVec 32 := 1#32
  let v20 : BitVec 32 := Scalar.select v19 c1_i32_7 c9_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let v29 : BitVec 32 := Scalar.addi v28 c0_i32_11
  let c0_i32_12 : BitVec 32 := 0#32
  let c0_i32_13 : BitVec 32 := 0#32
  ![v18.toNat, v29.toNat, c0_i32_12.toNat]

def cc0_transform_4 (i : grid0.Coords) : Fin 4 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c9_i32 : BitVec 32 := 9#32
  let v2 : BitVec 32 := Scalar.divsi v1 c9_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c9_i32 c0_i32_2
  let v9 : BitVec 32 := Scalar.extui v8
  let c0_i32_3 : BitVec 32 := 0#32
  let v10 : BitVec 1 := Scalar.cmpi .slt c9_i32 c0_i32_3
  let v11 : BitVec 32 := Scalar.extui v10
  let v12 : BitVec 32 := Scalar.subi v9 v11
  let v13 : BitVec 1 := Scalar.cmpi .ne v7 v12
  let v14 : BitVec 32 := Scalar.remsi v1 c9_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c9_i32_5 : BitVec 32 := 9#32
  let c0_i32_6 : BitVec 32 := 0#32
  let v19 : BitVec 1 := Scalar.cmpi .eq c9_i32_5 c0_i32_6
  let c1_i32_7 : BitVec 32 := 1#32
  let v20 : BitVec 32 := Scalar.select v19 c1_i32_7 c9_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let v29 : BitVec 32 := Scalar.addi v28 c0_i32_11
  let c1_i32_12 : BitVec 32 := 1#32
  let v30 : BitVec 32 := Scalar.minsi v29 c1_i32_12
  let c0_i32_13 : BitVec 32 := 0#32
  let c0_i32_14 : BitVec 32 := 0#32
  let c0_i32_15 : BitVec 32 := 0#32
  ![v18.toNat, v30.toNat, c0_i32_13.toNat, c0_i32_14.toNat]

def cc0_transform_5 (i : grid0.Coords) : Fin 3 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let c9_i32 : BitVec 32 := 9#32
  let v2 : BitVec 32 := Scalar.divsi v1 c9_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c9_i32 c0_i32_1
  let v9 : BitVec 32 := Scalar.extui v8
  let c0_i32_2 : BitVec 32 := 0#32
  let v10 : BitVec 1 := Scalar.cmpi .slt c9_i32 c0_i32_2
  let v11 : BitVec 32 := Scalar.extui v10
  let v12 : BitVec 32 := Scalar.subi v9 v11
  let v13 : BitVec 1 := Scalar.cmpi .ne v7 v12
  let v14 : BitVec 32 := Scalar.remsi v1 c9_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c9_i32_5 : BitVec 32 := 9#32
  let c0_i32_6 : BitVec 32 := 0#32
  let v19 : BitVec 1 := Scalar.cmpi .eq c9_i32_5 c0_i32_6
  let c1_i32_7 : BitVec 32 := 1#32
  let v20 : BitVec 32 := Scalar.select v19 c1_i32_7 c9_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let v29 : BitVec 32 := Scalar.addi v28 c0_i32_11
  let c0_i32_12 : BitVec 32 := 0#32
  let c0_i32_13 : BitVec 32 := 0#32
  ![v18.toNat, v29.toNat, c0_i32_12.toNat]

def cc0_transform_6 (i : grid0.Coords) : Fin 4 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let c9_i32 : BitVec 32 := 9#32
  let v2 : BitVec 32 := Scalar.divsi v1 c9_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c9_i32 c0_i32_1
  let v9 : BitVec 32 := Scalar.extui v8
  let c0_i32_2 : BitVec 32 := 0#32
  let v10 : BitVec 1 := Scalar.cmpi .slt c9_i32 c0_i32_2
  let v11 : BitVec 32 := Scalar.extui v10
  let v12 : BitVec 32 := Scalar.subi v9 v11
  let v13 : BitVec 1 := Scalar.cmpi .ne v7 v12
  let v14 : BitVec 32 := Scalar.remsi v1 c9_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c9_i32_5 : BitVec 32 := 9#32
  let c0_i32_6 : BitVec 32 := 0#32
  let v19 : BitVec 1 := Scalar.cmpi .eq c9_i32_5 c0_i32_6
  let c1_i32_7 : BitVec 32 := 1#32
  let v20 : BitVec 32 := Scalar.select v19 c1_i32_7 c9_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let v29 : BitVec 32 := Scalar.addi v28 c0_i32_11
  let c0_i32_12 : BitVec 32 := 0#32
  let c0_i32_13 : BitVec 32 := 0#32
  let c0_i32_14 : BitVec 32 := 0#32
  ![v18.toNat, c0_i32_12.toNat, v29.toNat, c0_i32_13.toNat]

def cc0_transform_7 (i : grid0.Coords) : Fin 4 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let c9_i32 : BitVec 32 := 9#32
  let v2 : BitVec 32 := Scalar.divsi v1 c9_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c9_i32 c0_i32_1
  let v9 : BitVec 32 := Scalar.extui v8
  let c0_i32_2 : BitVec 32 := 0#32
  let v10 : BitVec 1 := Scalar.cmpi .slt c9_i32 c0_i32_2
  let v11 : BitVec 32 := Scalar.extui v10
  let v12 : BitVec 32 := Scalar.subi v9 v11
  let v13 : BitVec 1 := Scalar.cmpi .ne v7 v12
  let v14 : BitVec 32 := Scalar.remsi v1 c9_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c9_i32_5 : BitVec 32 := 9#32
  let c0_i32_6 : BitVec 32 := 0#32
  let v19 : BitVec 1 := Scalar.cmpi .eq c9_i32_5 c0_i32_6
  let c1_i32_7 : BitVec 32 := 1#32
  let v20 : BitVec 32 := Scalar.select v19 c1_i32_7 c9_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let v29 : BitVec 32 := Scalar.addi v28 c0_i32_11
  let c0_i32_12 : BitVec 32 := 0#32
  let c0_i32_13 : BitVec 32 := 0#32
  let c0_i32_14 : BitVec 32 := 0#32
  ![v18.toNat, c0_i32_12.toNat, v29.toNat, c0_i32_13.toNat]

def cc0_transform_8 (i : grid0.Coords) : Fin 3 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let c9_i32 : BitVec 32 := 9#32
  let v2 : BitVec 32 := Scalar.divsi v1 c9_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c9_i32 c0_i32_1
  let v9 : BitVec 32 := Scalar.extui v8
  let c0_i32_2 : BitVec 32 := 0#32
  let v10 : BitVec 1 := Scalar.cmpi .slt c9_i32 c0_i32_2
  let v11 : BitVec 32 := Scalar.extui v10
  let v12 : BitVec 32 := Scalar.subi v9 v11
  let v13 : BitVec 1 := Scalar.cmpi .ne v7 v12
  let v14 : BitVec 32 := Scalar.remsi v1 c9_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c9_i32_5 : BitVec 32 := 9#32
  let c0_i32_6 : BitVec 32 := 0#32
  let v19 : BitVec 1 := Scalar.cmpi .eq c9_i32_5 c0_i32_6
  let c1_i32_7 : BitVec 32 := 1#32
  let v20 : BitVec 32 := Scalar.select v19 c1_i32_7 c9_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let v29 : BitVec 32 := Scalar.addi v28 c0_i32_11
  let c0_i32_12 : BitVec 32 := 0#32
  let c0_i32_13 : BitVec 32 := 0#32
  ![v18.toNat, v29.toNat, c0_i32_12.toNat]

def cc0_transform_9 (i : grid0.Coords) : Fin 4 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let c9_i32 : BitVec 32 := 9#32
  let v2 : BitVec 32 := Scalar.divsi v1 c9_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c9_i32 c0_i32_1
  let v9 : BitVec 32 := Scalar.extui v8
  let c0_i32_2 : BitVec 32 := 0#32
  let v10 : BitVec 1 := Scalar.cmpi .slt c9_i32 c0_i32_2
  let v11 : BitVec 32 := Scalar.extui v10
  let v12 : BitVec 32 := Scalar.subi v9 v11
  let v13 : BitVec 1 := Scalar.cmpi .ne v7 v12
  let v14 : BitVec 32 := Scalar.remsi v1 c9_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c9_i32_5 : BitVec 32 := 9#32
  let c0_i32_6 : BitVec 32 := 0#32
  let v19 : BitVec 1 := Scalar.cmpi .eq c9_i32_5 c0_i32_6
  let c1_i32_7 : BitVec 32 := 1#32
  let v20 : BitVec 32 := Scalar.select v19 c1_i32_7 c9_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let v29 : BitVec 32 := Scalar.addi v28 c0_i32_11
  let c1_i32_12 : BitVec 32 := 1#32
  let v30 : BitVec 32 := Scalar.minsi v29 c1_i32_12
  let c0_i32_13 : BitVec 32 := 0#32
  let c0_i32_14 : BitVec 32 := 0#32
  let c0_i32_15 : BitVec 32 := 0#32
  ![v18.toNat, v30.toNat, c0_i32_13.toNat, c0_i32_14.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x6x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x5632 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2816x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S1x512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference3Ideal.lean ====
abbrev S32x2304x1024 : Shape := ⟨3, ![32, 2304, 1024]⟩
abbrev S32x8x2304x128 : Shape := ⟨4, ![32, 8, 2304, 128]⟩
abbrev S128 : Shape := ⟨1, ![128]⟩
abbrev S32x2x6x1024 : Shape := ⟨4, ![32, 2, 6, 1024]⟩
abbrev S4x1024 : Shape := ⟨2, ![4, 1024]⟩
abbrev S1024x1024 : Shape := ⟨2, ![1024, 1024]⟩
abbrev S1024x5632 : Shape := ⟨2, ![1024, 5632]⟩
abbrev S2816x1024 : Shape := ⟨2, ![2816, 1024]⟩
abbrev S32x2304x8x128 : Shape := ⟨4, ![32, 2304, 8, 128]⟩
abbrev S_ : Shape := ⟨0, ![]⟩
abbrev S32x2304x8 : Shape := ⟨3, ![32, 2304, 8]⟩
abbrev S32x2304x8x1 : Shape := ⟨4, ![32, 2304, 8, 1]⟩
abbrev S1x1x1x128 : Shape := ⟨4, ![1, 1, 1, 128]⟩
abbrev S32x1x6x1024 : Shape := ⟨4, ![32, 1, 6, 1024]⟩
abbrev S32x6x1024 : Shape := ⟨3, ![32, 6, 1024]⟩
abbrev S32x256x6x1024 : Shape := ⟨4, ![32, 256, 6, 1024]⟩
abbrev S32x2048x6x1024 : Shape := ⟨4, ![32, 2048, 6, 1024]⟩
abbrev S32x2304x6x1024 : Shape := ⟨4, ![32, 2304, 6, 1024]⟩
abbrev S32x2304x1x1024 : Shape := ⟨4, ![32, 2304, 1, 1024]⟩
abbrev S1x1024 : Shape := ⟨2, ![1, 1024]⟩
abbrev S1024 : Shape := ⟨1, ![1024]⟩
abbrev S32x2304 : Shape := ⟨2, ![32, 2304]⟩
abbrev S32x2304x1 : Shape := ⟨3, ![32, 2304, 1]⟩
abbrev S1x1x1024 : Shape := ⟨3, ![1, 1, 1024]⟩
abbrev S32x2304x5632 : Shape := ⟨3, ![32, 2304, 5632]⟩
abbrev S32x2304x2816 : Shape := ⟨3, ![32, 2304, 2816]⟩
abbrev S144x512x1024 : Shape := ⟨3, ![144, 512, 1024]⟩

abbrev nBuf : Space → Nat
  | .hbm => 133
  | .vmem => 0
  | .smem => 0
  | _ => 0

abbrev hbmTy0_0 (i : Nat) : BufTy := match i % 128 with
  | 0 => ⟨S32x2304x1024, .f32⟩
  | 1 => ⟨S32x8x2304x128, .bf16⟩
  | 2 => ⟨S32x8x2304x128, .bf16⟩
  | 3 => ⟨S32x2304x1024, .bf16⟩
  | 4 => ⟨S128, .f32⟩
  | 5 => ⟨S32x2x6x1024, .f32⟩
  | 6 => ⟨S4x1024, .f32⟩
  | 7 => ⟨S1024x1024, .bf16⟩
  | 8 => ⟨S1024x5632, .bf16⟩
  | 9 => ⟨S2816x1024, .bf16⟩
  | 10 => ⟨S32x8x2304x128, .f32⟩
  | 11 => ⟨S32x8x2304x128, .f32⟩
  | 12 => ⟨S32x8x2304x128, .f32⟩
  | 13 => ⟨S32x2304x8x128, .f32⟩
  | 14 => ⟨S32x2304x8x128, .f32⟩
  | 15 => ⟨S_, .f32⟩
  | 16 => ⟨S32x2304x8, .f32⟩
  | 17 => ⟨S32x2304x8x1, .f32⟩
  | 18 => ⟨S_, .f32⟩
  | 19 => ⟨S32x2304x8x1, .f32⟩
  | 20 => ⟨S32x2304x8x1, .f32⟩
  | 21 => ⟨S_, .f32⟩
  | 22 => ⟨S32x2304x8x1, .f32⟩
  | 23 => ⟨S32x2304x8x1, .f32⟩
  | 24 => ⟨S32x2304x8x1, .f32⟩
  | 25 => ⟨S32x2304x8x128, .f32⟩
  | 26 => ⟨S32x2304x8x128, .f32⟩
  | 27 => ⟨S1x1x1x128, .f32⟩
  | 28 => ⟨S32x2304x8x128, .f32⟩
  | 29 => ⟨S32x2304x8x128, .f32⟩
  | 30 => ⟨S32x2304x1024, .f32⟩
  | 31 => ⟨S32x2304x8x128, .f32⟩
  | 32 => ⟨S32x2304x8x128, .f32⟩
  | 33 => ⟨S32x2304x1024, .f32⟩
  | 34 => ⟨S1024x1024, .f32⟩
  | 35 => ⟨S32x2304x1024, .f32⟩
  | 36 => ⟨S32x1x6x1024, .f32⟩
  | 37 => ⟨S32x6x1024, .f32⟩
  | 38 => ⟨S32x1x6x1024, .f32⟩
  | 39 => ⟨S32x6x1024, .f32⟩
  | 40 => ⟨S32x1x6x1024, .f32⟩
  | 41 => ⟨S32x256x6x1024, .f32⟩
  | 42 => ⟨S32x1x6x1024, .f32⟩
  | 43 => ⟨S32x2048x6x1024, .f32⟩
  | 44 => ⟨S32x2304x6x1024, .f32⟩
  | 45 => ⟨S32x2304x1x1024, .f32⟩
  | 46 => ⟨S32x2304x1024, .f32⟩
  | 47 => ⟨S32x2304x1x1024, .f32⟩
  | 48 => ⟨S32x2304x1024, .f32⟩
  | 49 => ⟨S32x2304x1x1024, .f32⟩
  | 50 => ⟨S32x2304x1024, .f32⟩
  | 51 => ⟨S32x2304x1x1024, .f32⟩
  | 52 => ⟨S32x2304x1024, .f32⟩
  | 53 => ⟨S1x1024, .f32⟩
  | 54 => ⟨S1024, .f32⟩
  | 55 => ⟨S32x2304x1024, .f32⟩
  | 56 => ⟨S_, .f32⟩
  | 57 => ⟨S32x2304, .f32⟩
  | 58 => ⟨S32x2304x1, .f32⟩
  | 59 => ⟨S_, .f32⟩
  | 60 => ⟨S32x2304x1, .f32⟩
  | 61 => ⟨S32x2304x1, .f32⟩
  | 62 => ⟨S_, .f32⟩
  | 63 => ⟨S32x2304x1, .f32⟩
  | 64 => ⟨S32x2304x1, .f32⟩
  | 65 => ⟨S32x2304x1, .f32⟩
  | 66 => ⟨S32x2304x1024, .f32⟩
  | 67 => ⟨S32x2304x1024, .f32⟩
  | 68 => ⟨S1x1x1024, .f32⟩
  | 69 => ⟨S32x2304x1024, .f32⟩
  | 70 => ⟨S32x2304x1024, .f32⟩
  | 71 => ⟨S32x2304x1024, .f32⟩
  | 72 => ⟨S32x2304x1024, .f32⟩
  | 73 => ⟨S1x1024, .f32⟩
  | 74 => ⟨S1024, .f32⟩
  | 75 => ⟨S32x2304x1024, .f32⟩
  | 76 => ⟨S_, .f32⟩
  | 77 => ⟨S32x2304, .f32⟩
  | 78 => ⟨S32x2304x1, .f32⟩
  | 79 => ⟨S_, .f32⟩
  | 80 => ⟨S32x2304x1, .f32⟩
  | 81 => ⟨S32x2304x1, .f32⟩
  | 82 => ⟨S_, .f32⟩
  | 83 => ⟨S32x2304x1, .f32⟩
  | 84 => ⟨S32x2304x1, .f32⟩
  | 85 => ⟨S32x2304x1, .f32⟩
  | 86 => ⟨S32x2304x1024, .f32⟩
  | 87 => ⟨S32x2304x1024, .f32⟩
  | 88 => ⟨S1x1x1024, .f32⟩
  | 89 => ⟨S32x2304x1024, .f32⟩
  | 90 => ⟨S32x2304x1024, .f32⟩
  | 91 => ⟨S_, .f32⟩
  | 92 => ⟨S32x2304x1024, .f32⟩
  | 93 => ⟨S32x2304x1024, .f32⟩
  | 94 => ⟨S32x2304x1024, .f32⟩
  | 95 => ⟨S32x2304x1024, .f32⟩
  | 96 => ⟨S1024x5632, .f32⟩
  | 97 => ⟨S2816x1024, .f32⟩
  | 98 => ⟨S32x2304x5632, .f32⟩
  | 99 => ⟨S32x2304x2816, .f32⟩
  | 100 => ⟨S32x2304x2816, .f32⟩
  | 101 => ⟨S32x2304x2816, .f32⟩
  | 102 => ⟨S32x2304x2816, .f32⟩
  | 103 => ⟨S_, .f32⟩
  | 104 => ⟨S32x2304x2816, .f32⟩
  | 105 => ⟨S32x2304x2816, .f32⟩
  | 106 => ⟨S_, .f32⟩
  | 107 => ⟨S32x2304x2816, .f32⟩
  | 108 => ⟨S32x2304x2816, .f32⟩
  | 109 => ⟨S32x2304x2816, .f32⟩
  | 110 => ⟨S32x2304x2816, .f32⟩
  | 111 => ⟨S32x2304x1024, .f32⟩
  | 112 => ⟨S1x1024, .f32⟩
  | 113 => ⟨S1024, .f32⟩
  | 114 => ⟨S32x2304x1024, .f32⟩
  | 115 => ⟨S_, .f32⟩
  | 116 => ⟨S32x2304, .f32⟩
  | 117 => ⟨S32x2304x1, .f32⟩
  | 118 => ⟨S_, .f32⟩
  | 119 => ⟨S32x2304x1, .f32⟩
  | 120 => ⟨S32x2304x1, .f32⟩
  | 121 => ⟨S_, .f32⟩
  | 122 => ⟨S32x2304x1, .f32⟩
  | 123 => ⟨S32x2304x1, .f32⟩
  | 124 => ⟨S32x2304x1, .f32⟩
  | 125 => ⟨S32x2304x1024, .f32⟩
  | 126 => ⟨S32x2304x1024, .f32⟩
  | 127 => ⟨S1x1x1024, .f32⟩
  | _ => ⟨S32x2304x1024, .f32⟩

abbrev hbmTy0_1 (i : Nat) : BufTy := match i % 128 with
  | 0 => ⟨S32x2304x1024, .f32⟩
  | 1 => ⟨S32x2304x1024, .f32⟩
  | 2 => ⟨S32x2304x1024, .f32⟩
  | 3 => ⟨S32x2304x1024, .f32⟩
  | 4 => ⟨S144x512x1024, .f32⟩
  | _ => ⟨S32x2304x1024, .f32⟩

abbrev hbmTy (i : Nat) : BufTy := match i / 128 with
  | 0 => hbmTy0_0 i
  | 1 => hbmTy0_1 i
  | _ => ⟨S32x2304x1024, .f32⟩

abbrev bufTy : (tb : Table) → Fin (tcTables nBuf tb) → BufTy
  | .hbm, ⟨i, _⟩ => hbmTy i
  | _, _ => ⟨S32x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_2 : Ref sig .tc := ⟨.hbm, 56, rfl⟩
abbrev main_v43 : Ref sig .tc := ⟨.hbm, 57, rfl⟩
abbrev main_v44 : Ref sig .tc := ⟨.hbm, 58, rfl⟩
abbrev main_cst_3 : Ref sig .tc := ⟨.hbm, 59, rfl⟩
abbrev main_v45 : Ref sig .tc := ⟨.hbm, 60, rfl⟩
abbrev main_v46 : Ref sig .tc := ⟨.hbm, 61, rfl⟩
abbrev main_cst_4 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_5 : Ref sig .tc := ⟨.hbm, 76, rfl⟩
abbrev main_v60 : Ref sig .tc := ⟨.hbm, 77, rfl⟩
abbrev main_v61 : Ref sig .tc := ⟨.hbm, 78, rfl⟩
abbrev main_cst_6 : Ref sig .tc := ⟨.hbm, 79, rfl⟩
abbrev main_v62 : Ref sig .tc := ⟨.hbm, 80, rfl⟩
abbrev main_v63 : Ref sig .tc := ⟨.hbm, 81, rfl⟩
abbrev main_cst_7 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_cst_8 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_call0_v0 : Ref sig .tc := ⟨.hbm, 101, rfl⟩
abbrev main_call0_v1 : Ref sig .tc := ⟨.hbm, 102, rfl⟩
abbrev main_call0_cst : Ref sig .tc := ⟨.hbm, 103, rfl⟩
abbrev main_call0_v2 : Ref sig .tc := ⟨.hbm, 104, rfl⟩
abbrev main_call0_v3 : Ref sig .tc := ⟨.hbm, 105, rfl⟩
abbrev main_call0_cst_0 : Ref sig .tc := ⟨.hbm, 106, rfl⟩
abbrev main_call0_v4 : Ref sig .tc := ⟨.hbm, 107, rfl⟩
abbrev main_call0_v5 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_cst_9 : Ref sig .tc := ⟨.hbm, 115, rfl⟩
abbrev main_v87 : Ref sig .tc := ⟨.hbm, 116, rfl⟩
abbrev main_v88 : Ref sig .tc := ⟨.hbm, 117, rfl⟩
abbrev main_cst_10 : Ref sig .tc := ⟨.hbm, 118, rfl⟩
abbrev main_v89 : Ref sig .tc := ⟨.hbm, 119, rfl⟩
abbrev main_v90 : Ref sig .tc := ⟨.hbm, 120, rfl⟩
abbrev main_cst_11 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩

abbrev nD : Nat := 1
abbrev τ : Topo := Topo.v7x

variable {F : FTy → Type} [FloatOps F]
-- ==== Kernel4.lean ====
abbrev S32x2304x1024 : Shape := ⟨3, ![32, 2304, 1024]⟩
abbrev S32x8x2304x128 : Shape := ⟨4, ![32, 8, 2304, 128]⟩
abbrev S128 : Shape := ⟨1, ![128]⟩
abbrev S32x2x6x1024 : Shape := ⟨4, ![32, 2, 6, 1024]⟩
abbrev S4x1024 : Shape := ⟨2, ![4, 1024]⟩
abbrev S1024x1024 : Shape := ⟨2, ![1024, 1024]⟩
abbrev S1024x5632 : Shape := ⟨2, ![1024, 5632]⟩
abbrev S2816x1024 : Shape := ⟨2, ![2816, 1024]⟩
abbrev S1x128 : Shape := ⟨2, ![1, 128]⟩
abbrev S128x512x1024 : Shape := ⟨3, ![128, 512, 1024]⟩
abbrev S1x256x1024 : Shape := ⟨3, ![1, 256, 1024]⟩
abbrev S1x8x256x128 : Shape := ⟨4, ![1, 8, 256, 128]⟩
abbrev S1x1x6x1024 : Shape := ⟨4, ![1, 1, 6, 1024]⟩
abbrev S1x512x1024 : Shape := ⟨3, ![1, 512, 1024]⟩
abbrev S2x256x2816 : Shape := ⟨3, ![2, 256, 2816]⟩
abbrev S1x1x256x128 : Shape := ⟨4, ![1, 1, 256, 128]⟩
abbrev S256x128 : Shape := ⟨2, ![256, 128]⟩
abbrev S256 : Shape := ⟨1, ![256]⟩
abbrev S256x1 : Shape := ⟨2, ![256, 1]⟩
abbrev S256x1024 : Shape := ⟨2, ![256, 1024]⟩
abbrev S6x1024 : Shape := ⟨2, ![6, 1024]⟩
abbrev S1x1024 : Shape := ⟨2, ![1, 1024]⟩
abbrev S1024x256 : Shape := ⟨2, ![1024, 256]⟩
abbrev S256x256 : Shape := ⟨2, ![256, 256]⟩
abbrev S1x256x256 : Shape := ⟨3, ![1, 256, 256]⟩
abbrev S1x256x2816 : Shape := ⟨3, ![1, 256, 2816]⟩
abbrev S256x2816 : Shape := ⟨2, ![256, 2816]⟩

abbrev nBuf : Space → Nat
  | .hbm => 12
  | .vmem => 28
  | .smem => 0
  | _ => 0

abbrev bufTy : (tb : Table) → Fin (tcTables nBuf tb) → BufTy
  | .hbm, ⟨0, _⟩ => ⟨S32x2304x1024, .f32⟩
  | .hbm, ⟨1, _⟩ => ⟨S32x8x2304x128, .bf16⟩
  | .hbm, ⟨2, _⟩ => ⟨S32x8x2304x128, .bf16⟩
  | .hbm, ⟨3, _⟩ => ⟨S32x2304x1024, .bf16⟩
  | .hbm, ⟨4, _⟩ => ⟨S128, .f32⟩
  | .hbm, ⟨5, _⟩ => ⟨S32x2x6x1024, .f32⟩
  | .hbm, ⟨6, _⟩ => ⟨S4x1024, .f32⟩
  | .hbm, ⟨7, _⟩ => ⟨S1024x1024, .bf16⟩
  | .hbm, ⟨8, _⟩ => ⟨S1024x5632, .bf16⟩
  | .hbm, ⟨9, _⟩ => ⟨S2816x1024, .bf16⟩
  | .hbm, ⟨10, _⟩ => ⟨S1x128, .f32⟩
  | .hbm, ⟨11, _⟩ => ⟨S128x512x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x8x256x128, .bf16⟩
  | .local _ .vmem, ⟨3, _⟩ => ⟨S1x8x256x128, .bf16⟩
  | .local _ .vmem, ⟨4, _⟩ => ⟨S1x8x256x128, .bf16⟩
  | .local _ .vmem, ⟨5, _⟩ => ⟨S1x8x256x128, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x1x6x1024, .f32⟩
  | .local _ .vmem, ⟨9, _⟩ => ⟨S1x1x6x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x8x256x128, .bf16⟩
  | .local _ .vmem, ⟨13, _⟩ => ⟨S1x8x256x128, .bf16⟩
  | .local _ .vmem, ⟨14, _⟩ => ⟨S1x8x256x128, .bf16⟩
  | .local _ .vmem, ⟨15, _⟩ => ⟨S1x8x256x128, .bf16⟩
  | .local _ .vmem, ⟨16, _⟩ => ⟨S1x256x1024, .bf16⟩
  | .local _ .vmem, ⟨17, _⟩ => ⟨S1x256x1024, .bf16⟩
  | .local _ .vmem, ⟨18, _⟩ => ⟨S1x1x6x1024, .f32⟩
  | .local _ .vmem, ⟨19, _⟩ => ⟨S1x1x6x1024, .f32⟩
  | .local _ .vmem, ⟨20, _⟩ => ⟨S1x128, .f32⟩
  | .local _ .vmem, ⟨21, _⟩ => ⟨S4x1024, .f32⟩
  | .local _ .vmem, ⟨22, _⟩ => ⟨S1024x1024, .bf16⟩
  | .local _ .vmem, ⟨23, _⟩ => ⟨S1024x5632, .bf16⟩
  | .local _ .vmem, ⟨24, _⟩ => ⟨S2816x1024, .bf16⟩
  | .local _ .vmem, ⟨25, _⟩ => ⟨S1x512x1024, .f32⟩
  | .local _ .vmem, ⟨26, _⟩ => ⟨S1x512x1024, .f32⟩
  | .local _ .vmem, ⟨27, _⟩ => ⟨S2x256x2816, .bf16⟩
  | _, _ => ⟨S32x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg15_1 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem15_1 : DmaSem sig := 26

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c1_i32_11 : BitVec 32 := 1#32
  let v29 : BitVec 32 := Scalar.addi v28 c1_i32_11
  let c0_i32_12 : BitVec 32 := 0#32
  let c0_i32_13 : BitVec 32 := 0#32
  ![v18.toNat, v29.toNat, c0_i32_12.toNat]

def cc0_transform_1 (i : grid0.Coords) : Fin 4 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c1_i32_11 : BitVec 32 := 1#32
  let v29 : BitVec 32 := Scalar.addi v28 c1_i32_11
  let c0_i32_12 : BitVec 32 := 0#32
  let c0_i32_13 : BitVec 32 := 0#32
  let c0_i32_14 : BitVec 32 := 0#32
  ![v18.toNat, c0_i32_12.toNat, v29.toNat, c0_i32_13.toNat]

def cc0_transform_2 (i : grid0.Coords) : Fin 4 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c1_i32_11 : BitVec 32 := 1#32
  let v29 : BitVec 32 := Scalar.addi v28 c1_i32_11
  let c0_i32_12 : BitVec 32 := 0#32
  let c0_i32_13 : BitVec 32 := 0#32
  let c0_i32_14 : BitVec 32 := 0#32
  ![v18.toNat, c0_i32_12.toNat, v29.toNat, c0_i32_13.toNat]

def cc0_transform_3 (i : grid0.Coords) : Fin 3 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c1_i32_11 : BitVec 32 := 1#32
  let v29 : BitVec 32 := Scalar.addi v28 c1_i32_11
  let c0_i32_12 : BitVec 32 := 0#32
  let c0_i32_13 : BitVec 32 := 0#32
  ![v18.toNat, v29.toNat, c0_i32_12.toNat]

def cc0_transform_4 (i : grid0.Coords) : Fin 4 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c1_i32_11 : BitVec 32 := 1#32
  let v29 : BitVec 32 := Scalar.addi v28 c1_i32_11
  let c1_i32_12 : BitVec 32 := 1#32
  let v30 : BitVec 32 := Scalar.minsi v29 c1_i32_12
  let c0_i32_13 : BitVec 32 := 0#32
  let c0_i32_14 : BitVec 32 := 0#32
  let c0_i32_15 : BitVec 32 := 0#32
  ![v18.toNat, v30.toNat, c0_i32_13.toNat, c0_i32_14.toNat]

def cc0_transform_5 (i : grid0.Coords) : Fin 3 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c1_i32_11 : BitVec 32 := 1#32
  let v29 : BitVec 32 := Scalar.addi v28 c1_i32_11
  let c0_i32_12 : BitVec 32 := 0#32
  let c0_i32_13 : BitVec 32 := 0#32
  ![v18.toNat, v29.toNat, c0_i32_12.toNat]

def cc0_transform_6 (i : grid0.Coords) : Fin 4 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c1_i32_11 : BitVec 32 := 1#32
  let v29 : BitVec 32 := Scalar.addi v28 c1_i32_11
  let c0_i32_12 : BitVec 32 := 0#32
  let c0_i32_13 : BitVec 32 := 0#32
  let c0_i32_14 : BitVec 32 := 0#32
  ![v18.toNat, c0_i32_12.toNat, v29.toNat, c0_i32_13.toNat]

def cc0_transform_7 (i : grid0.Coords) : Fin 4 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c1_i32_11 : BitVec 32 := 1#32
  let v29 : BitVec 32 := Scalar.addi v28 c1_i32_11
  let c0_i32_12 : BitVec 32 := 0#32
  let c0_i32_13 : BitVec 32 := 0#32
  let c0_i32_14 : BitVec 32 := 0#32
  ![v18.toNat, c0_i32_12.toNat, v29.toNat, c0_i32_13.toNat]

def cc0_transform_8 (i : grid0.Coords) : Fin 3 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c1_i32_11 : BitVec 32 := 1#32
  let v29 : BitVec 32 := Scalar.addi v28 c1_i32_11
  let c0_i32_12 : BitVec 32 := 0#32
  let c0_i32_13 : BitVec 32 := 0#32
  ![v18.toNat, v29.toNat, c0_i32_12.toNat]

def cc0_transform_9 (i : grid0.Coords) : Fin 4 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c1_i32_11 : BitVec 32 := 1#32
  let v29 : BitVec 32 := Scalar.addi v28 c1_i32_11
  let c1_i32_12 : BitVec 32 := 1#32
  let v30 : BitVec 32 := Scalar.minsi v29 c1_i32_12
  let c0_i32_13 : BitVec 32 := 0#32
  let c0_i32_14 : BitVec 32 := 0#32
  let c0_i32_15 : BitVec 32 := 0#32
  ![v18.toNat, v30.toNat, c0_i32_13.toNat, c0_i32_14.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x6x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x5632 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2816x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S1x512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference4Ideal.lean ====
abbrev S32x2304x1024 : Shape := ⟨3, ![32, 2304, 1024]⟩
abbrev S32x8x2304x128 : Shape := ⟨4, ![32, 8, 2304, 128]⟩
abbrev S128 : Shape := ⟨1, ![128]⟩
abbrev S32x2x6x1024 : Shape := ⟨4, ![32, 2, 6, 1024]⟩
abbrev S4x1024 : Shape := ⟨2, ![4, 1024]⟩
abbrev S1024x1024 : Shape := ⟨2, ![1024, 1024]⟩
abbrev S1024x5632 : Shape := ⟨2, ![1024, 5632]⟩
abbrev S2816x1024 : Shape := ⟨2, ![2816, 1024]⟩
abbrev S32x2304x8x128 : Shape := ⟨4, ![32, 2304, 8, 128]⟩
abbrev S_ : Shape := ⟨0, ![]⟩
abbrev S32x2304x8 : Shape := ⟨3, ![32, 2304, 8]⟩
abbrev S32x2304x8x1 : Shape := ⟨4, ![32, 2304, 8, 1]⟩
abbrev S1x1x1x128 : Shape := ⟨4, ![1, 1, 1, 128]⟩
abbrev S32x1x6x1024 : Shape := ⟨4, ![32, 1, 6, 1024]⟩
abbrev S32x6x1024 : Shape := ⟨3, ![32, 6, 1024]⟩
abbrev S32x256x6x1024 : Shape := ⟨4, ![32, 256, 6, 1024]⟩
abbrev S32x2048x6x1024 : Shape := ⟨4, ![32, 2048, 6, 1024]⟩
abbrev S32x2304x6x1024 : Shape := ⟨4, ![32, 2304, 6, 1024]⟩
abbrev S32x2304x1x1024 : Shape := ⟨4, ![32, 2304, 1, 1024]⟩
abbrev S1x1024 : Shape := ⟨2, ![1, 1024]⟩
abbrev S1024 : Shape := ⟨1, ![1024]⟩
abbrev S32x2304 : Shape := ⟨2, ![32, 2304]⟩
abbrev S32x2304x1 : Shape := ⟨3, ![32, 2304, 1]⟩
abbrev S1x1x1024 : Shape := ⟨3, ![1, 1, 1024]⟩
abbrev S32x2304x5632 : Shape := ⟨3, ![32, 2304, 5632]⟩
abbrev S32x2304x2816 : Shape := ⟨3, ![32, 2304, 2816]⟩
abbrev S32x2048x1024 : Shape := ⟨3, ![32, 2048, 1024]⟩
abbrev S128x512x1024 : Shape := ⟨3, ![128, 512, 1024]⟩

abbrev nBuf : Space → Nat
  | .hbm => 134
  | .vmem => 0
  | .smem => 0
  | _ => 0

abbrev hbmTy0_0 (i : Nat) : BufTy := match i % 128 with
  | 0 => ⟨S32x2304x1024, .f32⟩
  | 1 => ⟨S32x8x2304x128, .bf16⟩
  | 2 => ⟨S32x8x2304x128, .bf16⟩
  | 3 => ⟨S32x2304x1024, .bf16⟩
  | 4 => ⟨S128, .f32⟩
  | 5 => ⟨S32x2x6x1024, .f32⟩
  | 6 => ⟨S4x1024, .f32⟩
  | 7 => ⟨S1024x1024, .bf16⟩
  | 8 => ⟨S1024x5632, .bf16⟩
  | 9 => ⟨S2816x1024, .bf16⟩
  | 10 => ⟨S32x8x2304x128, .f32⟩
  | 11 => ⟨S32x8x2304x128, .f32⟩
  | 12 => ⟨S32x8x2304x128, .f32⟩
  | 13 => ⟨S32x2304x8x128, .f32⟩
  | 14 => ⟨S32x2304x8x128, .f32⟩
  | 15 => ⟨S_, .f32⟩
  | 16 => ⟨S32x2304x8, .f32⟩
  | 17 => ⟨S32x2304x8x1, .f32⟩
  | 18 => ⟨S_, .f32⟩
  | 19 => ⟨S32x2304x8x1, .f32⟩
  | 20 => ⟨S32x2304x8x1, .f32⟩
  | 21 => ⟨S_, .f32⟩
  | 22 => ⟨S32x2304x8x1, .f32⟩
  | 23 => ⟨S32x2304x8x1, .f32⟩
  | 24 => ⟨S32x2304x8x1, .f32⟩
  | 25 => ⟨S32x2304x8x128, .f32⟩
  | 26 => ⟨S32x2304x8x128, .f32⟩
  | 27 => ⟨S1x1x1x128, .f32⟩
  | 28 => ⟨S32x2304x8x128, .f32⟩
  | 29 => ⟨S32x2304x8x128, .f32⟩
  | 30 => ⟨S32x2304x1024, .f32⟩
  | 31 => ⟨S32x2304x8x128, .f32⟩
  | 32 => ⟨S32x2304x8x128, .f32⟩
  | 33 => ⟨S32x2304x1024, .f32⟩
  | 34 => ⟨S1024x1024, .f32⟩
  | 35 => ⟨S32x2304x1024, .f32⟩
  | 36 => ⟨S32x1x6x1024, .f32⟩
  | 37 => ⟨S32x6x1024, .f32⟩
  | 38 => ⟨S32x1x6x1024, .f32⟩
  | 39 => ⟨S32x6x1024, .f32⟩
  | 40 => ⟨S32x1x6x1024, .f32⟩
  | 41 => ⟨S32x256x6x1024, .f32⟩
  | 42 => ⟨S32x1x6x1024, .f32⟩
  | 43 => ⟨S32x2048x6x1024, .f32⟩
  | 44 => ⟨S32x2304x6x1024, .f32⟩
  | 45 => ⟨S32x2304x1x1024, .f32⟩
  | 46 => ⟨S32x2304x1024, .f32⟩
  | 47 => ⟨S32x2304x1x1024, .f32⟩
  | 48 => ⟨S32x2304x1024, .f32⟩
  | 49 => ⟨S32x2304x1x1024, .f32⟩
  | 50 => ⟨S32x2304x1024, .f32⟩
  | 51 => ⟨S32x2304x1x1024, .f32⟩
  | 52 => ⟨S32x2304x1024, .f32⟩
  | 53 => ⟨S1x1024, .f32⟩
  | 54 => ⟨S1024, .f32⟩
  | 55 => ⟨S32x2304x1024, .f32⟩
  | 56 => ⟨S_, .f32⟩
  | 57 => ⟨S32x2304, .f32⟩
  | 58 => ⟨S32x2304x1, .f32⟩
  | 59 => ⟨S_, .f32⟩
  | 60 => ⟨S32x2304x1, .f32⟩
  | 61 => ⟨S32x2304x1, .f32⟩
  | 62 => ⟨S_, .f32⟩
  | 63 => ⟨S32x2304x1, .f32⟩
  | 64 => ⟨S32x2304x1, .f32⟩
  | 65 => ⟨S32x2304x1, .f32⟩
  | 66 => ⟨S32x2304x1024, .f32⟩
  | 67 => ⟨S32x2304x1024, .f32⟩
  | 68 => ⟨S1x1x1024, .f32⟩
  | 69 => ⟨S32x2304x1024, .f32⟩
  | 70 => ⟨S32x2304x1024, .f32⟩
  | 71 => ⟨S32x2304x1024, .f32⟩
  | 72 => ⟨S32x2304x1024, .f32⟩
  | 73 => ⟨S1x1024, .f32⟩
  | 74 => ⟨S1024, .f32⟩
  | 75 => ⟨S32x2304x1024, .f32⟩
  | 76 => ⟨S_, .f32⟩
  | 77 => ⟨S32x2304, .f32⟩
  | 78 => ⟨S32x2304x1, .f32⟩
  | 79 => ⟨S_, .f32⟩
  | 80 => ⟨S32x2304x1, .f32⟩
  | 81 => ⟨S32x2304x1, .f32⟩
  | 82 => ⟨S_, .f32⟩
  | 83 => ⟨S32x2304x1, .f32⟩
  | 84 => ⟨S32x2304x1, .f32⟩
  | 85 => ⟨S32x2304x1, .f32⟩
  | 86 => ⟨S32x2304x1024, .f32⟩
  | 87 => ⟨S32x2304x1024, .f32⟩
  | 88 => ⟨S1x1x1024, .f32⟩
  | 89 => ⟨S32x2304x1024, .f32⟩
  | 90 => ⟨S32x2304x1024, .f32⟩
  | 91 => ⟨S_, .f32⟩
  | 92 => ⟨S32x2304x1024, .f32⟩
  | 93 => ⟨S32x2304x1024, .f32⟩
  | 94 => ⟨S32x2304x1024, .f32⟩
  | 95 => ⟨S32x2304x1024, .f32⟩
  | 96 => ⟨S1024x5632, .f32⟩
  | 97 => ⟨S2816x1024, .f32⟩
  | 98 => ⟨S32x2304x5632, .f32⟩
  | 99 => ⟨S32x2304x2816, .f32⟩
  | 100 => ⟨S32x2304x2816, .f32⟩
  | 101 => ⟨S32x2304x2816, .f32⟩
  | 102 => ⟨S32x2304x2816, .f32⟩
  | 103 => ⟨S_, .f32⟩
  | 104 => ⟨S32x2304x2816, .f32⟩
  | 105 => ⟨S32x2304x2816, .f32⟩
  | 106 => ⟨S_, .f32⟩
  | 107 => ⟨S32x2304x2816, .f32⟩
  | 108 => ⟨S32x2304x2816, .f32⟩
  | 109 => ⟨S32x2304x2816, .f32⟩
  | 110 => ⟨S32x2304x2816, .f32⟩
  | 111 => ⟨S32x2304x1024, .f32⟩
  | 112 => ⟨S1x1024, .f32⟩
  | 113 => ⟨S1024, .f32⟩
  | 114 => ⟨S32x2304x1024, .f32⟩
  | 115 => ⟨S_, .f32⟩
  | 116 => ⟨S32x2304, .f32⟩
  | 117 => ⟨S32x2304x1, .f32⟩
  | 118 => ⟨S_, .f32⟩
  | 119 => ⟨S32x2304x1, .f32⟩
  | 120 => ⟨S32x2304x1, .f32⟩
  | 121 => ⟨S_, .f32⟩
  | 122 => ⟨S32x2304x1, .f32⟩
  | 123 => ⟨S32x2304x1, .f32⟩
  | 124 => ⟨S32x2304x1, .f32⟩
  | 125 => ⟨S32x2304x1024, .f32⟩
  | 126 => ⟨S32x2304x1024, .f32⟩
  | 127 => ⟨S1x1x1024, .f32⟩
  | _ => ⟨S32x2304x1024, .f32⟩

abbrev hbmTy0_1 (i : Nat) : BufTy := match i % 128 with
  | 0 => ⟨S32x2304x1024, .f32⟩
  | 1 => ⟨S32x2304x1024, .f32⟩
  | 2 => ⟨S32x2304x1024, .f32⟩
  | 3 => ⟨S32x2304x1024, .f32⟩
  | 4 => ⟨S32x2048x1024, .f32⟩
  | 5 => ⟨S128x512x1024, .f32⟩
  | _ => ⟨S32x2304x1024, .f32⟩

abbrev hbmTy (i : Nat) : BufTy := match i / 128 with
  | 0 => hbmTy0_0 i
  | 1 => hbmTy0_1 i
  | _ => ⟨S32x2304x1024, .f32⟩

abbrev bufTy : (tb : Table) → Fin (tcTables nBuf tb) → BufTy
  | .hbm, ⟨i, _⟩ => hbmTy i
  | _, _ => ⟨S32x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_2 : Ref sig .tc := ⟨.hbm, 56, rfl⟩
abbrev main_v43 : Ref sig .tc := ⟨.hbm, 57, rfl⟩
abbrev main_v44 : Ref sig .tc := ⟨.hbm, 58, rfl⟩
abbrev main_cst_3 : Ref sig .tc := ⟨.hbm, 59, rfl⟩
abbrev main_v45 : Ref sig .tc := ⟨.hbm, 60, rfl⟩
abbrev main_v46 : Ref sig .tc := ⟨.hbm, 61, rfl⟩
abbrev main_cst_4 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_5 : Ref sig .tc := ⟨.hbm, 76, rfl⟩
abbrev main_v60 : Ref sig .tc := ⟨.hbm, 77, rfl⟩
abbrev main_v61 : Ref sig .tc := ⟨.hbm, 78, rfl⟩
abbrev main_cst_6 : Ref sig .tc := ⟨.hbm, 79, rfl⟩
abbrev main_v62 : Ref sig .tc := ⟨.hbm, 80, rfl⟩
abbrev main_v63 : Ref sig .tc := ⟨.hbm, 81, rfl⟩
abbrev main_cst_7 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_cst_8 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_call0_v0 : Ref sig .tc := ⟨.hbm, 101, rfl⟩
abbrev main_call0_v1 : Ref sig .tc := ⟨.hbm, 102, rfl⟩
abbrev main_call0_cst : Ref sig .tc := ⟨.hbm, 103, rfl⟩
abbrev main_call0_v2 : Ref sig .tc := ⟨.hbm, 104, rfl⟩
abbrev main_call0_v3 : Ref sig .tc := ⟨.hbm, 105, rfl⟩
abbrev main_call0_cst_0 : Ref sig .tc := ⟨.hbm, 106, rfl⟩
abbrev main_call0_v4 : Ref sig .tc := ⟨.hbm, 107, rfl⟩
abbrev main_call0_v5 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_cst_9 : Ref sig .tc := ⟨.hbm, 115, rfl⟩
abbrev main_v87 : Ref sig .tc := ⟨.hbm, 116, rfl⟩
abbrev main_v88 : Ref sig .tc := ⟨.hbm, 117, rfl⟩
abbrev main_cst_10 : Ref sig .tc := ⟨.hbm, 118, rfl⟩
abbrev main_v89 : Ref sig .tc := ⟨.hbm, 119, rfl⟩
abbrev main_v90 : Ref sig .tc := ⟨.hbm, 120, rfl⟩
abbrev main_cst_11 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩

abbrev nD : Nat := 1
abbrev τ : Topo := Topo.v7x

variable {F : FTy → Type} [FloatOps F]
-- ==== Kernel5.lean ====
abbrev S32x2304x1024 : Shape := ⟨3, ![32, 2304, 1024]⟩
abbrev S32x2x6x1024 : Shape := ⟨4, ![32, 2, 6, 1024]⟩
abbrev S4x1024 : Shape := ⟨2, ![4, 1024]⟩
abbrev S1024x2304 : Shape := ⟨2, ![1024, 2304]⟩
abbrev S2048x64 : Shape := ⟨2, ![2048, 64]⟩
abbrev S2x64 : Shape := ⟨2, ![2, 64]⟩
abbrev S2 : Shape := ⟨1, ![2]⟩
abbrev S_ : Shape := ⟨0, ![]⟩
abbrev S256x64 : Shape := ⟨2, ![256, 64]⟩
abbrev S2304x64 : Shape := ⟨2, ![2304, 64]⟩
abbrev S2x16 : Shape := ⟨2, ![2, 16]⟩
abbrev S32 : Shape := ⟨1, ![32]⟩
abbrev S1x32 : Shape := ⟨2, ![1, 32]⟩
abbrev S2x32 : Shape := ⟨2, ![2, 32]⟩
abbrev S64 : Shape := ⟨1, ![64]⟩
abbrev S64x2304 : Shape := ⟨2, ![64, 2304]⟩
abbrev S1x64 : Shape := ⟨2, ![1, 64]⟩
abbrev S1024x512 : Shape := ⟨2, ![1024, 512]⟩
abbrev S1024x128 : Shape := ⟨2, ![1024, 128]⟩
abbrev S2304x1024 : Shape := ⟨2, ![2304, 1024]⟩
abbrev S2x64x1 : Shape := ⟨3, ![2, 64, 1]⟩
abbrev S1x1024 : Shape := ⟨2, ![1, 1024]⟩
abbrev S288x1024x256 : Shape := ⟨3, ![288, 1024, 256]⟩
abbrev S288x256x640 : Shape := ⟨3, ![288, 256, 640]⟩
abbrev S288x736x256 : Shape := ⟨3, ![288, 736, 256]⟩
abbrev S1x256x1024 : Shape := ⟨3, ![1, 256, 1024]⟩
abbrev S1x1x6x1024 : Shape := ⟨4, ![1, 1, 6, 1024]⟩
abbrev S64x256 : Shape := ⟨2, ![64, 256]⟩
abbrev S2x1024x256 : Shape := ⟨3, ![2, 1024, 256]⟩
abbrev S2x256x640 : Shape := ⟨3, ![2, 256, 640]⟩
abbrev S2x736x256 : Shape := ⟨3, ![2, 736, 256]⟩
abbrev S256x1024 : Shape := ⟨2, ![256, 1024]⟩
abbrev S6x1024 : Shape := ⟨2, ![6, 1024]⟩
abbrev S256 : Shape := ⟨1, ![256]⟩
abbrev S256x1 : Shape := ⟨2, ![256, 1]⟩
abbrev S640x1024 : Shape := ⟨2, ![640, 1024]⟩
abbrev S640x256 : Shape := ⟨2, ![640, 256]⟩
abbrev S1024x1024 : Shape := ⟨2, ![1024, 1024]⟩
abbrev S1024x256 : Shape := ⟨2, ![1024, 256]⟩
abbrev S1x64x1 : Shape := ⟨3, ![1, 64, 1]⟩
abbrev S64x1 : Shape := ⟨2, ![64, 1]⟩
abbrev S16x256 : Shape := ⟨2, ![16, 256]⟩
abbrev S1x256 : Shape := ⟨2, ![1, 256]⟩
abbrev S256x640 : Shape := ⟨2, ![256, 640]⟩
abbrev S1x256x640 : Shape := ⟨3, ![1, 256, 640]⟩
abbrev S1x64x256 : Shape := ⟨3, ![1, 64, 256]⟩
abbrev S128x256 : Shape := ⟨2, ![128, 256]⟩
abbrev S736x256 : Shape := ⟨2, ![736, 256]⟩
abbrev S1x736x256 : Shape := ⟨3, ![1, 736, 256]⟩

abbrev nBuf : Space → Nat
  | .hbm => 38
  | .vmem => 25
  | .smem => 0
  | _ => 0

abbrev bufTy : (tb : Table) → Fin (tcTables nBuf tb) → BufTy
  | .hbm, ⟨0, _⟩ => ⟨S32x2304x1024, .f32⟩
  | .hbm, ⟨1, _⟩ => ⟨S32x2x6x1024, .f32⟩
  | .hbm, ⟨2, _⟩ => ⟨S4x1024, .f32⟩
  | .hbm, ⟨3, _⟩ => ⟨S1024x2304, .f32⟩
  | .hbm, ⟨4, _⟩ => ⟨S2048x64, .f32⟩
  | .hbm, ⟨5, _⟩ => ⟨S2048x64, .f32⟩
  | .hbm, ⟨6, _⟩ => ⟨S2x64, .f32⟩
  | .hbm, ⟨7, _⟩ => ⟨S2, .f32⟩
  | .hbm, ⟨8, _⟩ => ⟨S_, .f32⟩
  | .hbm, ⟨9, _⟩ => ⟨S256x64, .f32⟩
  | .hbm, ⟨10, _⟩ => ⟨S2304x64, .f32⟩
  | .hbm, ⟨11, _⟩ => ⟨S_, .f32⟩
  | .hbm, ⟨12, _⟩ => ⟨S256x64, .f32⟩
  | .hbm, ⟨13, _⟩ => ⟨S2304x64, .f32⟩
  | .hbm, ⟨14, _⟩ => ⟨S2x16, .f32⟩
  | .hbm, ⟨15, _⟩ => ⟨S32, .f32⟩
  | .hbm, ⟨16, _⟩ => ⟨S1x32, .f32⟩
  | .hbm, ⟨17, _⟩ => ⟨S2x32, .f32⟩
  | .hbm, ⟨18, _⟩ => ⟨S64, .f32⟩
  | .hbm, ⟨19, _⟩ => ⟨S64x2304, .f32⟩
  | .hbm, ⟨20, _⟩ => ⟨S1x64, .f32⟩
  | .hbm, ⟨21, _⟩ => ⟨S2304x64, .f32⟩
  | .hbm, ⟨22, _⟩ => ⟨S2304x64, .f32⟩
  | .hbm, ⟨23, _⟩ => ⟨S64x2304, .f32⟩
  | .hbm, ⟨24, _⟩ => ⟨S1024x512, .f32⟩
  | .hbm, ⟨25, _⟩ => ⟨S1024x512, .f32⟩
  | .hbm, ⟨26, _⟩ => ⟨S1024x512, .f32⟩
  | .hbm, ⟨27, _⟩ => ⟨S1024x128, .f32⟩
  | .hbm, ⟨28, _⟩ => ⟨S1024x512, .f32⟩
  | .hbm, ⟨29, _⟩ => ⟨S1024x128, .f32⟩
  | .hbm, ⟨30, _⟩ => ⟨S1024x2304, .f32⟩
  | .hbm, ⟨31, _⟩ => ⟨S2304x1024, .f32⟩
  | .hbm, ⟨32, _⟩ => ⟨S2304x1024, .bf16⟩
  | .hbm, ⟨33, _⟩ => ⟨S2x64x1, .f32⟩
  | .hbm, ⟨34, _⟩ => ⟨S1x1024, .f32⟩
  | .hbm, ⟨35, _⟩ => ⟨S288x1024x256, .bf16⟩
  | .hbm, ⟨36, _⟩ => ⟨S288x256x640, .bf16⟩
  | .hbm, ⟨37, _⟩ => ⟨S288x736x256, .bf16⟩
  | .local _ .vmem, ⟨0, _⟩ => ⟨S1x256x1024, .f32⟩
  | .local _ .vmem, ⟨1, _⟩ => ⟨S1x256x1024, .f32⟩
  | .local _ .vmem, ⟨2, _⟩ => ⟨S1x1x6x1024, .f32⟩
  | .local _ .vmem, ⟨3, _⟩ => ⟨S1x1x6x1024, .f32⟩
  | .local _ .vmem, ⟨4, _⟩ => ⟨S64x256, .f32⟩
  | .local _ .vmem, ⟨5, _⟩ => ⟨S64x256, .f32⟩
  | .local _ .vmem, ⟨6, _⟩ => ⟨S64x256, .f32⟩
  | .local _ .vmem, ⟨7, _⟩ => ⟨S64x256, .f32⟩
  | .local _ .vmem, ⟨8, _⟩ => ⟨S1x256x1024, .f32⟩
  | .local _ .vmem, ⟨9, _⟩ => ⟨S1x256x1024, .f32⟩
  | .local _ .vmem, ⟨10, _⟩ => ⟨S1x1x6x1024, .f32⟩
  | .local _ .vmem, ⟨11, _⟩ => ⟨S1x1x6x1024, .f32⟩
  | .local _ .vmem, ⟨12, _⟩ => ⟨S64x256, .f32⟩
  | .local _ .vmem, ⟨13, _⟩ => ⟨S64x256, .f32⟩
  | .local _ .vmem, ⟨14, _⟩ => ⟨S64x256, .f32⟩
  | .local _ .vmem, ⟨15, _⟩ => ⟨S64x256, .f32⟩
  | .local _ .vmem, ⟨16, _⟩ => ⟨S1x1024, .f32⟩
  | .local _ .vmem, ⟨17, _⟩ => ⟨S2304x1024, .bf16⟩
  | .local _ .vmem, ⟨18, _⟩ => ⟨S2x64x1, .f32⟩
  | .local _ .vmem, ⟨19, _⟩ => ⟨S2x1024x256, .bf16⟩
  | .local _ .vmem, ⟨20, _⟩ => ⟨S2x1024x256, .bf16⟩
  | .local _ .vmem, ⟨21, _⟩ => ⟨S2x256x640, .bf16⟩
  | .local _ .vmem, ⟨22, _⟩ => ⟨S2x256x640, .bf16⟩
  | .local _ .vmem, ⟨23, _⟩ => ⟨S2x736x256, .bf16⟩
  | .local _ .vmem, ⟨24, _⟩ => ⟨S2x736x256, .bf16⟩
  | _, _ => ⟨S32x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_cst_0 : Ref sig .tc := ⟨.hbm, 8, rfl⟩
abbrev main_v0 : Ref sig .tc := ⟨.hbm, 9, rfl⟩
abbrev main_v1 : Ref sig .tc := ⟨.hbm, 10, rfl⟩
abbrev main_cst_1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25_0 : Ref sig .tc := ⟨.hbm, 35, rfl⟩
abbrev main_v25_1 : Ref sig .tc := ⟨.hbm, 36, rfl⟩
abbrev main_v25_2 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨1, ![144], ![false]⟩

def cc0_transform_0 (i : grid0.Coords) : Fin 3 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c9_i32 : BitVec 32 := 9#32
  let v2 : BitVec 32 := Scalar.divsi v1 c9_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c9_i32 c0_i32_2
  let v9 : BitVec 32 := Scalar.extui v8
  let c0_i32_3 : BitVec 32 := 0#32
  let v10 : BitVec 1 := Scalar.cmpi .slt c9_i32 c0_i32_3
  let v11 : BitVec 32 := Scalar.extui v10
  let v12 : BitVec 32 := Scalar.subi v9 v11
  let v13 : BitVec 1 := Scalar.cmpi .ne v7 v12
  let v14 : BitVec 32 := Scalar.remsi v1 c9_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c9_i32_5 : BitVec 32 := 9#32
  let c0_i32_6 : BitVec 32 := 0#32
  let v19 : BitVec 1 := Scalar.cmpi .eq c9_i32_5 c0_i32_6
  let c1_i32_7 : BitVec 32 := 1#32
  let v20 : BitVec 32 := Scalar.select v19 c1_i32_7 c9_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v18.toNat, v28.toNat, c0_i32_11.toNat]

def cc0_transform_1 (i : grid0.Coords) : Fin 4 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c9_i32 : BitVec 32 := 9#32
  let v2 : BitVec 32 := Scalar.divsi v1 c9_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c9_i32 c0_i32_2
  let v9 : BitVec 32 := Scalar.extui v8
  let c0_i32_3 : BitVec 32 := 0#32
  let v10 : BitVec 1 := Scalar.cmpi .slt c9_i32 c0_i32_3
  let v11 : BitVec 32 := Scalar.extui v10
  let v12 : BitVec 32 := Scalar.subi v9 v11
  let v13 : BitVec 1 := Scalar.cmpi .ne v7 v12
  let v14 : BitVec 32 := Scalar.remsi v1 c9_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c9_i32_5 : BitVec 32 := 9#32
  let c0_i32_6 : BitVec 32 := 0#32
  let v19 : BitVec 1 := Scalar.cmpi .eq c9_i32_5 c0_i32_6
  let c1_i32_7 : BitVec 32 := 1#32
  let v20 : BitVec 32 := Scalar.select v19 c1_i32_7 c9_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c1_i32_11 : BitVec 32 := 1#32
  let v29 : BitVec 32 := Scalar.minsi v28 c1_i32_11
  let c0_i32_12 : BitVec 32 := 0#32
  let c0_i32_13 : BitVec 32 := 0#32
  let c0_i32_14 : BitVec 32 := 0#32
  ![v18.toNat, v29.toNat, c0_i32_12.toNat, c0_i32_13.toNat]

def cc0_transform_2 (i : grid0.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c9_i32 : BitVec 32 := 9#32
  let v2 : BitVec 32 := Scalar.divsi v1 c9_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c9_i32 c0_i32_2
  let v9 : BitVec 32 := Scalar.extui v8
  let c0_i32_3 : BitVec 32 := 0#32
  let v10 : BitVec 1 := Scalar.cmpi .slt c9_i32 c0_i32_3
  let v11 : BitVec 32 := Scalar.extui v10
  let v12 : BitVec 32 := Scalar.subi v9 v11
  let v13 : BitVec 1 := Scalar.cmpi .ne v7 v12
  let v14 : BitVec 32 := Scalar.remsi v1 c9_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c9_i32_5 : BitVec 32 := 9#32
  let c0_i32_6 : BitVec 32 := 0#32
  let v19 : BitVec 1 := Scalar.cmpi .eq c9_i32_5 c0_i32_6
  let c1_i32_7 : BitVec 32 := 1#32
  let v20 : BitVec 32 := Scalar.select v19 c1_i32_7 c9_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![c0_i32_11.toNat, v28.toNat]

def cc0_transform_3 (i : grid0.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c9_i32 : BitVec 32 := 9#32
  let v2 : BitVec 32 := Scalar.divsi v1 c9_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c9_i32 c0_i32_2
  let v9 : BitVec 32 := Scalar.extui v8
  let c0_i32_3 : BitVec 32 := 0#32
  let v10 : BitVec 1 := Scalar.cmpi .slt c9_i32 c0_i32_3
  let v11 : BitVec 32 := Scalar.extui v10
  let v12 : BitVec 32 := Scalar.subi v9 v11
  let v13 : BitVec 1 := Scalar.cmpi .ne v7 v12
  let v14 : BitVec 32 := Scalar.remsi v1 c9_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c9_i32_5 : BitVec 32 := 9#32
  let c0_i32_6 : BitVec 32 := 0#32
  let v19 : BitVec 1 := Scalar.cmpi .eq c9_i32_5 c0_i32_6
  let c1_i32_7 : BitVec 32 := 1#32
  let v20 : BitVec 32 := Scalar.select v19 c1_i32_7 c9_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![c0_i32_11.toNat, v28.toNat]

def cc0_transform_4 (i : grid0.Coords) : Fin 3 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let c9_i32 : BitVec 32 := 9#32
  let v2 : BitVec 32 := Scalar.divsi v1 c9_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c9_i32 c0_i32_1
  let v9 : BitVec 32 := Scalar.extui v8
  let c0_i32_2 : BitVec 32 := 0#32
  let v10 : BitVec 1 := Scalar.cmpi .slt c9_i32 c0_i32_2
  let v11 : BitVec 32 := Scalar.extui v10
  let v12 : BitVec 32 := Scalar.subi v9 v11
  let v13 : BitVec 1 := Scalar.cmpi .ne v7 v12
  let v14 : BitVec 32 := Scalar.remsi v1 c9_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c9_i32_5 : BitVec 32 := 9#32
  let c0_i32_6 : BitVec 32 := 0#32
  let v19 : BitVec 1 := Scalar.cmpi .eq c9_i32_5 c0_i32_6
  let c1_i32_7 : BitVec 32 := 1#32
  let v20 : BitVec 32 := Scalar.select v19 c1_i32_7 c9_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v18.toNat, v28.toNat, c0_i32_11.toNat]

def cc0_transform_5 (i : grid0.Coords) : Fin 4 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let c9_i32 : BitVec 32 := 9#32
  let v2 : BitVec 32 := Scalar.divsi v1 c9_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c9_i32 c0_i32_1
  let v9 : BitVec 32 := Scalar.extui v8
  let c0_i32_2 : BitVec 32 := 0#32
  let v10 : BitVec 1 := Scalar.cmpi .slt c9_i32 c0_i32_2
  let v11 : BitVec 32 := Scalar.extui v10
  let v12 : BitVec 32 := Scalar.subi v9 v11
  let v13 : BitVec 1 := Scalar.cmpi .ne v7 v12
  let v14 : BitVec 32 := Scalar.remsi v1 c9_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c9_i32_5 : BitVec 32 := 9#32
  let c0_i32_6 : BitVec 32 := 0#32
  let v19 : BitVec 1 := Scalar.cmpi .eq c9_i32_5 c0_i32_6
  let c1_i32_7 : BitVec 32 := 1#32
  let v20 : BitVec 32 := Scalar.select v19 c1_i32_7 c9_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c1_i32_11 : BitVec 32 := 1#32
  let v29 : BitVec 32 := Scalar.minsi v28 c1_i32_11
  let c0_i32_12 : BitVec 32 := 0#32
  let c0_i32_13 : BitVec 32 := 0#32
  let c0_i32_14 : BitVec 32 := 0#32
  ![v18.toNat, v29.toNat, c0_i32_12.toNat, c0_i32_13.toNat]

def cc0_transform_6 (i : grid0.Coords) : Fin 2 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let c9_i32 : BitVec 32 := 9#32
  let v2 : BitVec 32 := Scalar.divsi v1 c9_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c9_i32 c0_i32_1
  let v9 : BitVec 32 := Scalar.extui v8
  let c0_i32_2 : BitVec 32 := 0#32
  let v10 : BitVec 1 := Scalar.cmpi .slt c9_i32 c0_i32_2
  let v11 : BitVec 32 := Scalar.extui v10
  let v12 : BitVec 32 := Scalar.subi v9 v11
  let v13 : BitVec 1 := Scalar.cmpi .ne v7 v12
  let v14 : BitVec 32 := Scalar.remsi v1 c9_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c9_i32_5 : BitVec 32 := 9#32
  let c0_i32_6 : BitVec 32 := 0#32
  let v19 : BitVec 1 := Scalar.cmpi .eq c9_i32_5 c0_i32_6
  let c1_i32_7 : BitVec 32 := 1#32
  let v20 : BitVec 32 := Scalar.select v19 c1_i32_7 c9_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![c0_i32_11.toNat, v28.toNat]

def cc0_transform_7 (i : grid0.Coords) : Fin 2 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let c9_i32 : BitVec 32 := 9#32
  let v2 : BitVec 32 := Scalar.divsi v1 c9_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c9_i32 c0_i32_1
  let v9 : BitVec 32 := Scalar.extui v8
  let c0_i32_2 : BitVec 32 := 0#32
  let v10 : BitVec 1 := Scalar.cmpi .slt c9_i32 c0_i32_2
  let v11 : BitVec 32 := Scalar.extui v10
  let v12 : BitVec 32 := Scalar.subi v9 v11
  let v13 : BitVec 1 := Scalar.cmpi .ne v7 v12
  let v14 : BitVec 32 := Scalar.remsi v1 c9_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c9_i32_5 : BitVec 32 := 9#32
  let c0_i32_6 : BitVec 32 := 0#32
  let v19 : BitVec 1 := Scalar.cmpi .eq c9_i32_5 c0_i32_6
  let c1_i32_7 : BitVec 32 := 1#32
  let v20 : BitVec 32 := Scalar.select v19 c1_i32_7 c9_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![c0_i32_11.toNat, v28.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x6x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2304x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x64x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2x1024x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2x256x640 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2x736x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference5Ideal.lean ====
abbrev S32x2304x1024 : Shape := ⟨3, ![32, 2304, 1024]⟩
abbrev S32x2x6x1024 : Shape := ⟨4, ![32, 2, 6, 1024]⟩
abbrev S4x1024 : Shape := ⟨2, ![4, 1024]⟩
abbrev S1024x2304 : Shape := ⟨2, ![1024, 2304]⟩
abbrev S2048x64 : Shape := ⟨2, ![2048, 64]⟩
abbrev S2x64 : Shape := ⟨2, ![2, 64]⟩
abbrev S32x256x1024 : Shape := ⟨3, ![32, 256, 1024]⟩
abbrev S32x1x6x1024 : Shape := ⟨4, ![32, 1, 6, 1024]⟩
abbrev S32x6x1024 : Shape := ⟨3, ![32, 6, 1024]⟩
abbrev S1x1024 : Shape := ⟨2, ![1, 1024]⟩
abbrev S1024 : Shape := ⟨1, ![1024]⟩
abbrev S_ : Shape := ⟨0, ![]⟩
abbrev S32x256 : Shape := ⟨2, ![32, 256]⟩
abbrev S32x256x1 : Shape := ⟨3, ![32, 256, 1]⟩
abbrev S1x1x1024 : Shape := ⟨3, ![1, 1, 1024]⟩
abbrev S32x1x1024 : Shape := ⟨3, ![32, 1, 1024]⟩
abbrev S32x1024 : Shape := ⟨2, ![32, 1024]⟩
abbrev S32x256x2304 : Shape := ⟨3, ![32, 256, 2304]⟩
abbrev S32x256x512 : Shape := ⟨3, ![32, 256, 512]⟩
abbrev S32x256x128 : Shape := ⟨3, ![32, 256, 128]⟩
abbrev S32x256x4x2x64 : Shape := ⟨5, ![32, 256, 4, 2, 64]⟩
abbrev S32x256x4x128 : Shape := ⟨4, ![32, 256, 4, 128]⟩
abbrev S32x256x2x4x64 : Shape := ⟨5, ![32, 256, 2, 4, 64]⟩
abbrev S1x64 : Shape := ⟨2, ![1, 64]⟩
abbrev S64 : Shape := ⟨1, ![64]⟩
abbrev S32x256x2x4 : Shape := ⟨4, ![32, 256, 2, 4]⟩
abbrev S32x256x2x4x1 : Shape := ⟨5, ![32, 256, 2, 4, 1]⟩
abbrev S1x1x1x1x64 : Shape := ⟨5, ![1, 1, 1, 1, 64]⟩
abbrev S32x256x2x64 : Shape := ⟨4, ![32, 256, 2, 64]⟩
abbrev S32x256x2 : Shape := ⟨3, ![32, 256, 2]⟩
abbrev S32x256x2x1 : Shape := ⟨4, ![32, 256, 2, 1]⟩
abbrev S1x1x1x64 : Shape := ⟨4, ![1, 1, 1, 64]⟩
abbrev S32x2048x1024 : Shape := ⟨3, ![32, 2048, 1024]⟩
abbrev S32x2048 : Shape := ⟨2, ![32, 2048]⟩
abbrev S32x2048x1 : Shape := ⟨3, ![32, 2048, 1]⟩
abbrev S32x2048x2304 : Shape := ⟨3, ![32, 2048, 2304]⟩
abbrev S32x2048x512 : Shape := ⟨3, ![32, 2048, 512]⟩
abbrev S32x2048x128 : Shape := ⟨3, ![32, 2048, 128]⟩
abbrev S32x2048x4x2x64 : Shape := ⟨5, ![32, 2048, 4, 2, 64]⟩
abbrev S32x2048x4x128 : Shape := ⟨4, ![32, 2048, 4, 128]⟩
abbrev S32x2048x2x4x64 : Shape := ⟨5, ![32, 2048, 2, 4, 64]⟩
abbrev S32x2048x2x4 : Shape := ⟨4, ![32, 2048, 2, 4]⟩
abbrev S32x2048x2x4x1 : Shape := ⟨5, ![32, 2048, 2, 4, 1]⟩
abbrev S32x2048x2x64 : Shape := ⟨4, ![32, 2048, 2, 64]⟩
abbrev S32x2048x2 : Shape := ⟨3, ![32, 2048, 2]⟩
abbrev S32x2048x2x1 : Shape := ⟨4, ![32, 2048, 2, 1]⟩
abbrev S1x2048x1x1x64 : Shape := ⟨5, ![1, 2048, 1, 1, 64]⟩
abbrev S32x2048x4x2x16 : Shape := ⟨5, ![32, 2048, 4, 2, 16]⟩
abbrev S32x2048x2x4x16 : Shape := ⟨5, ![32, 2048, 2, 4, 16]⟩
abbrev S1x2048x1x64 : Shape := ⟨4, ![1, 2048, 1, 64]⟩
abbrev S32x2048x2x16 : Shape := ⟨4, ![32, 2048, 2, 16]⟩
abbrev S32x2304x4x2x64 : Shape := ⟨5, ![32, 2304, 4, 2, 64]⟩
abbrev S32x2304x4x128 : Shape := ⟨4, ![32, 2304, 4, 128]⟩
abbrev S32x2304x2x4x64 : Shape := ⟨5, ![32, 2304, 2, 4, 64]⟩
abbrev S32x2304x2x64 : Shape := ⟨4, ![32, 2304, 2, 64]⟩
abbrev S32x2304x512 : Shape := ⟨3, ![32, 2304, 512]⟩
abbrev S32x2304x128 : Shape := ⟨3, ![32, 2304, 128]⟩
abbrev S32x2304x640 : Shape := ⟨3, ![32, 2304, 640]⟩
abbrev S32x2304x4x16 : Shape := ⟨4, ![32, 2304, 4, 16]⟩
abbrev S32x2304x4x144 : Shape := ⟨4, ![32, 2304, 4, 144]⟩
abbrev S32x2304x2x16 : Shape := ⟨4, ![32, 2304, 2, 16]⟩
abbrev S32x2304x2x80 : Shape := ⟨4, ![32, 2304, 2, 80]⟩
abbrev S32x2304x576 : Shape := ⟨3, ![32, 2304, 576]⟩
abbrev S32x2304x160 : Shape := ⟨3, ![32, 2304, 160]⟩
abbrev S32x2304x736 : Shape := ⟨3, ![32, 2304, 736]⟩
abbrev S288x256x1024 : Shape := ⟨3, ![288, 256, 1024]⟩
abbrev S288x1024x256 : Shape := ⟨3, ![288, 1024, 256]⟩
abbrev S288x256x640 : Shape := ⟨3, ![288, 256, 640]⟩
abbrev S288x256x736 : Shape := ⟨3, ![288, 256, 736]⟩
abbrev S288x736x256 : Shape := ⟨3, ![288, 736, 256]⟩

abbrev nBuf : Space → Nat
  | .hbm => 261
  | .vmem => 0
  | .smem => 0
  | _ => 0

abbrev hbmTy0_0 (i : Nat) : BufTy := match i % 128 with
  | 0 => ⟨S32x2304x1024, .f32⟩
  | 1 => ⟨S32x2x6x1024, .f32⟩
  | 2 => ⟨S4x1024, .f32⟩
  | 3 => ⟨S1024x2304, .f32⟩
  | 4 => ⟨S2048x64, .f32⟩
  | 5 => ⟨S2048x64, .f32⟩
  | 6 => ⟨S2x64, .f32⟩
  | 7 => ⟨S32x256x1024, .f32⟩
  | 8 => ⟨S32x1x6x1024, .f32⟩
  | 9 => ⟨S32x6x1024, .f32⟩
  | 10 => ⟨S1x1024, .f32⟩
  | 11 => ⟨S1024, .f32⟩
  | 12 => ⟨S32x256x1024, .f32⟩
  | 13 => ⟨S_, .f32⟩
  | 14 => ⟨S32x256, .f32⟩
  | 15 => ⟨S32x256x1, .f32⟩
  | 16 => ⟨S_, .f32⟩
  | 17 => ⟨S32x256x1, .f32⟩
  | 18 => ⟨S32x256x1, .f32⟩
  | 19 => ⟨S_, .f32⟩
  | 20 => ⟨S32x256x1, .f32⟩
  | 21 => ⟨S32x256x1, .f32⟩
  | 22 => ⟨S32x256x1, .f32⟩
  | 23 => ⟨S32x256x1024, .f32⟩
  | 24 => ⟨S32x256x1024, .f32⟩
  | 25 => ⟨S1x1x1024, .f32⟩
  | 26 => ⟨S32x256x1024, .f32⟩
  | 27 => ⟨S32x256x1024, .f32⟩
  | 28 => ⟨S32x1x1024, .f32⟩
  | 29 => ⟨S32x1024, .f32⟩
  | 30 => ⟨S32x1x1024, .f32⟩
  | 31 => ⟨S32x1x1024, .f32⟩
  | 32 => ⟨S32x1024, .f32⟩
  | 33 => ⟨S32x1x1024, .f32⟩
  | 34 => ⟨S_, .f32⟩
  | 35 => ⟨S32x1x1024, .f32⟩
  | 36 => ⟨S32x1x1024, .f32⟩
  | 37 => ⟨S32x256x1024, .f32⟩
  | 38 => ⟨S32x256x1024, .f32⟩
  | 39 => ⟨S32x256x1024, .f32⟩
  | 40 => ⟨S32x256x1024, .f32⟩
  | 41 => ⟨S32x256x2304, .f32⟩
  | 42 => ⟨S32x256x512, .f32⟩
  | 43 => ⟨S32x256x512, .f32⟩
  | 44 => ⟨S32x256x512, .f32⟩
  | 45 => ⟨S32x256x512, .f32⟩
  | 46 => ⟨S32x256x128, .f32⟩
  | 47 => ⟨S32x256x128, .f32⟩
  | 48 => ⟨S32x256x4x2x64, .f32⟩
  | 49 => ⟨S32x256x4x2x64, .f32⟩
  | 50 => ⟨S32x256x4x128, .f32⟩
  | 51 => ⟨S32x256x2x4x64, .f32⟩
  | 52 => ⟨S1x64, .f32⟩
  | 53 => ⟨S64, .f32⟩
  | 54 => ⟨S32x256x2x4x64, .f32⟩
  | 55 => ⟨S_, .f32⟩
  | 56 => ⟨S32x256x2x4, .f32⟩
  | 57 => ⟨S32x256x2x4x1, .f32⟩
  | 58 => ⟨S_, .f32⟩
  | 59 => ⟨S32x256x2x4x1, .f32⟩
  | 60 => ⟨S32x256x2x4x1, .f32⟩
  | 61 => ⟨S_, .f32⟩
  | 62 => ⟨S32x256x2x4x1, .f32⟩
  | 63 => ⟨S32x256x2x4x1, .f32⟩
  | 64 => ⟨S32x256x2x4x1, .f32⟩
  | 65 => ⟨S32x256x2x4x64, .f32⟩
  | 66 => ⟨S32x256x2x4x64, .f32⟩
  | 67 => ⟨S1x1x1x1x64, .f32⟩
  | 68 => ⟨S32x256x2x4x64, .f32⟩
  | 69 => ⟨S32x256x2x4x64, .f32⟩
  | 70 => ⟨S32x256x2x64, .f32⟩
  | 71 => ⟨S1x64, .f32⟩
  | 72 => ⟨S64, .f32⟩
  | 73 => ⟨S32x256x2x64, .f32⟩
  | 74 => ⟨S_, .f32⟩
  | 75 => ⟨S32x256x2, .f32⟩
  | 76 => ⟨S32x256x2x1, .f32⟩
  | 77 => ⟨S_, .f32⟩
  | 78 => ⟨S32x256x2x1, .f32⟩
  | 79 => ⟨S32x256x2x1, .f32⟩
  | 80 => ⟨S_, .f32⟩
  | 81 => ⟨S32x256x2x1, .f32⟩
  | 82 => ⟨S32x256x2x1, .f32⟩
  | 83 => ⟨S32x256x2x1, .f32⟩
  | 84 => ⟨S32x256x2x64, .f32⟩
  | 85 => ⟨S32x256x2x64, .f32⟩
  | 86 => ⟨S1x1x1x64, .f32⟩
  | 87 => ⟨S32x256x2x64, .f32⟩
  | 88 => ⟨S32x256x2x64, .f32⟩
  | 89 => ⟨S32x256x2x64, .f32⟩
  | 90 => ⟨S32x2048x1024, .f32⟩
  | 91 => ⟨S32x1x6x1024, .f32⟩
  | 92 => ⟨S32x6x1024, .f32⟩
  | 93 => ⟨S1x1024, .f32⟩
  | 94 => ⟨S1024, .f32⟩
  | 95 => ⟨S32x2048x1024, .f32⟩
  | 96 => ⟨S_, .f32⟩
  | 97 => ⟨S32x2048, .f32⟩
  | 98 => ⟨S32x2048x1, .f32⟩
  | 99 => ⟨S_, .f32⟩
  | 100 => ⟨S32x2048x1, .f32⟩
  | 101 => ⟨S32x2048x1, .f32⟩
  | 102 => ⟨S_, .f32⟩
  | 103 => ⟨S32x2048x1, .f32⟩
  | 104 => ⟨S32x2048x1, .f32⟩
  | 105 => ⟨S32x2048x1, .f32⟩
  | 106 => ⟨S32x2048x1024, .f32⟩
  | 107 => ⟨S32x2048x1024, .f32⟩
  | 108 => ⟨S1x1x1024, .f32⟩
  | 109 => ⟨S32x2048x1024, .f32⟩
  | 110 => ⟨S32x2048x1024, .f32⟩
  | 111 => ⟨S32x1x1024, .f32⟩
  | 112 => ⟨S32x1024, .f32⟩
  | 113 => ⟨S32x1x1024, .f32⟩
  | 114 => ⟨S32x1x1024, .f32⟩
  | 115 => ⟨S32x1024, .f32⟩
  | 116 => ⟨S32x1x1024, .f32⟩
  | 117 => ⟨S_, .f32⟩
  | 118 => ⟨S32x1x1024, .f32⟩
  | 119 => ⟨S32x1x1024, .f32⟩
  | 120 => ⟨S32x2048x1024, .f32⟩
  | 121 => ⟨S32x2048x1024, .f32⟩
  | 122 => ⟨S32x2048x1024, .f32⟩
  | 123 => ⟨S32x2048x1024, .f32⟩
  | 124 => ⟨S32x2048x2304, .f32⟩
  | 125 => ⟨S32x2048x512, .f32⟩
  | 126 => ⟨S32x2048x512, .f32⟩
  | 127 => ⟨S32x2048x512, .f32⟩
  | _ => ⟨S32x2304x1024, .f32⟩

abbrev hbmTy0_1 (i : Nat) : BufTy := match i % 128 with
  | 0 => ⟨S32x2048x512, .f32⟩
  | 1 => ⟨S32x2048x128, .f32⟩
  | 2 => ⟨S32x2048x128, .f32⟩
  | 3 => ⟨S32x2048x4x2x64, .f32⟩
  | 4 => ⟨S32x2048x4x2x64, .f32⟩
  | 5 => ⟨S32x2048x4x128, .f32⟩
  | 6 => ⟨S32x2048x2x4x64, .f32⟩
  | 7 => ⟨S1x64, .f32⟩
  | 8 => ⟨S64, .f32⟩
  | 9 => ⟨S32x2048x2x4x64, .f32⟩
  | 10 => ⟨S_, .f32⟩
  | 11 => ⟨S32x2048x2x4, .f32⟩
  | 12 => ⟨S32x2048x2x4x1, .f32⟩
  | 13 => ⟨S_, .f32⟩
  | 14 => ⟨S32x2048x2x4x1, .f32⟩
  | 15 => ⟨S32x2048x2x4x1, .f32⟩
  | 16 => ⟨S_, .f32⟩
  | 17 => ⟨S32x2048x2x4x1, .f32⟩
  | 18 => ⟨S32x2048x2x4x1, .f32⟩
  | 19 => ⟨S32x2048x2x4x1, .f32⟩
  | 20 => ⟨S32x2048x2x4x64, .f32⟩
  | 21 => ⟨S32x2048x2x4x64, .f32⟩
  | 22 => ⟨S1x1x1x1x64, .f32⟩
  | 23 => ⟨S32x2048x2x4x64, .f32⟩
  | 24 => ⟨S32x2048x2x4x64, .f32⟩
  | 25 => ⟨S32x2048x2x64, .f32⟩
  | 26 => ⟨S1x64, .f32⟩
  | 27 => ⟨S64, .f32⟩
  | 28 => ⟨S32x2048x2x64, .f32⟩
  | 29 => ⟨S_, .f32⟩
  | 30 => ⟨S32x2048x2, .f32⟩
  | 31 => ⟨S32x2048x2x1, .f32⟩
  | 32 => ⟨S_, .f32⟩
  | 33 => ⟨S32x2048x2x1, .f32⟩
  | 34 => ⟨S32x2048x2x1, .f32⟩
  | 35 => ⟨S_, .f32⟩
  | 36 => ⟨S32x2048x2x1, .f32⟩
  | 37 => ⟨S32x2048x2x1, .f32⟩
  | 38 => ⟨S32x2048x2x1, .f32⟩
  | 39 => ⟨S32x2048x2x64, .f32⟩
  | 40 => ⟨S32x2048x2x64, .f32⟩
  | 41 => ⟨S1x1x1x64, .f32⟩
  | 42 => ⟨S32x2048x2x64, .f32⟩
  | 43 => ⟨S32x2048x2x64, .f32⟩
  | 44 => ⟨S32x2048x2x64, .f32⟩
  | 45 => ⟨S1x2048x1x1x64, .f32⟩
  | 46 => ⟨S1x2048x1x1x64, .f32⟩
  | 47 => ⟨S32x2048x4x2x16, .f32⟩
  | 48 => ⟨S32x2048x4x2x16, .f32⟩
  | 49 => ⟨S32x2048x4x2x16, .f32⟩
  | 50 => ⟨S32x2048x4x2x16, .f32⟩
  | 51 => ⟨S32x2048x4x2x16, .f32⟩
  | 52 => ⟨S32x2048x4x2x16, .f32⟩
  | 53 => ⟨S32x2048x4x2x64, .f32⟩
  | 54 => ⟨S32x2048x4x2x64, .f32⟩
  | 55 => ⟨S32x2048x4x2x64, .f32⟩
  | 56 => ⟨S32x2048x4x2x64, .f32⟩
  | 57 => ⟨S32x2048x4x2x64, .f32⟩
  | 58 => ⟨S32x2048x4x2x64, .f32⟩
  | 59 => ⟨S1x2048x1x1x64, .f32⟩
  | 60 => ⟨S1x2048x1x1x64, .f32⟩
  | 61 => ⟨S32x2048x4x2x16, .f32⟩
  | 62 => ⟨S32x2048x4x2x16, .f32⟩
  | 63 => ⟨S32x2048x4x2x16, .f32⟩
  | 64 => ⟨S32x2048x4x2x16, .f32⟩
  | 65 => ⟨S32x2048x4x2x16, .f32⟩
  | 66 => ⟨S32x2048x4x2x16, .f32⟩
  | 67 => ⟨S32x2048x4x2x64, .f32⟩
  | 68 => ⟨S32x2048x4x2x64, .f32⟩
  | 69 => ⟨S32x2048x4x2x64, .f32⟩
  | 70 => ⟨S32x2048x4x2x64, .f32⟩
  | 71 => ⟨S32x2048x4x2x64, .f32⟩
  | 72 => ⟨S32x2048x4x2x64, .f32⟩
  | 73 => ⟨S1x2048x1x1x64, .f32⟩
  | 74 => ⟨S1x2048x1x1x64, .f32⟩
  | 75 => ⟨S32x2048x2x4x16, .f32⟩
  | 76 => ⟨S32x2048x2x4x16, .f32⟩
  | 77 => ⟨S32x2048x2x4x16, .f32⟩
  | 78 => ⟨S32x2048x2x4x16, .f32⟩
  | 79 => ⟨S32x2048x2x4x16, .f32⟩
  | 80 => ⟨S32x2048x2x4x16, .f32⟩
  | 81 => ⟨S32x2048x2x4x64, .f32⟩
  | 82 => ⟨S32x2048x2x4x64, .f32⟩
  | 83 => ⟨S32x2048x2x4x64, .f32⟩
  | 84 => ⟨S32x2048x2x4x64, .f32⟩
  | 85 => ⟨S32x2048x2x4x64, .f32⟩
  | 86 => ⟨S32x2048x2x4x64, .f32⟩
  | 87 => ⟨S1x2048x1x64, .f32⟩
  | 88 => ⟨S1x2048x1x64, .f32⟩
  | 89 => ⟨S32x2048x2x16, .f32⟩
  | 90 => ⟨S32x2048x2x16, .f32⟩
  | 91 => ⟨S32x2048x2x16, .f32⟩
  | 92 => ⟨S32x2048x2x16, .f32⟩
  | 93 => ⟨S32x2048x2x16, .f32⟩
  | 94 => ⟨S32x2048x2x16, .f32⟩
  | 95 => ⟨S32x2048x2x64, .f32⟩
  | 96 => ⟨S32x2048x2x64, .f32⟩
  | 97 => ⟨S32x2048x2x64, .f32⟩
  | 98 => ⟨S32x2048x2x64, .f32⟩
  | 99 => ⟨S32x2048x2x64, .f32⟩
  | 100 => ⟨S32x2048x2x64, .f32⟩
  | 101 => ⟨S32x2304x4x2x64, .f32⟩
  | 102 => ⟨S32x2304x4x2x64, .f32⟩
  | 103 => ⟨S32x2304x4x128, .f32⟩
  | 104 => ⟨S32x2304x2x4x64, .f32⟩
  | 105 => ⟨S32x2304x2x64, .f32⟩
  | 106 => ⟨S32x2304x2x64, .f32⟩
  | 107 => ⟨S32x2304x512, .f32⟩
  | 108 => ⟨S32x2304x512, .f32⟩
  | 109 => ⟨S32x2304x1024, .f32⟩
  | 110 => ⟨S_, .f32⟩
  | 111 => ⟨S32x2304x1024, .f32⟩
  | 112 => ⟨S32x2304x1024, .f32⟩
  | 113 => ⟨S32x2304x512, .f32⟩
  | 114 => ⟨S32x2304x128, .f32⟩
  | 115 => ⟨S32x2304x640, .f32⟩
  | 116 => ⟨S_, .f32⟩
  | 117 => ⟨S32x2304x4x16, .f32⟩
  | 118 => ⟨S32x2304x4x144, .f32⟩
  | 119 => ⟨S_, .f32⟩
  | 120 => ⟨S32x2304x2x16, .f32⟩
  | 121 => ⟨S32x2304x2x80, .f32⟩
  | 122 => ⟨S32x2304x576, .f32⟩
  | 123 => ⟨S32x2304x160, .f32⟩
  | 124 => ⟨S32x2304x736, .f32⟩
  | 125 => ⟨S288x256x1024, .f32⟩
  | 126 => ⟨S288x1024x256, .f32⟩
  | 127 => ⟨S288x1024x256, .bf16⟩
  | _ => ⟨S32x2304x1024, .f32⟩

abbrev hbmTy0_2 (i : Nat) : BufTy := match i % 128 with
  | 0 => ⟨S288x256x640, .f32⟩
  | 1 => ⟨S288x256x640, .bf16⟩
  | 2 => ⟨S288x256x736, .f32⟩
  | 3 => ⟨S288x736x256, .f32⟩
  | 4 => ⟨S288x736x256, .bf16⟩
  | _ => ⟨S32x2304x1024, .f32⟩

abbrev hbmTy (i : Nat) : BufTy := match i / 128 with
  | 0 => hbmTy0_0 i
  | 1 => hbmTy0_1 i
  | 2 => hbmTy0_2 i
  | _ => ⟨S32x2304x1024, .f32⟩

abbrev bufTy : (tb : Table) → Fin (tcTables nBuf tb) → BufTy
  | .hbm, ⟨i, _⟩ => hbmTy i
  | _, _ => ⟨S32x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_3 : Ref sig .tc := ⟨.hbm, 55, rfl⟩
abbrev main_v44 : Ref sig .tc := ⟨.hbm, 56, rfl⟩
abbrev main_v45 : Ref sig .tc := ⟨.hbm, 57, rfl⟩
abbrev main_cst_4 : Ref sig .tc := ⟨.hbm, 58, rfl⟩
abbrev main_v46 : Ref sig .tc := ⟨.hbm, 59, rfl⟩
abbrev main_v47 : Ref sig .tc := ⟨.hbm, 60, rfl⟩
abbrev main_cst_5 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_cst_6 : Ref sig .tc := ⟨.hbm, 74, rfl⟩
abbrev main_v60 : Ref sig .tc := ⟨.hbm, 75, rfl⟩
abbrev main_v61 : Ref sig .tc := ⟨.hbm, 76, rfl⟩
abbrev main_cst_7 : Ref sig .tc := ⟨.hbm, 77, rfl⟩
abbrev main_v62 : Ref sig .tc := ⟨.hbm, 78, rfl⟩
abbrev main_v63 : Ref sig .tc := ⟨.hbm, 79, rfl⟩
abbrev main_cst_8 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_cst_9 : Ref sig .tc := ⟨.hbm, 96, rfl⟩
abbrev main_v79 : Ref sig .tc := ⟨.hbm, 97, rfl⟩
abbrev main_v80 : Ref sig .tc := ⟨.hbm, 98, rfl⟩
abbrev main_cst_10 : Ref sig .tc := ⟨.hbm, 99, rfl⟩
abbrev main_v81 : Ref sig .tc := ⟨.hbm, 100, rfl⟩
abbrev main_v82 : Ref sig .tc := ⟨.hbm, 101, rfl⟩
abbrev main_cst_11 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_cst_12 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_cst_13 : Ref sig .tc := ⟨.hbm, 138, rfl⟩
abbrev main_v117 : Ref sig .tc := ⟨.hbm, 139, rfl⟩
abbrev main_v118 : Ref sig .tc := ⟨.hbm, 140, rfl⟩
abbrev main_cst_14 : Ref sig .tc := ⟨.hbm, 141, rfl⟩
abbrev main_v119 : Ref sig .tc := ⟨.hbm, 142, rfl⟩
abbrev main_v120 : Ref sig .tc := ⟨.hbm, 143, rfl⟩
abbrev main_cst_15 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_cst_16 : Ref sig .tc := ⟨.hbm, 157, rfl⟩
abbrev main_v133 : Ref sig .tc := ⟨.hbm, 158, rfl⟩
abbrev main_v134 : Ref sig .tc := ⟨.hbm, 159, rfl⟩
abbrev main_cst_17 : Ref sig .tc := ⟨.hbm, 160, rfl⟩
abbrev main_v135 : Ref sig .tc := ⟨.hbm, 161, rfl⟩
abbrev main_v136 : Ref sig .tc := ⟨.hbm, 162, rfl⟩
abbrev main_cst_18 : Ref sig .tc := ⟨.hbm, 163, rfl⟩
abbrev main_v137 : Ref sig .tc := ⟨.hbm, 164, rfl⟩
abbrev main_v138 : Ref sig .tc := ⟨.hbm, 165, rfl⟩
abbrev main_v139 : Ref sig .tc := ⟨.hbm, 166, rfl⟩
abbrev main_v140 : Ref sig .tc := ⟨.hbm, 167, rfl⟩
abbrev main_v141 : Ref sig .tc := ⟨.hbm, 168, rfl⟩
abbrev main_v142 : Ref sig .tc := ⟨.hbm, 169, rfl⟩
abbrev main_v143 : Ref sig .tc := ⟨.hbm, 170, rfl⟩
abbrev main_v144 : Ref sig .tc := ⟨.hbm, 171, rfl⟩
abbrev main_v145 : Ref sig .tc := ⟨.hbm, 172, rfl⟩
abbrev main_v146 : Ref sig .tc := ⟨.hbm, 173, rfl⟩
abbrev main_v147 : Ref sig .tc := ⟨.hbm, 174, rfl⟩
abbrev main_v148 : Ref sig .tc := ⟨.hbm, 175, rfl⟩
abbrev main_v149 : Ref sig .tc := ⟨.hbm, 176, rfl⟩
abbrev main_v150 : Ref sig .tc := ⟨.hbm, 177, rfl⟩
abbrev main_v151 : Ref sig .tc := ⟨.hbm, 178, rfl⟩
abbrev main_v152 : Ref sig .tc := ⟨.hbm, 179, rfl⟩
abbrev main_v153 : Ref sig .tc := ⟨.hbm, 180, rfl⟩
abbrev main_v154 : Ref sig .tc := ⟨.hbm, 181, rfl⟩
abbrev main_v155 : Ref sig .tc := ⟨.hbm, 182, rfl⟩
abbrev main_v156 : Ref sig .tc := ⟨.hbm, 183, rfl⟩
abbrev main_v157 : Ref sig .tc := ⟨.hbm, 184, rfl⟩
abbrev main_v158 : Ref sig .tc := ⟨.hbm, 185, rfl⟩
abbrev main_v159 : Ref sig .tc := ⟨.hbm, 186, rfl⟩
abbrev main_v160 : Ref sig .tc := ⟨.hbm, 187, rfl⟩
abbrev main_v161 : Ref sig .tc := ⟨.hbm, 188, rfl⟩
abbrev main_v162 : Ref sig .tc := ⟨.hbm, 189, rfl⟩
abbrev main_v163 : Ref sig .tc := ⟨.hbm, 190, rfl⟩
abbrev main_v164 : Ref sig .tc := ⟨.hbm, 191, rfl⟩
abbrev main_v165 : Ref sig .tc := ⟨.hbm, 192, rfl⟩
abbrev main_v166 : Ref sig .tc := ⟨.hbm, 193, rfl⟩
abbrev main_v167 : Ref sig .tc := ⟨.hbm, 194, rfl⟩
abbrev main_v168 : Ref sig .tc := ⟨.hbm, 195, rfl⟩
abbrev main_v169 : Ref sig .tc := ⟨.hbm, 196, rfl⟩
abbrev main_v170 : Ref sig .tc := ⟨.hbm, 197, rfl⟩
abbrev main_v171 : Ref sig .tc := ⟨.hbm, 198, rfl⟩
abbrev main_v172 : Ref sig .tc := ⟨.hbm, 199, rfl⟩
abbrev main_v173 : Ref sig .tc := ⟨.hbm, 200, rfl⟩
abbrev main_v174 : Ref sig .tc := ⟨.hbm, 201, rfl⟩
abbrev main_v175 : Ref sig .tc := ⟨.hbm, 202, rfl⟩
abbrev main_v176 : Ref sig .tc := ⟨.hbm, 203, rfl⟩
abbrev main_v177 : Ref sig .tc := ⟨.hbm, 204, rfl⟩
abbrev main_v178 : Ref sig .tc := ⟨.hbm, 205, rfl⟩
abbrev main_v179 : Ref sig .tc := ⟨.hbm, 206, rfl⟩
abbrev main_v180 : Ref sig .tc := ⟨.hbm, 207, rfl⟩
abbrev main_v181 : Ref sig .tc := ⟨.hbm, 208, rfl⟩
abbrev main_v182 : Ref sig .tc := ⟨.hbm, 209, rfl⟩
abbrev main_v183 : Ref sig .tc := ⟨.hbm, 210, rfl⟩
abbrev main_v184 : Ref sig .tc := ⟨.hbm, 211, rfl⟩
abbrev main_v185 : Ref sig .tc := ⟨.hbm, 212, rfl⟩
abbrev main_v186 : Ref sig .tc := ⟨.hbm, 213, rfl⟩
abbrev main_v187 : Ref sig .tc := ⟨.hbm, 214, rfl⟩
abbrev main_v188 : Ref sig .tc := ⟨.hbm, 215, rfl⟩
abbrev main_v189 : Ref sig .tc := ⟨.hbm, 216, rfl⟩
abbrev main_v190 : Ref sig .tc := ⟨.hbm, 217, rfl⟩
abbrev main_v191 : Ref sig .tc := ⟨.hbm, 218, rfl⟩
abbrev main_v192 : Ref sig .tc := ⟨.hbm, 219, rfl⟩
abbrev main_v193 : Ref sig .tc := ⟨.hbm, 220, rfl⟩
abbrev main_v194 : Ref sig .tc := ⟨.hbm, 221, rfl⟩
abbrev main_v195 : Ref sig .tc := ⟨.hbm, 222, rfl⟩
abbrev main_v196 : Ref sig .tc := ⟨.hbm, 223, rfl⟩
abbrev main_v197 : Ref sig .tc := ⟨.hbm, 224, rfl⟩
abbrev main_v198 : Ref sig .tc := ⟨.hbm, 225, rfl⟩
abbrev main_v199 : Ref sig .tc := ⟨.hbm, 226, rfl⟩
abbrev main_v200 : Ref sig .tc := ⟨.hbm, 227, rfl⟩
abbrev main_v201 : Ref sig .tc := ⟨.hbm, 228, rfl⟩
abbrev main_v202 : Ref sig .tc := ⟨.hbm, 229, rfl⟩
abbrev main_v203 : Ref sig .tc := ⟨.hbm, 230, rfl⟩
abbrev main_v204 : Ref sig .tc := ⟨.hbm, 231, rfl⟩
abbrev main_v205 : Ref sig .tc := ⟨.hbm, 232, rfl⟩
abbrev main_v206 : Ref sig .tc := ⟨.hbm, 233, rfl⟩
abbrev main_v207 : Ref sig .tc := ⟨.hbm, 234, rfl⟩
abbrev main_v208 : Ref sig .tc := ⟨.hbm, 235, rfl⟩
abbrev main_v209 : Ref sig .tc := ⟨.hbm, 236, rfl⟩
abbrev main_v210 : Ref sig .tc := ⟨.hbm, 237, rfl⟩
abbrev main_cst_19 : Ref sig .tc := ⟨.hbm, 238, rfl⟩
abbrev main_v211 : Ref sig .tc := ⟨.hbm, 239, rfl⟩
abbrev main_v212 : Ref sig .tc := ⟨.hbm, 240, rfl⟩
abbrev main_v213 : Ref sig .tc := ⟨.hbm, 241, rfl⟩
abbrev main_v214 : Ref sig .tc := ⟨.hbm, 242, rfl⟩
abbrev main_v215 : Ref sig .tc := ⟨.hbm, 243, rfl⟩
abbrev main_cst_20 : Ref sig .tc := ⟨.hbm, 244, rfl⟩
abbrev main_v216 : Ref sig .tc := ⟨.hbm, 245, rfl⟩
abbrev main_v217 : Ref sig .tc := ⟨.hbm, 246, rfl⟩
abbrev main_cst_21 : Ref sig .tc := ⟨.hbm, 247, rfl⟩
abbrev main_v218 : Ref sig .tc := ⟨.hbm, 248, rfl⟩
abbrev main_v219 : Ref sig .tc := ⟨.hbm, 249, rfl⟩
abbrev main_v220 : Ref sig .tc := ⟨.hbm, 250, rfl⟩
abbrev main_v221 : Ref sig .tc := ⟨.hbm, 251, rfl⟩
abbrev main_v222 : Ref sig .tc := ⟨.hbm, 252, rfl⟩
abbrev main_v223 : Ref sig .tc := ⟨.hbm, 253, rfl⟩
abbrev main_v224 : Ref sig .tc := ⟨.hbm, 254, rfl⟩
abbrev main_v225 : Ref sig .tc := ⟨.hbm, 255, rfl⟩
abbrev main_v226 : Ref sig .tc := ⟨.hbm, 256, rfl⟩
abbrev main_v227 : Ref sig .tc := ⟨.hbm, 257, rfl⟩
abbrev main_v228 : Ref sig .tc := ⟨.hbm, 258, rfl⟩
abbrev main_v229 : Ref sig .tc := ⟨.hbm, 259, rfl⟩
abbrev main_v230 : Ref sig .tc := ⟨.hbm, 260, rfl⟩

abbrev nD : Nat := 1
abbrev τ : Topo := Topo.v7x

variable {F : FTy → Type} [FloatOps F]
-- ==== Proof.Attn.Pays.lean ====
/- What each kind of vector value of the attention kernel's body is, read at one index: the score of a key against a
   query, the new maximum, the new weighted sums, and the two ways an output is made. The body repeats each kind once per
   map and chunk; one name of each kind stands for all of them. -/
module

public import proofs.«01_k».proof.Proof.Gen.KernelIdeal.Skeleton
public import Idealize.ShloMosaic.Lib.Pointwise
public import Mathlib.Analysis.SpecialFunctions.Pow.Real

@[expose] public section

set_option maxRecDepth 16384

noncomputable section

namespace Cert.Attn

open Cert.KernelIdeal Cert.KernelIdeal.Gen Idealize.ShloMosaic Idealize.ShloMosaic.Pointwise

/-! ## Sums and maxima of real numbers among the extended reals -/

/-- A finite sum of reals, taken among the extended reals, is the real sum. -/
theorem coe_sum {ι : Type} (s : Finset ι) (f : ι → ℝ) : ∑ x ∈ s, (f x : EReal) = ((∑ x ∈ s, f x : ℝ) : EReal) := by
  classical
  induction s using Finset.induction_on with
  | empty => simp
  | insert a s ha ih => rw [Finset.sum_insert ha, Finset.sum_insert ha, ih, EReal.coe_add]

/-- The largest of 256 reals, started from minus infinity, is a real. -/
theorem max_real (f : Fin 256 → EReal) (S : Fin 256 → ℝ) (h : ∀ x, f x = (S x : EReal)) :
    ∃ M : ℝ, Finset.fold max (Ideal.ofBits .f32 0xFF800000#32) f Finset.univ = (M : EReal) := by
  have hb : Ideal.ofBits .f32 0xFF800000#32 = (⊥ : EReal) := by simp [Ideal.ofBits, Ideal.ieee]
  rw [hb]
  obtain ⟨i, _, hi⟩ := Finset.exists_mem_eq_sup (Finset.univ : Finset (Fin 256)) ⟨0, Finset.mem_univ _⟩ f
  exact ⟨S i, (show _ = Finset.univ.sup f from rfl).trans (hi.trans (h i))⟩

/-- Two to a real difference. -/
theorem exp2_sub (a b : ℝ) : (FloatOps.exp2 (((a : ℝ) : EReal) - ((b : ℝ) : EReal) : Ideal .f32) : Ideal .f32) = (((2 : ℝ) ^ (a - b) : ℝ) : EReal) := by
  rw [← EReal.coe_sub]; rfl

/-- A weighted sum of reals with weights two to a difference. -/
theorem wsum_real {n : ℕ} (vb : Fin n → EReal) (s : Fin n → EReal) (V S : Fin n → ℝ) (M : ℝ)
    (hv : ∀ k, vb k = (V k : EReal)) (hs : ∀ k, s k = (S k : EReal)) :
    ∑ k, vb k * (FloatOps.exp2 (s k - (M : EReal) : Ideal .f32) : Ideal .f32) = ((∑ k, (2 : ℝ) ^ (S k - M) * V k : ℝ) : EReal) := by
  rw [← coe_sum]
  refine Finset.sum_congr rfl fun k _ => ?_
  rw [hv, hs, exp2_sub, ← EReal.coe_mul, mul_comm]

/-! ## The kinds of values -/

/-- A score is the dot product, over 128 coordinates, of a key row with a query column. -/
theorem score_apply (kb : Vec Ideal S1x256x128 .bf16) (qb : Vec Ideal S1x128x256 .bf16) (k j : Fin 256) :
    k0_pay2 (F := Ideal) kb qb (ix2 k j) = ∑ d : Fin 128, kb (ix3 0 k d) * qb (ix3 0 d j) := by
  pointwise [k0_pay2]

/-- A chunk's score column has a real largest element, which is what is stored as the maximum after the first chunk. -/
theorem first_max (s : FVec Ideal S256x256 .f32) (S : Fin 256 → ℝ) (j : Fin 256) (hs : ∀ k, s (ix2 k j) = (S k : EReal)) :
    ∃ M : ℝ, k0_pay8 (F := Ideal) s (ix2 0 j) = (M : EReal) ∧ k0_pay149 (F := Ideal) s (ix3 0 0 j) = (M : EReal) := by
  obtain ⟨M, hM⟩ := max_real (fun k => s (ix2 k j)) S hs
  refine ⟨M, ?_, ?_⟩
  · rw [← hM]; pointwise [k0_pay8]
  · rw [← hM]; pointwise [k0_pay149, k0_pay148]

/-- The weighted sums after the first chunk, 144 rows. -/
theorem first_acc_wide (s : FVec Ideal S256x256 .f32) (vb : Vec Ideal S1x1x144x256 .bf16) (S V : Fin 256 → ℝ) (M : ℝ)
    (r : Fin 144) (j : Fin 256) (hs : ∀ k, s (ix2 k j) = (S k : EReal)) (hv : ∀ k, vb (ix4 0 0 r k) = (V k : EReal))
    (hM : k0_pay8 (F := Ideal) s (ix2 0 j) = (M : EReal)) :
    k0_pay10 (F := Ideal) s vb (ix3 0 r j) = ((∑ k, (2 : ℝ) ^ (S k - M) * V k : ℝ) : EReal) := by
  rw [← wsum_real (fun k => vb (ix4 0 0 r k)) (fun k => s (ix2 k j)) V S M hv hs, ← hM]
  pointwise [k0_pay10]

/-- The weighted sums after the first chunk, 80 rows. -/
theorem first_acc_narrow (s : FVec Ideal S256x256 .f32) (vb : Vec Ideal S1x1x80x256 .bf16) (S V : Fin 256 → ℝ) (M : ℝ)
    (r : Fin 80) (j : Fin 256) (hs : ∀ k, s (ix2 k j) = (S k : EReal)) (hv : ∀ k, vb (ix4 0 0 r k) = (V k : EReal))
    (hM : k0_pay8 (F := Ideal) s (ix2 0 j) = (M : EReal)) :
    k0_pay150 (F := Ideal) s vb (ix3 0 r j) = ((∑ k, (2 : ℝ) ^ (S k - M) * V k : ℝ) : EReal) := by
  rw [← wsum_real (fun k => vb (ix4 0 0 r k)) (fun k => s (ix2 k j)) V S M hv hs, ← hM]
  pointwise [k0_pay150, k0_pay148, k0_pay8]

/-- At a later chunk the new maximum of a real old one is real, -/
theorem next_max (s : FVec Ideal S256x256 .f32) (mo : Vec Ideal S1x1x256 .f32) (S : Fin 256 → ℝ) (M₀ : ℝ) (j : Fin 256)
    (hs : ∀ k, s (ix2 k j) = (S k : EReal)) (hm : mo (ix3 0 0 j) = (M₀ : EReal)) :
    ∃ M : ℝ, k0_pay153 (F := Ideal) s mo (ix2 0 j) = (M : EReal) ∧ k0_pay154 (F := Ideal) s mo (ix3 0 0 j) = (M : EReal) := by
  obtain ⟨M, hM⟩ := max_real (fun k => s (ix2 k j)) S hs
  have h : max (M₀ : EReal) (M : EReal) = ((max M₀ M : ℝ) : EReal) := (EReal.coe_strictMono.monotone.map_max).symm
  refine ⟨max M₀ M, ?_, ?_⟩
  · rw [← h, ← hM, ← hm]; pointwise [k0_pay153, k0_pay152]
  · rw [← h, ← hM, ← hm]; pointwise [k0_pay154, k0_pay153, k0_pay152]

/-- and the weighted sums are the old ones rescaled plus the chunk's own, 144 rows; -/
theorem next_acc_wide (s : FVec Ideal S256x256 .f32) (mo : Vec Ideal S1x1x256 .f32) (vb : Vec Ideal S1x1x144x256 .bf16)
    (ao : Vec Ideal S1x144x256 .f32) (S V : Fin 256 → ℝ) (M₀ M A : ℝ) (r : Fin 144) (j : Fin 256)
    (hs : ∀ k, s (ix2 k j) = (S k : EReal)) (hv : ∀ k, vb (ix4 0 0 r k) = (V k : EReal)) (hm : mo (ix3 0 0 j) = (M₀ : EReal))
    (ha : ao (ix3 0 r j) = (A : EReal)) (hM : k0_pay153 (F := Ideal) s mo (ix2 0 j) = (M : EReal)) :
    k0_pay155 (F := Ideal) s mo vb ao (ix3 0 r j)
      = (((2 : ℝ) ^ (M₀ - M) * A + ∑ k, (2 : ℝ) ^ (S k - M) * V k : ℝ) : EReal) := by
  rw [EReal.coe_add, EReal.coe_mul, ← wsum_real (fun k => vb (ix4 0 0 r k)) (fun k => s (ix2 k j)) V S M hv hs, ← exp2_sub,
    ← hM, ← hm, ← ha]
  pointwise [k0_pay155, k0_pay153, k0_pay152]

/-- 80 rows. -/
theorem next_acc_narrow (s : FVec Ideal S256x256 .f32) (mo : Vec Ideal S1x1x256 .f32) (vb : Vec Ideal S1x1x80x256 .bf16)
    (ao : Vec Ideal S1x80x256 .f32) (S V : Fin 256 → ℝ) (M₀ M A : ℝ) (r : Fin 80) (j : Fin 256)
    (hs : ∀ k, s (ix2 k j) = (S k : EReal)) (hv : ∀ k, vb (ix4 0 0 r k) = (V k : EReal)) (hm : mo (ix3 0 0 j) = (M₀ : EReal))
    (ha : ao (ix3 0 r j) = (A : EReal)) (hM : k0_pay153 (F := Ideal) s mo (ix2 0 j) = (M : EReal)) :
    k0_pay405 (F := Ideal) s mo vb ao (ix3 0 r j)
      = (((2 : ℝ) ^ (M₀ - M) * A + ∑ k, (2 : ℝ) ^ (S k - M) * V k : ℝ) : EReal) := by
  rw [EReal.coe_add, EReal.coe_mul, ← wsum_real (fun k => vb (ix4 0 0 r k)) (fun k => s (ix2 k j)) V S M hv hs, ← exp2_sub,
    ← hM, ← hm, ← ha]
  pointwise [k0_pay405, k0_pay403, k0_pay402, k0_pay153, k0_pay152]

/-- A grouped-query output is the weighted sum over the sum of the weights. -/
theorem gqa_apply (a : Vec Ideal S1x64x256 .f32) (d : Vec Ideal S1x1x256 .f32) (r : Fin 64) (j : Fin 256) :
    k0_pay985 (F := Ideal) a d (ix4 0 0 r j) = Ideal.div (a (ix3 0 r j)) (d (ix3 0 0 j)) := by
  pointwise [k0_pay985]

/-- The weight of the second map of a differential head, from the four learned vectors. -/
theorem lam_apply (lv : Vec Ideal S4x64 .f32) :
    k0_pay966 (F := Ideal) lv (ix2 0 0)
      = Ideal.exp (∑ x : Fin 64, lv (ix2 0 x) * lv (ix2 1 x)) - Ideal.exp (∑ x : Fin 64, lv (ix2 2 x) * lv (ix2 3 x))
        + Ideal.ofBits .f32 0x3E4CCCCD#32 := by
  pointwise [k0_pay966]

/-- A differential output: the difference of the two normalised maps, divided by its root mean square, weighted. -/
def diffOut (od : Fin 128 → EReal) (g : EReal) (r : Fin 128) : EReal :=
  od r * Ideal.rsqrt (Ideal.div (∑ x, od x * od x) (Ideal.ofBits .f32 0x43000000#32) + Ideal.ofBits .f32 0x358637BD#32) * g
    * Ideal.ofBits .f32 0x3F4CCCCD#32

theorem od_apply (lam : FVec Ideal S1x1 .f32) (a : Vec Ideal S1x128x256 .f32) (b : Vec Ideal S1x1x256 .f32)
    (c : Vec Ideal S1x128x256 .f32) (d : Vec Ideal S1x1x256 .f32) (g : Vec Ideal S128x1 .f32) (r : Fin 128) (j : Fin 256) :
    k0_pay977 (F := Ideal) (k0_pay976 lam a b c d) g (ix4 0 0 r j)
      = diffOut (fun x => Ideal.div (a (ix3 0 x j)) (b (ix3 0 0 j)) - lam (ix2 0 0) * Ideal.div (c (ix3 0 x j)) (d (ix3 0 0 j)))
          (g (ix2 r 0)) r := by
  unfold diffOut
  pointwise [k0_pay976, k0_pay977]

/-- The factor of the queries: one over the root of the head size, in base two. -/
def qscale : ℝ := 8⁻¹ * (Real.log 2)⁻¹

theorem qscale_named : Named.named (F := Ideal) κ "qscale" (φ := .f32) 0x3E38AA3B#32 = ((qscale : ℝ) : EReal) :=
  IdealRules.named_const.ideal_named_scalar _ _ _ _ rfl

/-- A stored query whose map uses the lower half of its key rows: the 64 query rows, then zeros; -/
theorem q_low_apply (x : Vec Ideal S1x1x64x256 .f32) (r : Fin 128) (j : Fin 256) :
    k0_pay944 (F := Ideal) x (ix3 0 r j) = if h : r.val < 64 then x (ix4 0 0 ⟨r.val, h⟩ j) * ((qscale : ℝ) : EReal) else 0 := by
  rw [← qscale_named]
  pointwise [k0_pay944, k0_pay943]

/-- and one whose map uses the upper half: zeros, then the 64 query rows. -/
theorem q_high_apply (x : Vec Ideal S1x1x64x256 .f32) (r : Fin 128) (j : Fin 256) :
    k0_pay945 (F := Ideal) x (ix3 0 r j) = if h : r.val < 64 then 0 else x (ix4 0 0 ⟨r.val - 64, by omega⟩ j) * ((qscale : ℝ) : EReal) := by
  rw [← qscale_named]
  pointwise [k0_pay945, k0_pay943]

end Cert.Attn
-- ==== Proof.Attn.Walk.lean ====
/- The walk over (chunk, map) items: what the maxima and the weighted sums hold after any number of items.
   Item `n` is map `n % 16` at key chunk `n / 16`. After `n` items map `i` has met `cnt n i` chunks, its stored maximum is
   some real `M`, and its stored sums are the sums, over all keys met, of two to (score - M) times a row of values. -/
module

public import proofs.«01_k».proof.Proof.Attn.Pays
public import proofs.«01_k».proof.Proof.Gen.KernelIdeal.Frame

@[expose] public section

set_option maxRecDepth 16384

noncomputable section

namespace Cert.Attn

open Cert.KernelIdeal Cert.KernelIdeal.Gen Idealize.ShloMosaic Idealize.ShloMosaic.Pointwise Idealize.SL.Sem

/-! ## The pieces of a buffer of slots -/

section Slots

variable {e : EltTy} {n0 n1 n2 w : ℕ}

/-- Where a rectangle of one slot's first rows puts its own index. -/
theorem slot_emb (i' o : ℕ) (i : Fin n0) (r : Fin w) (r' : Fin n1) (j : Fin n2) (hi : i' = i.val) (hr : o + r.val = r'.val)
    (inb : ∀ a, (![i', o, 0] : Fin 3 → ℕ) a + (⟨3, ![1, w, n2]⟩ : Shape).size a ≤ (⟨3, ![n0, n1, n2]⟩ : Shape).size a) :
    (Rect.unit (s := (⟨3, ![n0, n1, n2]⟩ : Shape)) ![i', o, 0] (⟨3, ![1, w, n2]⟩ : Shape).size inb).emb (ix3 (0 : Fin 1) r j) = ix3 i r' j := by
  funext a; apply Fin.ext
  match a with
  | ⟨0, _⟩ => show i' + 1 * 0 = i.val; omega
  | ⟨1, _⟩ => show o + 1 * r.val = r'.val; omega
  | ⟨2, _⟩ => show 0 + 1 * j.val = j.val; omega

/-- The slot just stored reads back what was stored; -/
theorem canon_slot (i' : ℕ) (i : Fin n0) (r : Fin w) (r' : Fin n1) (j : Fin n2) (hi : i' = i.val) (hr : r.val = r'.val)
    (inb : ∀ a, (![i', 0, 0] : Fin 3 → ℕ) a + (⟨3, ![1, w, n2]⟩ : Shape).size a ≤ (⟨3, ![n0, n1, n2]⟩ : Shape).size a)
    (p : (⟨3, ![1, w, n2]⟩ : Shape).Idx → Elt Ideal e) (L : List (View.Piece (Elt Ideal) (⟨3, ![n0, n1, n2]⟩ : Shape) e)) :
    View.canon ((⟨Rect.unit (s := (⟨3, ![n0, n1, n2]⟩ : Shape)) ![i', 0, 0] (⟨3, ![1, w, n2]⟩ : Shape).size inb, p⟩ : View.Piece (Elt Ideal) (⟨3, ![n0, n1, n2]⟩ : Shape) e) :: L) (ix3 i r' j)
      = p (ix3 0 r j) := by
  rw [← slot_emb i' 0 i r r' j hi (by omega) inb]
  exact View.canon_cons_emb (Rect.unit (s := (⟨3, ![n0, n1, n2]⟩ : Shape)) ![i', 0, 0] (⟨3, ![1, w, n2]⟩ : Shape).size inb) p L (ix3 0 r j)

/-- every other slot reads what it held before. -/
theorem canon_other (i' : ℕ) (i : Fin n0) (r' : Fin n1) (j : Fin n2) (hi : i' ≠ i.val)
    (inb : ∀ a, (![i', 0, 0] : Fin 3 → ℕ) a + (⟨3, ![1, w, n2]⟩ : Shape).size a ≤ (⟨3, ![n0, n1, n2]⟩ : Shape).size a)
    (p : (⟨3, ![1, w, n2]⟩ : Shape).Idx → Elt Ideal e) (L : List (View.Piece (Elt Ideal) (⟨3, ![n0, n1, n2]⟩ : Shape) e)) :
    View.canon ((⟨Rect.unit (s := (⟨3, ![n0, n1, n2]⟩ : Shape)) ![i', 0, 0] (⟨3, ![1, w, n2]⟩ : Shape).size inb, p⟩ : View.Piece (Elt Ideal) (⟨3, ![n0, n1, n2]⟩ : Shape) e) :: L) (ix3 i r' j)
      = View.canon L (ix3 i r' j) := by
  refine View.canon_cons_of_not_mem _ L ?_
  intro hm
  obtain ⟨x, hx, he⟩ := (LoadRect.mem_set _).mp hm (0 : Fin 3)
  have hx1 : x < 1 := hx
  have he' : i.val = i' + 1 * x := he
  omega

/-- A load of rows of one slot reads the buffer's contents there. -/
theorem readCov_slot {sig' : RefSig} {κ : Kind} {sp : Space} (v : View sig' κ sp (⟨3, ![n0, n1, n2]⟩ : Shape) e)
    (L : List (View.Piece (Elt Ideal) (⟨3, ![n0, n1, n2]⟩ : Shape) e)) (i' o : ℕ) (i : Fin n0) (r : Fin w) (r' : Fin n1) (j : Fin n2)
    (hi : i' = i.val) (hr : o + r.val = r'.val)
    (inb : ∀ a, (![i', o, 0] : Fin 3 → ℕ) a + (⟨3, ![1, w, n2]⟩ : Shape).size a ≤ (⟨3, ![n0, n1, n2]⟩ : Shape).size a) :
    v.readCov L (Rect.unit (s := (⟨3, ![n0, n1, n2]⟩ : Shape)) ![i', o, 0] (⟨3, ![1, w, n2]⟩ : Shape).size inb).toLoadRect (ix3 (0 : Fin 1) r j)
      = View.canon L (ix3 i r' j) := by
  rw [View.readCov_eq_canon']
  exact congrArg (View.canon L) (slot_emb i' o i r r' j hi hr inb)

end Slots

/-! ## What the maps are made of -/

/-- The key head (64 columns) that map `i` scores against. -/
def khead (i : ℕ) : ℕ := if i < 8 then i else 8 + (i - 8) / 4
/-- The first value row of map `i`. -/
def vrow (i : ℕ) : ℕ := if i < 8 then i / 2 * 144 else 576 + (i - 8) / 4 * 80
/-- The number of value rows of map `i`: its own and the rows of ones. -/
def vwid (i : ℕ) : ℕ := if i < 8 then 144 else 80

/-- The score of key `t` against query column `j`, in map `i`. -/
def sc (q k : ℕ → ℕ → ℝ) (i t j : ℕ) : ℝ := ∑ d : Fin 64, k t (64 * khead i + d.val) * q (64 * i + d.val) j
/-- One chunk's weighted sum of value row `r`. -/
def part (q k : ℕ → ℕ → ℝ) (v : ℕ → ℕ → ℕ → ℝ) (i j : ℕ) (M : ℝ) (r c : ℕ) : ℝ :=
  ∑ x : Fin 256, (2 : ℝ) ^ (sc q k i (c * 256 + x.val) j - M) * v c (vrow i + r) x.val
/-- The weighted sum over the first `C` chunks. -/
def wsum (q k : ℕ → ℕ → ℝ) (v : ℕ → ℕ → ℕ → ℝ) (i j C : ℕ) (M : ℝ) (r : ℕ) : ℝ := ∑ c ∈ Finset.range C, part q k v i j M r c

/-- A change of the subtracted maximum rescales the sum. -/
theorem wsum_shift (q k : ℕ → ℕ → ℝ) (v : ℕ → ℕ → ℕ → ℝ) (i j C : ℕ) (M₀ M : ℝ) (r : ℕ) :
    (2 : ℝ) ^ (M₀ - M) * wsum q k v i j C M₀ r = wsum q k v i j C M r := by
  unfold wsum part
  rw [Finset.mul_sum]
  refine Finset.sum_congr rfl fun c _ => ?_
  rw [Finset.mul_sum]
  refine Finset.sum_congr rfl fun x _ => ?_
  rw [← mul_assoc, ← Real.rpow_add (by norm_num)]
  congr 2; ring

/-- The number of chunks map `i` has met after `n` items. -/
def cnt (n i : ℕ) : ℕ := (n + 15 - i) / 16

/-- What the maxima and the sums hold after `n` items. -/
def Inv (q k : ℕ → ℕ → ℝ) (v : ℕ → ℕ → ℕ → ℝ) (n : ℕ) (L1 : List (View.Piece (Elt Ideal) S16x1x256 .f32))
    (L2 : List (View.Piece (Elt Ideal) S16x144x256 .f32)) : Prop :=
  ∀ (i : Fin 16) (j : Fin 256), i.val < n → ∃ M : ℝ, View.canon L1 (ix3 i 0 j) = (M : EReal) ∧
    ∀ r : Fin 144, r.val < vwid i.val → View.canon L2 (ix3 i r j) = ((wsum q k v i.val j.val (cnt n i.val) M r.val : ℝ) : EReal)

/-- What the padded queries hold once the first `n` maps' are stored: the map's 64 rows in its half, zeros in the other. -/
def QInv (q : ℕ → ℕ → ℝ) (n : ℕ) (L : List (View.Piece (Elt Ideal) S16x128x256 .bf16)) : Prop :=
  ∀ (i : Fin 16) (d : Fin 128) (j : Fin 256), i.val < n → View.canon L (ix3 i d j)
    = if d.val / 64 = khead i.val % 2 then ((q (64 * i.val + d.val % 64) j.val : ℝ) : EReal) else 0

/-! ## The blocks -/

/-- A point's memory and blocks: the queries, keys and values are real. -/
structure Ctx (arg2 : Memref sig .tc .vmem S1x1x1024x256 .f32) (arg3 : Memref sig .tc .vmem S1x2304x640 .bf16)
    (arg4 : Memref sig .tc .vmem S1x9x736x256 .bf16)
    (x0 : Vec Ideal S1x1x1024x256 .f32) (x1 : Vec Ideal S1x2304x640 .bf16) (x2 : Vec Ideal S1x9x736x256 .bf16)
    (q k : ℕ → ℕ → ℝ) (v : ℕ → ℕ → ℕ → ℝ) : Prop where
  h2 : arg2.IsWhole
  h3 : arg3.IsWhole
  h4 : arg4.IsWhole
  hq : ∀ (r : Fin 1024) (j : Fin 256), x0 (ix4 0 0 r j) * ((qscale : ℝ) : EReal) = ((q r.val j.val : ℝ) : EReal)
  hk : ∀ (t : Fin 2304) (l : Fin 640), x1 (ix3 0 t l) = ((k t.val l.val : ℝ) : EReal)
  hv : ∀ (c : Fin 9) (r : Fin 736) (x : Fin 256), x2 (ix4 0 c r x) = ((v c.val r.val x.val : ℝ) : EReal)

section Items

variable {arg2 : Memref sig .tc .vmem S1x1x1024x256 .f32} {arg3 : Memref sig .tc .vmem S1x2304x640 .bf16}
  {arg4 : Memref sig .tc .vmem S1x9x736x256 .bf16}
  (arg8 : Memref sig .tc .vmem S16x128x256 .bf16) (arg9 : Memref sig .tc .vmem S16x1x256 .f32) (arg10 : Memref sig .tc .vmem S16x144x256 .f32)
  {x0 : Vec Ideal S1x1x1024x256 .f32} {x1 : Vec Ideal S1x2304x640 .bf16} {x2 : Vec Ideal S1x9x736x256 .bf16}
  {q k : ℕ → ℕ → ℝ} {v : ℕ → ℕ → ℕ → ℝ}

theorem inb_q (n : ℕ) (hn : n < 16) : ∀ a, (![0, 0, n * 64, 0] : Fin 4 → ℕ) a + S1x1x64x256.size a ≤ S1x1x1024x256.size a := by
  intro a; match a with
  | ⟨0, _⟩ => exact (by decide : 0 + 1 ≤ 1)
  | ⟨1, _⟩ => exact (by decide : 0 + 1 ≤ 1)
  | ⟨2, _⟩ => show n * 64 + 64 ≤ 1024; omega
  | ⟨3, _⟩ => exact (by decide : 0 + 256 ≤ 256)

theorem inb_k (c s : ℕ) (hc : c < 9) (hs : s < 5) : ∀ a, (![0, c * 256, s * 128] : Fin 3 → ℕ) a + S1x256x128.size a ≤ S1x2304x640.size a := by
  intro a; match a with
  | ⟨0, _⟩ => exact (by decide : 0 + 1 ≤ 1)
  | ⟨1, _⟩ => show c * 256 + 256 ≤ 2304; omega
  | ⟨2, _⟩ => show s * 128 + 128 ≤ 640; omega

theorem inb_slot (n1 w : ℕ) (i o : ℕ) (hi : i < 16) (hw : o + w ≤ n1) :
    ∀ a, (![i, o, 0] : Fin 3 → ℕ) a + (⟨3, ![1, w, 256]⟩ : Shape).size a ≤ (⟨3, ![16, n1, 256]⟩ : Shape).size a := by
  intro a; match a with
  | ⟨0, _⟩ => show i + 1 ≤ 16; omega
  | ⟨1, _⟩ => show o + w ≤ n1; omega
  | ⟨2, _⟩ => exact (by decide : 0 + 256 ≤ 256)

theorem inb_v (w : ℕ) (c o : ℕ) (hc : c < 9) (hw : o + w ≤ 736) :
    ∀ a, (![0, c, o, 0] : Fin 4 → ℕ) a + (⟨4, ![1, 1, w, 256]⟩ : Shape).size a ≤ S1x9x736x256.size a := by
  intro a; match a with
  | ⟨0, _⟩ => exact (by decide : 0 + 1 ≤ 1)
  | ⟨1, _⟩ => show c + 1 ≤ 9; omega
  | ⟨2, _⟩ => show o + w ≤ 736; omega
  | ⟨3, _⟩ => exact (by decide : 0 + 256 ≤ 256)

/-- The 64 query rows of map `n`. -/
abbrev qload (C : Ctx arg2 arg3 arg4 x0 x1 x2 q k v) (n : ℕ) (hn : n < 16) : Vec Ideal S1x1x64x256 .f32 :=
  View.readAt (Elt Ideal) arg2.view (Rect.unit (s := S1x1x1024x256) ![0, 0, n * 64, 0] S1x1x64x256.size (inb_q n hn)).toLoadRect (C.h2.unread x0)

/-- The keys of one chunk, 128 columns. -/
abbrev kload (C : Ctx arg2 arg3 arg4 x0 x1 x2 q k v) (c s : ℕ) (hc : c < 9) (hs : s < 5) : Vec Ideal S1x256x128 .bf16 :=
  View.readAt (Elt Ideal) arg3.view (Rect.unit (s := S1x2304x640) ![0, c * 256, s * 128] S1x256x128.size (inb_k c s hc hs)).toLoadRect (C.h3.unread x1)

/-- The values of one chunk, `w` rows. -/
abbrev vload (C : Ctx arg2 arg3 arg4 x0 x1 x2 q k v) (w c o : ℕ) (hc : c < 9) (hw : o + w ≤ 736) : Vec Ideal (⟨4, ![1, 1, w, 256]⟩ : Shape) .bf16 :=
  View.readAt (Elt Ideal) arg4.view (Rect.unit (s := S1x9x736x256) ![0, c, o, 0] (⟨4, ![1, 1, w, 256]⟩ : Shape).size (inb_v w c o hc hw)).toLoadRect (C.h4.unread x2)

theorem qload_apply (C : Ctx arg2 arg3 arg4 x0 x1 x2 q k v) (n : ℕ) (hn : n < 16) (r : Fin 64) (j : Fin 256) :
    qload C n hn (ix4 0 0 r j) * ((qscale : ℝ) : EReal) = ((q (64 * n + r.val) j.val : ℝ) : EReal) := by
  have h : (Rect.unit (s := S1x1x1024x256) ![0, 0, n * 64, 0] S1x1x64x256.size (inb_q n hn)).emb (ix4 (0 : Fin 1) (0 : Fin 1) r j)
      = ix4 (0 : Fin 1) (0 : Fin 1) (⟨64 * n + r.val, by omega⟩ : Fin 1024) j := by
    funext a; apply Fin.ext
    match a with
    | ⟨0, _⟩ => rfl
    | ⟨1, _⟩ => rfl
    | ⟨2, _⟩ => show n * 64 + 1 * r.val = 64 * n + r.val; omega
    | ⟨3, _⟩ => show 0 + 1 * j.val = j.val; omega
  have e := (congrFun (C.h2.read_unread x0) _).trans (congrArg x0 h)
  exact (congrArg (· * ((qscale : ℝ) : EReal)) e).trans (C.hq _ _)

theorem kload_apply (C : Ctx arg2 arg3 arg4 x0 x1 x2 q k v) (c s : ℕ) (hc : c < 9) (hs : s < 5) (x : Fin 256) (d : Fin 128) :
    kload C c s hc hs (ix3 0 x d) = ((k (c * 256 + x.val) (s * 128 + d.val) : ℝ) : EReal) := by
  have h : (Rect.unit (s := S1x2304x640) ![0, c * 256, s * 128] S1x256x128.size (inb_k c s hc hs)).emb (ix3 (0 : Fin 1) x d)
      = ix3 (0 : Fin 1) (⟨c * 256 + x.val, by omega⟩ : Fin 2304) (⟨s * 128 + d.val, by omega⟩ : Fin 640) := by
    funext a; apply Fin.ext
    match a with
    | ⟨0, _⟩ => rfl
    | ⟨1, _⟩ => show c * 256 + 1 * x.val = c * 256 + x.val; omega
    | ⟨2, _⟩ => show s * 128 + 1 * d.val = s * 128 + d.val; omega
  refine (congrFun (C.h3.read_unread x1) _).trans ?_
  exact (congrArg x1 h).trans (C.hk _ _)

theorem vload_apply (C : Ctx arg2 arg3 arg4 x0 x1 x2 q k v) (w c o : ℕ) (hc : c < 9) (hw : o + w ≤ 736) (r : Fin w) (x : Fin 256) :
    vload C w c o hc hw (ix4 0 0 r x) = ((v c (o + r.val) x.val : ℝ) : EReal) := by
  have h : (Rect.unit (s := S1x9x736x256) ![0, c, o, 0] (⟨4, ![1, 1, w, 256]⟩ : Shape).size (inb_v w c o hc hw)).emb (ix4 (0 : Fin 1) (0 : Fin 1) r x)
      = ix4 (0 : Fin 1) (⟨c, hc⟩ : Fin 9) (⟨o + r.val, by omega⟩ : Fin 736) x := by
    funext a; apply Fin.ext
    match a with
    | ⟨0, _⟩ => rfl
    | ⟨1, _⟩ => show c + 1 * 0 = c; omega
    | ⟨2, _⟩ => show o + 1 * r.val = o + r.val; omega
    | ⟨3, _⟩ => show 0 + 1 * x.val = x.val; omega
  refine (congrFun (C.h4.read_unread x2) _).trans ?_
  exact (congrArg x2 h).trans (C.hv _ _ _)

/-! ## The padded queries -/

/-- Before any store there is nothing to say. -/
theorem QInv.nil : QInv q 0 [] := fun _ _ _ h => absurd h (by omega)

/-- A map of the lower half is stored. -/
theorem QInv.low (C : Ctx arg2 arg3 arg4 x0 x1 x2 q k v) {n : ℕ} {L : List (View.Piece (Elt Ideal) S16x128x256 .bf16)}
    {p : View.Piece (Elt Ideal) S16x128x256 .bf16} (hn : n < 16) (hh : khead n % 2 = 0)
    (hp : p = ⟨Rect.unit ![n, 0, 0] S1x128x256.size (inb_slot 128 128 n 0 hn (by omega)), k0_pay944 (qload C n hn)⟩)
    (h : QInv q n L) : QInv q (n + 1) (p :: L) := by
  subst hp
  intro i d j hi
  by_cases he : n = i.val
  · subst he
    refine (canon_slot i.val i d d j rfl rfl _ _ L).trans ?_
    rw [q_low_apply, hh]
    by_cases hd : d.val < 64
    · rw [dif_pos hd, if_pos (by omega), qload_apply, show d.val % 64 = d.val by omega]
    · rw [dif_neg hd, if_neg (by omega)]
  · refine (canon_other n i d j he _ _ L).trans (h i d j (by omega))

/-- A map of the upper half is stored. -/
theorem QInv.high (C : Ctx arg2 arg3 arg4 x0 x1 x2 q k v) {n : ℕ} {L : List (View.Piece (Elt Ideal) S16x128x256 .bf16)}
    {p : View.Piece (Elt Ideal) S16x128x256 .bf16} (hn : n < 16) (hh : khead n % 2 = 1)
    (hp : p = ⟨Rect.unit ![n, 0, 0] S1x128x256.size (inb_slot 128 128 n 0 hn (by omega)), k0_pay945 (qload C n hn)⟩)
    (h : QInv q n L) : QInv q (n + 1) (p :: L) := by
  subst hp
  intro i d j hi
  by_cases he : n = i.val
  · subst he
    refine (canon_slot i.val i d d j rfl rfl _ _ L).trans ?_
    rw [q_high_apply, hh]
    by_cases hd : d.val < 64
    · rw [dif_pos hd, if_neg (by omega)]
    · rw [dif_neg hd, if_pos (by omega), qload_apply]
      rw [show d.val % 64 = d.val - 64 by omega]
  · refine (canon_other n i d j he _ _ L).trans (h i d j (by omega))

/-! ## One item -/

/-- The scores of one item. -/
abbrev item (C : Ctx arg2 arg3 arg4 x0 x1 x2 q k v) (Lq : List (View.Piece (Elt Ideal) S16x128x256 .bf16)) (i c s : ℕ) (hi : i < 16) (hc : c < 9) (hs : s < 5) :
    FVec Ideal S256x256 .f32 :=
  k0_pay2 (F := Ideal) (kload C c s hc hs)
    (arg8.view.readCov Lq (Rect.unit (s := S16x128x256) ![i, 0, 0] S1x128x256.size (inb_slot 128 128 i 0 hi (by omega))).toLoadRect)

/-- A 128-long dot product whose second factor is zero off one half is a 64-long one. -/
theorem half_sum (f g : ℕ → ℝ) (b : ℕ) (hb : b < 2) :
    ∑ d : Fin 128, ((f d.val : ℝ) : EReal) * (if d.val / 64 = b then ((g (d.val % 64) : ℝ) : EReal) else 0)
      = ((∑ d : Fin 64, f (64 * b + d.val) * g d.val : ℝ) : EReal) := by
  have h0 : ∀ d : Fin 128, ((f d.val : ℝ) : EReal) * (if d.val / 64 = b then ((g (d.val % 64) : ℝ) : EReal) else 0)
      = (((if d.val / 64 = b then f d.val * g (d.val % 64) else 0) : ℝ) : EReal) := by
    intro d
    by_cases hd : d.val / 64 = b
    · rw [if_pos hd, if_pos hd, EReal.coe_mul]
    · rw [if_neg hd, if_neg hd, mul_zero, EReal.coe_zero]
  rw [Finset.sum_congr rfl fun d _ => h0 d, coe_sum]
  congr 1
  rw [Fin.sum_univ_add (a := 64) (b := 64) (f := fun d : Fin (64 + 64) => if d.val / 64 = b then f d.val * g (d.val % 64) else 0)]
  have hl : ∀ d : Fin 64, (if (Fin.castAdd 64 d : Fin (64 + 64)).val / 64 = b then f (Fin.castAdd 64 d : Fin (64 + 64)).val * g ((Fin.castAdd 64 d : Fin (64 + 64)).val % 64) else 0)
      = if b = 0 then f d.val * g d.val else 0 := by
    intro d
    rw [Fin.val_castAdd, show d.val / 64 = 0 by omega, show d.val % 64 = d.val by omega]
    by_cases hb0 : b = 0
    · rw [if_pos hb0.symm, if_pos hb0]
    · rw [if_neg (fun h => hb0 h.symm), if_neg hb0]
  have hr : ∀ d : Fin 64, (if (Fin.natAdd 64 d : Fin (64 + 64)).val / 64 = b then f (Fin.natAdd 64 d : Fin (64 + 64)).val * g ((Fin.natAdd 64 d : Fin (64 + 64)).val % 64) else 0)
      = if b = 1 then f (64 + d.val) * g d.val else 0 := by
    intro d
    rw [Fin.val_natAdd, show (64 + d.val) / 64 = 1 by omega, show (64 + d.val) % 64 = d.val by omega]
    by_cases hb0 : b = 1
    · rw [if_pos hb0.symm, if_pos hb0]
    · rw [if_neg (fun h => hb0 h.symm), if_neg hb0]
  rw [Finset.sum_congr rfl fun d _ => hl d, Finset.sum_congr rfl fun d _ => hr d]
  rcases (by omega : b = 0 ∨ b = 1) with rfl | rfl
  · simp
  · simp

/-- An item's scores are the map's scores of the chunk's keys. -/
theorem item_apply (C : Ctx arg2 arg3 arg4 x0 x1 x2 q k v) {Lq : List (View.Piece (Elt Ideal) S16x128x256 .bf16)} (hQ : QInv q 16 Lq)
    (i c s : ℕ) (hi : i < 16) (hc : c < 9) (hs : s < 5) (hks : s = khead i / 2) (x j : Fin 256) :
    item arg8 C Lq i c s hi hc hs (ix2 x j) = ((sc q k i (c * 256 + x.val) j.val : ℝ) : EReal) := by
  have hb : khead i % 2 < 2 := Nat.mod_lt _ (by omega)
  refine (score_apply _ _ x j).trans ?_
  have ht : ∀ d : Fin 128, kload C c s hc hs (ix3 0 x d) * arg8.view.readCov Lq (Rect.unit (s := S16x128x256) ![i, 0, 0] S1x128x256.size (inb_slot 128 128 i 0 hi (by omega))).toLoadRect (ix3 0 d j)
      = ((k (c * 256 + x.val) (s * 128 + d.val) : ℝ) : EReal) * (if d.val / 64 = khead i % 2 then ((q (64 * i + d.val % 64) j.val : ℝ) : EReal) else 0) := by
    intro d
    rw [kload_apply]
    congr 1
    exact (readCov_slot (n0 := 16) (n1 := 128) (n2 := 256) (w := 128) arg8.view Lq i 0 ⟨i, hi⟩ d d j rfl (by omega) _).trans (hQ ⟨i, hi⟩ d j hi)
  refine (Finset.sum_congr rfl fun d _ => ht d).trans ?_
  refine (half_sum (fun d => k (c * 256 + x.val) (s * 128 + d)) (fun d => q (64 * i + d) j.val) (khead i % 2) hb).trans ?_
  unfold sc
  congr 1
  refine Finset.sum_congr rfl fun d _ => ?_
  rw [show s * 128 + (64 * (khead i % 2) + d.val) = 64 * khead i + d.val by omega]

/-- Nothing is claimed before the first item. -/
theorem Inv.nil : Inv q k v 0 [] [] := fun _ _ h => absurd h (by omega)

/-- The update of one map leaves the other maps' claims: what is left to show is the map's own. -/
theorem Inv.update {n : ℕ} (hi : n % 16 < 16) {w : ℕ} {L1 : List (View.Piece (Elt Ideal) S16x1x256 .f32)} {L2 : List (View.Piece (Elt Ideal) S16x144x256 .f32)}
    (hw : 0 + w ≤ 144) (hwi : vwid (n % 16) = w) (h : Inv q k v n L1 L2)
    (P1 : (⟨3, ![1, 1, 256]⟩ : Shape).Idx → Elt Ideal .f32) (P2 : (⟨3, ![1, w, 256]⟩ : Shape).Idx → Elt Ideal .f32)
    (hP : ∀ j : Fin 256, ∃ M : ℝ, P1 (ix3 0 0 j) = (M : EReal) ∧
      ∀ r : Fin w, P2 (ix3 0 r j) = ((wsum q k v (n % 16) j.val (n / 16 + 1) M r.val : ℝ) : EReal)) :
    Inv q k v (n + 1) (⟨Rect.unit ![n % 16, 0, 0] S1x1x256.size (inb_slot 1 1 (n % 16) 0 hi (by omega)), P1⟩ :: L1)
      (⟨Rect.unit ![n % 16, 0, 0] (⟨3, ![1, w, 256]⟩ : Shape).size (inb_slot 144 w (n % 16) 0 hi hw), P2⟩ :: L2) := by
  intro i j hin
  by_cases he : n % 16 = i.val
  · obtain ⟨M, hM, hA⟩ := hP j
    refine ⟨M, (canon_slot (n % 16) i 0 0 j he rfl _ P1 L1).trans hM, fun r hr => ?_⟩
    have hrw : r.val < w := by rw [← hwi, he]; exact hr
    refine (canon_slot (n1 := 144) (w := w) (n % 16) i ⟨r.val, hrw⟩ r j he rfl _ P2 L2).trans ?_
    rw [hA ⟨r.val, hrw⟩, show cnt (n + 1) i.val = n / 16 + 1 by unfold cnt; omega, he]
  · obtain ⟨M, hM, hA⟩ := h i j (by omega)
    refine ⟨M, (canon_other (n % 16) i 0 j he _ P1 L1).trans hM, fun r hr => ?_⟩
    refine (canon_other (n1 := 144) (w := w) (n % 16) i r j he _ P2 L2).trans ?_
    rw [hA r hr, show cnt (n + 1) i.val = cnt n i.val by unfold cnt; omega]

end Items

end Cert.Attn
-- ==== Proof.Attn.Steps.lean ====
/- One item of the walk keeps the claim about the maxima and the sums: the first chunk of a map, and a later one. -/
module

public import proofs.«01_k».proof.Proof.Attn.Walk

@[expose] public section

set_option maxRecDepth 16384

noncomputable section

namespace Cert.Attn

open Cert.KernelIdeal Cert.KernelIdeal.Gen Idealize.ShloMosaic Idealize.ShloMosaic.Pointwise Idealize.SL.Sem

variable {arg2 : Memref sig .tc .vmem S1x1x1024x256 .f32} {arg3 : Memref sig .tc .vmem S1x2304x640 .bf16}
  {arg4 : Memref sig .tc .vmem S1x9x736x256 .bf16}
  {x0 : Vec Ideal S1x1x1024x256 .f32} {x1 : Vec Ideal S1x2304x640 .bf16} {x2 : Vec Ideal S1x9x736x256 .bf16}
  {q k : ℕ → ℕ → ℝ} {v : ℕ → ℕ → ℕ → ℝ} {Lq : List (View.Piece (Elt Ideal) S16x128x256 .bf16)}
  {n : ℕ} {L1 L1' : List (View.Piece (Elt Ideal) S16x1x256 .f32)} {L2 L2' : List (View.Piece (Elt Ideal) S16x144x256 .f32)}

/-- The slab of 128 key columns is the one of the map's key head, -/
theorem slab_wide {i : ℕ} (h : i < 8) : i / 2 = khead i / 2 := by unfold khead; rw [if_pos h]
/-- the last one for the grouped maps. -/
theorem slab_narrow {i : ℕ} (h : ¬ i < 8) (h' : i < 16) : 4 = khead i / 2 := by unfold khead; rw [if_neg h]; omega
theorem vrow_wide {i : ℕ} (h : i < 8) : vrow i = i / 2 * 144 := if_pos h
theorem vrow_narrow {i : ℕ} (h : ¬ i < 8) : vrow i = 576 + (i - 8) / 4 * 80 := if_neg h
theorem vwid_wide {i : ℕ} (h : i < 8) : vwid i = 144 := if_pos h
theorem vwid_narrow {i : ℕ} (h : ¬ i < 8) : vwid i = 80 := if_neg h
theorem hi16 (n : ℕ) : n % 16 < 16 := Nat.mod_lt _ (by omega)

/-- The sum over the first chunk is the chunk's own. -/
theorem wsum_one (q k : ℕ → ℕ → ℝ) (v : ℕ → ℕ → ℕ → ℝ) (i j c : ℕ) (M : ℝ) (r : ℕ) (hc : c = 0) :
    wsum q k v i j (c + 1) M r = part q k v i j M r c := by
  subst hc; unfold wsum; rw [Finset.sum_range_one]

/-- The sum over one chunk more is the old one, rescaled, and the chunk's own. -/
theorem wsum_next (q k : ℕ → ℕ → ℝ) (v : ℕ → ℕ → ℕ → ℝ) (i j c : ℕ) (M₀ M : ℝ) (r : ℕ) :
    wsum q k v i j (c + 1) M r = (2 : ℝ) ^ (M₀ - M) * wsum q k v i j c M₀ r + part q k v i j M r c := by
  rw [wsum_shift]; unfold wsum; rw [Finset.sum_range_succ]

/-- A differential map's first chunk; -/
theorem Inv.firstWide (arg8 : Memref sig .tc .vmem S16x128x256 .bf16) (C : Ctx arg2 arg3 arg4 x0 x1 x2 q k v) (hQ : QInv q 16 Lq)
    (hn : n < 16) (hi : n % 16 < 8)
    (h1 : L1' = ⟨Rect.unit ![n % 16, 0, 0] S1x1x256.size (inb_slot 1 1 (n % 16) 0 (hi16 n) (by omega)),
      k0_pay149 (F := Ideal) (item arg8 C Lq (n % 16) (n / 16) (n % 16 / 2) (hi16 n) (by omega) (by omega))⟩ :: L1)
    (h2 : L2' = ⟨Rect.unit ![n % 16, 0, 0] S1x144x256.size (inb_slot 144 144 (n % 16) 0 (hi16 n) (by omega)),
      k0_pay10 (F := Ideal) (item arg8 C Lq (n % 16) (n / 16) (n % 16 / 2) (hi16 n) (by omega) (by omega))
        (vload C 144 (n / 16) (n % 16 / 2 * 144) (by omega) (by omega))⟩ :: L2)
    (h : Inv q k v n L1 L2) : Inv q k v (n + 1) L1' L2' := by
  subst h1; subst h2
  refine Inv.update (hi16 n) (by omega) (vwid_wide hi) h _ _ fun j => ?_
  have hs := fun x => item_apply arg8 C hQ (n % 16) (n / 16) (n % 16 / 2) (hi16 n) (by omega) (by omega) (slab_wide hi) x j
  obtain ⟨M, hM, hM'⟩ := first_max _ _ j hs
  refine ⟨M, hM', fun r => ?_⟩
  rw [wsum_one _ _ _ _ _ _ _ _ (by omega)]
  refine (first_acc_wide _ _ _ _ M r j hs (fun x => vload_apply C _ _ _ _ _ r x) hM).trans ?_
  unfold part; rw [vrow_wide hi]

/-- a grouped map's first chunk; -/
theorem Inv.firstNarrow (arg8 : Memref sig .tc .vmem S16x128x256 .bf16) (C : Ctx arg2 arg3 arg4 x0 x1 x2 q k v) (hQ : QInv q 16 Lq)
    (hn : n < 16) (hi : ¬ n % 16 < 8)
    (h1 : L1' = ⟨Rect.unit ![n % 16, 0, 0] S1x1x256.size (inb_slot 1 1 (n % 16) 0 (hi16 n) (by omega)),
      k0_pay149 (F := Ideal) (item arg8 C Lq (n % 16) (n / 16) 4 (hi16 n) (by omega) (by omega))⟩ :: L1)
    (h2 : L2' = ⟨Rect.unit ![n % 16, 0, 0] S1x80x256.size (inb_slot 144 80 (n % 16) 0 (hi16 n) (by omega)),
      k0_pay150 (F := Ideal) (item arg8 C Lq (n % 16) (n / 16) 4 (hi16 n) (by omega) (by omega))
        (vload C 80 (n / 16) (576 + (n % 16 - 8) / 4 * 80) (by omega) (by omega))⟩ :: L2)
    (h : Inv q k v n L1 L2) : Inv q k v (n + 1) L1' L2' := by
  subst h1; subst h2
  refine Inv.update (hi16 n) (by omega) (vwid_narrow hi) h _ _ fun j => ?_
  have hs := fun x => item_apply arg8 C hQ (n % 16) (n / 16) 4 (hi16 n) (by omega) (by omega) (slab_narrow hi (hi16 n)) x j
  obtain ⟨M, hM, hM'⟩ := first_max _ _ j hs
  refine ⟨M, hM', fun r => ?_⟩
  rw [wsum_one _ _ _ _ _ _ _ _ (by omega)]
  refine (first_acc_narrow _ _ _ _ M r j hs (fun x => vload_apply C _ _ _ _ _ r x) hM).trans ?_
  unfold part; rw [vrow_narrow hi]

/-- the same two with the maxima left out of sight; -/
theorem Inv.firstWide' (arg8 : Memref sig .tc .vmem S16x128x256 .bf16) (C : Ctx arg2 arg3 arg4 x0 x1 x2 q k v) (hQ : QInv q 16 Lq)
    (hn : n < 16) (hi : n % 16 < 8)
    (h2 : L2' = ⟨Rect.unit ![n % 16, 0, 0] S1x144x256.size (inb_slot 144 144 (n % 16) 0 (hi16 n) (by omega)),
      k0_pay10 (F := Ideal) (item arg8 C Lq (n % 16) (n / 16) (n % 16 / 2) (hi16 n) (by omega) (by omega))
        (vload C 144 (n / 16) (n % 16 / 2 * 144) (by omega) (by omega))⟩ :: L2)
    (h : ∃ L1, Inv q k v n L1 L2) : ∃ L1', Inv q k v (n + 1) L1' L2' :=
  h.elim fun _ h => ⟨_, Inv.firstWide arg8 C hQ hn hi rfl h2 h⟩

theorem Inv.firstNarrow' (arg8 : Memref sig .tc .vmem S16x128x256 .bf16) (C : Ctx arg2 arg3 arg4 x0 x1 x2 q k v) (hQ : QInv q 16 Lq)
    (hn : n < 16) (hi : ¬ n % 16 < 8)
    (h2 : L2' = ⟨Rect.unit ![n % 16, 0, 0] S1x80x256.size (inb_slot 144 80 (n % 16) 0 (hi16 n) (by omega)),
      k0_pay150 (F := Ideal) (item arg8 C Lq (n % 16) (n / 16) 4 (hi16 n) (by omega) (by omega))
        (vload C 80 (n / 16) (576 + (n % 16 - 8) / 4 * 80) (by omega) (by omega))⟩ :: L2)
    (h : ∃ L1, Inv q k v n L1 L2) : ∃ L1', Inv q k v (n + 1) L1' L2' :=
  h.elim fun _ h => ⟨_, Inv.firstNarrow arg8 C hQ hn hi rfl h2 h⟩

/-- a differential map's later chunk; -/
theorem Inv.wide (arg8 : Memref sig .tc .vmem S16x128x256 .bf16) (arg9 : Memref sig .tc .vmem S16x1x256 .f32) (arg10 : Memref sig .tc .vmem S16x144x256 .f32)
    (C : Ctx arg2 arg3 arg4 x0 x1 x2 q k v) (hQ : QInv q 16 Lq)
    (hn : 16 ≤ n) (hn' : n < 144) (hi : n % 16 < 8)
    (h1 : L1' = ⟨Rect.unit ![n % 16, 0, 0] S1x1x256.size (inb_slot 1 1 (n % 16) 0 (hi16 n) (by omega)),
      k0_pay154 (F := Ideal) (item arg8 C Lq (n % 16) (n / 16) (n % 16 / 2) (hi16 n) (by omega) (by omega))
        (arg9.view.readCov L1 (Rect.unit (s := S16x1x256) ![n % 16, 0, 0] S1x1x256.size (inb_slot 1 1 (n % 16) 0 (hi16 n) (by omega))).toLoadRect)⟩ :: L1)
    (h2 : L2' = ⟨Rect.unit ![n % 16, 0, 0] S1x144x256.size (inb_slot 144 144 (n % 16) 0 (hi16 n) (by omega)),
      k0_pay155 (F := Ideal) (item arg8 C Lq (n % 16) (n / 16) (n % 16 / 2) (hi16 n) (by omega) (by omega))
        (arg9.view.readCov L1 (Rect.unit (s := S16x1x256) ![n % 16, 0, 0] S1x1x256.size (inb_slot 1 1 (n % 16) 0 (hi16 n) (by omega))).toLoadRect)
        (vload C 144 (n / 16) (n % 16 / 2 * 144) (by omega) (by omega))
        (arg10.view.readCov L2 (Rect.unit (s := S16x144x256) ![n % 16, 0, 0] S1x144x256.size (inb_slot 144 144 (n % 16) 0 (hi16 n) (by omega))).toLoadRect)⟩ :: L2)
    (h : Inv q k v n L1 L2) : Inv q k v (n + 1) L1' L2' := by
  subst h1; subst h2
  refine Inv.update (hi16 n) (by omega) (vwid_wide hi) h _ _ fun j => ?_
  have hs := fun x => item_apply arg8 C hQ (n % 16) (n / 16) (n % 16 / 2) (hi16 n) (by omega) (by omega) (slab_wide hi) x j
  obtain ⟨M₀, hM₀, hA₀⟩ := h ⟨n % 16, hi16 n⟩ j (show n % 16 < n by omega)
  have hm := (readCov_slot (n0 := 16) (n1 := 1) (n2 := 256) (w := 1) arg9.view L1 (n % 16) 0 ⟨n % 16, hi16 n⟩ 0 0 j rfl rfl
    (inb_slot 1 1 (n % 16) 0 (hi16 n) (by omega))).trans hM₀
  obtain ⟨M, hM, hM'⟩ := next_max _ _ _ M₀ j hs hm
  refine ⟨M, hM', fun r => ?_⟩
  have ha := (readCov_slot (n0 := 16) (n1 := 144) (n2 := 256) (w := 144) arg10.view L2 (n % 16) 0 ⟨n % 16, hi16 n⟩ r r j rfl (by omega)
    (inb_slot 144 144 (n % 16) 0 (hi16 n) (by omega))).trans (hA₀ r (show r.val < vwid (n % 16) by rw [vwid_wide hi]; exact r.isLt))
  refine (next_acc_wide _ _ _ _ _ _ M₀ M _ r j hs (fun x => vload_apply C _ _ _ _ _ r x) hm ha hM).trans ?_
  rw [wsum_next (M₀ := M₀), show cnt n (n % 16) = n / 16 by unfold cnt; omega]
  unfold part; rw [vrow_wide hi]

/-- a grouped map's later chunk. -/
theorem Inv.narrow (arg8 : Memref sig .tc .vmem S16x128x256 .bf16) (arg9 : Memref sig .tc .vmem S16x1x256 .f32) (arg10 : Memref sig .tc .vmem S16x144x256 .f32)
    (C : Ctx arg2 arg3 arg4 x0 x1 x2 q k v) (hQ : QInv q 16 Lq)
    (hn : 16 ≤ n) (hn' : n < 144) (hi : ¬ n % 16 < 8)
    (h1 : L1' = ⟨Rect.unit ![n % 16, 0, 0] S1x1x256.size (inb_slot 1 1 (n % 16) 0 (hi16 n) (by omega)),
      k0_pay154 (F := Ideal) (item arg8 C Lq (n % 16) (n / 16) 4 (hi16 n) (by omega) (by omega))
        (arg9.view.readCov L1 (Rect.unit (s := S16x1x256) ![n % 16, 0, 0] S1x1x256.size (inb_slot 1 1 (n % 16) 0 (hi16 n) (by omega))).toLoadRect)⟩ :: L1)
    (h2 : L2' = ⟨Rect.unit ![n % 16, 0, 0] S1x80x256.size (inb_slot 144 80 (n % 16) 0 (hi16 n) (by omega)),
      k0_pay405 (F := Ideal) (item arg8 C Lq (n % 16) (n / 16) 4 (hi16 n) (by omega) (by omega))
        (arg9.view.readCov L1 (Rect.unit (s := S16x1x256) ![n % 16, 0, 0] S1x1x256.size (inb_slot 1 1 (n % 16) 0 (hi16 n) (by omega))).toLoadRect)
        (vload C 80 (n / 16) (576 + (n % 16 - 8) / 4 * 80) (by omega) (by omega))
        (arg10.view.readCov L2 (Rect.unit (s := S16x144x256) ![n % 16, 0, 0] S1x80x256.size (inb_slot 144 80 (n % 16) 0 (hi16 n) (by omega))).toLoadRect)⟩ :: L2)
    (h : Inv q k v n L1 L2) : Inv q k v (n + 1) L1' L2' := by
  subst h1; subst h2
  refine Inv.update (hi16 n) (by omega) (vwid_narrow hi) h _ _ fun j => ?_
  have hs := fun x => item_apply arg8 C hQ (n % 16) (n / 16) 4 (hi16 n) (by omega) (by omega) (slab_narrow hi (hi16 n)) x j
  obtain ⟨M₀, hM₀, hA₀⟩ := h ⟨n % 16, hi16 n⟩ j (show n % 16 < n by omega)
  have hm := (readCov_slot (n0 := 16) (n1 := 1) (n2 := 256) (w := 1) arg9.view L1 (n % 16) 0 ⟨n % 16, hi16 n⟩ 0 0 j rfl rfl
    (inb_slot 1 1 (n % 16) 0 (hi16 n) (by omega))).trans hM₀
  obtain ⟨M, hM, hM'⟩ := next_max _ _ _ M₀ j hs hm
  refine ⟨M, hM', fun r => ?_⟩
  have ha := (readCov_slot (n0 := 16) (n1 := 144) (n2 := 256) (w := 80) arg10.view L2 (n % 16) 0 ⟨n % 16, hi16 n⟩ r (r.castLE (by omega)) j rfl
    (show 0 + r.val = r.val by omega)
    (inb_slot 144 80 (n % 16) 0 (hi16 n) (by omega))).trans (hA₀ (r.castLE (by omega)) (show r.val < vwid (n % 16) by rw [vwid_narrow hi]; exact r.isLt))
  refine (next_acc_narrow _ _ _ _ _ _ M₀ M _ r j hs (fun x => vload_apply C _ _ _ _ _ r x) hm ha hM).trans ?_
  rw [wsum_next (M₀ := M₀), show cnt n (n % 16) = n / 16 by unfold cnt; omega]
  unfold part; rw [vrow_narrow hi]; rfl

end Cert.Attn
-- ==== Proof.Attn.Chain.lean ====
/- The kernel's stores are the items of the walk, one after another: the padded queries, the first chunk alone, and all nine. -/
module

public import proofs.«01_k».proof.Proof.Attn.Steps

@[expose] public section

set_option maxRecDepth 16384

noncomputable section

namespace Cert.Attn

open Cert.KernelIdeal Cert.KernelIdeal.Gen Idealize.ShloMosaic Idealize.ShloMosaic.Pointwise Idealize.SL.Sem

variable {arg2 : Memref sig .tc .vmem S1x1x1024x256 .f32} {arg3 : Memref sig .tc .vmem S1x2304x640 .bf16}
  {arg4 : Memref sig .tc .vmem S1x9x736x256 .bf16}
  {x0 : Vec Ideal S1x1x1024x256 .f32} {x1 : Vec Ideal S1x2304x640 .bf16} {x2 : Vec Ideal S1x9x736x256 .bf16}
  {q k : ℕ → ℕ → ℝ} {v : ℕ → ℕ → ℕ → ℝ}

/-- The padded queries at a point of the later query tiles. -/
theorem padded_B (c : Dev nD) (C : Ctx arg2 arg3 arg4 x0 x1 x2 q k v) : QInv q 16 (kernelRun0_B.sl.HS0_16 (F := Ideal) c arg2 C.h2 x0) := by
  unfold kernelRun0_B.sl.HS0_16
  iterate 4 refine QInv.high C (by decide) (by decide) rfl ?_
  iterate 4 refine QInv.low C (by decide) (by decide) rfl ?_
  iterate 4
    refine QInv.high C (by decide) (by decide) rfl ?_
    refine QInv.low C (by decide) (by decide) rfl ?_
  exact QInv.nil

/-- The padded queries at a point of the first query tile. -/
theorem padded_A (c : Dev nD) (C : Ctx arg2 arg3 arg4 x0 x1 x2 q k v) : QInv q 16 (kernelRun0_A.sl.HS0_16 (F := Ideal) c arg2 C.h2 x0) := by
  unfold kernelRun0_A.sl.HS0_16
  iterate 4 refine QInv.high C (by decide) (by decide) rfl ?_
  iterate 4 refine QInv.low C (by decide) (by decide) rfl ?_
  iterate 4
    refine QInv.high C (by decide) (by decide) rfl ?_
    refine QInv.low C (by decide) (by decide) rfl ?_
  exact QInv.nil

/-- The maxima and the sums after all nine chunks. -/
theorem walk_B (c : Dev nD) (C : Ctx arg2 arg3 arg4 x0 x1 x2 q k v)
    (arg8 : Memref sig .tc .vmem S16x128x256 .bf16) (arg9 : Memref sig .tc .vmem S16x1x256 .f32) (arg10 : Memref sig .tc .vmem S16x144x256 .f32) :
    ∃ L1, Inv q k v 144 L1 (kernelRun0_B.sl.HS2_144 (F := Ideal) c arg2 C.h2 arg3 C.h3 arg4 C.h4 arg8 arg9 arg10 x0 x1 x2) := by
  have hQ := padded_B c C
  refine ⟨_, Inv.narrow arg8 arg9 arg10 C hQ (by decide) (by decide) (by decide) (by rfl) (by rfl) ?_⟩
  iterate 7 refine Inv.narrow arg8 arg9 arg10 C hQ (by decide) (by decide) (by decide) (by rfl) (by rfl) ?_
  iterate 8 refine Inv.wide arg8 arg9 arg10 C hQ (by decide) (by decide) (by decide) (by rfl) (by rfl) ?_
  iterate 7
    iterate 8 refine Inv.narrow arg8 arg9 arg10 C hQ (by decide) (by decide) (by decide) (by rfl) (by rfl) ?_
    iterate 8 refine Inv.wide arg8 arg9 arg10 C hQ (by decide) (by decide) (by decide) (by rfl) (by rfl) ?_
  iterate 8 refine Inv.firstNarrow arg8 C hQ (by decide) (by decide) (by rfl) (by rfl) ?_
  iterate 8 refine Inv.firstWide arg8 C hQ (by decide) (by decide) (by rfl) (by rfl) ?_
  exact Inv.nil

/-- The sums after the first chunk alone. -/
theorem walk_A (c : Dev nD) (C : Ctx arg2 arg3 arg4 x0 x1 x2 q k v) (arg8 : Memref sig .tc .vmem S16x128x256 .bf16) :
    ∃ L1, Inv q k v 16 L1 (kernelRun0_A.sl.HS2_16 (F := Ideal) c arg2 C.h2 arg3 C.h3 arg4 C.h4 arg8 x0 x1 x2) := by
  have hQ := padded_A c C
  iterate 8 refine Inv.firstNarrow' arg8 C hQ (by decide) (by decide) (by rfl) ?_
  iterate 8 refine Inv.firstWide' arg8 C hQ (by decide) (by decide) (by rfl) ?_
  exact ⟨_, Inv.nil⟩

end Cert.Attn
-- ==== Proof.Attn.Block.lean ====
/- What one block of the output holds: each map's weighted sums over its sum of weights, the grouped maps as they are, the
   differential ones in pairs. -/
module

public import proofs.«01_k».proof.Proof.Attn.Chain

@[expose] public section

set_option maxRecDepth 16384

noncomputable section

namespace Cert.Attn

open Cert.KernelIdeal Cert.KernelIdeal.Gen Idealize.ShloMosaic Idealize.ShloMosaic.Pointwise Idealize.SL.Sem

/-- The row of ones of map `i`, from the map's first row. -/
def srow (i : ℕ) : ℕ := if i < 8 then 128 else 64

/-- The rows of ones hold ones. -/
def Ones (v : ℕ → ℕ → ℕ → ℝ) : Prop := ∀ i < 16, ∀ c x, v c (vrow i + srow i) x = 1

/-- Map `i`'s output row `r` over `C` chunks: the weighted sum over the sum of the weights. -/
def ratio (q k : ℕ → ℕ → ℝ) (v : ℕ → ℕ → ℕ → ℝ) (C i r j : ℕ) : ℝ := wsum q k v i j C 0 r / wsum q k v i j C 0 (srow i)

/-- The sum of the weights is positive. -/
theorem wsum_pos (q k : ℕ → ℕ → ℝ) (v : ℕ → ℕ → ℕ → ℝ) (hone : Ones v) (i j C : ℕ) (hi : i < 16) (M : ℝ) (hC : 0 < C) : 0 < wsum q k v i j C M (srow i) := by
  unfold wsum part
  refine Finset.sum_pos (fun c _ => Finset.sum_pos (fun x _ => ?_) ⟨0, Finset.mem_univ _⟩) ⟨0, Finset.mem_range.mpr hC⟩
  rw [hone i hi, mul_one]
  exact Real.rpow_pos_of_pos (by norm_num) _

/-- What is stored gives the output row, whatever maximum was subtracted. -/
theorem Inv.ratio {q k : ℕ → ℕ → ℝ} {v : ℕ → ℕ → ℕ → ℝ} {n : ℕ} {L1 : List (View.Piece (Elt Ideal) S16x1x256 .f32)}
    {L2 : List (View.Piece (Elt Ideal) S16x144x256 .f32)} (h : Inv q k v n L1 L2) (hone : Ones v) (i : Fin 16) (hi : i.val < n)
    (C : ℕ) (hC : cnt n i.val = C) (hC0 : 0 < C) (r s : Fin 144) (hr : r.val < vwid i.val) (hs : s.val = srow i.val) (hsw : s.val < vwid i.val) (j : Fin 256) :
    Ideal.div (View.canon L2 (ix3 i r j)) (View.canon L2 (ix3 i s j)) = ((ratio q k v C i.val r.val j.val : ℝ) : EReal) := by
  obtain ⟨M, -, hA⟩ := h i j hi
  have hp := wsum_pos q k v hone i.val j.val C i.isLt M hC0
  have h2 : (0 : ℝ) < (2 : ℝ) ^ (0 - M) := Real.rpow_pos_of_pos (by norm_num) _
  rw [hA r hr, hA s hsw, hs, hC, Ideal.div_coe hp.ne', ← EReal.coe_mul]
  congr 1
  unfold Attn.ratio
  rw [← wsum_shift q k v i.val j.val C 0 M r.val, ← wsum_shift q k v i.val j.val C 0 M (srow i.val), mul_one_div, mul_div_mul_left _ _ h2.ne']

/-- The rows of the output block below `b` hold `G`. -/
def Rows (G : ℕ → Fin 256 → EReal) (b : ℕ) (L : List (View.Piece (Elt Ideal) S1x1x1024x256 .bf16)) : Prop :=
  ∀ (r : Fin 1024) (j : Fin 256), r.val < b → View.canon L (ix4 0 0 r j) = G r.val j

theorem Rows.nil (G : ℕ → Fin 256 → EReal) : Rows G 0 [] := fun _ _ h => absurd h (by omega)

/-- A store of the next rows. -/
theorem Rows.store {G : ℕ → Fin 256 → EReal} {b w : ℕ} {L : List (View.Piece (Elt Ideal) S1x1x1024x256 .bf16)}
    (inb : ∀ a, (![0, 0, b, 0] : Fin 4 → ℕ) a + (⟨4, ![1, 1, w, 256]⟩ : Shape).size a ≤ S1x1x1024x256.size a)
    (p : (⟨4, ![1, 1, w, 256]⟩ : Shape).Idx → Elt Ideal .bf16) (hp : ∀ (r : Fin w) (j : Fin 256), p (ix4 0 0 r j) = G (b + r.val) j) (h : Rows G b L) :
    Rows G (b + w) (⟨Rect.unit ![0, 0, b, 0] (⟨4, ![1, 1, w, 256]⟩ : Shape).size inb, p⟩ :: L) := by
  intro r j hr
  by_cases hb : r.val < b
  · refine (View.canon_cons_of_not_mem _ L ?_).trans (h r j hb)
    intro hm
    obtain ⟨x, hx, he⟩ := (LoadRect.mem_set _).mp hm (2 : Fin 4)
    have he' : r.val = b + 1 * x := he
    omega
  · have hrw : r.val - b < w := by omega
    have he : (Rect.unit (s := S1x1x1024x256) ![0, 0, b, 0] (⟨4, ![1, 1, w, 256]⟩ : Shape).size inb).emb (ix4 (0 : Fin 1) (0 : Fin 1) (⟨r.val - b, hrw⟩ : Fin w) j)
        = ix4 (0 : Fin 1) (0 : Fin 1) r j := by
      funext a; apply Fin.ext
      match a with
      | ⟨0, _⟩ => rfl
      | ⟨1, _⟩ => rfl
      | ⟨2, _⟩ => show b + 1 * (r.val - b) = r.val; omega
      | ⟨3, _⟩ => show 0 + 1 * j.val = j.val; omega
    rw [← he]
    refine (View.canon_cons_emb (Rect.unit (s := S1x1x1024x256) ![0, 0, b, 0] (⟨4, ![1, 1, w, 256]⟩ : Shape).size inb) p L _).trans ?_
    rw [hp, show b + (r.val - b) = r.val by omega]

/-- The output block's row `r`, column `j`: over `C` chunks, with weight `lam` on the second map of each pair. -/
def blockOut (q k : ℕ → ℕ → ℝ) (v : ℕ → ℕ → ℕ → ℝ) (C : ℕ) (lam : EReal) (g : ℕ → EReal) (r : ℕ) (j : Fin 256) : EReal :=
  if r < 512 then
    diffOut (fun x => ((ratio q k v C (2 * (r / 128)) x.val j.val : ℝ) : EReal) - lam * ((ratio q k v C (2 * (r / 128) + 1) x.val j.val : ℝ) : EReal))
      (g (r % 128)) ⟨r % 128, Nat.mod_lt _ (by omega)⟩
  else ((ratio q k v C (8 + (r - 512) / 64) ((r - 512) % 64) j.val : ℝ) : EReal)

theorem inb_o (w b : ℕ) (hw : b + w ≤ 1024) : ∀ a, (![0, 0, b, 0] : Fin 4 → ℕ) a + (⟨4, ![1, 1, w, 256]⟩ : Shape).size a ≤ S1x1x1024x256.size a := by
  intro a; match a with
  | ⟨0, _⟩ => exact (by decide : 0 + 1 ≤ 1)
  | ⟨1, _⟩ => exact (by decide : 0 + 1 ≤ 1)
  | ⟨2, _⟩ => show b + w ≤ 1024; omega
  | ⟨3, _⟩ => exact (by decide : 0 + 256 ≤ 256)

section Stores

variable {q k : ℕ → ℕ → ℝ} {v : ℕ → ℕ → ℕ → ℝ} {n C : ℕ} {L1 : List (View.Piece (Elt Ideal) S16x1x256 .f32)}
  {L2 : List (View.Piece (Elt Ideal) S16x144x256 .f32)} {L : List (View.Piece (Elt Ideal) S1x1x1024x256 .bf16)}

/-- Some rows of one slot, as loaded at the end. -/
abbrev aload (arg10 : Memref sig .tc .vmem S16x144x256 .f32) (L2 : List (View.Piece (Elt Ideal) S16x144x256 .f32)) (w i o : ℕ) (hi : i < 16) (hw : o + w ≤ 144) :
    Vec Ideal (⟨3, ![1, w, 256]⟩ : Shape) .f32 :=
  arg10.view.readCov L2 (Rect.unit (s := S16x144x256) ![i, o, 0] (⟨3, ![1, w, 256]⟩ : Shape).size (inb_slot 144 w i o hi hw)).toLoadRect

theorem aload_apply (arg10 : Memref sig .tc .vmem S16x144x256 .f32) (w i o : ℕ) (hi : i < 16) (hw : o + w ≤ 144) (r : Fin w) (j : Fin 256) :
    aload arg10 L2 w i o hi hw (ix3 0 r j) = View.canon L2 (ix3 ⟨i, hi⟩ ⟨o + r.val, by omega⟩ j) :=
  readCov_slot arg10.view L2 i o ⟨i, hi⟩ r ⟨o + r.val, by omega⟩ j rfl rfl _

/-- What is stored for a grouped map; -/
abbrev gpiece (arg10 : Memref sig .tc .vmem S16x144x256 .f32) (L2 : List (View.Piece (Elt Ideal) S16x144x256 .f32)) (f : ℕ) (hf : f < 8) :
    View.Piece (Elt Ideal) S1x1x1024x256 .bf16 :=
  ⟨Rect.unit ![0, 0, 512 + 64 * f, 0] S1x1x64x256.size (inb_o 64 _ (by omega)),
    k0_pay985 (F := Ideal) (aload arg10 L2 64 (8 + f) 0 (by omega) (by omega)) (aload arg10 L2 1 (8 + f) 64 (by omega) (by omega))⟩

/-- and for a differential pair. -/
abbrev ppiece (arg10 : Memref sig .tc .vmem S16x144x256 .f32) (L2 : List (View.Piece (Elt Ideal) S16x144x256 .f32)) (lam : FVec Ideal S1x1 .f32)
    (gv : Vec Ideal S128x1 .f32) (f : ℕ) (hf : f < 4) : View.Piece (Elt Ideal) S1x1x1024x256 .bf16 :=
  ⟨Rect.unit ![0, 0, 128 * f, 0] S1x1x128x256.size (inb_o 128 _ (by omega)),
    k0_pay977 (F := Ideal) (k0_pay976 lam (aload arg10 L2 128 (2 * f) 0 (by omega) (by omega)) (aload arg10 L2 1 (2 * f) 128 (by omega) (by omega))
      (aload arg10 L2 128 (2 * f + 1) 0 (by omega) (by omega)) (aload arg10 L2 1 (2 * f + 1) 128 (by omega) (by omega))) gv⟩

/-- A grouped map's output rows; -/
theorem Rows.grouped (arg10 : Memref sig .tc .vmem S16x144x256 .f32) (h : Inv q k v n L1 L2) (hone : Ones v) (hn : 16 ≤ n) (hC : ∀ i < 16, cnt n i = C) (hC0 : 0 < C)
    (lam : EReal) (g : ℕ → EReal) (f : ℕ) (hf : f < 8)
    (hR : Rows (blockOut q k v C lam g) (512 + 64 * f) L) : Rows (blockOut q k v C lam g) (512 + 64 * (f + 1)) (gpiece arg10 L2 f hf :: L) := by
  refine Rows.store (b := 512 + 64 * f) (w := 64) _ _ (fun r j => ?_) hR
  have hw : vwid (8 + f) = 80 := vwid_narrow (by omega)
  refine (gqa_apply _ _ r j).trans ?_
  rw [aload_apply arg10 64 (8 + f) 0 (by omega) (by omega) r j, aload_apply arg10 1 (8 + f) 64 (by omega) (by omega) 0 j]
  refine (h.ratio hone ⟨8 + f, by omega⟩ (show 8 + f < n by omega) C (hC (8 + f) (by omega)) hC0 ⟨0 + r.val, by omega⟩ ⟨64 + 0, by omega⟩
    (show 0 + r.val < vwid (8 + f) by rw [hw]; omega) (show 64 + 0 = srow (8 + f) by unfold srow; rw [if_neg (by omega)])
    (show 64 + 0 < vwid (8 + f) by rw [hw]; omega) j).trans ?_
  unfold blockOut
  rw [if_neg (by omega)]
  show ((Attn.ratio q k v C (8 + f) (0 + r.val) j.val : ℝ) : EReal) = _
  rw [show (512 + 64 * f + r.val - 512) / 64 = f by omega, show (512 + 64 * f + r.val - 512) % 64 = 0 + r.val by omega]

/-- and a differential pair's. -/
theorem Rows.pair (arg10 : Memref sig .tc .vmem S16x144x256 .f32) (h : Inv q k v n L1 L2) (hone : Ones v) (hn : 16 ≤ n) (hC : ∀ i < 16, cnt n i = C) (hC0 : 0 < C)
    (lam : FVec Ideal S1x1 .f32) (gv : Vec Ideal S128x1 .f32) (g : ℕ → EReal) (hg : ∀ r : Fin 128, gv (ix2 r 0) = g r.val) (f : ℕ) (hf : f < 4)
    (hR : Rows (blockOut q k v C (lam (ix2 0 0)) g) (128 * f) L) : Rows (blockOut q k v C (lam (ix2 0 0)) g) (128 * (f + 1)) (ppiece arg10 L2 lam gv f hf :: L) := by
  refine Rows.store (b := 128 * f) (w := 128) _ _ (fun r j => ?_) hR
  have one : ∀ (i : ℕ) (hi : i < 8) (x : Fin 128), Ideal.div (aload arg10 L2 128 i 0 (by omega) (by omega) (ix3 0 x j)) (aload arg10 L2 1 i 128 (by omega) (by omega) (ix3 0 0 j))
      = ((Attn.ratio q k v C i x.val j.val : ℝ) : EReal) := by
    intro i hi x
    have hw : vwid i = 144 := vwid_wide hi
    rw [aload_apply arg10 128 i 0 (by omega) (by omega) x j, aload_apply arg10 1 i 128 (by omega) (by omega) 0 j]
    refine (h.ratio hone ⟨i, by omega⟩ (show i < n by omega) C (hC i (by omega)) hC0 ⟨0 + x.val, by omega⟩ ⟨128 + 0, by omega⟩
      (show 0 + x.val < vwid i by rw [hw]; omega) (show 128 + 0 = srow i by unfold srow; rw [if_pos hi])
      (show 128 + 0 < vwid i by rw [hw]; omega) j).trans ?_
    show ((Attn.ratio q k v C i (0 + x.val) j.val : ℝ) : EReal) = _
    rw [Nat.zero_add]
  refine (od_apply lam _ _ _ _ gv r j).trans ?_
  rw [hg]
  unfold blockOut
  rw [if_pos (by omega)]
  simp only [one (2 * f) (by omega), one (2 * f + 1) (by omega), show (128 * f + r.val) / 128 = f by omega, show (128 * f + r.val) % 128 = r.val by omega]

/-- All the rows, when the list of stores is the eight maps' after the four pairs'. -/
theorem Rows.all (arg10 : Memref sig .tc .vmem S16x144x256 .f32) (h : Inv q k v n L1 L2) (hone : Ones v) (hn : 16 ≤ n) (hC : ∀ i < 16, cnt n i = C) (hC0 : 0 < C)
    (lam : FVec Ideal S1x1 .f32) (gv : Vec Ideal S128x1 .f32) (g : ℕ → EReal) (hg : ∀ r : Fin 128, gv (ix2 r 0) = g r.val)
    (hL : L = gpiece arg10 L2 7 (by decide) :: gpiece arg10 L2 6 (by decide) :: gpiece arg10 L2 5 (by decide) :: gpiece arg10 L2 4 (by decide)
      :: gpiece arg10 L2 3 (by decide) :: gpiece arg10 L2 2 (by decide) :: gpiece arg10 L2 1 (by decide) :: gpiece arg10 L2 0 (by decide)
      :: ppiece arg10 L2 lam gv 3 (by decide) :: ppiece arg10 L2 lam gv 2 (by decide) :: ppiece arg10 L2 lam gv 1 (by decide)
      :: ppiece arg10 L2 lam gv 0 (by decide) :: []) : Rows (blockOut q k v C (lam (ix2 0 0)) g) 1024 L := by
  subst hL
  refine Rows.grouped arg10 h hone hn hC hC0 _ _ 7 (by decide) ?_
  refine Rows.grouped arg10 h hone hn hC hC0 _ _ 6 (by decide) ?_
  refine Rows.grouped arg10 h hone hn hC hC0 _ _ 5 (by decide) ?_
  refine Rows.grouped arg10 h hone hn hC hC0 _ _ 4 (by decide) ?_
  refine Rows.grouped arg10 h hone hn hC hC0 _ _ 3 (by decide) ?_
  refine Rows.grouped arg10 h hone hn hC hC0 _ _ 2 (by decide) ?_
  refine Rows.grouped arg10 h hone hn hC hC0 _ _ 1 (by decide) ?_
  refine Rows.grouped arg10 h hone hn hC hC0 _ _ 0 (by decide) ?_
  refine Rows.pair arg10 h hone hn hC hC0 lam gv g hg 3 (by decide) ?_
  refine Rows.pair arg10 h hone hn hC hC0 lam gv g hg 2 (by decide) ?_
  refine Rows.pair arg10 h hone hn hC hC0 lam gv g hg 1 (by decide) ?_
  refine Rows.pair arg10 h hone hn hC hC0 lam gv g hg 0 (by decide) ?_
  exact Rows.nil _

end Stores

/-! ## The two cases -/

section Cases

variable {arg2 : Memref sig .tc .vmem S1x1x1024x256 .f32} {arg3 : Memref sig .tc .vmem S1x2304x640 .bf16}
  {arg4 : Memref sig .tc .vmem S1x9x736x256 .bf16} {arg5 : Memref sig .tc .vmem S4x64 .f32} {harg5 : arg5.IsWhole}
  {arg6 : Memref sig .tc .vmem S128x1 .f32} {harg6 : arg6.IsWhole} {arg7 : Memref sig .tc .vmem S1x1x1024x256 .bf16} {harg7 : arg7.IsWhole}
  {arg8 : Memref sig .tc .vmem S16x128x256 .bf16} {harg8 : arg8.IsWhole} {arg9 : Memref sig .tc .vmem S16x1x256 .f32} {harg9 : arg9.IsWhole}
  {arg10 : Memref sig .tc .vmem S16x144x256 .f32} {harg10 : arg10.IsWhole}
  {x0 : Vec Ideal S1x1x1024x256 .f32} {x1 : Vec Ideal S1x2304x640 .bf16} {x2 : Vec Ideal S1x9x736x256 .bf16}
  {x3 : Vec Ideal S4x64 .f32} {x4 : Vec Ideal S128x1 .f32}
  {q k : ℕ → ℕ → ℝ} {v : ℕ → ℕ → ℕ → ℝ}

/-- The weight of the second map of a pair. -/
def lamOf (x3 : Vec Ideal S4x64 .f32) : EReal :=
  Ideal.exp (∑ x : Fin 64, x3 (ix2 0 x) * x3 (ix2 1 x)) - Ideal.exp (∑ x : Fin 64, x3 (ix2 2 x) * x3 (ix2 3 x)) + Ideal.ofBits .f32 0x3E4CCCCD#32

/-- The norm's weight, by row. -/
def gOf (x4 : Vec Ideal S128x1 .f32) (r : ℕ) : EReal := if h : r < 128 then x4 (ix2 ⟨r, h⟩ 0) else 0

/-- The four learned vectors, loaded whole, -/
abbrev lload (harg5 : arg5.IsWhole) (x3 : Vec Ideal S4x64 .f32) : Vec Ideal S4x64 .f32 :=
  View.readAt (Elt Ideal) arg5.view (Rect.unit (s := S4x64) ![0, 0] S4x64.size inb_S4x64_S4x64_0_0).toLoadRect (harg5.unread x3)
/-- and the norm's weight. -/
abbrev gload (harg6 : arg6.IsWhole) (x4 : Vec Ideal S128x1 .f32) : Vec Ideal S128x1 .f32 :=
  View.readAt (Elt Ideal) arg6.view (Rect.unit (s := S128x1) ![0, 0] S128x1.size inb_S128x1_S128x1_0_0).toLoadRect (harg6.unread x4)

theorem lload_apply (a : Fin 4) (b : Fin 64) : lload harg5 x3 (ix2 a b) = x3 (ix2 a b) := by
  refine (congrFun (harg5.read_unread x3) _).trans (congrArg x3 ?_)
  funext d; apply Fin.ext
  match d with
  | ⟨0, _⟩ => show 0 + 1 * a.val = a.val; omega
  | ⟨1, _⟩ => show 0 + 1 * b.val = b.val; omega

theorem gload_apply (r : Fin 128) : gload harg6 x4 (ix2 r 0) = gOf x4 r.val := by
  unfold gOf; rw [dif_pos r.isLt]
  refine (congrFun (harg6.read_unread x4) _).trans (congrArg x4 ?_)
  funext d; apply Fin.ext
  match d with
  | ⟨0, _⟩ => show 0 + 1 * r.val = r.val; omega
  | ⟨1, _⟩ => rfl

theorem lam_load : k0_pay966 (F := Ideal) (lload harg5 x3) (ix2 0 0) = lamOf x3 := by
  rw [lam_apply]; unfold lamOf; simp only [lload_apply]

/-- At a later query tile: nine chunks. -/
theorem block_B (c : Dev nD) (i : grid0.Coords) (C : Ctx arg2 arg3 arg4 x0 x1 x2 q k v) (hone : Ones v) (hc0) (hc1) (r : Fin 1024) (j : Fin 256) :
    out0_B_5 (F := Ideal) c i arg2 C.h2 arg3 C.h3 arg4 C.h4 arg5 harg5 arg6 harg6 arg7 harg7 arg8 harg8 arg9 harg9 arg10 harg10 hc0 hc1 x0 x1 x2 x3 x4 (ix4 0 0 r j)
      = blockOut q k v 9 (lamOf x3) (gOf x4) r.val j := by
  obtain ⟨L1, hI⟩ := walk_B c C arg8 arg9 arg10
  have hC : ∀ i < 16, cnt 144 i = 9 := fun i hi => by unfold cnt; omega
  refine (congrFun (View.read_writes_junk_eq_canon VO0_5 _) _).trans ?_
  rw [← lam_load (harg5 := harg5) (x3 := x3)]
  exact Rows.all arg10 hI hone (by decide) hC (by decide) _ (gload harg6 x4) _ gload_apply (by rfl) r j r.isLt

/-- At the first query tile: the first chunk alone. -/
theorem block_A (c : Dev nD) (i : grid0.Coords) (C : Ctx arg2 arg3 arg4 x0 x1 x2 q k v) (hone : Ones v) (hc0) (hc1) (r : Fin 1024) (j : Fin 256) :
    out0_A_5 (F := Ideal) c i arg2 C.h2 arg3 C.h3 arg4 C.h4 arg5 harg5 arg6 harg6 arg7 harg7 arg8 harg8 arg9 harg9 arg10 harg10 hc0 hc1 x0 x1 x2 x3 x4 (ix4 0 0 r j)
      = blockOut q k v 1 (lamOf x3) (gOf x4) r.val j := by
  obtain ⟨L1, hI⟩ := walk_A c C arg8
  have hC : ∀ i < 16, cnt 16 i = 1 := fun i hi => by unfold cnt; omega
  refine (congrFun (View.read_writes_junk_eq_canon VO0_5 _) _).trans ?_
  rw [← lam_load (harg5 := harg5) (x3 := x3)]
  exact Rows.all arg10 hI hone (by decide) hC (by decide) _ (gload harg6 x4) _ gload_apply (by rfl) r j r.isLt

end Cases

end Cert.Attn
-- ==== Proof.Attn.Host.lean ====
module

public import proofs.«01_k».proof.Proof.Gen.KernelIdeal.Value
public import Idealize.ShloMosaic.Lib.Pointwise

@[expose] public section

set_option maxRecDepth 16384

noncomputable section

namespace Cert.Attn

open Cert.KernelIdeal Cert.KernelIdeal.Gen Idealize.ShloMosaic Idealize.ShloMosaic.TcCoe Idealize.SL.Sem
open Idealize.ShloMosaic.Pointwise

variable (m : (ℓ : Loc nD τ sig) → Buf (Elt Ideal) ℓ)

/-- The stored values put together: each head's rows, then rows of ones. -/
abbrev vcat (o : FVec Ideal S32x9x16x256 .f32) (a0 a1 a2 a3 : FVec Ideal S32x9x128x256 .f32) (b0 b1 : FVec Ideal S32x9x64x256 .f32) :
    FVec Ideal S32x9x736x256 .f32 :=
  concatenate S32x9x736x256 2
    [⟨S32x9x128x256, a0⟩, ⟨S32x9x16x256, o⟩, ⟨S32x9x128x256, a1⟩, ⟨S32x9x16x256, o⟩, ⟨S32x9x128x256, a2⟩, ⟨S32x9x16x256, o⟩, ⟨S32x9x128x256, a3⟩, ⟨S32x9x16x256, o⟩, ⟨S32x9x64x256, b0⟩, ⟨S32x9x16x256, o⟩, ⟨S32x9x64x256, b1⟩, ⟨S32x9x16x256, o⟩]
    concatenates_S32x9x128x256_S32x9x16x256_S32x9x128x256_S32x9x16x256_S32x9x128x256_S32x9x16x256_S32x9x128x256_S32x9x16x256_S32x9x64x256_S32x9x16x256_S32x9x64x256_S32x9x16x256_S32x9x736x256_d2

/-- Row `r` of the stored values, from the rows `X` of the values. -/
def vrows (X : ℕ → EReal) (r : ℕ) : EReal :=
  if r < 576 then (if r % 144 < 128 then X (128 * (r / 144) + r % 144) else 1)
  else if (r - 576) % 80 < 64 then X (512 + 64 * ((r - 576) / 80) + (r - 576) % 80) else 1

/-- Read at an index: the caller's row, or one. -/
theorem vcat_apply {o : FVec Ideal S32x9x16x256 .f32} {a0 a1 a2 a3 : FVec Ideal S32x9x128x256 .f32} {b0 b1 : FVec Ideal S32x9x64x256 .f32}
    {b : Fin 32} {t : Fin 9} {x : Fin 256} {X : ℕ → EReal} (ho : ∀ r, o (ix4 b t r x) = 1)
    (h0 : ∀ r, a0 (ix4 b t r x) = X r.val) (h1 : ∀ r, a1 (ix4 b t r x) = X (128 + r.val)) (h2 : ∀ r, a2 (ix4 b t r x) = X (256 + r.val))
    (h3 : ∀ r, a3 (ix4 b t r x) = X (384 + r.val)) (h4 : ∀ r, b0 (ix4 b t r x) = X (512 + r.val)) (h5 : ∀ r, b1 (ix4 b t r x) = X (576 + r.val))
    (r : Fin 736) : vcat o a0 a1 a2 a3 b0 b1 (ix4 b t r x) = vrows X r.val := by
  pointwise []
  have hr := r.isLt
  have wide : ∀ k o : ℕ, k < 4 → o < 128 → r.val = 144 * k + o → X (128 * k + o) = vrows X r.val := by
    intro k o hk ho he
    unfold vrows
    rw [if_pos (by omega), if_pos (by omega)]; congr 1; omega
  have narrow : ∀ k o : ℕ, k < 2 → o < 64 → r.val = 576 + 80 * k + o → X (512 + 64 * k + o) = vrows X r.val := by
    intro k o hk ho he
    unfold vrows
    rw [if_neg (by omega), if_pos (by omega)]; congr 1; omega
  have ones : ∀ k o : ℕ, o < 16 → (k < 4 ∧ r.val = 144 * k + 128 + o ∨ k < 2 ∧ r.val = 576 + 80 * k + 64 + o) → (1 : EReal) = vrows X r.val := by
    intro k o ho he
    unfold vrows
    rcases he with he | he
    · rw [if_pos (by omega), if_neg (by omega)]
    · rw [if_neg (by omega), if_neg (by omega)]
  by_cases c0 : r.val < 128
  · exact (dif_pos c0).trans ((h0 _).trans ((congrArg X (show r.val = 128 * 0 + r.val by omega)).trans (wide 0 r.val (by omega) (by omega) (by omega))))
  refine (dif_neg c0).trans ?_
  by_cases c1 : r.val - 128 < 16
  · exact (dif_pos c1).trans ((ho _).trans (ones 0 (r.val - 128) (by omega) (by omega)))
  refine (dif_neg c1).trans ?_
  by_cases c2 : r.val - 128 - 16 < 128
  · exact (dif_pos c2).trans (((h1 _).trans (congrArg X (by dsimp only; omega))).trans (wide 1 (r.val - 144) (by omega) (by omega) (by omega)))
  refine (dif_neg c2).trans ?_
  by_cases c3 : r.val - 128 - 16 - 128 < 16
  · exact (dif_pos c3).trans ((ho _).trans (ones 1 (r.val - 272) (by omega) (by omega)))
  refine (dif_neg c3).trans ?_
  by_cases c4 : r.val - 128 - 16 - 128 - 16 < 128
  · exact (dif_pos c4).trans (((h2 _).trans (congrArg X (by dsimp only; omega))).trans (wide 2 (r.val - 288) (by omega) (by omega) (by omega)))
  refine (dif_neg c4).trans ?_
  by_cases c5 : r.val - 128 - 16 - 128 - 16 - 128 < 16
  · exact (dif_pos c5).trans ((ho _).trans (ones 2 (r.val - 416) (by omega) (by omega)))
  refine (dif_neg c5).trans ?_
  by_cases c6 : r.val - 128 - 16 - 128 - 16 - 128 - 16 < 128
  · exact (dif_pos c6).trans (((h3 _).trans (congrArg X (by dsimp only; omega))).trans (wide 3 (r.val - 432) (by omega) (by omega) (by omega)))
  refine (dif_neg c6).trans ?_
  by_cases c7 : r.val - 128 - 16 - 128 - 16 - 128 - 16 - 128 < 16
  · exact (dif_pos c7).trans ((ho _).trans (ones 3 (r.val - 560) (by omega) (by omega)))
  refine (dif_neg c7).trans ?_
  by_cases c8 : r.val - 128 - 16 - 128 - 16 - 128 - 16 - 128 - 16 < 64
  · exact (dif_pos c8).trans (((h4 _).trans (congrArg X (by dsimp only; omega))).trans (narrow 0 (r.val - 576) (by omega) (by omega) (by omega)))
  refine (dif_neg c8).trans ?_
  by_cases c9 : r.val - 128 - 16 - 128 - 16 - 128 - 16 - 128 - 16 - 64 < 16
  · exact (dif_pos c9).trans ((ho _).trans (ones 0 (r.val - 640) (by omega) (by omega)))
  refine (dif_neg c9).trans ?_
  by_cases c10 : r.val - 128 - 16 - 128 - 16 - 128 - 16 - 128 - 16 - 64 - 16 < 64
  · exact (dif_pos c10).trans (((h5 _).trans (congrArg X (by dsimp only; omega))).trans (narrow 1 (r.val - 656) (by omega) (by omega) (by omega)))
  refine (dif_neg c10).trans ?_
  exact (ho _).trans (ones 1 (r.val - 720) (by omega) (by omega))

/-- The host's last three operations put the values together, -/
theorem tail_v8 (S : Valuation τ sig (Elt Ideal)) :
    StableHlo.after (hostOps0.drop 8) S (Proc.devRef .tc main_v8) = truncf .bf16 (vcat (S (Proc.devRef .tc main_v0)) (S (Proc.devRef .tc main_v1))
      (S (Proc.devRef .tc main_v2)) (S (Proc.devRef .tc main_v3)) (S (Proc.devRef .tc main_v4)) (S (Proc.devRef .tc main_v5)) (S (Proc.devRef .tc main_v6))) bitsLt_bf16_f32 := by
  show StableHlo.after [_, _, _] S _ = _
  after_results
  rfl

/-- Row `n` of the values in the caller's layout. -/
def vin (X : FVec Ideal S32x9x640x256 .f32) (b : Fin 32) (t : Fin 9) (x : Fin 256) (n : ℕ) : EReal :=
  if h : n < 640 then X (ix4 b t ⟨n, h⟩ x) else 0

/-- The parts before they are put together: a slice of the values, or ones. -/
abbrev parts (c : Dev nD) : Valuation τ sig (Elt Ideal) := StableHlo.after (hostOps0.take 8) fun b => m (c, b)

/-- The first part is ones. -/
theorem part_ones (c : Dev nD) (b : Fin 32) (t : Fin 9) (r : Fin 16) (x : Fin 256) :
    parts m c (Proc.devRef .tc main_v0) (ix4 b t r x) = (1 : EReal) := by
  show StableHlo.after [_, _, _, _, _, _, _, _] _ _ _ = _
  after_results
  pointwise []

/-- A slice of rows, read at an index. -/
theorem slice_apply (X : FVec Ideal S32x9x640x256 .f32) (w off : ℕ) (h : S32x9x640x256.Slices ![0, 0, off, 0] ⟨4, ![32, 9, w, 256]⟩)
    (hw : off + w ≤ 640) (b : Fin 32) (t : Fin 9) (r : Fin w) (x : Fin 256) :
    extractStridedSlice ⟨4, ![32, 9, w, 256]⟩ ![0, 0, off, 0] X h (ix4 b t r x) = vin X b t x (off + r.val) := by
  have hr := r.isLt
  unfold vin
  rw [dif_pos (by omega)]
  refine extractStridedSlice_apply _ X h _ _ fun a => ?_
  match a with
  | ⟨0, _⟩ => show b.val = 0 + b.val; omega
  | ⟨1, _⟩ => show t.val = 0 + t.val; omega
  | ⟨2, _⟩ => rfl
  | ⟨3, _⟩ => show x.val = 0 + x.val; omega

/-- Each other part is a slice of the values. -/
theorem part_v1 (c : Dev nD) (b : Fin 32) (t : Fin 9) (r : Fin 128) (x : Fin 256) :
    parts m c (Proc.devRef .tc main_v1) (ix4 b t r x) = vin (m (c, Proc.devRef .tc main_arg2)) b t x (0 + r.val) := by
  show StableHlo.after [_, _, _, _, _, _, _, _] _ _ _ = _
  after_results
  exact slice_apply _ 128 0 _ (by omega) b t r x

theorem part_v2 (c : Dev nD) (b : Fin 32) (t : Fin 9) (r : Fin 128) (x : Fin 256) :
    parts m c (Proc.devRef .tc main_v2) (ix4 b t r x) = vin (m (c, Proc.devRef .tc main_arg2)) b t x (128 + r.val) := by
  show StableHlo.after [_, _, _, _, _, _, _, _] _ _ _ = _
  after_results
  exact slice_apply _ 128 128 _ (by omega) b t r x

theorem part_v3 (c : Dev nD) (b : Fin 32) (t : Fin 9) (r : Fin 128) (x : Fin 256) :
    parts m c (Proc.devRef .tc main_v3) (ix4 b t r x) = vin (m (c, Proc.devRef .tc main_arg2)) b t x (256 + r.val) := by
  show StableHlo.after [_, _, _, _, _, _, _, _] _ _ _ = _
  after_results
  exact slice_apply _ 128 256 _ (by omega) b t r x

theorem part_v4 (c : Dev nD) (b : Fin 32) (t : Fin 9) (r : Fin 128) (x : Fin 256) :
    parts m c (Proc.devRef .tc main_v4) (ix4 b t r x) = vin (m (c, Proc.devRef .tc main_arg2)) b t x (384 + r.val) := by
  show StableHlo.after [_, _, _, _, _, _, _, _] _ _ _ = _
  after_results
  exact slice_apply _ 128 384 _ (by omega) b t r x

theorem part_v5 (c : Dev nD) (b : Fin 32) (t : Fin 9) (r : Fin 64) (x : Fin 256) :
    parts m c (Proc.devRef .tc main_v5) (ix4 b t r x) = vin (m (c, Proc.devRef .tc main_arg2)) b t x (512 + r.val) := by
  show StableHlo.after [_, _, _, _, _, _, _, _] _ _ _ = _
  after_results
  exact slice_apply _ 64 512 _ (by omega) b t r x

theorem part_v6 (c : Dev nD) (b : Fin 32) (t : Fin 9) (r : Fin 64) (x : Fin 256) :
    parts m c (Proc.devRef .tc main_v6) (ix4 b t r x) = vin (m (c, Proc.devRef .tc main_arg2)) b t x (576 + r.val) := by
  show StableHlo.after [_, _, _, _, _, _, _, _] _ _ _ = _
  after_results
  exact slice_apply _ 64 576 _ (by omega) b t r x

/-- The stored values: the caller's rows, and rows of ones. -/
theorem V_v8 (c : Dev nD) (b : Fin 32) (t : Fin 9) (r : Fin 736) (x : Fin 256) :
    V m c main_v8 (ix4 b t r x) = vrows (vin (m ((c : Thread nD τ).loc main_arg2)) b t x) r.val := by
  refine (congrFun (tail_v8 (parts m c)) _).trans ?_
  exact vcat_apply (part_ones m c b t · x) (fun r => by rw [part_v1 m c b t r x, Nat.zero_add]) (part_v2 m c b t · x) (part_v3 m c b t · x)
    (part_v4 m c b t · x) (part_v5 m c b t · x) (part_v6 m c b t · x) r

/-- The norm's weight, staged as a column. -/
theorem V_v9 (c : Dev nD) (r : Fin 128) :
    V m c main_v9 (ix2 r 0) = m ((c : Thread nD τ).loc main_arg4) (ix1 r) := by
  show StableHlo.after hostOps0 _ (Proc.devRef .tc main_v9) _ = _
  after_results
  pointwise []

end Cert.Attn
-- ==== Proof.Attn.Array.lean ====
module

public import proofs.«01_k».proof.Proof.Gen.KernelIdeal.Value
public import proofs.«01_k».proof.Proof.Attn.Block
public import proofs.«01_k».proof.Proof.Attn.Host
public import Idealize.ShloMosaic.Lib.Pipeline.ValueKit

@[expose] public section

set_option maxRecDepth 16384

noncomputable section

namespace Cert.Attn

open Cert.KernelIdeal Cert.KernelIdeal.Gen Idealize.ShloMosaic Idealize.ShloMosaic.TcCoe Idealize.SL.Sem
open Idealize.ShloMosaic.Pointwise

variable (m : (ℓ : Loc nD τ sig) → Buf (Elt Ideal) ℓ)

/-- Each window's block index at a point. -/
theorem index0 : ∀ t : Fin cfg0.N, win0_0.index t = ![t.val / 9, t.val % 9, 0, 0] := (by decide +kernel : ∀ t : Fin grid0.N, _)
theorem index1 : ∀ t : Fin cfg0.N, win0_1.index t = ![t.val / 9, 0, 0] := (by decide +kernel : ∀ t : Fin grid0.N, _)
theorem index2 : ∀ t : Fin cfg0.N, win0_2.index t = ![t.val / 9, 0, 0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![t.val / 9, t.val % 9, 0, 0] := (by decide +kernel : ∀ t : Fin grid0.N, _)

/-- The grid has 288 points. -/
theorem lt_grid (t : Fin cfg0.N) : t.val < 288 := by have h : cfg0.N = 288 := N_0; have := t.isLt; omega

/-- The pair of the batch and the query tile of a point. -/
abbrev bOf (t : Fin cfg0.N) : Fin 32 := ⟨t.val / 9, by have := lt_grid t; omega⟩
abbrev qOf (t : Fin cfg0.N) : Fin 9 := ⟨t.val % 9, Nat.mod_lt _ (by omega)⟩

/-- The blocks a point reads: the queries' tile, -/
theorem iblk0 (c : Dev nD) (t : Fin cfg0.N) (r : Fin 1024) (j : Fin 256) :
    iblk m c 0 t (ix4 0 0 r j) = m ((c : Thread nD τ).loc main_arg0) (ix4 (bOf t) (qOf t) r j) := by
  blk_simp [iblk, index0]
  rw [V_main_arg0]
  refine congrArg _ ?_
  blk_ext [index0]

/-- the keys of the batch's element, -/
theorem iblk1 (c : Dev nD) (t : Fin cfg0.N) (y : Fin 2304) (l : Fin 640) :
    iblk m c 1 t (ix3 0 y l) = m ((c : Thread nD τ).loc main_arg1) (ix3 (bOf t) y l) := by
  blk_simp [iblk, index1]
  rw [V_main_arg1]
  refine congrArg _ ?_
  blk_ext [index1]

/-- its values, -/
theorem iblk2 (c : Dev nD) (t : Fin cfg0.N) (u : Fin 9) (r : Fin 736) (x : Fin 256) :
    iblk m c 2 t (ix4 0 u r x) = vrows (vin (m ((c : Thread nD τ).loc main_arg2)) (bOf t) u x) r.val := by
  rw [← V_v8]
  blk_simp [iblk, index2]
  refine congrArg _ ?_
  blk_ext [index2]

/-- the four learned vectors, -/
theorem iblk3 (c : Dev nD) (t : Fin cfg0.N) (a : Fin 4) (x : Fin 64) :
    iblk m c 3 t (ix2 a x) = m ((c : Thread nD τ).loc main_arg3) (ix2 a x) := by
  blk_simp [iblk, index3]
  rw [V_main_arg3]
  refine congrArg _ ?_
  blk_ext [index3]

/-- and the norm's weight. -/
theorem iblk4 (c : Dev nD) (t : Fin cfg0.N) (r : Fin 128) :
    iblk m c 4 t (ix2 r 0) = m ((c : Thread nD τ).loc main_arg4) (ix1 r) := by
  rw [← V_v9 m c r]
  blk_simp [iblk, index4]
  refine congrArg _ ?_
  blk_ext [index4]

/-! ## The arrays as real numbers -/

/-- The queries of one tile, scaled. -/
def qr (A : FVec Ideal S32x9x1024x256 .f32) (b : Fin 32) (t : Fin 9) (r j : ℕ) : ℝ :=
  if h : r < 1024 ∧ j < 256 then (A (ix4 b t ⟨r, h.1⟩ ⟨j, h.2⟩) : EReal).toReal * qscale else 0

/-- The keys. -/
def kr (A : FVec Ideal S32x2304x640 .bf16) (b : Fin 32) (y l : ℕ) : ℝ :=
  if h : y < 2304 ∧ l < 640 then (A (ix3 b ⟨y, h.1⟩ ⟨l, h.2⟩) : EReal).toReal else 0

/-- The stored values: the caller's rows, and rows of ones. -/
def vr (A : FVec Ideal S32x9x640x256 .f32) (b : Fin 32) (u r x : ℕ) : ℝ :=
  if h : u < 9 ∧ x < 256 then (vrows (vin A b ⟨u, h.1⟩ ⟨x, h.2⟩) r).toReal else 1

/-- The norm's weight, by row. -/
def gr (A : FVec Ideal S128 .f32) (r : ℕ) : EReal := if h : r < 128 then A (ix1 ⟨r, h⟩) else 0

theorem vrows_ones (X : ℕ → EReal) (i : ℕ) (hi : i < 16) : vrows X (vrow i + srow i) = 1 := by
  unfold vrows vrow srow
  by_cases h : i < 8
  · rw [if_pos h, if_pos h, if_pos (by omega), if_neg (by omega)]
  · rw [if_neg h, if_neg h, if_neg (by omega), if_neg (by omega)]

/-- The row of ones of each map is one. -/
theorem ones_vr (A : FVec Ideal S32x9x640x256 .f32) (b : Fin 32) : Ones (vr A b) := by
  intro i hi u x
  unfold vr
  split
  · rw [vrows_ones _ i hi]; exact EReal.toReal_one
  · rfl

/-- Queries, keys and values are real. -/
structure Reals (A0 : FVec Ideal S32x9x1024x256 .f32) (A1 : FVec Ideal S32x2304x640 .bf16) (A2 : FVec Ideal S32x9x640x256 .f32) : Prop where
  hq : ∀ i, ((A0 i : EReal).toReal : EReal) = A0 i
  hk : ∀ i, ((A1 i : EReal).toReal : EReal) = A1 i
  hv : ∀ i, ((A2 i : EReal).toReal : EReal) = A2 i

theorem vrows_real {A2 : FVec Ideal S32x9x640x256 .f32} (hv : ∀ i, ((A2 i : EReal).toReal : EReal) = A2 i) (b : Fin 32) (u : Fin 9) (x : Fin 256) (r : ℕ) :
    ((vrows (vin A2 b u x) r).toReal : EReal) = vrows (vin A2 b u x) r := by
  unfold vrows vin
  split_ifs <;> first | exact hv _ | rfl

variable (c : Dev nD)

/-- The arguments of a device. -/
abbrev A0 : FVec Ideal S32x9x1024x256 .f32 := m ((c : Thread nD τ).loc main_arg0)
abbrev A1 : FVec Ideal S32x2304x640 .bf16 := m ((c : Thread nD τ).loc main_arg1)
abbrev A2 : FVec Ideal S32x9x640x256 .f32 := m ((c : Thread nD τ).loc main_arg2)
abbrev A3 : FVec Ideal S4x64 .f32 := m ((c : Thread nD τ).loc main_arg3)
abbrev A4 : FVec Ideal S128 .f32 := m ((c : Thread nD τ).loc main_arg4)

/-- A point's blocks hold those real numbers. -/
theorem ctx (hr : Reals (A0 m c) (A1 m c) (A2 m c)) (t : Fin cfg0.N) :
    Ctx (ms0_0 t) (ms0_1 t) (ms0_2 t) (iblk m c 0 t) (iblk m c 1 t) (iblk m c 2 t)
      (qr (A0 m c) (bOf t) (qOf t)) (kr (A1 m c) (bOf t)) (vr (A2 m c) (bOf t)) where
  h2 := hs0_0 t
  h3 := hs0_1 t
  h4 := hs0_2 t
  hq r j := by
    rw [iblk0]; unfold qr
    rw [dif_pos ⟨r.isLt, j.isLt⟩, EReal.coe_mul, hr.hq]
  hk y l := by
    rw [iblk1]; unfold kr
    rw [dif_pos ⟨y.isLt, l.isLt⟩, hr.hk]
  hv u r x := by
    rw [iblk2]; unfold vr
    rw [dif_pos ⟨u.isLt, x.isLt⟩, vrows_real hr.hv]

theorem lamOf_blk (t : Fin cfg0.N) : lamOf (iblk m c 3 t) = lamOf (A3 m c) := by
  unfold lamOf; simp only [iblk3]

theorem gOf_blk (t : Fin cfg0.N) : gOf (iblk m c 4 t) = gr (A4 m c) := by
  funext r; unfold gOf gr
  split
  · exact iblk4 m c t _
  · rfl

/-- The whole result, at an index. -/
def attnOut (b : Fin 32) (t : Fin 9) (r : ℕ) (j : Fin 256) : EReal :=
  blockOut (qr (A0 m c) b t) (kr (A1 m c) b) (vr (A2 m c) b) (if t.val = 0 then 1 else 9) (lamOf (A3 m c)) (gr (A4 m c)) r j

/-- What a point leaves in its block of the result. -/
theorem after_apply (hr : Reals (A0 m c) (A1 m c) (A2 m c)) (t : Fin cfg0.N) (r : Fin 1024) (j : Fin 256) :
    (dats m 0 c).after 5 t (ix4 0 0 r j) = attnOut m c (bOf t) (qOf t) r.val j := by
  rw [after0_5]
  unfold attnOut
  by_cases h : t.val % 9 = 0
  · rw [outsAt0_A m c t h (by omega), if_pos h, ← lamOf_blk m c t, ← gOf_blk m c t]
    exact block_A c _ (ctx m c hr t) (ones_vr _ _) _ _ r j
  · rw [outsAt0_B m c t h (by omega), if_neg h, ← lamOf_blk m c t, ← gOf_blk m c t]
    exact block_B c _ (ctx m c hr t) (ones_vr _ _) _ _ r j

/-- The result's blocks fill its array. -/
theorem cover5 (i : S32x9x1024x256.Idx) : ∃ t : Fin cfg0.N, (cfg0.win 5).flush t = true ∧ i ∈ ((cfg0.win 5).blk t).view.set := by
  have hN : cfg0.N = 288 := N_0
  have h0 : (i 0 : ℕ) < 32 := (i 0).isLt
  have h1 : (i 1 : ℕ) < 9 := (i 1).isLt
  have h2 : (i 2 : ℕ) < 1024 := (i 2).isLt
  have h3 : (i 3 : ℕ) < 256 := (i 3).isLt
  have ht : 9 * (i 0 : ℕ) + (i 1 : ℕ) < cfg0.N := by omega
  obtain ⟨t, et⟩ : ∃ t : Fin cfg0.N, t.val = 9 * (i 0 : ℕ) + (i 1 : ℕ) := ⟨⟨_, ht⟩, rfl⟩
  refine ⟨t, flush0_5 t, ?_⟩
  mem_blk [index5]
  omega

/-- The whole result array after the run. -/
theorem result_eq (hr : Reals (A0 m c) (A1 m c) (A2 m c)) :
    (dats m 0 c).arrAt 5 cfg0.N = fun i : S32x9x1024x256.Idx => attnOut m c (i 0) (i 1) (i 2).val (i 3) := by
  refine (dats m 0 c).arrAt_eq_of_emb 5 _ (fun t hf y => ?_) cover5
  have hy : y = (ix4 (0 : Fin 1) (0 : Fin 1) (y 2) (y 3) : S1x1x1024x256.Idx) := by
    funext a
    match a with
    | ⟨0, _⟩ => exact Fin.ext (by have h : ((y 0 : Fin 1) : ℕ) < 1 := (y 0).isLt; show ((y 0 : Fin 1) : ℕ) = 0; omega)
    | ⟨1, _⟩ => exact Fin.ext (by have h : ((y 1 : Fin 1) : ℕ) < 1 := (y 1).isLt; show ((y 1 : Fin 1) : ℕ) = 0; omega)
    | ⟨2, _⟩ => rfl
    | ⟨3, _⟩ => rfl
  have h0 : ((y 0 : Fin 1) : ℕ) < 1 := (y 0).isLt
  have h1 : ((y 1 : Fin 1) : ℕ) < 1 := (y 1).isLt
  have e0 : (win0_5.blk t).view.emb y 0 = bOf t := Fin.ext (by blk_simp [index5])
  have e1 : (win0_5.blk t).view.emb y 1 = qOf t := Fin.ext (by blk_simp [index5])
  have e2 : ((win0_5.blk t).view.emb y 2 : ℕ) = ((y 2 : Fin 1024) : ℕ) := by blk_simp [index5]
  have e3 : (win0_5.blk t).view.emb y 3 = (y 3 : Fin 256) := Fin.ext (by blk_simp [index5])
  show (dats m 0 c).after 5 t y = attnOut m c ((win0_5.blk t).view.emb y 0) ((win0_5.blk t).view.emb y 1) ((win0_5.blk t).view.emb y 2 : ℕ) ((win0_5.blk t).view.emb y 3)
  rw [e0, e1, e2, e3]
  exact (congrArg ((dats m 0 c).after 5 t) hy).trans (after_apply m c hr t (y 2) (y 3))

end Cert.Attn
-- ==== Proof.Ref.Soft.lean ====
module

public import proofs.«01_k».proof.Proof.Attn.Block
public import Idealize.ShloMosaic.Lib.Pointwise

@[expose] public section

set_option maxRecDepth 16384

noncomputable section

namespace Cert.Ref

open Idealize.ShloMosaic Cert.Attn

/-- The softmax of a row of real scores. -/
def soft {n : ℕ} (S : Fin n → ℝ) (y : Fin n) : ℝ := Real.exp (S y) / ∑ x, Real.exp (S x)

/-- The largest score of a row. -/
def top {n : ℕ} (s : Fin n → EReal) : EReal :=
  max (Ideal.ofBits .f32 0xFF800000#32) (Finset.fold max (Ideal.ofBits .f32 0xFF800000#32) s Finset.univ)

/-- The largest score of a real row is real. -/
theorem top_real {n : ℕ} (hn : 0 < n) {s : Fin n → EReal} {S : Fin n → ℝ} (h : ∀ x, s x = (S x : EReal)) : ∃ M : ℝ, top s = (M : EReal) := by
  have hb : Ideal.ofBits .f32 0xFF800000#32 = (⊥ : EReal) := by simp [Ideal.ofBits, Ideal.ieee]
  unfold top
  rw [hb]
  obtain ⟨i, _, hi⟩ := Finset.exists_mem_eq_sup (Finset.univ : Finset (Fin n)) ⟨⟨0, hn⟩, Finset.mem_univ _⟩ s
  exact ⟨S i, (max_eq_right bot_le).trans ((show _ = Finset.univ.sup s from rfl).trans (hi.trans (h i)))⟩

/-- The exponentials of the scores less the largest one, over their sum, are the softmax. -/
theorem soft_read {n : ℕ} (hn : 0 < n) {s : Fin n → EReal} {S : Fin n → ℝ} (h : ∀ x, s x = (S x : EReal)) (y : Fin n) :
    Ideal.div (Ideal.exp (s y - top s)) (Ideal.ofBits .f32 0#32 + ∑ x, Ideal.exp (s x - top s)) = (soft S y : EReal) := by
  obtain ⟨M, hM⟩ := top_real hn h
  have h0 : Ideal.ofBits .f32 0#32 = (0 : EReal) := by simp [Ideal.ofBits, Ideal.ieee]
  have he : ∀ x, Ideal.exp (s x - top s) = ((Real.exp (S x) * Real.exp (-M) : ℝ) : EReal) := fun x => by
    rw [hM, h, ← EReal.coe_sub, Ideal.exp_coe, sub_eq_add_neg, Real.exp_add]
  have hp : 0 < ∑ x, Real.exp (S x) := Finset.sum_pos (fun x _ => Real.exp_pos _) ⟨⟨0, hn⟩, Finset.mem_univ _⟩
  rw [h0, zero_add, Finset.sum_congr rfl fun x _ => he x, he y, coe_sum, ← Finset.sum_mul, Ideal.div_coe (mul_pos hp (Real.exp_pos _)).ne',
    ← EReal.coe_mul]
  unfold soft
  congr 1
  have := (Real.exp_pos (-M)).ne'
  field_simp

/-- A sum over the keys is the sum over the chunks of the sums over a chunk. -/
theorem sum_chunks (f : ℕ → ℝ) (C : ℕ) : ∑ y : Fin (C * 256), f y.val = ∑ c ∈ Finset.range C, ∑ x : Fin 256, f (c * 256 + x.val) := by
  rw [Fin.sum_univ_eq_sum_range]
  induction C with
  | zero => simp
  | succ C ih =>
    rw [Nat.succ_mul, Finset.sum_range_add, ih, Finset.sum_range_succ (n := C)]
    exact congrArg _ (Fin.sum_univ_eq_sum_range (fun x => f (C * 256 + x)) 256).symm

/-- Weighting the values by the softmax of the natural scores is the quotient of the sums weighted by powers of two. -/
theorem soft_ratio (q k : ℕ → ℕ → ℝ) {v : ℕ → ℕ → ℕ → ℝ} (hone : Ones v) {n : ℕ} (C : ℕ) (hn : n = C * 256) {i : ℕ} (hi : i < 16) (r j : ℕ)
    (w : Fin n → ℝ) (hw : ∀ y : Fin n, w y = v (y.val / 256) (vrow i + r) (y.val % 256)) :
    ∑ y : Fin n, w y * soft (fun y : Fin n => Real.log 2 * sc q k i y.val j) y = ratio q k v C i r j := by
  subst hn
  have hs : ∀ u, ∑ y : Fin (C * 256), Real.exp (Real.log 2 * sc q k i y.val j) * v (y.val / 256) (vrow i + u) (y.val % 256) = wsum q k v i j C 0 u := fun u => by
    rw [sum_chunks (fun y => Real.exp (Real.log 2 * sc q k i y j) * v (y / 256) (vrow i + u) (y % 256))]
    unfold wsum part
    refine Finset.sum_congr rfl fun c _ => Finset.sum_congr rfl fun x _ => ?_
    rw [show (c * 256 + x.val) / 256 = c by omega, show (c * 256 + x.val) % 256 = x.val by omega, sub_zero, Real.rpow_def_of_pos (by norm_num)]
  unfold ratio
  rw [← hs, ← hs]
  unfold soft
  rw [Finset.sum_div]
  refine Finset.sum_congr rfl fun y _ => ?_
  rw [hw, mul_div_assoc', mul_comm (v _ _ _)]
  congr 1
  refine Finset.sum_congr rfl fun x _ => ?_
  rw [hone i hi, mul_one]

/-- A product sum of reals, taken among the extended reals. -/
theorem sum_mul_real {n : ℕ} {f g : Fin n → EReal} {F G : Fin n → ℝ} (hf : ∀ x, f x = (F x : EReal)) (hg : ∀ x, g x = (G x : EReal)) :
    ∑ x, f x * g x = ((∑ x, F x * G x : ℝ) : EReal) := by
  rw [← coe_sum]
  exact Finset.sum_congr rfl fun x _ => by rw [hf, hg, ← EReal.coe_mul]

/-- Weighting by a difference of two softmaxes is the difference of the weighted sums. -/
theorem sum_diff_real {n : ℕ} {f p₁ p₂ : Fin n → EReal} {l : EReal} {F P₁ P₂ : Fin n → ℝ} {L : ℝ} (hl : l = (L : EReal))
    (hf : ∀ x, f x = (F x : EReal)) (h₁ : ∀ x, p₁ x = (P₁ x : EReal)) (h₂ : ∀ x, p₂ x = (P₂ x : EReal)) :
    ∑ x, f x * (p₁ x - l * p₂ x) = ((∑ x, F x * P₁ x : ℝ) : EReal) - l * ((∑ x, F x * P₂ x : ℝ) : EReal) := by
  rw [sum_mul_real (G := fun x => P₁ x - L * P₂ x) hf (fun x => by rw [h₁, h₂, hl, ← EReal.coe_mul, ← EReal.coe_sub]), hl, ← EReal.coe_mul,
    ← EReal.coe_sub, Finset.mul_sum, ← Finset.sum_sub_distrib]
  congr 1
  exact Finset.sum_congr rfl fun x _ => by ring

end Cert.Ref
-- ==== Proof.Ref.Tokens.lean ====
module

public import proofs.«01_k».proof.Proof.Gen.ReferenceIdeal.Read
public import proofs.«01_k».proof.Proof.Attn.Array
public import proofs.«01_k».proof.Proof.Ref.Soft

@[expose] public section

set_option maxRecDepth 16384

noncomputable section

namespace Cert.Ref

open Cert.ReferenceIdeal Cert.ReferenceIdeal.Read Idealize.ShloMosaic Idealize.ShloMosaic.TcCoe Idealize.SL.Sem
open Idealize.ShloMosaic.Pointwise Cert.Attn

variable (x0 : FVec Ideal S32x9x1024x256 .f32) (x1 : FVec Ideal S32x2304x640 .bf16) (x2 : FVec Ideal S32x9x640x256 .f32)
  (x3 : FVec Ideal S4x64 .f32) (x4 : FVec Ideal S128 .f32)

/-- The tile a token lies in. -/
abbrev tile (y : ℕ) (h : y < 2304) : Fin 9 := ⟨y / 256, by omega⟩
/-- Its column there. -/
abbrev col (y : ℕ) : Fin 256 := ⟨y % 256, Nat.mod_lt _ (by omega)⟩

/-- The queries, token by token. -/
theorem queries (b : Fin 32) (y : Fin 2304) (f : Fin 1024) :
    val_main_v2 (F := Ideal) x0 (ix3 b y f) = x0 (ix4 b (tile y.val y.isLt) f (col y.val)) := by
  pointwise [val_main_v2, val_main_v1]

/-- The values, token by token. -/
theorem values (b : Fin 32) (y : Fin 2304) (f : Fin 640) :
    val_main_v4 (F := Ideal) x2 (ix3 b y f) = x2 (ix4 b (tile y.val y.isLt) f (col y.val)) := by
  pointwise [val_main_v4, val_main_v3]

/-- The queries of the differential heads. -/
theorem query_diff (b : Fin 32) (y : Fin 2304) (h : Fin 4) (m : Fin 2) (d : Fin 64) :
    val_main_v6 (F := Ideal) x0 (ix5 b y h m d)
      = x0 (ix4 b (tile y.val y.isLt) ⟨64 * (2 * h.val + m.val) + d.val, by omega⟩ (col y.val)) := by
  refine Eq.trans ?_ (queries x0 b y ⟨64 * (2 * h.val + m.val) + d.val, by omega⟩)
  pointwise [val_main_v6, val_main_v5]
  exact congrArg (fun z => val_main_v2 (F := Ideal) x0 (ix3 b y z)) (Fin.ext (by dsimp only; omega))

/-- The queries of the grouped heads. -/
theorem query_group (b : Fin 32) (y : Fin 2304) (g : Fin 2) (u : Fin 4) (d : Fin 64) :
    val_main_v8 (F := Ideal) x0 (ix5 b y g u d)
      = x0 (ix4 b (tile y.val y.isLt) ⟨64 * (8 + 4 * g.val + u.val) + d.val, by omega⟩ (col y.val)) := by
  refine Eq.trans ?_ (queries x0 b y ⟨64 * (8 + 4 * g.val + u.val) + d.val, by omega⟩)
  pointwise [val_main_v8, val_main_v7]
  exact congrArg (fun z => val_main_v2 (F := Ideal) x0 (ix3 b y z)) (Fin.ext (by dsimp only; omega))

/-- The keys of the differential heads. -/
theorem key_diff (b : Fin 32) (y : Fin 2304) (h : Fin 4) (m : Fin 2) (d : Fin 64) :
    val_main_v10 (F := Ideal) x1 (ix5 b y h m d) = x1 (ix3 b y ⟨64 * (2 * h.val + m.val) + d.val, by omega⟩) := by
  pointwise [val_main_v10, val_main_v9, val_main_v0]
  exact congrArg (fun z => x1 (ix3 b y z)) (Fin.ext (by dsimp only; omega))

/-- The keys of the grouped heads. -/
theorem key_group (b : Fin 32) (y : Fin 2304) (g : Fin 2) (d : Fin 64) :
    val_main_v12 (F := Ideal) x1 (ix4 b y g d) = x1 (ix3 b y ⟨64 * (8 + g.val) + d.val, by omega⟩) := by
  pointwise [val_main_v12, val_main_v11, val_main_v0]
  exact congrArg (fun z => x1 (ix3 b y z)) (Fin.ext (by dsimp only; omega))

/-- The values of the differential heads. -/
theorem value_diff (b : Fin 32) (y : Fin 2304) (h : Fin 4) (e : Fin 128) :
    val_main_v14 (F := Ideal) x2 (ix4 b y h e) = x2 (ix4 b (tile y.val y.isLt) ⟨128 * h.val + e.val, by omega⟩ (col y.val)) := by
  refine Eq.trans ?_ (values x2 b y ⟨128 * h.val + e.val, by omega⟩)
  pointwise [val_main_v14, val_main_v13]
  exact congrArg (fun z => val_main_v4 (F := Ideal) x2 (ix3 b y z)) (Fin.ext (by dsimp only; omega))

/-- The values of the grouped heads. -/
theorem value_group (b : Fin 32) (y : Fin 2304) (g : Fin 2) (e : Fin 64) :
    val_main_v16 (F := Ideal) x2 (ix4 b y g e) = x2 (ix4 b (tile y.val y.isLt) ⟨512 + 64 * g.val + e.val, by omega⟩ (col y.val)) := by
  refine Eq.trans ?_ (values x2 b y ⟨512 + 64 * g.val + e.val, by omega⟩)
  pointwise [val_main_v16, val_main_v15]
  exact congrArg (fun z => val_main_v4 (F := Ideal) x2 (ix3 b y z)) (Fin.ext (by dsimp only; omega))

/-- The weight of the second map is the kernel's. -/
theorem lam_read : val_main_v32 (F := Ideal) x3 ix0 = lamOf x3 := by
  have h0 : Ideal.ofBits .f32 0#32 = (0 : EReal) := by simp [Ideal.ofBits, Ideal.ieee]
  have e1 : val_main_v22 (F := Ideal) x3 ix0 = Ideal.ofBits .f32 0#32 + ∑ x : Fin 64, x3 (ix2 0 x) * x3 (ix2 1 x) := by
    pointwise [val_main_v22, val_main_v21, val_main_v20, val_main_v19, val_main_v18, val_main_v17, val_main_cst]
  have e2 : val_main_v29 (F := Ideal) x3 ix0 = Ideal.ofBits .f32 0#32 + ∑ x : Fin 64, x3 (ix2 2 x) * x3 (ix2 3 x) := by
    pointwise [val_main_v29, val_main_v28, val_main_v27, val_main_v26, val_main_v25, val_main_v24, val_main_cst_0]
  have e : val_main_v32 (F := Ideal) x3 ix0
      = Ideal.exp (val_main_v22 (F := Ideal) x3 ix0) - Ideal.exp (val_main_v29 (F := Ideal) x3 ix0) + Ideal.ofBits .f32 0x3E4CCCCD#32 := by
    pointwise [val_main_v32, val_main_v31, val_main_v30, val_main_v23, val_main_cst_1]
  rw [e, e1, e2, h0, zero_add, zero_add]
  rfl

/-- A natural score: the dot product over 64 coordinates, times an eighth, is log two times the kernel's score. -/
theorem score_real (hr : Reals x0 x1 x2) (b : Fin 32) (t : Fin 9) (j : Fin 256) (y : Fin 2304) {i : ℕ} (hi : i < 16) {fq fk : Fin 64 → EReal}
    (hq : ∀ d : Fin 64, fq d = x0 (ix4 b t ⟨64 * i + d.val, by omega⟩ j))
    (hk : ∀ d : Fin 64, fk d = x1 (ix3 b y ⟨64 * khead i + d.val, by unfold khead; split <;> omega⟩)) :
    (∑ d, fk d * fq d) * Ideal.ofBits .f32 0x3E000000#32 = ((Real.log 2 * sc (qr x0 b t) (kr x1 b) i y.val j.val : ℝ) : EReal) := by
  have h8 : Ideal.ofBits .f32 0x3E000000#32 = ((8⁻¹ : ℝ) : EReal) := by
    simp [Ideal.ofBits, Ideal.ieee]
    rw [← EReal.coe_mul]
    norm_num
  have hl : Real.log 2 ≠ 0 := (Real.log_pos (by norm_num)).ne'
  rw [sum_mul_real (F := fun d : Fin 64 => (fk d).toReal) (G := fun d : Fin 64 => (fq d).toReal) (fun d => by rw [hk]; exact (hr.hk _).symm)
    (fun d => by rw [hq]; exact (hr.hq _).symm), h8, ← EReal.coe_mul]
  congr 1
  unfold sc
  rw [Finset.sum_mul, Finset.mul_sum]
  refine Finset.sum_congr rfl fun d _ => ?_
  have hb : 64 * khead i + d.val < 640 := by unfold khead; split <;> omega
  unfold kr qr
  rw [dif_pos ⟨y.isLt, hb⟩, dif_pos ⟨(by omega : 64 * i + d.val < 1024), j.isLt⟩, hq, hk]
  unfold qscale
  field_simp

/-- A value of a differential head is the kernel's stored value. -/
theorem value_diff_real (hr : Reals x0 x1 x2) (b : Fin 32) (y : Fin 2304) (h : Fin 4) (m : Fin 2) (e : Fin 128) :
    val_main_v14 (F := Ideal) x2 (ix4 b y h e) = (vr x2 b (y.val / 256) (vrow (2 * h.val + m.val) + e.val) (y.val % 256) : EReal) := by
  rw [value_diff]
  unfold vr
  rw [dif_pos ⟨(by omega : y.val / 256 < 9), (by omega : y.val % 256 < 256)⟩, vrows_real hr.hv]
  have hw : vrow (2 * h.val + m.val) = 144 * h.val := by unfold vrow; rw [if_pos (by omega)]; omega
  unfold vrows
  rw [hw, if_pos (by omega), if_pos (by omega)]
  unfold vin
  rw [dif_pos (by omega)]
  exact congrArg (fun z => x2 (ix4 b _ z _)) (Fin.ext (by dsimp only; omega))

/-- A value of a grouped head is the kernel's stored value. -/
theorem value_group_real (hr : Reals x0 x1 x2) (b : Fin 32) (y : Fin 2304) (g : Fin 2) (u : Fin 4) (e : Fin 64) :
    val_main_v16 (F := Ideal) x2 (ix4 b y g e) = (vr x2 b (y.val / 256) (vrow (8 + 4 * g.val + u.val) + e.val) (y.val % 256) : EReal) := by
  rw [value_group]
  unfold vr
  rw [dif_pos ⟨(by omega : y.val / 256 < 9), (by omega : y.val % 256 < 256)⟩, vrows_real hr.hv]
  have hw : vrow (8 + 4 * g.val + u.val) = 576 + 80 * g.val := by unfold vrow; rw [if_neg (by omega)]; omega
  unfold vrows
  rw [hw, if_neg (by omega), if_pos (by omega)]
  unfold vin
  rw [dif_pos (by omega)]
  exact congrArg (fun z => x2 (ix4 b _ z _)) (Fin.ext (by dsimp only; omega))

end Cert.Ref
-- ==== Proof.Ref.Latent.lean ====
module

public import proofs.«01_k».proof.Proof.Ref.Tokens

@[expose] public section

set_option maxRecDepth 16384

noncomputable section

namespace Cert.Ref.Latent

open Cert.ReferenceIdeal Cert.ReferenceIdeal.Read Idealize.ShloMosaic Idealize.ShloMosaic.TcCoe Idealize.SL.Sem
open Idealize.ShloMosaic.Pointwise Cert.Attn

variable {x0 : FVec Ideal S32x9x1024x256 .f32} {x1 : FVec Ideal S32x2304x640 .bf16} {x2 : FVec Ideal S32x9x640x256 .f32}
  (x3 : FVec Ideal S4x64 .f32) (x4 : FVec Ideal S128 .f32)

/-- The token of a latent query. -/
abbrev tok (Q : Fin 2048) : Fin 2304 := ⟨256 + Q.val, by omega⟩

/-- The natural score of a key in map `i`. -/
abbrev nat (x0 : FVec Ideal S32x9x1024x256 .f32) (x1 : FVec Ideal S32x2304x640 .bf16) (b : Fin 32) (i : ℕ) (Q : Fin 2048) (y : Fin 2304) : ℝ :=
  Real.log 2 * sc (qr x0 b (tile (tok Q).val (tok Q).isLt)) (kr x1 b) i y.val (col (tok Q).val).val

/-- Map `i`'s output row `r`, as the kernel states it. -/
abbrev rat (x0 : FVec Ideal S32x9x1024x256 .f32) (x1 : FVec Ideal S32x2304x640 .bf16) (x2 : FVec Ideal S32x9x640x256 .f32) (b : Fin 32) (i r : ℕ) (Q : Fin 2048) : ℝ :=
  ratio (qr x0 b (tile (tok Q).val (tok Q).isLt)) (kr x1 b) (vr x2 b) 9 i r (col (tok Q).val).val

/-! ## The differential heads -/

/-- A score. -/
theorem score_diff (hr : Reals x0 x1 x2) (b : Fin 32) (h : Fin 4) (m : Fin 2) (Q : Fin 2048) (y : Fin 2304) :
    val_main_v41 (F := Ideal) x0 x1 (ix5 b h m Q y) = (nat x0 x1 b (2 * h.val + m.val) Q y : EReal) := by
  have e : val_main_v41 (F := Ideal) x0 x1 (ix5 b h m Q y)
      = (∑ d : Fin 64, val_main_v6 (F := Ideal) x0 (ix5 b (tok Q) h m d) * val_main_v10 (F := Ideal) x1 (ix5 b y h m d)) * Ideal.ofBits .f32 0x3E000000#32 := by
    pointwise [val_main_v41, val_main_v39, val_main_v40, val_main_cst_2, val_main_v37]
  rw [e, Finset.sum_congr rfl fun d _ => mul_comm _ _]
  have hk : khead (2 * h.val + m.val) = 2 * h.val + m.val := if_pos (by omega)
  exact score_real x0 x1 x2 hr b _ _ y (by omega) (fun d => query_diff x0 b (tok Q) h m d)
    (fun d => (key_diff x1 b y h m d).trans (congrArg (fun z => x1 (ix3 b _ z)) (Fin.ext (by dsimp only; rw [hk]))))

/-- The largest score of a row. -/
theorem top_diff (b : Fin 32) (h : Fin 4) (m : Fin 2) (Q : Fin 2048) :
    val_main_v44 (F := Ideal) x0 x1 (ix4 b h m Q) = top fun y : Fin 2304 => val_main_v41 (F := Ideal) x0 x1 (ix5 b h m Q y) := by
  have e : val_main_v42 (F := Ideal) x0 x1 (ix4 b h m Q)
      = Finset.fold max (Ideal.ofBits .f32 0xFF800000#32) (fun y : Fin 2304 => val_main_v41 (F := Ideal) x0 x1 (ix5 b h m Q y)) Finset.univ := by
    pointwise [val_main_v42, val_main_cst_3]
  rw [val_main_v44_apply, e, val_main_v43_apply]
  rfl

/-- A weight. -/
theorem soft_diff (hr : Reals x0 x1 x2) (b : Fin 32) (h : Fin 4) (m : Fin 2) (Q : Fin 2048) (y : Fin 2304) :
    val_main_v52 (F := Ideal) x0 x1 (ix5 b h m Q y) = (soft (nat x0 x1 b (2 * h.val + m.val) Q) y : EReal) := by
  have e8 : ∀ x : Fin 2304, val_main_v48 (F := Ideal) x0 x1 (ix5 b h m Q x)
      = Ideal.exp (val_main_v41 (F := Ideal) x0 x1 (ix5 b h m Q x) - val_main_v44 (F := Ideal) x0 x1 (ix4 b h m Q)) := fun x => by
    pointwise [val_main_v48, val_main_v47, val_main_v46, val_main_v45]
  have e9 : val_main_v49 (F := Ideal) x0 x1 (ix4 b h m Q)
      = Ideal.ofBits .f32 0#32 + ∑ x : Fin 2304, val_main_v48 (F := Ideal) x0 x1 (ix5 b h m Q x) := by
    pointwise [val_main_v49, val_main_cst_5]
  have e : val_main_v52 (F := Ideal) x0 x1 (ix5 b h m Q y)
      = Ideal.div (val_main_v48 (F := Ideal) x0 x1 (ix5 b h m Q y)) (val_main_v49 (F := Ideal) x0 x1 (ix4 b h m Q)) := by
    pointwise [val_main_v52, val_main_v51, val_main_v50]
  rw [e, e9, Finset.sum_congr rfl fun x _ => e8 x, e8, top_diff]
  exact soft_read (by omega) (fun x => score_diff hr b h m Q x) y

/-- The first map less the weighted second one, summed against the values. -/
theorem out_diff (hr : Reals x0 x1 x2) {L : ℝ} (hL : lamOf x3 = (L : EReal)) (b : Fin 32) (h : Fin 4) (Q : Fin 2048) (e : Fin 128) :
    val_main_v61 (F := Ideal) x0 x1 x2 x3 (ix4 b Q h e)
      = (rat x0 x1 x2 b (2 * h.val) e.val Q : EReal) - lamOf x3 * (rat x0 x1 x2 b (2 * h.val + 1) e.val Q : EReal) := by
  have p1 : ∀ x : Fin 2304, val_main_v54 (F := Ideal) x0 x1 (ix4 b h Q x) = val_main_v52 (F := Ideal) x0 x1 (ix5 b h 0 Q x) := fun x => by
    pointwise [val_main_v54, val_main_v53]
  have p2 : ∀ x : Fin 2304, val_main_v56 (F := Ideal) x0 x1 (ix4 b h Q x) = val_main_v52 (F := Ideal) x0 x1 (ix5 b h 1 Q x) := fun x => by
    pointwise [val_main_v56, val_main_v55]
  have p3 : ∀ x : Fin 2304, val_main_v57 (F := Ideal) x3 (ix4 b h Q x) = lamOf x3 := fun x => by
    rw [val_main_v57_apply, ← lam_read]
    exact congrArg _ (funext fun a => a.elim0)
  have p : ∀ x : Fin 2304, val_main_v59 (F := Ideal) x0 x1 x3 (ix4 b h Q x)
      = val_main_v52 (F := Ideal) x0 x1 (ix5 b h 0 Q x) - lamOf x3 * val_main_v52 (F := Ideal) x0 x1 (ix5 b h 1 Q x) := fun x => by
    rw [val_main_v59_apply, val_main_v58_apply, p1, p2, p3]
    rfl
  have s : val_main_v61 (F := Ideal) x0 x1 x2 x3 (ix4 b Q h e)
      = ∑ x : Fin 2304, val_main_v14 (F := Ideal) x2 (ix4 b x h e) * val_main_v59 (F := Ideal) x0 x1 x3 (ix4 b h Q x) := by
    pointwise [val_main_v61, val_main_v60]
  rw [s, Finset.sum_congr rfl fun x _ => congrArg _ (p x)]
  refine (sum_diff_real hL (fun x => value_diff_real x0 x1 x2 hr b x h 0 e) (fun x => soft_diff hr b h 0 Q x) (fun x => soft_diff hr b h 1 Q x)).trans ?_
  have h₀ := soft_ratio (qr x0 b (tile (tok Q).val (tok Q).isLt)) (kr x1 b) (ones_vr x2 b) 9 (by rfl) (by omega : 2 * h.val < 16) e.val (col (tok Q).val).val
    (fun y : Fin 2304 => vr x2 b (y.val / 256) (vrow (2 * h.val) + e.val) (y.val % 256)) (fun y => rfl)
  have h₁ := soft_ratio (qr x0 b (tile (tok Q).val (tok Q).isLt)) (kr x1 b) (ones_vr x2 b) 9 (by rfl) (by omega : 2 * h.val + 1 < 16) e.val (col (tok Q).val).val
    (fun y : Fin 2304 => vr x2 b (y.val / 256) (vrow (2 * h.val) + e.val) (y.val % 256))
    (fun y => by rw [show vrow (2 * h.val + 1) = vrow (2 * h.val) from by unfold vrow; rw [if_pos (by omega), if_pos (by omega)]; omega])
  exact congrArg₂ (fun (x y : ℝ) => (x : EReal) - lamOf x3 * (y : EReal)) h₀ h₁

/-- The normalised and weighted rows. -/
theorem norm_diff (b : Fin 32) (h : Fin 4) (Q : Fin 2048) (e : Fin 128) :
    val_main_v76 (F := Ideal) x0 x1 x2 x3 x4 (ix4 b Q h e)
      = diffOut (fun x => val_main_v61 (F := Ideal) x0 x1 x2 x3 (ix4 b Q h x)) (x4 (ix1 e)) e := by
  have h0 : Ideal.ofBits .f32 0#32 = (0 : EReal) := by simp [Ideal.ofBits, Ideal.ieee]
  have e1 : val_main_v63 (F := Ideal) x0 x1 x2 x3 (ix3 b Q h)
      = Ideal.ofBits .f32 0#32 + ∑ x : Fin 128, val_main_v61 (F := Ideal) x0 x1 x2 x3 (ix4 b Q h x) * val_main_v61 (F := Ideal) x0 x1 x2 x3 (ix4 b Q h x) := by
    pointwise [val_main_v63, val_main_v62, val_main_cst_6]
  have e2 : val_main_v69 (F := Ideal) x0 x1 x2 x3 (ix4 b Q h 0)
      = Ideal.rsqrt (Ideal.div (val_main_v63 (F := Ideal) x0 x1 x2 x3 (ix3 b Q h)) (Ideal.ofBits .f32 0x43000000#32) + Ideal.ofBits .f32 0x358637BD#32) := by
    pointwise [val_main_v69, val_main_v68, val_main_v67, val_main_v66, val_main_v65, val_main_v64, val_main_cst_7, val_main_cst_8]
  have e3 : val_main_v76 (F := Ideal) x0 x1 x2 x3 x4 (ix4 b Q h e)
      = val_main_v61 (F := Ideal) x0 x1 x2 x3 (ix4 b Q h e) * val_main_v69 (F := Ideal) x0 x1 x2 x3 (ix4 b Q h 0) * x4 (ix1 e) * Ideal.ofBits .f32 0x3F4CCCCD#32 := by
    pointwise [val_main_v76, val_main_v75, val_main_v74, val_main_v73, val_main_v72, val_main_v71, val_main_v70, val_main_cst_9]
  rw [e3, e2, e1, h0, zero_add]
  rfl

/-! ## The grouped heads -/

/-- A score. -/
theorem score_group (hr : Reals x0 x1 x2) (b : Fin 32) (g : Fin 2) (u : Fin 4) (Q : Fin 2048) (y : Fin 2304) :
    val_main_v80 (F := Ideal) x0 x1 (ix5 b g u Q y) = (nat x0 x1 b (8 + 4 * g.val + u.val) Q y : EReal) := by
  have e : val_main_v80 (F := Ideal) x0 x1 (ix5 b g u Q y)
      = (∑ d : Fin 64, val_main_v12 (F := Ideal) x1 (ix4 b y g d) * val_main_v8 (F := Ideal) x0 (ix5 b (tok Q) g u d)) * Ideal.ofBits .f32 0x3E000000#32 := by
    pointwise [val_main_v80, val_main_v79, val_main_v78, val_main_v77, val_main_cst_10, val_main_v38]
  rw [e]
  have hk : khead (8 + 4 * g.val + u.val) = 8 + g.val := by unfold khead; rw [if_neg (by omega)]; omega
  exact score_real x0 x1 x2 hr b _ _ y (by omega) (fun d => query_group x0 b (tok Q) g u d)
    (fun d => (key_group x1 b y g d).trans (congrArg (fun z => x1 (ix3 b _ z)) (Fin.ext (by dsimp only; rw [hk]))))

/-- The largest score of a row. -/
theorem top_group (b : Fin 32) (g : Fin 2) (u : Fin 4) (Q : Fin 2048) :
    val_main_v83 (F := Ideal) x0 x1 (ix4 b g u Q) = top fun y : Fin 2304 => val_main_v80 (F := Ideal) x0 x1 (ix5 b g u Q y) := by
  have e : val_main_v81 (F := Ideal) x0 x1 (ix4 b g u Q)
      = Finset.fold max (Ideal.ofBits .f32 0xFF800000#32) (fun y : Fin 2304 => val_main_v80 (F := Ideal) x0 x1 (ix5 b g u Q y)) Finset.univ := by
    pointwise [val_main_v81, val_main_cst_11]
  rw [val_main_v83_apply, e, val_main_v82_apply]
  rfl

/-- A weight. -/
theorem soft_group (hr : Reals x0 x1 x2) (b : Fin 32) (g : Fin 2) (u : Fin 4) (Q : Fin 2048) (y : Fin 2304) :
    val_main_v91 (F := Ideal) x0 x1 (ix5 b g u Q y) = (soft (nat x0 x1 b (8 + 4 * g.val + u.val) Q) y : EReal) := by
  have e8 : ∀ x : Fin 2304, val_main_v87 (F := Ideal) x0 x1 (ix5 b g u Q x)
      = Ideal.exp (val_main_v80 (F := Ideal) x0 x1 (ix5 b g u Q x) - val_main_v83 (F := Ideal) x0 x1 (ix4 b g u Q)) := fun x => by
    pointwise [val_main_v87, val_main_v86, val_main_v85, val_main_v84]
  have e9 : val_main_v88 (F := Ideal) x0 x1 (ix4 b g u Q)
      = Ideal.ofBits .f32 0#32 + ∑ x : Fin 2304, val_main_v87 (F := Ideal) x0 x1 (ix5 b g u Q x) := by
    pointwise [val_main_v88, val_main_cst_13]
  have e : val_main_v91 (F := Ideal) x0 x1 (ix5 b g u Q y)
      = Ideal.div (val_main_v87 (F := Ideal) x0 x1 (ix5 b g u Q y)) (val_main_v88 (F := Ideal) x0 x1 (ix4 b g u Q)) := by
    pointwise [val_main_v91, val_main_v90, val_main_v89]
  rw [e, e9, Finset.sum_congr rfl fun x _ => e8 x, e8, top_group]
  exact soft_read (by omega) (fun x => score_group hr b g u Q x) y

/-- The map summed against the values. -/
theorem out_group (hr : Reals x0 x1 x2) (b : Fin 32) (g : Fin 2) (u : Fin 4) (Q : Fin 2048) (e : Fin 64) :
    val_main_v93 (F := Ideal) x0 x1 x2 (ix5 b Q g u e) = (rat x0 x1 x2 b (8 + 4 * g.val + u.val) e.val Q : EReal) := by
  have s : val_main_v93 (F := Ideal) x0 x1 x2 (ix5 b Q g u e)
      = ∑ x : Fin 2304, val_main_v16 (F := Ideal) x2 (ix4 b x g e) * val_main_v91 (F := Ideal) x0 x1 (ix5 b g u Q x) := by
    pointwise [val_main_v93, val_main_v92]
  rw [s]
  refine (sum_mul_real (fun x => value_group_real x0 x1 x2 hr b x g u e) (fun x => soft_group hr b g u Q x)).trans (congrArg _ ?_)
  exact soft_ratio (qr x0 b (tile (tok Q).val (tok Q).isLt)) (kr x1 b) (ones_vr x2 b) 9 (by rfl) (by omega : 8 + 4 * g.val + u.val < 16) e.val (col (tok Q).val).val
    (fun y : Fin 2304 => vr x2 b (y.val / 256) (vrow (8 + 4 * g.val + u.val) + e.val) (y.val % 256)) (fun y => rfl)

/-! ## The rows -/

/-- All rows of a query are the kernel's. -/
theorem rows (hr : Reals x0 x1 x2) {L : ℝ} (hL : lamOf x3 = (L : EReal)) (b : Fin 32) (Q : Fin 2048) (f : Fin 1024) :
    val_main_v96 (F := Ideal) x0 x1 x2 x3 x4 (ix3 b Q f)
      = blockOut (qr x0 b (tile (tok Q).val (tok Q).isLt)) (kr x1 b) (vr x2 b) 9 (lamOf x3) (gr x4) f.val (col (tok Q).val) := by
  have d : ∀ f : Fin 512, val_main_v94 (F := Ideal) x0 x1 x2 x3 x4 (ix3 b Q f)
      = val_main_v76 (F := Ideal) x0 x1 x2 x3 x4 (ix4 b Q ⟨f.val / 128, by omega⟩ ⟨f.val % 128, by omega⟩) := fun f => by
    pointwise [val_main_v94]
  have g : ∀ f : Fin 512, val_main_v95 (F := Ideal) x0 x1 x2 (ix3 b Q f)
      = val_main_v93 (F := Ideal) x0 x1 x2 (ix5 b Q ⟨f.val / 256, by omega⟩ ⟨f.val / 64 % 4, by omega⟩ ⟨f.val % 64, by omega⟩) := fun f => by
    pointwise [val_main_v95]
  unfold blockOut
  by_cases c : f.val < 512
  · have e : val_main_v96 (F := Ideal) x0 x1 x2 x3 x4 (ix3 b Q f) = val_main_v94 (F := Ideal) x0 x1 x2 x3 x4 (ix3 b Q ⟨f.val, c⟩) := by
      pointwise [val_main_v96]
      exact dif_pos c
    have hg : gr x4 (f.val % 128) = x4 (ix1 ⟨f.val % 128, by omega⟩) := dif_pos (by omega)
    rw [e, d, norm_diff, if_pos c, hg]
    exact congrArg (fun z => diffOut z _ _) (funext fun x => out_diff x3 hr hL b _ Q x)
  · have e : val_main_v96 (F := Ideal) x0 x1 x2 x3 x4 (ix3 b Q f) = val_main_v95 (F := Ideal) x0 x1 x2 (ix3 b Q ⟨f.val - 512, by omega⟩) := by
      pointwise [val_main_v96]
      exact dif_neg c
    rw [e, g, if_neg c, out_group hr]
    have h1 : 8 + 4 * ((f.val - 512) / 256) + (f.val - 512) / 64 % 4 = 8 + (f.val - 512) / 64 := by omega
    dsimp only
    rw [h1]

end Cert.Ref.Latent
-- ==== Proof.Ref.Context.lean ====
module

public import proofs.«01_k».proof.Proof.Ref.Tokens

@[expose] public section

set_option maxRecDepth 16384

noncomputable section

namespace Cert.Ref.Context

open Cert.ReferenceIdeal Cert.ReferenceIdeal.Read Idealize.ShloMosaic Idealize.ShloMosaic.TcCoe Idealize.SL.Sem
open Idealize.ShloMosaic.Pointwise Cert.Attn

variable {x0 : FVec Ideal S32x9x1024x256 .f32} {x1 : FVec Ideal S32x2304x640 .bf16} {x2 : FVec Ideal S32x9x640x256 .f32}
  (x3 : FVec Ideal S4x64 .f32) (x4 : FVec Ideal S128 .f32)

/-- The token of a context query. -/
abbrev tok (Q : Fin 256) : Fin 2304 := ⟨Q.val, by omega⟩
/-- The token of a key it sees. -/
abbrev key (y : Fin 256) : Fin 2304 := ⟨y.val, by omega⟩

/-- The natural score of a key in map `i`. -/
abbrev nat (x0 : FVec Ideal S32x9x1024x256 .f32) (x1 : FVec Ideal S32x2304x640 .bf16) (b : Fin 32) (i : ℕ) (Q : Fin 256) (y : Fin 256) : ℝ :=
  Real.log 2 * sc (qr x0 b (tile (tok Q).val (tok Q).isLt)) (kr x1 b) i y.val (col (tok Q).val).val

/-- Map `i`'s output row `r`, as the kernel states it. -/
abbrev rat (x0 : FVec Ideal S32x9x1024x256 .f32) (x1 : FVec Ideal S32x2304x640 .bf16) (x2 : FVec Ideal S32x9x640x256 .f32) (b : Fin 32) (i r : ℕ) (Q : Fin 256) : ℝ :=
  ratio (qr x0 b (tile (tok Q).val (tok Q).isLt)) (kr x1 b) (vr x2 b) 1 i r (col (tok Q).val).val

/-! ## The differential heads -/

/-- A score. -/
theorem score_diff (hr : Reals x0 x1 x2) (b : Fin 32) (h : Fin 4) (m : Fin 2) (Q : Fin 256) (y : Fin 256) :
    val_main_v101 (F := Ideal) x0 x1 (ix5 b h m Q y) = (nat x0 x1 b (2 * h.val + m.val) Q y : EReal) := by
  have e : val_main_v101 (F := Ideal) x0 x1 (ix5 b h m Q y)
      = (∑ d : Fin 64, val_main_v6 (F := Ideal) x0 (ix5 b (tok Q) h m d) * val_main_v10 (F := Ideal) x1 (ix5 b (key y) h m d)) * Ideal.ofBits .f32 0x3E000000#32 := by
    pointwise [val_main_v101, val_main_v99, val_main_v100, val_main_cst_14, val_main_v97, val_main_v33]
  rw [e, Finset.sum_congr rfl fun d _ => mul_comm _ _]
  have hk : khead (2 * h.val + m.val) = 2 * h.val + m.val := if_pos (by omega)
  exact score_real x0 x1 x2 hr b _ _ (key y) (by omega) (fun d => query_diff x0 b (tok Q) h m d)
    (fun d => (key_diff x1 b (key y) h m d).trans (congrArg (fun z => x1 (ix3 b _ z)) (Fin.ext (by dsimp only; rw [hk]))))

/-- The largest score of a row. -/
theorem top_diff (b : Fin 32) (h : Fin 4) (m : Fin 2) (Q : Fin 256) :
    val_main_v104 (F := Ideal) x0 x1 (ix4 b h m Q) = top fun y : Fin 256 => val_main_v101 (F := Ideal) x0 x1 (ix5 b h m Q y) := by
  have e : val_main_v102 (F := Ideal) x0 x1 (ix4 b h m Q)
      = Finset.fold max (Ideal.ofBits .f32 0xFF800000#32) (fun y : Fin 256 => val_main_v101 (F := Ideal) x0 x1 (ix5 b h m Q y)) Finset.univ := by
    pointwise [val_main_v102, val_main_cst_15]
  rw [val_main_v104_apply, e, val_main_v103_apply]
  rfl

/-- A weight. -/
theorem soft_diff (hr : Reals x0 x1 x2) (b : Fin 32) (h : Fin 4) (m : Fin 2) (Q : Fin 256) (y : Fin 256) :
    val_main_v112 (F := Ideal) x0 x1 (ix5 b h m Q y) = (soft (nat x0 x1 b (2 * h.val + m.val) Q) y : EReal) := by
  have e8 : ∀ x : Fin 256, val_main_v108 (F := Ideal) x0 x1 (ix5 b h m Q x)
      = Ideal.exp (val_main_v101 (F := Ideal) x0 x1 (ix5 b h m Q x) - val_main_v104 (F := Ideal) x0 x1 (ix4 b h m Q)) := fun x => by
    pointwise [val_main_v108, val_main_v107, val_main_v106, val_main_v105]
  have e9 : val_main_v109 (F := Ideal) x0 x1 (ix4 b h m Q)
      = Ideal.ofBits .f32 0#32 + ∑ x : Fin 256, val_main_v108 (F := Ideal) x0 x1 (ix5 b h m Q x) := by
    pointwise [val_main_v109, val_main_cst_17]
  have e : val_main_v112 (F := Ideal) x0 x1 (ix5 b h m Q y)
      = Ideal.div (val_main_v108 (F := Ideal) x0 x1 (ix5 b h m Q y)) (val_main_v109 (F := Ideal) x0 x1 (ix4 b h m Q)) := by
    pointwise [val_main_v112, val_main_v111, val_main_v110]
  rw [e, e9, Finset.sum_congr rfl fun x _ => e8 x, e8, top_diff]
  exact soft_read (by omega) (fun x => score_diff hr b h m Q x) y

/-- The first map less the weighted second one, summed against the values. -/
theorem out_diff (hr : Reals x0 x1 x2) {L : ℝ} (hL : lamOf x3 = (L : EReal)) (b : Fin 32) (h : Fin 4) (Q : Fin 256) (e : Fin 128) :
    val_main_v121 (F := Ideal) x0 x1 x2 x3 (ix4 b Q h e)
      = (rat x0 x1 x2 b (2 * h.val) e.val Q : EReal) - lamOf x3 * (rat x0 x1 x2 b (2 * h.val + 1) e.val Q : EReal) := by
  have p1 : ∀ x : Fin 256, val_main_v114 (F := Ideal) x0 x1 (ix4 b h Q x) = val_main_v112 (F := Ideal) x0 x1 (ix5 b h 0 Q x) := fun x => by
    pointwise [val_main_v114, val_main_v113]
  have p2 : ∀ x : Fin 256, val_main_v116 (F := Ideal) x0 x1 (ix4 b h Q x) = val_main_v112 (F := Ideal) x0 x1 (ix5 b h 1 Q x) := fun x => by
    pointwise [val_main_v116, val_main_v115]
  have p3 : ∀ x : Fin 256, val_main_v117 (F := Ideal) x3 (ix4 b h Q x) = lamOf x3 := fun x => by
    rw [val_main_v117_apply, ← lam_read]
    exact congrArg _ (funext fun a => a.elim0)
  have p : ∀ x : Fin 256, val_main_v119 (F := Ideal) x0 x1 x3 (ix4 b h Q x)
      = val_main_v112 (F := Ideal) x0 x1 (ix5 b h 0 Q x) - lamOf x3 * val_main_v112 (F := Ideal) x0 x1 (ix5 b h 1 Q x) := fun x => by
    rw [val_main_v119_apply, val_main_v118_apply, p1, p2, p3]
    rfl
  have s : val_main_v121 (F := Ideal) x0 x1 x2 x3 (ix4 b Q h e)
      = ∑ x : Fin 256, val_main_v14 (F := Ideal) x2 (ix4 b (key x) h e) * val_main_v119 (F := Ideal) x0 x1 x3 (ix4 b h Q x) := by
    pointwise [val_main_v121, val_main_v120, val_main_v34]
  rw [s, Finset.sum_congr rfl fun x _ => congrArg _ (p x)]
  refine (sum_diff_real hL (fun x => value_diff_real x0 x1 x2 hr b (key x) h 0 e) (fun x => soft_diff hr b h 0 Q x) (fun x => soft_diff hr b h 1 Q x)).trans ?_
  have h₀ := soft_ratio (qr x0 b (tile (tok Q).val (tok Q).isLt)) (kr x1 b) (ones_vr x2 b) 1 (by rfl) (by omega : 2 * h.val < 16) e.val (col (tok Q).val).val
    (fun y : Fin 256 => vr x2 b (y.val / 256) (vrow (2 * h.val) + e.val) (y.val % 256)) (fun y => rfl)
  have h₁ := soft_ratio (qr x0 b (tile (tok Q).val (tok Q).isLt)) (kr x1 b) (ones_vr x2 b) 1 (by rfl) (by omega : 2 * h.val + 1 < 16) e.val (col (tok Q).val).val
    (fun y : Fin 256 => vr x2 b (y.val / 256) (vrow (2 * h.val) + e.val) (y.val % 256))
    (fun y => by rw [show vrow (2 * h.val + 1) = vrow (2 * h.val) from by unfold vrow; rw [if_pos (by omega), if_pos (by omega)]; omega])
  exact congrArg₂ (fun (x y : ℝ) => (x : EReal) - lamOf x3 * (y : EReal)) h₀ h₁

/-- The normalised and weighted rows. -/
theorem norm_diff (b : Fin 32) (h : Fin 4) (Q : Fin 256) (e : Fin 128) :
    val_main_v136 (F := Ideal) x0 x1 x2 x3 x4 (ix4 b Q h e)
      = diffOut (fun x => val_main_v121 (F := Ideal) x0 x1 x2 x3 (ix4 b Q h x)) (x4 (ix1 e)) e := by
  have h0 : Ideal.ofBits .f32 0#32 = (0 : EReal) := by simp [Ideal.ofBits, Ideal.ieee]
  have e1 : val_main_v123 (F := Ideal) x0 x1 x2 x3 (ix3 b Q h)
      = Ideal.ofBits .f32 0#32 + ∑ x : Fin 128, val_main_v121 (F := Ideal) x0 x1 x2 x3 (ix4 b Q h x) * val_main_v121 (F := Ideal) x0 x1 x2 x3 (ix4 b Q h x) := by
    pointwise [val_main_v123, val_main_v122, val_main_cst_18]
  have e2 : val_main_v129 (F := Ideal) x0 x1 x2 x3 (ix4 b Q h 0)
      = Ideal.rsqrt (Ideal.div (val_main_v123 (F := Ideal) x0 x1 x2 x3 (ix3 b Q h)) (Ideal.ofBits .f32 0x43000000#32) + Ideal.ofBits .f32 0x358637BD#32) := by
    pointwise [val_main_v129, val_main_v128, val_main_v127, val_main_v126, val_main_v125, val_main_v124, val_main_cst_19, val_main_cst_20]
  have e3 : val_main_v136 (F := Ideal) x0 x1 x2 x3 x4 (ix4 b Q h e)
      = val_main_v121 (F := Ideal) x0 x1 x2 x3 (ix4 b Q h e) * val_main_v129 (F := Ideal) x0 x1 x2 x3 (ix4 b Q h 0) * x4 (ix1 e) * Ideal.ofBits .f32 0x3F4CCCCD#32 := by
    pointwise [val_main_v136, val_main_v135, val_main_v134, val_main_v133, val_main_v132, val_main_v131, val_main_v130, val_main_cst_21]
  rw [e3, e2, e1, h0, zero_add]
  rfl

/-! ## The grouped heads -/

/-- A score. -/
theorem score_group (hr : Reals x0 x1 x2) (b : Fin 32) (g : Fin 2) (u : Fin 4) (Q : Fin 256) (y : Fin 256) :
    val_main_v140 (F := Ideal) x0 x1 (ix5 b g u Q y) = (nat x0 x1 b (8 + 4 * g.val + u.val) Q y : EReal) := by
  have e : val_main_v140 (F := Ideal) x0 x1 (ix5 b g u Q y)
      = (∑ d : Fin 64, val_main_v12 (F := Ideal) x1 (ix4 b (key y) g d) * val_main_v8 (F := Ideal) x0 (ix5 b (tok Q) g u d)) * Ideal.ofBits .f32 0x3E000000#32 := by
    pointwise [val_main_v140, val_main_v139, val_main_v138, val_main_v137, val_main_cst_22, val_main_v98, val_main_v35]
  rw [e]
  have hk : khead (8 + 4 * g.val + u.val) = 8 + g.val := by unfold khead; rw [if_neg (by omega)]; omega
  exact score_real x0 x1 x2 hr b _ _ (key y) (by omega) (fun d => query_group x0 b (tok Q) g u d)
    (fun d => (key_group x1 b (key y) g d).trans (congrArg (fun z => x1 (ix3 b _ z)) (Fin.ext (by dsimp only; rw [hk]))))

/-- The largest score of a row. -/
theorem top_group (b : Fin 32) (g : Fin 2) (u : Fin 4) (Q : Fin 256) :
    val_main_v143 (F := Ideal) x0 x1 (ix4 b g u Q) = top fun y : Fin 256 => val_main_v140 (F := Ideal) x0 x1 (ix5 b g u Q y) := by
  have e : val_main_v141 (F := Ideal) x0 x1 (ix4 b g u Q)
      = Finset.fold max (Ideal.ofBits .f32 0xFF800000#32) (fun y : Fin 256 => val_main_v140 (F := Ideal) x0 x1 (ix5 b g u Q y)) Finset.univ := by
    pointwise [val_main_v141, val_main_cst_23]
  rw [val_main_v143_apply, e, val_main_v142_apply]
  rfl

/-- A weight. -/
theorem soft_group (hr : Reals x0 x1 x2) (b : Fin 32) (g : Fin 2) (u : Fin 4) (Q : Fin 256) (y : Fin 256) :
    val_main_v151 (F := Ideal) x0 x1 (ix5 b g u Q y) = (soft (nat x0 x1 b (8 + 4 * g.val + u.val) Q) y : EReal) := by
  have e8 : ∀ x : Fin 256, val_main_v147 (F := Ideal) x0 x1 (ix5 b g u Q x)
      = Ideal.exp (val_main_v140 (F := Ideal) x0 x1 (ix5 b g u Q x) - val_main_v143 (F := Ideal) x0 x1 (ix4 b g u Q)) := fun x => by
    pointwise [val_main_v147, val_main_v146, val_main_v145, val_main_v144]
  have e9 : val_main_v148 (F := Ideal) x0 x1 (ix4 b g u Q)
      = Ideal.ofBits .f32 0#32 + ∑ x : Fin 256, val_main_v147 (F := Ideal) x0 x1 (ix5 b g u Q x) := by
    pointwise [val_main_v148, val_main_cst_25]
  have e : val_main_v151 (F := Ideal) x0 x1 (ix5 b g u Q y)
      = Ideal.div (val_main_v147 (F := Ideal) x0 x1 (ix5 b g u Q y)) (val_main_v148 (F := Ideal) x0 x1 (ix4 b g u Q)) := by
    pointwise [val_main_v151, val_main_v150, val_main_v149]
  rw [e, e9, Finset.sum_congr rfl fun x _ => e8 x, e8, top_group]
  exact soft_read (by omega) (fun x => score_group hr b g u Q x) y

/-- The map summed against the values. -/
theorem out_group (hr : Reals x0 x1 x2) (b : Fin 32) (g : Fin 2) (u : Fin 4) (Q : Fin 256) (e : Fin 64) :
    val_main_v153 (F := Ideal) x0 x1 x2 (ix5 b Q g u e) = (rat x0 x1 x2 b (8 + 4 * g.val + u.val) e.val Q : EReal) := by
  have s : val_main_v153 (F := Ideal) x0 x1 x2 (ix5 b Q g u e)
      = ∑ x : Fin 256, val_main_v16 (F := Ideal) x2 (ix4 b (key x) g e) * val_main_v151 (F := Ideal) x0 x1 (ix5 b g u Q x) := by
    pointwise [val_main_v153, val_main_v152, val_main_v36]
  rw [s]
  refine (sum_mul_real (fun x => value_group_real x0 x1 x2 hr b (key x) g u e) (fun x => soft_group hr b g u Q x)).trans (congrArg _ ?_)
  exact soft_ratio (qr x0 b (tile (tok Q).val (tok Q).isLt)) (kr x1 b) (ones_vr x2 b) 1 (by rfl) (by omega : 8 + 4 * g.val + u.val < 16) e.val (col (tok Q).val).val
    (fun y : Fin 256 => vr x2 b (y.val / 256) (vrow (8 + 4 * g.val + u.val) + e.val) (y.val % 256)) (fun y => rfl)

/-! ## The rows -/

/-- All rows of a query are the kernel's. -/
theorem rows (hr : Reals x0 x1 x2) {L : ℝ} (hL : lamOf x3 = (L : EReal)) (b : Fin 32) (Q : Fin 256) (f : Fin 1024) :
    val_main_v156 (F := Ideal) x0 x1 x2 x3 x4 (ix3 b Q f)
      = blockOut (qr x0 b (tile (tok Q).val (tok Q).isLt)) (kr x1 b) (vr x2 b) 1 (lamOf x3) (gr x4) f.val (col (tok Q).val) := by
  have d : ∀ f : Fin 512, val_main_v154 (F := Ideal) x0 x1 x2 x3 x4 (ix3 b Q f)
      = val_main_v136 (F := Ideal) x0 x1 x2 x3 x4 (ix4 b Q ⟨f.val / 128, by omega⟩ ⟨f.val % 128, by omega⟩) := fun f => by
    pointwise [val_main_v154]
  have g : ∀ f : Fin 512, val_main_v155 (F := Ideal) x0 x1 x2 (ix3 b Q f)
      = val_main_v153 (F := Ideal) x0 x1 x2 (ix5 b Q ⟨f.val / 256, by omega⟩ ⟨f.val / 64 % 4, by omega⟩ ⟨f.val % 64, by omega⟩) := fun f => by
    pointwise [val_main_v155]
  unfold blockOut
  by_cases c : f.val < 512
  · have e : val_main_v156 (F := Ideal) x0 x1 x2 x3 x4 (ix3 b Q f) = val_main_v154 (F := Ideal) x0 x1 x2 x3 x4 (ix3 b Q ⟨f.val, c⟩) := by
      pointwise [val_main_v156]
      exact dif_pos c
    have hg : gr x4 (f.val % 128) = x4 (ix1 ⟨f.val % 128, by omega⟩) := dif_pos (by omega)
    rw [e, d, norm_diff, if_pos c, hg]
    exact congrArg (fun z => diffOut z _ _) (funext fun x => out_diff x3 hr hL b _ Q x)
  · have e : val_main_v156 (F := Ideal) x0 x1 x2 x3 x4 (ix3 b Q f) = val_main_v155 (F := Ideal) x0 x1 x2 (ix3 b Q ⟨f.val - 512, by omega⟩) := by
      pointwise [val_main_v156]
      exact dif_neg c
    rw [e, g, if_neg c, out_group hr]
    have h1 : 8 + 4 * ((f.val - 512) / 256) + (f.val - 512) / 64 % 4 = 8 + (f.val - 512) / 64 := by omega
    dsimp only
    rw [h1]

end Cert.Ref.Context
-- ==== Proof.Ref.Result.lean ====
module

public import proofs.«01_k».proof.Proof.Ref.Latent
public import proofs.«01_k».proof.Proof.Ref.Context

@[expose] public section

set_option maxRecDepth 16384

noncomputable section

namespace Cert.Ref

open Cert.ReferenceIdeal Cert.ReferenceIdeal.Read Idealize.ShloMosaic Idealize.ShloMosaic.TcCoe Idealize.SL.Sem
open Idealize.ShloMosaic.Pointwise Cert.Attn

variable {x0 : FVec Ideal S32x9x1024x256 .f32} {x1 : FVec Ideal S32x2304x640 .bf16} {x2 : FVec Ideal S32x9x640x256 .f32}
  (x3 : FVec Ideal S4x64 .f32) (x4 : FVec Ideal S128 .f32)

/-- The result's tiles hold the tokens. -/
theorem tiles (b : Fin 32) (t : Fin 9) (r : Fin 1024) (j : Fin 256) :
    val_main_v160 (F := Ideal) x0 x1 x2 x3 x4 (ix4 b t r j) = val_main_v157 (F := Ideal) x0 x1 x2 x3 x4 (ix3 b ⟨t.val * 256 + j.val, by omega⟩ r) := by
  have e : val_main_v159 (F := Ideal) x0 x1 x2 x3 x4 (ix4 b t r j) = val_main_v158 (F := Ideal) x0 x1 x2 x3 x4 (ix4 b t j r) := by
    rw [val_main_v159_apply]
    exact congrArg _ (funext fun a => match a with
      | ⟨0, _⟩ => rfl
      | ⟨1, _⟩ => rfl
      | ⟨2, _⟩ => rfl
      | ⟨3, _⟩ => rfl)
  have e' : val_main_v158 (F := Ideal) x0 x1 x2 x3 x4 (ix4 b t j r) = val_main_v157 (F := Ideal) x0 x1 x2 x3 x4 (ix3 b ⟨t.val * 256 + j.val, by omega⟩ r) := by
    pointwise [val_main_v158]
  rw [val_main_v160_apply, Ideal.truncf_def, e, e']

/-- The first 256 tokens are the context. -/
theorem first_tokens (b : Fin 32) (y : Fin 2304) (r : Fin 1024) (j : Fin 256) (h : y.val = j.val) :
    val_main_v157 (F := Ideal) x0 x1 x2 x3 x4 (ix3 b y r) = val_main_v156 (F := Ideal) x0 x1 x2 x3 x4 (ix3 b j r) := by
  have e : y = ⟨j.val, by omega⟩ := Fin.ext h
  rw [e]
  pointwise [val_main_v157]

/-- The others are the latent ones. -/
theorem other_tokens (b : Fin 32) (y : Fin 2304) (r : Fin 1024) (Q : Fin 2048) (h : y.val = 256 + Q.val) :
    val_main_v157 (F := Ideal) x0 x1 x2 x3 x4 (ix3 b y r) = val_main_v96 (F := Ideal) x0 x1 x2 x3 x4 (ix3 b Q r) := by
  have c : ¬ y.val < 256 := by omega
  have e : Q = ⟨y.val - 256, by omega⟩ := Fin.ext (by dsimp only; omega)
  rw [e]
  pointwise [val_main_v157]
  exact dif_neg c

/-- The reference's result, read at an index, is the kernel's. -/
theorem result (hr : Reals x0 x1 x2) {L : ℝ} (hL : lamOf x3 = (L : EReal)) (b : Fin 32) (t : Fin 9) (r : Fin 1024) (j : Fin 256) :
    val_main_v160 (F := Ideal) x0 x1 x2 x3 x4 (ix4 b t r j)
      = blockOut (qr x0 b t) (kr x1 b) (vr x2 b) (if t.val = 0 then 1 else 9) (lamOf x3) (gr x4) r.val j := by
  rw [tiles]
  by_cases c : t.val = 0
  · have h1 : tile (Context.tok j).val (Context.tok j).isLt = t := Fin.ext (by dsimp only; omega)
    have h2 : col (Context.tok j).val = j := Fin.ext (by dsimp only; omega)
    rw [first_tokens x3 x4 b _ r j (by dsimp only; omega), Context.rows x3 x4 hr hL, if_pos c, h1, h2]
  · obtain ⟨Q, hQ⟩ : ∃ Q : Fin 2048, t.val * 256 + j.val = 256 + Q.val := ⟨⟨t.val * 256 + j.val - 256, by omega⟩, by dsimp only; omega⟩
    have h1 : tile (Latent.tok Q).val (Latent.tok Q).isLt = t := Fin.ext (by dsimp only; omega)
    have h2 : col (Latent.tok Q).val = j := Fin.ext (by dsimp only; omega)
    rw [other_tokens x3 x4 b _ r Q hQ, Latent.rows x3 x4 hr hL, if_neg c, h1, h2]

end Cert.Ref
-- ==== Proof.Ref.Finite.lean ====
module

public import proofs.«01_k».proof.Proof.Gen.Pre_finite
public import proofs.«01_k».proof.Proof.Attn.Array
public import proofs.«01_k».proof.Proof.Ref.Soft

@[expose] public section

set_option maxRecDepth 16384

noncomputable section

namespace Cert.Ref

open Cert.KernelIdeal Idealize.ShloMosaic Idealize.ShloMosaic.TcCoe Idealize.SL.Sem Idealize.ShloMosaic.Pointwise Cert.Attn

/-- A number whose absolute value is below infinity is real. -/
theorem real_of_lt (x : EReal) (h : Ideal.cmp .olt (max x (-x)) (Ideal.ofBits .f32 0x7F800000#32) = 1#1) : (x.toReal : EReal) = x := by
  have hi : Ideal.ofBits .f32 0x7F800000#32 = (⊤ : EReal) := by simp [Ideal.ofBits, Ideal.ieee]
  rw [hi] at h
  have hlt : max x (-x) < ⊤ := by
    by_contra hn
    have : Ideal.cmp .olt (max x (-x)) ⊤ = 0#1 := by simp only [Ideal.cmp, decide_eq_false hn]; rfl
    rw [this] at h
    exact absurd h (by decide)
  have h1 := (max_lt_iff.mp hlt).1
  have h2 := (max_lt_iff.mp hlt).2
  refine EReal.coe_toReal h1.ne ?_
  rintro rfl
  exact absurd h2 (by simp)

variable {x0 : FVec Ideal S32x9x1024x256 .f32} {x1 : FVec Ideal S32x2304x640 .bf16} {x2 : FVec Ideal S32x9x640x256 .f32}
  {x3 : FVec Ideal S4x64 .f32} {x4 : FVec Ideal S128 .f32}

/-- Under the precondition the queries, keys and values are real. -/
theorem reals (h0 : (Cert.Pre_finite.fn (F := Ideal) x0 x1 x2 x3 x4).1 = fun _ => 1#1)
    (h1 : (Cert.Pre_finite.fn (F := Ideal) x0 x1 x2 x3 x4).2.1 = fun _ => 1#1)
    (h2 : (Cert.Pre_finite.fn (F := Ideal) x0 x1 x2 x3 x4).2.2.1 = fun _ => 1#1) : Reals x0 x1 x2 where
  hq i := real_of_lt _ (congrFun h0 i)
  hk i := real_of_lt _ (congrFun h1 i)
  hv i := real_of_lt _ (congrFun h2 i)

/-- Under the precondition the weight of the second map is real. -/
theorem lam_real (h3 : (Cert.Pre_finite.fn (F := Ideal) x0 x1 x2 x3 x4).2.2.2 = fun _ => 1#1) : ∃ L : ℝ, lamOf x3 = (L : EReal) := by
  have hr : ∀ i, ((x3 i : EReal).toReal : EReal) = x3 i := fun i => real_of_lt _ (congrFun h3 i)
  have hs : ∀ a b : Fin 4, ∑ x : Fin 64, x3 (ix2 a x) * x3 (ix2 b x)
      = ((∑ x : Fin 64, (x3 (ix2 a x) : EReal).toReal * (x3 (ix2 b x) : EReal).toReal : ℝ) : EReal) := fun a b =>
    sum_mul_real (fun x => (hr _).symm) (fun x => (hr _).symm)
  have hl : ∃ l : ℝ, Ideal.ofBits .f32 0x3E4CCCCD#32 = (l : EReal) := ⟨_, by simp [Ideal.ofBits, Ideal.ieee]; exact (EReal.coe_mul _ _).symm⟩
  obtain ⟨l, hl⟩ := hl
  unfold lamOf
  rw [hs, hs, Ideal.exp_coe, Ideal.exp_coe, hl, ← EReal.coe_sub, ← EReal.coe_add]
  exact ⟨_, rfl⟩

end Cert.Ref
-- ==== Proof.Ref.Equation.lean ====
module

public import proofs.«01_k».proof.Proof.Ref.Result
public import proofs.«01_k».proof.Proof.Ref.Finite
public import proofs.«01_k».proof.Proof.Attn.Array
public import proofs.«01_k».proof.Proof.Gen.ReferenceIdeal.Run

@[expose] public section

set_option maxRecDepth 16384

noncomputable section

namespace Cert.Ref

open Idealize.ShloMosaic Idealize.ShloMosaic.TcCoe Idealize.SL.Sem Idealize.ShloMosaic.Pointwise Cert.Attn

/-- The reference's whole result is the array the kernel leaves. -/
theorem result_eq {x0 : FVec Ideal Cert.ReferenceIdeal.S32x9x1024x256 .f32} {x1 : FVec Ideal Cert.ReferenceIdeal.S32x2304x640 .bf16}
    {x2 : FVec Ideal Cert.ReferenceIdeal.S32x9x640x256 .f32} (x3 : FVec Ideal Cert.ReferenceIdeal.S4x64 .f32) (x4 : FVec Ideal Cert.ReferenceIdeal.S128 .f32)
    (hr : Reals x0 x1 x2) {L : ℝ} (hL : lamOf x3 = (L : EReal)) :
    Cert.ReferenceIdeal.Read.val_main_v160 (F := Ideal) x0 x1 x2 x3 x4
      = fun i : Cert.ReferenceIdeal.S32x9x1024x256.Idx =>
        blockOut (qr x0 (i 0) (i 1)) (kr x1 (i 0)) (vr x2 (i 0)) (if (i 1).val = 0 then 1 else 9) (lamOf x3) (gr x4) (i 2).val (i 3) := by
  funext i
  have hi : i = ix4 (i 0) (i 1) (i 2) (i 3) := funext fun a => match a with
    | ⟨0, _⟩ => rfl
    | ⟨1, _⟩ => rfl
    | ⟨2, _⟩ => rfl
    | ⟨3, _⟩ => rfl
  exact (congrArg _ hi).trans (result x3 x4 hr hL (i 0) (i 1) (i 2) (i 3))

end Cert.Ref
-- ==== Proof.Claims.lean ====
module

public import proofs.«01_k».proof.Defs
public import proofs.«01_k».proof.Proof.Ref.Equation
public import proofs.«01_k».proof.Proof.Gen.Kernel.Frame
public import proofs.«01_k».proof.Proof.Gen.KernelIdeal.Frame

@[expose] public section

noncomputable section

namespace Cert.Proof.AttnClaims

open Idealize.ShloMosaic Idealize.ShloMosaic.TcCoe Idealize.SL.Sem

/-- The kernel runs, with its arguments unchanged. -/
theorem frame_p : Cert.quiescent_Kernel := fun m ρ _ => Cert.Kernel.Gen.frame m ρ
/-- So does it over the reals, -/
theorem frame_pi : Cert.quiescent_KernelIdeal := fun m ρ _ => Cert.KernelIdeal.Gen.frame m ρ
/-- and under the precondition. -/
theorem frame_pi_finite : Cert.quiescent_KernelIdeal_pre_finite := fun m ρ _ => Cert.KernelIdeal.Gen.frame m ρ
/-- The reference runs, with its arguments unchanged, -/
theorem frame_ri : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)
/-- and under the precondition. -/
theorem frame_ri_finite : Cert.quiescent_ReferenceIdeal_pre_finite := fun m ρ _ => frame_ri m ρ trivial

/-- The constant the ideal kernel names is the one the kernel writes. -/
theorem preserves : Cert.preserves_Kernel_KernelIdeal :=
  IdealRules.named_const.statement Cert.KernelIdeal.κ "qscale" .f32 0x3E38AA3B#32 ((8⁻¹ * (Real.log 2)⁻¹ : ℝ) : EReal) rfl

/-- Over the reals the kernel and the reference end with one result. -/
theorem algebraic : Cert.algebraic_KernelIdeal_ReferenceIdeal_pre_finite := by
  intro m ρ m' ρ' hpre hagree
  have hr : ∀ c, Cert.Attn.Reals (Cert.Attn.A0 m c) (Cert.Attn.A1 m c) (Cert.Attn.A2 m c) := fun c =>
    Cert.Ref.reals (hpre c).1 (hpre c).2.1 (hpre c).2.2.1
  refine ⟨fun c => fun i : Cert.KernelIdeal.S32x9x1024x256.Idx => Cert.Attn.attnOut m c (i 0) (i 1) (i 2).val (i 3), ?_, ?_⟩
  · exact (θ_run Cert.KernelIdeal.defs _ _).mono (fun r h c => ⟨(h c).1.trans (Cert.Attn.result_eq m c (hr c)), (h c).2⟩)
      (Cert.KernelIdeal.Value.run_blocks m ρ)
  · refine (θ_run Cert.ReferenceIdeal.defs _ _).mono (fun r h c => ⟨(h c).1.trans ?_, (h c).2⟩) (Cert.ReferenceIdeal.Value.run (F := Ideal) m' ρ')
    obtain ⟨L, hL⟩ := Cert.Ref.lam_real (hpre c).2.2.2
    obtain ⟨e0, e1, e2, e3, e4⟩ := hagree c
    refine (Cert.ReferenceIdeal.Read.val_main_v160_eq (StableHlo.launchContents m' c)).trans ?_
    show Cert.ReferenceIdeal.Read.val_main_v160 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) = _
    rw [e0, e1, e2, e3, e4]
    exact Cert.Ref.result_eq (Cert.Attn.A3 m c) (Cert.Attn.A4 m c) (hr c) hL

end Cert.Proof.AttnClaims
-- ==== Proof.Ffn.Row.lean ====
/- The end of a layer for one token: the residual sum of the mixer's result, the modulated norm, the gated feed-forward part and its
   residual sum. -/
module

public import Idealize.ShloMosaic.PureOps.Ideal

@[expose] public section

noncomputable section

namespace Cert.Ffn

open Idealize.ShloMosaic

/-- A row divided by its root mean square, weighted. -/
def rms (x g : Fin 1024 → EReal) (k : Fin 1024) : EReal :=
  x k * Ideal.rsqrt (Ideal.div (∑ j, x j * x j) (Ideal.ofBits .f32 0x44800000#32) + Ideal.ofBits .f32 0x358637BD#32) * g k

/-- A row plus a gated, normed row. -/
def resid (x y gt g : Fin 1024 → EReal) (k : Fin 1024) : EReal := x k + gt k * rms y g k

/-- A normed row, scaled and shifted. -/
def hid (x sh sc g : Fin 1024 → EReal) (k : Fin 1024) : EReal := rms x g k * (Ideal.ofBits .f32 0x3F800000#32 + sc k) + sh k

/-- The product of a row with a column. -/
def dot {n : ℕ} (h w : Fin n → EReal) : EReal := ∑ k, h k * w k

/-- One hidden unit: the gate's product through the silu, times the other. -/
def unit (h wg wu : Fin 1024 → EReal) : EReal := dot h wg * Ideal.logistic (dot h wg) * dot h wu

/-- What a token's row meets: its modulation, the norms' weights and the two weight matrices. -/
structure Par where
  md : Fin 6 → Fin 1024 → EReal
  g : Fin 4 → Fin 1024 → EReal
  wgu : Fin 1024 → Fin 5632 → EReal
  wd : Fin 2816 → Fin 1024 → EReal

variable (P : Par) (x y : Fin 1024 → EReal)

/-- The row after the mixer. -/
def mid : Fin 1024 → EReal := resid x y (P.md 2) (P.g 1)

/-- What the feed-forward part reads. -/
def hidden : Fin 1024 → EReal := hid (mid P x y) (P.md 3) (P.md 4) (P.g 2)

/-- Its hidden units. -/
def acts (j : Fin 2816) : EReal :=
  unit (hidden P x y) (fun k => P.wgu k ⟨j.val, by omega⟩) (fun k => P.wgu k ⟨2816 + j.val, by omega⟩)

/-- The row after the layer. -/
def out : Fin 1024 → EReal :=
  resid (mid P x y) (fun k => dot (acts P x y) (fun j => P.wd j k)) (P.md 5) (P.g 3)

end Cert.Ffn
-- ==== Proof.Ffn.Pays.lean ====
/- What the feed-forward kernel computes from one tile's blocks, value by value. -/
module

public import proofs.«01_k».proof.Proof.Ffn.Row
public import proofs.«01_k».proof.Proof.Gen.Kernel2Ideal.Skeleton
public import Idealize.ShloMosaic.Lib.Pointwise

@[expose] public section

set_option maxRecDepth 16384

noncomputable section

namespace Cert.Ffn

open Cert.Kernel2Ideal Cert.Kernel2Ideal.Gen Idealize.ShloMosaic Idealize.ShloMosaic.Pointwise

variable (G : Vec Ideal S4x1024 .f32) (M : Vec Ideal S1x1x6x1024 .f32) (X : Vec Ideal S1x256x1024 .f32) (Y : FVec Ideal S256x1024 .f32)

/-- The out-projection of a tile stored feature-major. -/
theorem proj_apply (O : Vec Ideal S1x1x1024x256 .bf16) (W : Vec Ideal S1024x1024 .bf16) (r : Fin 256) (k : Fin 1024) :
    k0_pay2 (F := Ideal) O W (ix2 r k) = dot (fun j => O (ix4 0 0 j r)) (fun j => W (ix2 j k)) := by
  unfold dot
  pointwise [k0_pay2]

/-- The rows after the mixer, -/
theorem mid_apply (r : Fin 256) (k : Fin 1024) :
    k0_pay25 (F := Ideal) G Y M X (ix2 r k)
      = resid (fun j => X (ix3 0 r j)) (fun j => Y (ix2 r j)) (fun j => M (ix4 0 0 2 j)) (fun j => G (ix2 1 j)) k := by
  unfold resid rms
  pointwise [k0_pay25, k0_pay24]

/-- and normed and modulated. -/
theorem hid_apply (r : Fin 256) (k : Fin 1024) :
    k0_pay26 (F := Ideal) G Y M X (ix2 r k)
      = hid (fun j => k0_pay25 (F := Ideal) G Y M X (ix2 r j)) (fun j => M (ix4 0 0 3 j)) (fun j => M (ix4 0 0 4 j)) (fun j => G (ix2 2 j)) k := by
  unfold hid rms
  pointwise [k0_pay26, k0_pay24]

/-- One chunk of hidden units. -/
theorem unit_apply (H : FVec Ideal S256x1024 .bf16) (a b : Vec Ideal S1024x256 .bf16) (r j : Fin 256) :
    k0_pay13 (F := Ideal) H a b (ix3 0 r j) = unit (fun k => H (ix2 r k)) (fun k => a (ix2 k j)) (fun k => b (ix2 k j)) := by
  unfold unit dot
  pointwise [k0_pay13]

/-- The rows after the layer. -/
theorem out_apply (V : FVec Ideal S256x1024 .f32) (A : Vec Ideal S1x256x2816 .bf16) (D : Vec Ideal S2816x1024 .bf16) (r : Fin 256) (k : Fin 1024) :
    k0_pay23 (F := Ideal) G (k0_pay3 M) V A D (ix3 0 r k)
      = resid (fun j => V (ix2 r j)) (fun j => dot (fun l => A (ix3 0 r l)) (fun l => D (ix2 l j))) (fun j => M (ix4 0 0 5 j)) (fun j => G (ix2 3 j)) k := by
  unfold resid rms dot
  pointwise [k0_pay23, k0_pay3]

end Cert.Ffn
-- ==== Proof.Ffn.Tile.lean ====
/- One tile of tokens through the kernel's values, and the buffer that holds its hidden units. -/
module

public import proofs.«01_k».proof.Proof.Ffn.Pays
public import proofs.«01_k».proof.Proof.Attn.Walk

@[expose] public section

set_option maxRecDepth 16384

noncomputable section

namespace Cert.Ffn

open Cert.Kernel2Ideal Cert.Kernel2Ideal.Gen Idealize.ShloMosaic Idealize.ShloMosaic.Pointwise

/-! ## Loads -/

section Loads

variable {sig' : RefSig} {s : Shape} {e : EltTy}

/-- A buffer loaded whole is its contents. -/
theorem whole_load {a : Memref sig' .tc .vmem s e} (h : a.IsWhole) (x : Vec Ideal s e) (o : Fin s.rank → ℕ) (ho : ∀ d, o d = 0)
    (inb : ∀ d, o d + s.size d ≤ s.size d) :
    View.readAt (Elt Ideal) a.view (Rect.unit (s := s) o s.size inb).toLoadRect (h.unread x) = x := by
  funext i
  refine (congrFun (h.read_unread x) _).trans (congrArg x (funext fun d => Fin.ext ?_))
  show o d + 1 * (i d).val = (i d).val
  rw [ho]; omega

/-- 256 columns of the first weight matrix, from column `o`. -/
abbrev wload {a : Memref sig' .tc .vmem S1024x5632 .bf16} (h : a.IsWhole) (x : Vec Ideal S1024x5632 .bf16) (o : ℕ)
    (inb : ∀ d, (![0, o] : Fin 2 → ℕ) d + S1024x256.size d ≤ S1024x5632.size d) : Vec Ideal S1024x256 .bf16 :=
  View.readAt (Elt Ideal) a.view (Rect.unit (s := S1024x5632) ![0, o] S1024x256.size inb).toLoadRect (h.unread x)

theorem wload_apply {a : Memref sig' .tc .vmem S1024x5632 .bf16} (h : a.IsWhole) (x : Vec Ideal S1024x5632 .bf16) (o : ℕ)
    (inb : ∀ d, (![0, o] : Fin 2 → ℕ) d + S1024x256.size d ≤ S1024x5632.size d) (k : Fin 1024) (j : Fin 256) (j' : Fin 5632) (hj : j'.val = o + j.val) :
    wload h x o inb (ix2 k j) = x (ix2 k j') := by
  refine (congrFun (h.read_unread x) _).trans (congrArg x (funext fun d => Fin.ext ?_))
  match d with
  | ⟨0, _⟩ => show 0 + 1 * k.val = k.val; omega
  | ⟨1, _⟩ => show o + 1 * j.val = j'.val; omega

end Loads

/-! ## The buffer of hidden units -/

section Cols

variable (m : Fin 2) (H : FVec Ideal S256x1024 .bf16) (W : Vec Ideal S1024x5632 .bf16)

/-- Hidden unit `j` of row `r`. -/
def unitAt (r : Fin 256) (j : Fin 2816) : EReal :=
  unit (fun k => H (ix2 r k)) (fun k => W (ix2 k ⟨j.val, by omega⟩)) (fun k => W (ix2 k ⟨2816 + j.val, by omega⟩))

/-- The first `b` columns of half `m` hold the hidden units. -/
def Cols (b : ℕ) (L : List (View.Piece (Elt Ideal) S2x256x2816 .bf16)) : Prop :=
  ∀ (r : Fin 256) (j : Fin 2816), j.val < b → View.canon L (ix3 m r j) = unitAt H W r j

variable {m H W}

theorem Cols.nil (L : List (View.Piece (Elt Ideal) S2x256x2816 .bf16)) : Cols m H W 0 L := fun _ _ h => absurd h (by omega)

/-- A store of the next chunk. -/
theorem Cols.chunk {sig' : RefSig} {a : Memref sig' .tc .vmem S1024x5632 .bf16} (ha : a.IsWhole) {b b' i' u : ℕ} (hi : i' = m.val) (hb : b' = b + 256)
    (hu : u = 2816 + b) (hlt : b' ≤ 2816)
    {L L' : List (View.Piece (Elt Ideal) S2x256x2816 .bf16)}
    {inb : ∀ d, (![i', 0, b] : Fin 3 → ℕ) d + S1x256x256.size d ≤ S2x256x2816.size d}
    {i1 : ∀ d, (![0, b] : Fin 2 → ℕ) d + S1024x256.size d ≤ S1024x5632.size d} {i2 : ∀ d, (![0, u] : Fin 2 → ℕ) d + S1024x256.size d ≤ S1024x5632.size d}
    (hL : L = ⟨Rect.unit (s := S2x256x2816) ![i', 0, b] S1x256x256.size inb, k0_pay13 (F := Ideal) H (wload ha W b i1) (wload ha W u i2)⟩ :: L')
    (h : Cols m H W b L') : Cols m H W b' L := by
  subst hL hi hb hu
  intro r j hj
  by_cases hjb : j.val < b
  · refine (View.canon_cons_of_not_mem _ L' ?_).trans (h r j hjb)
    intro hm
    obtain ⟨x, hx, he⟩ := (LoadRect.mem_set _).mp hm (2 : Fin 3)
    have he' : j.val = b + 1 * x := he
    omega
  · have hlt' : j.val - b < 256 := by omega
    have he : (Rect.unit (s := S2x256x2816) ![m.val, 0, b] S1x256x256.size inb).emb (ix3 (0 : Fin 1) r (⟨j.val - b, hlt'⟩ : Fin 256)) = ix3 m r j := by
      funext d; apply Fin.ext
      match d with
      | ⟨0, _⟩ => show m.val + 1 * 0 = m.val; omega
      | ⟨1, _⟩ => show 0 + 1 * r.val = r.val; omega
      | ⟨2, _⟩ => show b + 1 * (j.val - b) = j.val; omega
    rw [← he]
    refine (View.canon_cons_emb (Rect.unit (s := S2x256x2816) ![m.val, 0, b] S1x256x256.size inb) _ L' _).trans ?_
    refine (unit_apply H _ _ r ⟨j.val - b, hlt'⟩).trans ?_
    unfold unitAt
    refine congrArg₂ (unit _) (funext fun k => ?_) (funext fun k => ?_)
    · exact wload_apply ha W b i1 k _ _ (by show j.val = b + (j.val - b); omega)
    · exact wload_apply ha W (2816 + b) i2 k _ _ (by show 2816 + j.val = 2816 + b + (j.val - b); omega)

/-- The half, loaded whole. -/
theorem Cols.load {sig' : RefSig} {a : Memref sig' .tc .vmem S2x256x2816 .bf16} {L : List (View.Piece (Elt Ideal) S2x256x2816 .bf16)} (h : Cols m H W 2816 L)
    {i' : ℕ} (hi : i' = m.val) (inb : ∀ d, (![i', 0, 0] : Fin 3 → ℕ) d + S1x256x2816.size d ≤ S2x256x2816.size d) (r : Fin 256) (j : Fin 2816) :
    a.view.readCov L (Rect.unit (s := S2x256x2816) ![i', 0, 0] S1x256x2816.size inb).toLoadRect (ix3 (0 : Fin 1) r j) = unitAt H W r j :=
  (Attn.readCov_slot a.view L i' 0 m r r j hi (by omega) inb).trans (h r j j.isLt)

end Cols

/-! ## One tile -/

/-- What the rows of a tile meet, from its blocks. -/
def parOf (M : Vec Ideal S1x1x6x1024 .f32) (G : Vec Ideal S4x1024 .f32) (W : Vec Ideal S1024x5632 .bf16) (D : Vec Ideal S2816x1024 .bf16) : Par where
  md n k := M (ix4 0 0 n k)
  g n k := G (ix2 n k)
  wgu k j := W (ix2 k j)
  wd j k := D (ix2 j k)

/-- The rows of a tile after the layer. -/
theorem tile_apply (X : Vec Ideal S1x256x1024 .f32) (Y : FVec Ideal S256x1024 .f32) (M : Vec Ideal S1x1x6x1024 .f32) (G : Vec Ideal S4x1024 .f32)
    (W : Vec Ideal S1024x5632 .bf16) (D : Vec Ideal S2816x1024 .bf16) (A : Vec Ideal S1x256x2816 .bf16)
    (hA : ∀ r j, A (ix3 0 r j) = unitAt (k0_pay26 (F := Ideal) G Y M X) W r j) (r : Fin 256) (k : Fin 1024) :
    k0_pay23 (F := Ideal) G (k0_pay3 M) (k0_pay25 G Y M X) A D (ix3 0 r k)
      = out (parOf M G W D) (fun j => X (ix3 0 r j)) (fun j => Y (ix2 r j)) k := by
  have hm : (fun j => k0_pay25 (F := Ideal) G Y M X (ix2 r j)) = mid (parOf M G W D) (fun j => X (ix3 0 r j)) (fun j => Y (ix2 r j)) :=
    funext fun j => mid_apply G M X Y r j
  have hh : (fun j => k0_pay26 (F := Ideal) G Y M X (ix2 r j)) = hidden (parOf M G W D) (fun j => X (ix3 0 r j)) (fun j => Y (ix2 r j)) := by
    funext j; rw [hid_apply, hm]; rfl
  have ha : (fun l => A (ix3 0 r l)) = acts (parOf M G W D) (fun j => X (ix3 0 r j)) (fun j => Y (ix2 r j)) := by
    funext l; rw [hA]; unfold unitAt; rw [hh]; rfl
  rw [out_apply, hm, ha]
  rfl

/-! ## The block of two tiles -/

section Halves

variable (inb0 : ∀ d, (![0, 0, 0] : Fin 3 → ℕ) d + S1x256x1024.size d ≤ S1x512x1024.size d)
  (inb1 : ∀ d, (![0, 256, 0] : Fin 3 → ℕ) d + S1x256x1024.size d ≤ S1x512x1024.size d) (p0 p1 : FVec Ideal S1x256x1024 .f32)

/-- The two stores of a block, the last one first. -/
abbrev two : List (View.Piece (Elt Ideal) S1x512x1024 .f32) :=
  [⟨Rect.unit (s := S1x512x1024) ![0, 256, 0] S1x256x1024.size inb1, p1⟩, ⟨Rect.unit (s := S1x512x1024) ![0, 0, 0] S1x256x1024.size inb0, p0⟩]

/-- The upper half of a block holds the first tile, -/
theorem two_fst (r : Fin 256) (R : Fin 512) (hR : R.val = r.val) (k : Fin 1024) : View.canon (two inb0 inb1 p0 p1) (ix3 0 R k) = p0 (ix3 0 r k) := by
  refine (View.canon_cons_of_not_mem _ _ ?_).trans ?_
  · intro hm
    obtain ⟨x, hx, he⟩ := (LoadRect.mem_set _).mp hm (1 : Fin 3)
    have he' : R.val = 256 + 1 * x := he
    omega
  · have he := Attn.slot_emb (n0 := 1) (n1 := 512) 0 0 0 r R k rfl (by omega) inb0
    rw [← he]
    exact View.canon_cons_emb _ _ _ _

/-- the lower half the second. -/
theorem two_snd (r : Fin 256) (R : Fin 512) (hR : R.val = 256 + r.val) (k : Fin 1024) :
    View.canon (two inb0 inb1 p0 p1) (ix3 0 R k) = p1 (ix3 0 r k) := by
  have he := Attn.slot_emb (n0 := 1) (n1 := 512) 0 256 0 r R k rfl (by omega) inb1
  rw [← he]
  exact View.canon_cons_emb _ _ _ _

end Halves

end Cert.Ffn
-- ==== Proof.Ffn.Block.lean ====
/- The block the kernel writes at a grid point: two tiles of tokens after the layer. -/
module

public import proofs.«01_k».proof.Proof.Gen.Kernel2Ideal.Value
public import proofs.«01_k».proof.Proof.Ffn.Tile

@[expose] public section

set_option maxRecDepth 16384

noncomputable section

namespace Cert.Ffn

open Cert.Kernel2Ideal Cert.Kernel2Ideal.Gen Idealize.ShloMosaic Idealize.ShloMosaic.Pointwise

/-! ## Blocks loaded whole -/

section Full

variable {sig' : RefSig} {e : EltTy}

/-- The whole of a matrix, -/
abbrev full2 {n0 n1 : ℕ} {a : Memref sig' .tc .vmem ⟨2, ![n0, n1]⟩ e} (h : a.IsWhole) (x : Vec Ideal ⟨2, ![n0, n1]⟩ e)
    (inb : ∀ d, (![0, 0] : Fin 2 → ℕ) d + (⟨2, ![n0, n1]⟩ : Shape).size d ≤ (⟨2, ![n0, n1]⟩ : Shape).size d) : Vec Ideal ⟨2, ![n0, n1]⟩ e :=
  View.readAt (Elt Ideal) a.view (Rect.unit (s := ⟨2, ![n0, n1]⟩) ![0, 0] (⟨2, ![n0, n1]⟩ : Shape).size inb).toLoadRect (h.unread x)

/-- of a block of rank 3, -/
abbrev full3 {n0 n1 n2 : ℕ} {a : Memref sig' .tc .vmem ⟨3, ![n0, n1, n2]⟩ e} (h : a.IsWhole) (x : Vec Ideal ⟨3, ![n0, n1, n2]⟩ e)
    (inb : ∀ d, (![0, 0, 0] : Fin 3 → ℕ) d + (⟨3, ![n0, n1, n2]⟩ : Shape).size d ≤ (⟨3, ![n0, n1, n2]⟩ : Shape).size d) : Vec Ideal ⟨3, ![n0, n1, n2]⟩ e :=
  View.readAt (Elt Ideal) a.view (Rect.unit (s := ⟨3, ![n0, n1, n2]⟩) ![0, 0, 0] (⟨3, ![n0, n1, n2]⟩ : Shape).size inb).toLoadRect (h.unread x)

/-- of a block of rank 4. -/
abbrev full4 {n0 n1 n2 n3 : ℕ} {a : Memref sig' .tc .vmem ⟨4, ![n0, n1, n2, n3]⟩ e} (h : a.IsWhole) (x : Vec Ideal ⟨4, ![n0, n1, n2, n3]⟩ e)
    (inb : ∀ d, (![0, 0, 0, 0] : Fin 4 → ℕ) d + (⟨4, ![n0, n1, n2, n3]⟩ : Shape).size d ≤ (⟨4, ![n0, n1, n2, n3]⟩ : Shape).size d) :
    Vec Ideal ⟨4, ![n0, n1, n2, n3]⟩ e :=
  View.readAt (Elt Ideal) a.view (Rect.unit (s := ⟨4, ![n0, n1, n2, n3]⟩) ![0, 0, 0, 0] (⟨4, ![n0, n1, n2, n3]⟩ : Shape).size inb).toLoadRect (h.unread x)

theorem zero2 : ∀ d, (![0, 0] : Fin 2 → ℕ) d = 0 := by decide
theorem zero3 : ∀ d, (![0, 0, 0] : Fin 3 → ℕ) d = 0 := by decide
theorem zero4 : ∀ d, (![0, 0, 0, 0] : Fin 4 → ℕ) d = 0 := by decide

theorem full2_eq {n0 n1 : ℕ} {a : Memref sig' .tc .vmem ⟨2, ![n0, n1]⟩ e} (h : a.IsWhole) (x : Vec Ideal ⟨2, ![n0, n1]⟩ e) (inb) : full2 h x inb = x :=
  whole_load h x _ zero2 inb
theorem full3_eq {n0 n1 n2 : ℕ} {a : Memref sig' .tc .vmem ⟨3, ![n0, n1, n2]⟩ e} (h : a.IsWhole) (x : Vec Ideal ⟨3, ![n0, n1, n2]⟩ e) (inb) :
    full3 h x inb = x :=
  whole_load h x _ zero3 inb
theorem full4_eq {n0 n1 n2 n3 : ℕ} {a : Memref sig' .tc .vmem ⟨4, ![n0, n1, n2, n3]⟩ e} (h : a.IsWhole) (x : Vec Ideal ⟨4, ![n0, n1, n2, n3]⟩ e) (inb) :
    full4 h x inb = x :=
  whole_load h x _ zero4 inb

end Full

/-! ## The run -/

section Run

variable {arg1 : Memref sig .tc .vmem S1x256x1024 .f32} {arg2 : Memref sig .tc .vmem S1x1x1024x256 .bf16} {arg3 : Memref sig .tc .vmem S1x1x6x1024 .f32}
  {arg4 : Memref sig .tc .vmem S1x256x1024 .f32} {arg5 : Memref sig .tc .vmem S1x1x1024x256 .bf16} {arg6 : Memref sig .tc .vmem S1x1x6x1024 .f32}
  {arg7 : Memref sig .tc .vmem S4x1024 .f32} {arg8 : Memref sig .tc .vmem S1024x1024 .bf16} {arg9 : Memref sig .tc .vmem S1024x5632 .bf16}
  {arg10 : Memref sig .tc .vmem S2816x1024 .bf16} {arg11 : Memref sig .tc .vmem S1x512x1024 .f32} {arg12 : Memref sig .tc .vmem S2x256x2816 .bf16}
  (h1 : arg1.IsWhole) (h2 : arg2.IsWhole) (h3 : arg3.IsWhole) (h4 : arg4.IsWhole) (h5 : arg5.IsWhole) (h6 : arg6.IsWhole) (h7 : arg7.IsWhole)
  (h8 : arg8.IsWhole) (h9 : arg9.IsWhole) (h10 : arg10.IsWhole) (h11 : arg11.IsWhole) (h12 : arg12.IsWhole)
  (x0 : Vec Ideal S1x256x1024 .f32) (x1 : Vec Ideal S1x1x1024x256 .bf16) (x2 : Vec Ideal S1x1x6x1024 .f32)
  (x3 : Vec Ideal S1x256x1024 .f32) (x4 : Vec Ideal S1x1x1024x256 .bf16) (x5 : Vec Ideal S1x1x6x1024 .f32)
  (x6 : Vec Ideal S4x1024 .f32) (x7 : Vec Ideal S1024x1024 .bf16) (x8 : Vec Ideal S1024x5632 .bf16) (x9 : Vec Ideal S2816x1024 .bf16)

/-- What the feed-forward part of a tile reads. -/
abbrev hidOf {a : Memref sig .tc .vmem S1x256x1024 .f32} {b : Memref sig .tc .vmem S1x1x1024x256 .bf16} {c : Memref sig .tc .vmem S1x1x6x1024 .f32}
    (ha : a.IsWhole) (hb : b.IsWhole) (hc : c.IsWhole) (x : Vec Ideal S1x256x1024 .f32) (o : Vec Ideal S1x1x1024x256 .bf16) (m : Vec Ideal S1x1x6x1024 .f32) :
    FVec Ideal S256x1024 .bf16 :=
  k0_pay26 (F := Ideal) (full2 h7 x6 inb_S4x1024_S4x1024_0_0) (k0_pay2 (full4 hb o inb_S1x1x1024x256_S1x1x1024x256_0_0_0_0) (full2 h8 x7 inb_S1024x1024_S1024x1024_0_0))
    (full4 hc m inb_S1x1x6x1024_S1x1x6x1024_0_0_0_0) (full3 ha x inb_S1x256x1024_S1x256x1024_0_0_0)

/-- The first tile's hidden units, chunk after chunk. -/
theorem cols_fst (c : Dev nD) :
    Cols 0 (hidOf h7 h8 x6 x7 h1 h2 h3 x0 x1 x2) x8 2816
      (kernelRun0_A.sl.HS0_11 (F := Ideal) c arg1 h1 arg2 h2 arg3 h3 arg7 h7 arg8 h8 arg9 h9 x0 x1 x2 x6 x7 x8) :=
  .chunk (b := 2560) h9 rfl rfl rfl (by decide) (by rfl) <| .chunk (b := 2304) h9 rfl rfl rfl (by decide) (by rfl) <|
  .chunk (b := 2048) h9 rfl rfl rfl (by decide) (by rfl) <| .chunk (b := 1792) h9 rfl rfl rfl (by decide) (by rfl) <|
  .chunk (b := 1536) h9 rfl rfl rfl (by decide) (by rfl) <| .chunk (b := 1280) h9 rfl rfl rfl (by decide) (by rfl) <|
  .chunk (b := 1024) h9 rfl rfl rfl (by decide) (by rfl) <| .chunk (b := 768) h9 rfl rfl rfl (by decide) (by rfl) <|
  .chunk (b := 512) h9 rfl rfl rfl (by decide) (by rfl) <| .chunk (b := 256) h9 rfl rfl rfl (by decide) (by rfl) <|
  .chunk (b := 0) h9 rfl rfl rfl (by decide) (by rfl) (.nil _)

/-- The second tile's hidden units, loaded. -/
theorem load_snd (c : Dev nD) (r : Fin 256) (j : Fin 2816) :
    kernelRun0_A.sl.v367 (F := Ideal) c arg1 h1 arg2 h2 arg3 h3 arg4 h4 arg5 h5 arg6 h6 arg7 h7 arg8 h8 arg9 h9 arg12 x0 x1 x2 x3 x4 x5 x6 x7 x8 (ix3 0 r j)
      = unitAt (hidOf h7 h8 x6 x7 h4 h5 h6 x3 x4 x5) x8 r j := by
  unfold kernelRun0_A.sl.v367
  refine Cols.load (m := 1) (H := hidOf h7 h8 x6 x7 h4 h5 h6 x3 x4 x5) (W := x8) ?_ rfl _ r j
  exact .chunk (b := 2560) h9 rfl rfl rfl (by decide) (by rfl) <| .chunk (b := 2304) h9 rfl rfl rfl (by decide) (by rfl) <|
    .chunk (b := 2048) h9 rfl rfl rfl (by decide) (by rfl) <| .chunk (b := 1792) h9 rfl rfl rfl (by decide) (by rfl) <|
    .chunk (b := 1536) h9 rfl rfl rfl (by decide) (by rfl) <| .chunk (b := 1280) h9 rfl rfl rfl (by decide) (by rfl) <|
    .chunk (b := 1024) h9 rfl rfl rfl (by decide) (by rfl) <| .chunk (b := 768) h9 rfl rfl rfl (by decide) (by rfl) <|
    .chunk (b := 512) h9 rfl rfl rfl (by decide) (by rfl) <| .chunk (b := 256) h9 rfl rfl rfl (by decide) (by rfl) <|
    .chunk (b := 0) h9 rfl rfl rfl (by decide) (by rfl) (.nil _)

/-- A tile after the layer, from its loads. -/
abbrev tileOf {a : Memref sig .tc .vmem S1x256x1024 .f32} {b : Memref sig .tc .vmem S1x1x1024x256 .bf16} {c : Memref sig .tc .vmem S1x1x6x1024 .f32}
    (ha : a.IsWhole) (hb : b.IsWhole) (hc : c.IsWhole) (x : Vec Ideal S1x256x1024 .f32) (o : Vec Ideal S1x1x1024x256 .bf16) (m : Vec Ideal S1x1x6x1024 .f32)
    (A : Vec Ideal S1x256x2816 .bf16) : FVec Ideal S1x256x1024 .f32 :=
  k0_pay23 (F := Ideal) (full2 h7 x6 inb_S4x1024_S4x1024_0_0) (k0_pay3 (full4 hc m inb_S1x1x6x1024_S1x1x6x1024_0_0_0_0))
    (k0_pay25 (full2 h7 x6 inb_S4x1024_S4x1024_0_0)
      (k0_pay2 (full4 hb o inb_S1x1x1024x256_S1x1x1024x256_0_0_0_0) (full2 h8 x7 inb_S1024x1024_S1024x1024_0_0))
      (full4 hc m inb_S1x1x6x1024_S1x1x6x1024_0_0_0_0) (full3 ha x inb_S1x256x1024_S1x256x1024_0_0_0))
    A (full2 h10 x9 inb_S2816x1024_S2816x1024_0_0)

/-- Its row: the layer's row from the token's row and the mixer's projected row. -/
theorem tileOf_apply {a : Memref sig .tc .vmem S1x256x1024 .f32} {b : Memref sig .tc .vmem S1x1x1024x256 .bf16} {c : Memref sig .tc .vmem S1x1x6x1024 .f32}
    (ha : a.IsWhole) (hb : b.IsWhole) (hc : c.IsWhole) (x : Vec Ideal S1x256x1024 .f32) (o : Vec Ideal S1x1x1024x256 .bf16) (m : Vec Ideal S1x1x6x1024 .f32)
    (A : Vec Ideal S1x256x2816 .bf16) (hA : ∀ r j, A (ix3 0 r j) = unitAt (hidOf h7 h8 x6 x7 ha hb hc x o m) x8 r j) (r : Fin 256) (k : Fin 1024) :
    tileOf h7 h8 h10 x6 x7 x9 ha hb hc x o m A (ix3 0 r k)
      = out (parOf m x6 x8 x9) (fun j => x (ix3 0 r j)) (fun l => dot (fun j => o (ix4 0 0 j r)) (fun j => x7 (ix2 j l))) k := by
  refine (tile_apply _ _ _ _ x8 _ A hA r k).trans ?_
  rw [full2_eq h7 x6, full2_eq h10 x9, full4_eq hc m, full3_eq ha x]
  refine congrArg (fun y => out _ _ y k) (funext fun l => ?_)
  rw [proj_apply, full2_eq h8 x7, full4_eq hb o]

/-- The block's two stores. -/
theorem run_eq (c : Dev nD) (i : grid0.Coords) :
    (kernelRun0_A (F := Ideal) c i arg1 h1 arg2 h2 arg3 h3 arg4 h4 arg5 h5 arg6 h6 arg7 h7 arg8 h8 arg9 h9 arg10 h10 arg11 h11 arg12 h12 x0 x1 x2 x3 x4 x5 x6 x7 x8 x9).1
      = two inb_S1x512x1024_S1x256x1024_0_0_0 inb_S1x512x1024_S1x256x1024_0_256_0
          (tileOf h7 h8 h10 x6 x7 x9 h1 h2 h3 x0 x1 x2 (arg12.view.readCov
            (kernelRun0_A.sl.HS0_11 (F := Ideal) c arg1 h1 arg2 h2 arg3 h3 arg7 h7 arg8 h8 arg9 h9 x0 x1 x2 x6 x7 x8)
            (Rect.unit (s := S2x256x2816) ![0, 0, 0] S1x256x2816.size inb_S2x256x2816_S1x256x2816_0_0_0).toLoadRect))
          (tileOf h7 h8 h10 x6 x7 x9 h4 h5 h6 x3 x4 x5
            (kernelRun0_A.sl.v367 (F := Ideal) c arg1 h1 arg2 h2 arg3 h3 arg4 h4 arg5 h5 arg6 h6 arg7 h7 arg8 h8 arg9 h9 arg12 x0 x1 x2 x3 x4 x5 x6 x7 x8)) := by
  rfl

/-- The block's first half, -/
theorem block_fst (c : Dev nD) (i : grid0.Coords) (r : Fin 256) (R : Fin 512) (hR : R.val = r.val) (k : Fin 1024) :
    out0_A_10 (F := Ideal) c i arg1 h1 arg2 h2 arg3 h3 arg4 h4 arg5 h5 arg6 h6 arg7 h7 arg8 h8 arg9 h9 arg10 h10 arg11 h11 arg12 h12 x0 x1 x2 x3 x4 x5 x6 x7 x8 x9 (ix3 0 R k)
      = out (parOf x2 x6 x8 x9) (fun j => x0 (ix3 0 r j)) (fun l => dot (fun j => x1 (ix4 0 0 j r)) (fun j => x7 (ix2 j l))) k := by
  refine (congrFun (View.read_writes_junk_eq_canon VO0_10 _) _).trans ?_
  rw [run_eq]
  refine (two_fst _ _ _ _ r R hR k).trans (tileOf_apply h7 h8 h10 x6 x7 x8 x9 h1 h2 h3 x0 x1 x2 _ (fun r j => ?_) r k)
  exact Cols.load (cols_fst h1 h2 h3 h7 h8 h9 x0 x1 x2 x6 x7 x8 c) rfl _ r j

/-- and its second. -/
theorem block_snd (c : Dev nD) (i : grid0.Coords) (r : Fin 256) (R : Fin 512) (hR : R.val = 256 + r.val) (k : Fin 1024) :
    out0_A_10 (F := Ideal) c i arg1 h1 arg2 h2 arg3 h3 arg4 h4 arg5 h5 arg6 h6 arg7 h7 arg8 h8 arg9 h9 arg10 h10 arg11 h11 arg12 h12 x0 x1 x2 x3 x4 x5 x6 x7 x8 x9 (ix3 0 R k)
      = out (parOf x5 x6 x8 x9) (fun j => x3 (ix3 0 r j)) (fun l => dot (fun j => x4 (ix4 0 0 j r)) (fun j => x7 (ix2 j l))) k := by
  refine (congrFun (View.read_writes_junk_eq_canon VO0_10 _) _).trans ?_
  rw [run_eq]
  refine (two_snd _ _ _ _ r R hR k).trans (tileOf_apply h7 h8 h10 x6 x7 x8 x9 h4 h5 h6 x3 x4 x5 _ (fun r j => ?_) r k)
  exact load_snd h1 h2 h3 h4 h5 h6 h7 h8 h9 x0 x1 x2 x3 x4 x5 x6 x7 x8 c r j

end Run

end Cert.Ffn
-- ==== Proof.Ffn.Spec.lean ====
/- The layer's result, token by token. -/
module

public import proofs.«01_k».proof.Proof.Ffn.Tile

@[expose] public section

noncomputable section

namespace Cert.Ffn

open Cert.Kernel2Ideal Idealize.ShloMosaic Idealize.ShloMosaic.Pointwise

/-- The token at a row of the result. -/
abbrev batchOf (t : Fin 144) (R : Fin 512) : Fin 32 := ⟨(512 * t.val + R.val) / 2304, by omega⟩
abbrev tokOf (t : Fin 144) (R : Fin 512) : Fin 2304 := ⟨(512 * t.val + R.val) % 2304, by omega⟩

/-- The vectors of a token: the first 256 tokens have their own. -/
abbrev kindOf (s : Fin 2304) : Fin 2 := if s.val < 256 then 0 else 1

theorem kindOf_val (s : Fin 2304) : (kindOf s).val = min (s.val / 256) 1 := by
  show (if s.val < 256 then (0 : Fin 2) else 1).val = _
  split
  · show 0 = _; omega
  · show 1 = _; omega

variable (X : Vec Ideal S32x2304x1024 .f32) (Md : Vec Ideal S32x2x6x1024 .f32) (G : Vec Ideal S4x1024 .f32) (W : Vec Ideal S1024x5632 .bf16)
  (D : Vec Ideal S2816x1024 .bf16)

/-- What a token meets. -/
def par (b : Fin 32) (n : Fin 2) : Par where
  md i k := Md (ix4 b n i k)
  g i k := G (ix2 i k)
  wgu k j := W (ix2 k j)
  wd j k := D (ix2 j k)

/-- A token after the layer, from the mixer's projected row. -/
def token (y : Fin 1024 → EReal) (b : Fin 32) (s : Fin 2304) (k : Fin 1024) : EReal :=
  out (par Md G W D b (kindOf s)) (fun j => X (ix3 b s j)) y k

/-- The attention's output of a token, projected. -/
def projected (O : Vec Ideal S32x9x1024x256 .bf16) (Wo : Vec Ideal S1024x1024 .bf16) (b : Fin 32) (s : Fin 2304) (l : Fin 1024) : EReal :=
  dot (fun j => O (ix4 b ⟨s.val / 256, by omega⟩ j ⟨s.val % 256, by omega⟩)) (fun j => Wo (ix2 j l))

/-- The layer after the attention, at an index of its result. -/
def layer (O : Vec Ideal S32x9x1024x256 .bf16) (Wo : Vec Ideal S1024x1024 .bf16) (t : Fin 144) (R : Fin 512) (k : Fin 1024) : EReal :=
  token X Md G W D (projected O Wo (batchOf t R) (tokOf t R)) (batchOf t R) (tokOf t R) k

end Cert.Ffn
-- ==== Proof.Ffn.Array.lean ====
/- The result array of the kernel. -/
module

public import proofs.«01_k».proof.Proof.Ffn.Block
public import proofs.«01_k».proof.Proof.Ffn.Spec
public import Idealize.ShloMosaic.Lib.Pipeline.ValueKit

@[expose] public section

set_option maxRecDepth 16384

noncomputable section

namespace Cert.Ffn

open Cert.Kernel2Ideal Cert.Kernel2Ideal.Gen Idealize.ShloMosaic Idealize.ShloMosaic.TcCoe Idealize.SL.Sem
open Idealize.ShloMosaic.Pointwise

variable (m : (ℓ : Loc nD τ sig) → Buf (Elt Ideal) ℓ)

/-- Each window's block index at a point: the tokens, the mixer's output and the vectors of the first tile, -/
theorem index0 : ∀ t : Fin cfg0.N, win0_0.index t = ![2 * t.val / 9, 2 * t.val % 9, 0] := (by decide +kernel : ∀ t : Fin grid0.N, _)
theorem index1 : ∀ t : Fin cfg0.N, win0_1.index t = ![2 * t.val / 9, 2 * t.val % 9, 0, 0] := (by decide +kernel : ∀ t : Fin grid0.N, _)
theorem index2 : ∀ t : Fin cfg0.N, win0_2.index t = ![2 * t.val / 9, min (2 * t.val % 9) 1, 0, 0] := (by decide +kernel : ∀ t : Fin grid0.N, _)
/-- those of the second, -/
theorem index3 : ∀ t : Fin cfg0.N, win0_3.index t = ![(2 * t.val + 1) / 9, (2 * t.val + 1) % 9, 0] := (by decide +kernel : ∀ t : Fin grid0.N, _)
theorem index4 : ∀ t : Fin cfg0.N, win0_4.index t = ![(2 * t.val + 1) / 9, (2 * t.val + 1) % 9, 0, 0] := (by decide +kernel : ∀ t : Fin grid0.N, _)
theorem index5 : ∀ t : Fin cfg0.N, win0_5.index t = ![(2 * t.val + 1) / 9, min ((2 * t.val + 1) % 9) 1, 0, 0] :=
  (by decide +kernel : ∀ t : Fin grid0.N, _)
/-- the weights, and the result. -/
theorem index6 : ∀ t : Fin cfg0.N, win0_6.index t = ![0, 0] := (by decide +kernel : ∀ t : Fin grid0.N, _)
theorem index7 : ∀ t : Fin cfg0.N, win0_7.index t = ![0, 0] := (by decide +kernel : ∀ t : Fin grid0.N, _)
theorem index8 : ∀ t : Fin cfg0.N, win0_8.index t = ![0, 0] := (by decide +kernel : ∀ t : Fin grid0.N, _)
theorem index9 : ∀ t : Fin cfg0.N, win0_9.index t = ![0, 0] := (by decide +kernel : ∀ t : Fin grid0.N, _)
theorem index10 : ∀ t : Fin cfg0.N, win0_10.index t = ![t.val, 0, 0] := (by decide +kernel : ∀ t : Fin grid0.N, _)

/-- The grid has 144 points. -/
theorem lt_grid (t : Fin cfg0.N) : t.val < 144 := by have h : cfg0.N = 144 := N_0; have := t.isLt; omega

/-- A point, as a number. -/
abbrev ptOf (t : Fin cfg0.N) : Fin 144 := ⟨t.val, lt_grid t⟩

variable (c : Dev nD) (t : Fin cfg0.N)

/-- The arguments of a device. -/
abbrev aX : FVec Ideal S32x2304x1024 .f32 := m ((c : Thread nD τ).loc main_arg0)
abbrev aO : FVec Ideal S32x9x1024x256 .bf16 := m ((c : Thread nD τ).loc main_arg1)
abbrev aM : FVec Ideal S32x2x6x1024 .f32 := m ((c : Thread nD τ).loc main_arg2)
abbrev aG : FVec Ideal S4x1024 .f32 := m ((c : Thread nD τ).loc main_arg3)
abbrev aP : FVec Ideal S1024x1024 .bf16 := m ((c : Thread nD τ).loc main_arg4)
abbrev aW : FVec Ideal S1024x5632 .bf16 := m ((c : Thread nD τ).loc main_arg5)
abbrev aD : FVec Ideal S2816x1024 .bf16 := m ((c : Thread nD τ).loc main_arg6)

/-- The blocks a point reads: the tokens of its first tile, -/
theorem iblk0 (r : Fin 256) (j : Fin 1024) (b : Fin 32) (s : Fin 2304) (hb : b.val = 2 * t.val / 9) (hs : s.val = 256 * (2 * t.val % 9) + r.val) :
    iblk m c 0 t (ix3 0 r j) = aX m c (ix3 b s j) := by
  blk_simp [iblk, index0]
  rw [V_main_arg0]
  refine congrArg _ ?_
  blk_ext [index0]

/-- of its second, -/
theorem iblk3 (r : Fin 256) (j : Fin 1024) (b : Fin 32) (s : Fin 2304) (hb : b.val = (2 * t.val + 1) / 9)
    (hs : s.val = 256 * ((2 * t.val + 1) % 9) + r.val) : iblk m c 3 t (ix3 0 r j) = aX m c (ix3 b s j) := by
  blk_simp [iblk, index3]
  rw [V_main_arg0]
  refine congrArg _ ?_
  blk_ext [index3]

/-- the mixer's output of the first, -/
theorem iblk1 (j : Fin 1024) (r : Fin 256) (b : Fin 32) (q : Fin 9) (hb : b.val = 2 * t.val / 9) (hq : q.val = 2 * t.val % 9) :
    iblk m c 1 t (ix4 0 0 j r) = aO m c (ix4 b q j r) := by
  blk_simp [iblk, index1]
  rw [V_main_arg1]
  refine congrArg _ ?_
  blk_ext [index1]

/-- of the second, -/
theorem iblk4 (j : Fin 1024) (r : Fin 256) (b : Fin 32) (q : Fin 9) (hb : b.val = (2 * t.val + 1) / 9) (hq : q.val = (2 * t.val + 1) % 9) :
    iblk m c 4 t (ix4 0 0 j r) = aO m c (ix4 b q j r) := by
  blk_simp [iblk, index4]
  rw [V_main_arg1]
  refine congrArg _ ?_
  blk_ext [index4]

/-- the vectors of the first, -/
theorem iblk2 (i : Fin 6) (k : Fin 1024) (b : Fin 32) (n : Fin 2) (hb : b.val = 2 * t.val / 9) (hn : n.val = min (2 * t.val % 9) 1) :
    iblk m c 2 t (ix4 0 0 i k) = aM m c (ix4 b n i k) := by
  blk_simp [iblk, index2]
  rw [V_main_arg2]
  refine congrArg _ ?_
  blk_ext [index2]

/-- of the second, -/
theorem iblk5 (i : Fin 6) (k : Fin 1024) (b : Fin 32) (n : Fin 2) (hb : b.val = (2 * t.val + 1) / 9) (hn : n.val = min ((2 * t.val + 1) % 9) 1) :
    iblk m c 5 t (ix4 0 0 i k) = aM m c (ix4 b n i k) := by
  blk_simp [iblk, index5]
  rw [V_main_arg2]
  refine congrArg _ ?_
  blk_ext [index5]

/-- the norms' weights, -/
theorem iblk6 (i : Fin 4) (k : Fin 1024) : iblk m c 6 t (ix2 i k) = aG m c (ix2 i k) := by
  blk_simp [iblk, index6]
  rw [V_main_arg3]
  refine congrArg _ ?_
  blk_ext [index6]

/-- the projection, -/
theorem iblk7 (j l : Fin 1024) : iblk m c 7 t (ix2 j l) = aP m c (ix2 j l) := by
  blk_simp [iblk, index7]
  rw [V_main_arg4]
  refine congrArg _ ?_
  blk_ext [index7]

/-- and the feed-forward part's weights. -/
theorem iblk8 (k : Fin 1024) (j : Fin 5632) : iblk m c 8 t (ix2 k j) = aW m c (ix2 k j) := by
  blk_simp [iblk, index8]
  rw [V_main_arg5]
  refine congrArg _ ?_
  blk_ext [index8]

theorem iblk9 (j : Fin 2816) (k : Fin 1024) : iblk m c 9 t (ix2 j k) = aD m c (ix2 j k) := by
  blk_simp [iblk, index9]
  rw [V_main_arg6]
  refine congrArg _ ?_
  blk_ext [index9]

/-- What the rows of a tile meet. -/
theorem par_eq (M : Vec Ideal S1x1x6x1024 .f32) (b : Fin 32) (n : Fin 2) (hM : ∀ i k, M (ix4 0 0 i k) = aM m c (ix4 b n i k)) :
    parOf M (iblk m c 6 t) (iblk m c 8 t) (iblk m c 9 t) = par (aM m c) (aG m c) (aW m c) (aD m c) b n := by
  unfold parOf par
  simp only [hM, iblk6, iblk8, iblk9]

/-- The whole result, at an index. -/
abbrev resAt (p : Fin 144) (R : Fin 512) (k : Fin 1024) : EReal := layer (aX m c) (aM m c) (aG m c) (aW m c) (aD m c) (aO m c) (aP m c) p R k

/-- What a point leaves in the first half of its block, -/
theorem after_fst (r : Fin 256) (R : Fin 512) (hR : R.val = r.val) (k : Fin 1024) :
    (dats m 0 c).after 10 t (ix3 0 R k) = resAt m c (ptOf t) R k := by
  have ht := lt_grid t
  rw [after0_10]
  refine (block_fst (hs0_0 t) (hs0_1 t) (hs0_2 t) (hs0_3 t) (hs0_4 t) (hs0_5 t) (hs0_6 t) (hs0_7 t) (hs0_8 t) (hs0_9 t) (hs0_10 t) _ _ _ _ _ _ _ _ _ _ _ c _ r R hR k).trans ?_
  unfold resAt layer token projected
  rw [par_eq m c t _ (batchOf (ptOf t) R) (kindOf (tokOf (ptOf t) R)) fun i k => iblk2 m c t i k _ _ (by dsimp only; omega) (by rw [kindOf_val]; dsimp only; omega)]
  refine congrArg₂ (fun x y => out _ x y k) (funext fun j => iblk0 m c t r j _ _ (by dsimp only; omega) (by dsimp only; omega)) (funext fun l => ?_)
  refine congrArg₂ dot (funext fun j => ?_) (funext fun j => iblk7 m c t j l)
  have hr : (⟨(tokOf (ptOf t) R).val % 256, by omega⟩ : Fin 256) = r := Fin.ext (by dsimp only; omega)
  rw [hr]
  exact iblk1 m c t j r _ _ (by dsimp only; omega) (by dsimp only; omega)

/-- and in the second. -/
theorem after_snd (r : Fin 256) (R : Fin 512) (hR : R.val = 256 + r.val) (k : Fin 1024) :
    (dats m 0 c).after 10 t (ix3 0 R k) = resAt m c (ptOf t) R k := by
  have ht := lt_grid t
  rw [after0_10]
  refine (block_snd (hs0_0 t) (hs0_1 t) (hs0_2 t) (hs0_3 t) (hs0_4 t) (hs0_5 t) (hs0_6 t) (hs0_7 t) (hs0_8 t) (hs0_9 t) (hs0_10 t) _ _ _ _ _ _ _ _ _ _ _ c _ r R hR k).trans ?_
  unfold resAt layer token projected
  rw [par_eq m c t _ (batchOf (ptOf t) R) (kindOf (tokOf (ptOf t) R)) fun i k => iblk5 m c t i k _ _ (by dsimp only; omega) (by rw [kindOf_val]; dsimp only; omega)]
  refine congrArg₂ (fun x y => out _ x y k) (funext fun j => iblk3 m c t r j _ _ (by dsimp only; omega) (by dsimp only; omega)) (funext fun l => ?_)
  refine congrArg₂ dot (funext fun j => ?_) (funext fun j => iblk7 m c t j l)
  have hr : (⟨(tokOf (ptOf t) R).val % 256, by omega⟩ : Fin 256) = r := Fin.ext (by dsimp only; omega)
  rw [hr]
  exact iblk4 m c t j r _ _ (by dsimp only; omega) (by dsimp only; omega)

/-- What a point leaves in its block of the result. -/
theorem after_apply (R : Fin 512) (k : Fin 1024) : (dats m 0 c).after 10 t (ix3 0 R k) = resAt m c (ptOf t) R k := by
  by_cases h : R.val < 256
  · exact after_fst m c t ⟨R.val, h⟩ R rfl k
  · exact after_snd m c t ⟨R.val - 256, by omega⟩ R (by dsimp only; omega) k

/-- The result's blocks fill its array. -/
theorem cover10 (i : S144x512x1024.Idx) : ∃ t : Fin cfg0.N, (cfg0.win 10).flush t = true ∧ i ∈ ((cfg0.win 10).blk t).view.set := by
  have hN : cfg0.N = 144 := N_0
  have h0 : (i 0 : ℕ) < 144 := (i 0).isLt
  have h1 : (i 1 : ℕ) < 512 := (i 1).isLt
  have h2 : (i 2 : ℕ) < 1024 := (i 2).isLt
  obtain ⟨t, et⟩ : ∃ t : Fin cfg0.N, t.val = (i 0 : ℕ) := ⟨⟨(i 0 : ℕ), by omega⟩, rfl⟩
  refine ⟨t, flush0_10 t, ?_⟩
  mem_blk [index10]
  omega

/-- The whole result array after the run. -/
theorem result_eq : (dats m 0 c).arrAt 10 cfg0.N = fun i : S144x512x1024.Idx => resAt m c (i 0) (i 1) (i 2) := by
  refine (dats m 0 c).arrAt_eq_of_emb 10 _ (fun t hf y => ?_) cover10
  have h0 : ((y 0 : Fin 1) : ℕ) < 1 := (y 0).isLt
  have hy : y = (ix3 (0 : Fin 1) (y 1) (y 2) : S1x512x1024.Idx) := by
    funext a
    match a with
    | ⟨0, _⟩ => exact Fin.ext (by show ((y 0 : Fin 1) : ℕ) = 0; omega)
    | ⟨1, _⟩ => rfl
    | ⟨2, _⟩ => rfl
  have e0 : (win0_10.blk t).view.emb y 0 = ptOf t := Fin.ext (by blk_simp [index10])
  have e1 : (win0_10.blk t).view.emb y 1 = (y 1 : Fin 512) := Fin.ext (by blk_simp [index10])
  have e2 : (win0_10.blk t).view.emb y 2 = (y 2 : Fin 1024) := Fin.ext (by blk_simp [index10])
  show (dats m 0 c).after 10 t y = resAt m c ((win0_10.blk t).view.emb y 0) ((win0_10.blk t).view.emb y 1) ((win0_10.blk t).view.emb y 2)
  rw [e0, e1, e2]
  exact (congrArg ((dats m 0 c).after 10 t) hy).trans (after_apply m c t (y 1) (y 2))

end Cert.Ffn
-- ==== Proof.FfnRef.Finish.lean ====
/- The reference's layer after the mixer, step by step, and what it reads at a token. -/
module

public import proofs.«01_k».proof.Proof.Gen.Reference2Ideal.Read
public import proofs.«01_k».proof.Proof.Ffn.Spec

@[expose] public section

set_option maxRecDepth 16384

noncomputable section

namespace Cert.FfnRef

open Cert.Reference2Ideal Cert.Reference2Ideal.Gen Idealize.ShloMosaic Idealize.ShloMosaic.Pointwise Cert.Ffn

/-- Every token's row normed, weighted by `g`. -/
def normed (Y : FVec Ideal S32x2304x1024 .f32) (g : FVec Ideal S1024 .f32) : FVec Ideal S32x2304x1024 .f32 :=
  mulf (mulf Y (broadcastInDim S32x2304x1024 ![0, 1, 2] bcast_S32x2304x1_S32x2304x1024_0_1_2
      (Host.rsqrt (addf (Host.divf
        (broadcastInDim S32x2304x1 ![0, 1] bcast_S32x2304_S32x2304x1_0_1 (Host.reduceAdd (mulf Y Y) (constant S_ .f32 0x00000000#32) reducesTo_S32x2304x1024_S32x2304_d2 h_S_))
        (broadcastInDim S32x2304x1 ![] bcast_S_S32x2304x1 (constant S_ .f32 0x44800000#32)))
        (broadcastInDim S32x2304x1 ![] bcast_S_S32x2304x1 (constant S_ .f32 0x358637BD#32))))))
    (broadcastInDim S32x2304x1024 ![0, 1, 2] bcast_S1x1x1024_S32x2304x1024_0_1_2 (broadcastInDim S1x1x1024 ![2] bcast_S1024_S1x1x1024_2 g))

theorem zero_eq : Ideal.ofBits .f32 0#32 = (0 : EReal) := by simp [Ideal.ofBits, Ideal.ieee]
theorem one_eq : Ideal.ofBits .f32 0x3F800000#32 = (1 : EReal) := by
  simp [Ideal.ofBits, Ideal.ieee]
  rw [← EReal.coe_mul]; norm_num

theorem normed_apply (Y : FVec Ideal S32x2304x1024 .f32) (g : FVec Ideal S1024 .f32) (b : Fin 32) (s : Fin 2304) (k : Fin 1024) :
    normed Y g (ix3 b s k) = rms (fun j => Y (ix3 b s j)) (fun j => g (ix1 j)) k := by
  unfold rms
  pointwise [normed]

/-- Every token's vector number `n`. -/
def pick (V : FVec Ideal S32x2304x6x1024 .f32) (n : ℕ) (h : S32x2304x6x1024.Slices ![0, 0, n, 0] S32x2304x1x1024) : FVec Ideal S32x2304x1024 .f32 :=
  shapeCast S32x2304x1024 (extractStridedSlice S32x2304x1x1024 ![0, 0, n, 0] V h) shapeCasts_S32x2304x1x1024_S32x2304x1024

theorem pick_apply (V : FVec Ideal S32x2304x6x1024 .f32) (n : ℕ) (hn : n < 6) (h) (b : Fin 32) (s : Fin 2304) (k : Fin 1024) :
    pick V n h (ix3 b s k) = V (ix4 b s ⟨n, hn⟩ k) := by
  pointwise [pick]

/-- The weight of norm `n`. -/
def row (G : FVec Ideal S4x1024 .f32) (n : ℕ) (h : S4x1024.Slices ![n, 0] S1x1024) : FVec Ideal S1024 .f32 :=
  shapeCast S1024 (extractStridedSlice S1x1024 ![n, 0] G h) shapeCasts_S1x1024_S1024

theorem row_apply (G : FVec Ideal S4x1024 .f32) (n : ℕ) (hn : n < 4) (h) (k : Fin 1024) : row G n h (ix1 k) = G (ix2 ⟨n, hn⟩ k) := by
  pointwise [row]

/-- The gate's half of the hidden products through the silu, times the other half. -/
def swi (Z : FVec Ideal S32x2304x5632 .f32) : FVec Ideal S32x2304x2816 .f32 :=
  let gt := extractStridedSlice S32x2304x2816 ![0, 0, 0] Z slices_S32x2304x5632_S32x2304x2816_0_0_0
  mulf (mulf gt (Host.divf (broadcastInDim S32x2304x2816 ![] bcast_S_S32x2304x2816 (constant S_ .f32 0x3F800000#32))
      (addf (broadcastInDim S32x2304x2816 ![] bcast_S_S32x2304x2816 (constant S_ .f32 0x3F800000#32)) (Host.exp (Host.negf gt)))))
    (extractStridedSlice S32x2304x2816 ![0, 0, 2816] Z slices_S32x2304x5632_S32x2304x2816_0_0_2816)

theorem swi_apply (Z : FVec Ideal S32x2304x5632 .f32) (b : Fin 32) (s : Fin 2304) (j : Fin 2816) :
    swi Z (ix3 b s j) = (Z (ix3 b s ⟨j.val, by omega⟩) : EReal) * Ideal.logistic (Z (ix3 b s ⟨j.val, by omega⟩)) * Z (ix3 b s ⟨2816 + j.val, by omega⟩) := by
  unfold Ideal.logistic
  pointwise [swi]

variable (X Y : FVec Ideal S32x2304x1024 .f32) (V : FVec Ideal S32x2304x6x1024 .f32) (G : FVec Ideal S4x1024 .f32) (W : FVec Ideal S1024x5632 .bf16)
  (D : FVec Ideal S2816x1024 .bf16)

/-- The tokens after the mixer, -/
def midOf : FVec Ideal S32x2304x1024 .f32 :=
  addf X (mulf (pick V 2 slices_S32x2304x6x1024_S32x2304x1x1024_0_0_2_0) (normed Y (row G 1 slices_S4x1024_S1x1024_1_0)))

/-- what the feed-forward part reads of them, -/
def hiddenOf (M : FVec Ideal S32x2304x1024 .f32) : FVec Ideal S32x2304x1024 .f32 :=
  addf (mulf (normed M (row G 2 slices_S4x1024_S1x1024_2_0))
    (addf (broadcastInDim S32x2304x1024 ![] bcast_S_S32x2304x1024 (constant S_ .f32 0x3F800000#32)) (pick V 4 slices_S32x2304x6x1024_S32x2304x1x1024_0_0_4_0)))
    (pick V 3 slices_S32x2304x6x1024_S32x2304x1x1024_0_0_3_0)

/-- its hidden products, -/
def prodOf (H : FVec Ideal S32x2304x1024 .f32) : FVec Ideal S32x2304x5632 .f32 :=
  Host.dotGeneral dot_S32x2304x1024_S1024x5632_S32x2304x5632_2_0_01_1_n_n none H (extf .f32 W bitsLt_bf16_f32)

/-- its result, -/
def downOf (A : FVec Ideal S32x2304x2816 .f32) : FVec Ideal S32x2304x1024 .f32 :=
  Host.dotGeneral dot_S32x2304x2816_S2816x1024_S32x2304x1024_2_0_01_1_n_n none A (extf .f32 D bitsLt_bf16_f32)

/-- and the tokens after the layer. -/
def afterOf (M F : FVec Ideal S32x2304x1024 .f32) : FVec Ideal S32x2304x1024 .f32 :=
  addf M (mulf (pick V 5 slices_S32x2304x6x1024_S32x2304x1x1024_0_0_5_0) (normed F (row G 3 slices_S4x1024_S1x1024_3_0)))

/-- The layer after the mixer. -/
def finish : FVec Ideal S32x2304x1024 .f32 :=
  afterOf V G (midOf X Y V G) (downOf D (swi (prodOf W (hiddenOf V G (midOf X Y V G)))))

theorem midOf_apply (b : Fin 32) (s : Fin 2304) (k : Fin 1024) :
    midOf X Y V G (ix3 b s k) = resid (fun j => X (ix3 b s j)) (fun j => Y (ix3 b s j)) (fun j => V (ix4 b s 2 j)) (fun j => G (ix2 1 j)) k := by
  show (X (ix3 b s k) : EReal) + pick V 2 _ (ix3 b s k) * normed Y _ (ix3 b s k) = _
  rw [normed_apply, pick_apply V 2 (by decide)]
  simp only [row_apply G 1 (by decide)]
  rfl

theorem afterOf_apply (M F : FVec Ideal S32x2304x1024 .f32) (b : Fin 32) (s : Fin 2304) (k : Fin 1024) :
    afterOf V G M F (ix3 b s k) = resid (fun j => M (ix3 b s j)) (fun j => F (ix3 b s j)) (fun j => V (ix4 b s 5 j)) (fun j => G (ix2 3 j)) k := by
  show (M (ix3 b s k) : EReal) + pick V 5 _ (ix3 b s k) * normed F _ (ix3 b s k) = _
  rw [normed_apply, pick_apply V 5 (by decide)]
  simp only [row_apply G 3 (by decide)]
  rfl

theorem hiddenOf_apply (M : FVec Ideal S32x2304x1024 .f32) (b : Fin 32) (s : Fin 2304) (k : Fin 1024) :
    hiddenOf V G M (ix3 b s k) = hid (fun j => M (ix3 b s j)) (fun j => V (ix4 b s 3 j)) (fun j => V (ix4 b s 4 j)) (fun j => G (ix2 2 j)) k := by
  show normed M _ (ix3 b s k) * ((Ideal.ofBits .f32 0x3F800000#32 : EReal) + pick V 4 _ (ix3 b s k)) + pick V 3 _ (ix3 b s k) = _
  rw [normed_apply, pick_apply V 4 (by decide), pick_apply V 3 (by decide)]
  simp only [row_apply G 2 (by decide)]
  rfl

theorem prodOf_apply (H : FVec Ideal S32x2304x1024 .f32) (b : Fin 32) (s : Fin 2304) (j : Fin 5632) :
    prodOf W H (ix3 b s j) = dot (fun k => H (ix3 b s k)) (fun k => W (ix2 k j)) := by
  unfold dot
  pointwise [prodOf]

theorem downOf_apply (A : FVec Ideal S32x2304x2816 .f32) (b : Fin 32) (s : Fin 2304) (k : Fin 1024) :
    downOf D A (ix3 b s k) = dot (fun j => A (ix3 b s j)) (fun j => D (ix2 j k)) := by
  unfold dot
  pointwise [downOf]

/-- A token after the layer. -/
theorem finish_apply (b : Fin 32) (s : Fin 2304) (k : Fin 1024) (P : Par) (hm : ∀ n j, P.md n j = V (ix4 b s n j)) (hg : ∀ n j, P.g n j = G (ix2 n j))
    (hw : ∀ i j, P.wgu i j = W (ix2 i j)) (hd : ∀ i j, P.wd i j = D (ix2 i j)) :
    finish X Y V G W D (ix3 b s k) = out P (fun j => X (ix3 b s j)) (fun j => Y (ix3 b s j)) k := by
  have em : (fun j => midOf X Y V G (ix3 b s j)) = mid P (fun j => X (ix3 b s j)) (fun j => Y (ix3 b s j)) := by
    funext j; rw [midOf_apply]; unfold mid
    simp only [← hm, ← hg]
  have eh : (fun j => hiddenOf V G (midOf X Y V G) (ix3 b s j)) = Ffn.hidden P (fun j => X (ix3 b s j)) (fun j => Y (ix3 b s j)) := by
    funext j; rw [hiddenOf_apply, em]; unfold Ffn.hidden
    simp only [← hm, ← hg]
  have ea : (fun j => swi (prodOf W (hiddenOf V G (midOf X Y V G))) (ix3 b s j)) = acts P (fun j => X (ix3 b s j)) (fun j => Y (ix3 b s j)) := by
    funext j; rw [swi_apply]
    simp only [prodOf_apply, eh, ← hw]
    rfl
  unfold finish out
  rw [afterOf_apply, em]
  simp only [downOf_apply, ea, ← hm, ← hg, ← hd]

end Cert.FfnRef
-- ==== Proof.FfnRef.Equation.lean ====
/- The reference's result after the attention is the layer's, index by index. -/
module

public import proofs.«01_k».proof.Proof.FfnRef.Finish

@[expose] public section

set_option maxRecDepth 16384

noncomputable section

namespace Cert.FfnRef

open Cert.Reference2Ideal Cert.Reference2Ideal.Gen Cert.Reference2Ideal.Read Idealize.ShloMosaic Idealize.ShloMosaic.Pointwise Cert.Ffn

variable (x0 : FVec Ideal S32x2304x1024 .f32) (x1 : FVec Ideal S32x9x1024x256 .bf16) (x2 : FVec Ideal S32x2x6x1024 .f32) (x3 : FVec Ideal S4x1024 .f32)
  (x4 : FVec Ideal S1024x1024 .bf16) (x5 : FVec Ideal S1024x5632 .bf16) (x6 : FVec Ideal S2816x1024 .bf16)

/-- The reference finishes the layer. -/
theorem stage : val_main_v82 (F := Ideal) x0 x1 x2 x3 x4 x5 x6 = finish x0 (val_main_v4 (F := Ideal) x1 x4) (val_main_v13 (F := Ideal) x2) x3 x5 x6 := by
  rfl

/-- The attention's output of a token. -/
theorem mixer (b : Fin 32) (s : Fin 2304) (j : Fin 1024) :
    val_main_v2 (F := Ideal) x1 (ix3 b s j) = x1 (ix4 b ⟨s.val / 256, by omega⟩ j ⟨s.val % 256, by omega⟩) := by
  pointwise [val_main_v2, val_main_v1, val_main_v0]

/-- Projected. -/
theorem proj (b : Fin 32) (s : Fin 2304) (l : Fin 1024) : val_main_v4 (F := Ideal) x1 x4 (ix3 b s l) = projected x1 x4 b s l := by
  rw [val_main_v4_apply]
  unfold projected dot
  refine Finset.sum_congr rfl fun k _ => ?_
  refine congrArg₂ (fun (p q : EReal) => p * q) ?_ ?_
  · exact (congrArg _ (funext fun a => match a with | ⟨0, _⟩ => rfl | ⟨1, _⟩ => rfl | ⟨2, _⟩ => rfl)).trans (mixer x1 b s k)
  · exact congrArg x4 (funext fun a => match a with | ⟨0, _⟩ => rfl | ⟨1, _⟩ => rfl)

/-- A token's vectors. -/
theorem vectors (b : Fin 32) (s : Fin 2304) (n : Fin 6) (k : Fin 1024) : val_main_v13 (F := Ideal) x2 (ix4 b s n k) = x2 (ix4 b (kindOf s) n k) := by
  by_cases h : s.val < 256
  · rw [kindOf, if_pos h]
    pointwise [val_main_v13, val_main_v10, val_main_v9, val_main_v6, val_main_v5]
    exact dif_pos h
  · rw [kindOf, if_neg h]
    pointwise [val_main_v13, val_main_v12, val_main_v11, val_main_v8, val_main_v7]
    exact dif_neg h

/-- A token after the layer, from the mixer's projected rows. -/
theorem finish_token (Y : FVec Ideal S32x2304x1024 .f32) (b : Fin 32) (s : Fin 2304) (k : Fin 1024) :
    finish x0 Y (val_main_v13 (F := Ideal) x2) x3 x5 x6 (ix3 b s k) = token x0 x2 x3 x5 x6 (fun j => Y (ix3 b s j)) b s k :=
  finish_apply x0 Y _ x3 x5 x6 b s k (par x2 x3 x5 x6 b (kindOf s)) (fun n j => (vectors x2 b s n j).symm) (fun _ _ => rfl) (fun _ _ => rfl) fun _ _ => rfl

/-- The token at an index of the result. -/
theorem token_idx (i : S144x512x1024.Idx) : idx_main_v83 i = ix3 (batchOf (i 0) (i 1)) (tokOf (i 0) (i 1)) (i 2) := by
  have h1 : (i 1 : ℕ) < 512 := (i 1).isLt
  have h2 : (i 2 : ℕ) < 1024 := (i 2).isLt
  funext a
  match a with
  | ⟨0, _⟩ => exact Fin.ext (by show (((i 0).val * 512 + (i 1).val) * 1024 + (i 2).val) / 2359296 = (512 * (i 0).val + (i 1).val) / 2304; omega)
  | ⟨1, _⟩ => exact Fin.ext (by show (((i 0).val * 512 + (i 1).val) * 1024 + (i 2).val) / 1024 % 2304 = (512 * (i 0).val + (i 1).val) % 2304; omega)
  | ⟨2, _⟩ => exact Fin.ext (by show (((i 0).val * 512 + (i 1).val) * 1024 + (i 2).val) % 1024 = (i 2).val; omega)

/-- The reference's result. -/
theorem result_eq : val_main_v83 (F := Ideal) x0 x1 x2 x3 x4 x5 x6 = fun i : S144x512x1024.Idx => layer x0 x2 x3 x5 x6 x1 x4 (i 0) (i 1) (i 2) := by
  funext i
  rw [val_main_v83_apply, stage, token_idx]
  refine (finish_token x0 x2 x3 x5 x6 _ _ _ _).trans ?_
  exact congrArg (fun y => token x0 x2 x3 x5 x6 y _ _ _) (funext fun l => proj x1 x4 _ _ l)

end Cert.FfnRef
-- ==== Proof.FfnClaims.lean ====
module

public import proofs.«01_k».proof.Defs
public import proofs.«01_k».proof.Proof.Ffn.Array
public import proofs.«01_k».proof.Proof.FfnRef.Equation
public import proofs.«01_k».proof.Proof.Gen.Kernel2.Frame
public import proofs.«01_k».proof.Proof.Gen.Kernel2Ideal.Frame

@[expose] public section

noncomputable section

namespace Cert.Proof.FfnClaims

open Idealize.ShloMosaic Idealize.ShloMosaic.TcCoe Idealize.SL.Sem

/-- The kernel after the attention runs, with its arguments unchanged. -/
theorem frame_p : Cert.quiescent_Kernel2 := fun m ρ _ => Cert.Kernel2.Gen.frame m ρ
/-- So does it over the reals. -/
theorem frame_pi : Cert.quiescent_Kernel2Ideal := fun m ρ _ => Cert.Kernel2Ideal.Gen.frame m ρ
/-- The reference runs, with its arguments unchanged. -/
theorem frame_ri : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

/-- The ideal kernel is the kernel's own text. -/
theorem preserves : Cert.preserves_Kernel2_Kernel2Ideal := trivial

/-- Over the reals the kernel and the reference end with one result. -/
theorem algebraic : Cert.algebraic_Kernel2Ideal_Reference2Ideal := by
  intro m ρ m' ρ' _ hagree
  refine ⟨fun c => fun i : Cert.Kernel2Ideal.S144x512x1024.Idx => Cert.Ffn.resAt m c (i 0) (i 1) (i 2), ?_, ?_⟩
  · exact (θ_run Cert.Kernel2Ideal.defs _ _).mono (fun r h c => ⟨(h c).1.trans (Cert.Ffn.result_eq m c), (h c).2⟩)
      (Cert.Kernel2Ideal.Value.run_blocks m ρ)
  · refine (θ_run Cert.Reference2Ideal.defs _ _).mono (fun r h c => ⟨(h c).1.trans ?_, (h c).2⟩) (Cert.Reference2Ideal.Value.run (F := Ideal) m' ρ')
    obtain ⟨e0, e1, e2, e3, e4, e5, e6⟩ := hagree c
    refine (Cert.Reference2Ideal.Read.val_main_v83_eq (StableHlo.launchContents m' c)).trans ?_
    refine (Cert.FfnRef.result_eq _ _ _ _ _ _ _).trans ?_
    show (fun i : Cert.Kernel2Ideal.S144x512x1024.Idx =>
      Cert.Ffn.layer (m' ((c.tc : Thread Cert.Reference2Ideal.nD Cert.Reference2Ideal.τ).loc Cert.Reference2Ideal.main_arg0))
        (m' ((c.tc : Thread Cert.Reference2Ideal.nD Cert.Reference2Ideal.τ).loc Cert.Reference2Ideal.main_arg2))
        (m' ((c.tc : Thread Cert.Reference2Ideal.nD Cert.Reference2Ideal.τ).loc Cert.Reference2Ideal.main_arg3))
        (m' ((c.tc : Thread Cert.Reference2Ideal.nD Cert.Reference2Ideal.τ).loc Cert.Reference2Ideal.main_arg5))
        (m' ((c.tc : Thread Cert.Reference2Ideal.nD Cert.Reference2Ideal.τ).loc Cert.Reference2Ideal.main_arg6))
        (m' ((c.tc : Thread Cert.Reference2Ideal.nD Cert.Reference2Ideal.τ).loc Cert.Reference2Ideal.main_arg1))
        (m' ((c.tc : Thread Cert.Reference2Ideal.nD Cert.Reference2Ideal.τ).loc Cert.Reference2Ideal.main_arg4)) (i 0) (i 1) (i 2)) = _
    rw [e0, e1, e2, e3, e4, e5, e6]

end Cert.Proof.FfnClaims
-- ==== Proof.Gdn.Pays.lean ====
/- The read-out of a gated delta layer's two scans for one tile of tokens: the heads' sums, normed, gated and projected. -/
module

public import proofs.«01_k».proof.Proof.Ffn.Row
public import proofs.«01_k».proof.Proof.Gen.Kernel3Ideal.Skeleton
public import Idealize.ShloMosaic.Lib.Pointwise

@[expose] public section

set_option maxRecDepth 16384

noncomputable section

namespace Cert.Gdn

open Cert.Kernel3Ideal Cert.Kernel3Ideal.Gen Idealize.ShloMosaic Idealize.ShloMosaic.Pointwise

/-- A head's row divided by its root mean square, weighted. -/
def headRms (x g : Fin 128 → EReal) (d : Fin 128) : EReal :=
  x d * Ideal.rsqrt (Ideal.div (∑ j, x j * x j) (Ideal.ofBits .f32 0x43000000#32) + Ideal.ofBits .f32 0x358637BD#32) * g d

/-- One head of a tile, normed. -/
theorem head_apply (P Q : Vec Ideal S1x1x256x128 .bf16) (N : Vec Ideal S1x128 .f32) (r : Fin 256) (d : Fin 128) :
    k0_pay2 (F := Ideal) P Q N (ix2 r d)
      = headRms (fun j => P (ix4 0 0 r j) + Q (ix4 0 0 r j)) (fun j => N (ix2 0 j)) d := by
  unfold headRms
  pointwise [k0_pay2]

/-- The heads' weights as one row. -/
theorem reshape_apply (N : FVec Ideal S128 .f32) (d : Fin 128) : shapeCast S1x128 N shapeCasts_S128_S1x128 (ix2 0 d) = N (ix1 d) := by
  pointwise

/-- The heads of a tile side by side. -/
def side (H : Fin 8 → FVec Ideal S256x128 .f32) : FVec Ideal S256x1024 .f32 :=
  concatenate S256x1024 1 [⟨S256x128, H 0⟩, ⟨S256x128, H 1⟩, ⟨S256x128, H 2⟩, ⟨S256x128, H 3⟩, ⟨S256x128, H 4⟩, ⟨S256x128, H 5⟩, ⟨S256x128, H 6⟩,
    ⟨S256x128, H 7⟩] concatenates_S256x128_S256x128_S256x128_S256x128_S256x128_S256x128_S256x128_S256x128_S256x1024_d1

theorem same_entry (H : Fin 8 → FVec Ideal S256x128 .f32) (r : Fin 256) {h h' : Fin 8} {d d' : Fin 128} (e : h.val = h'.val) (f : d.val = d'.val) :
    H h (ix2 r d) = H h' (ix2 r d') := by
  rw [Fin.ext e, Fin.ext f]

/-- Column `j` lies in head `j / 128`. -/
theorem side_apply (H : Fin 8 → FVec Ideal S256x128 .f32) (r : Fin 256) (j : Fin 1024) :
    side H (ix2 r j) = H ⟨j.val / 128, by omega⟩ (ix2 r ⟨j.val % 128, by omega⟩) := by
  pointwise [side]
  split_ifs <;> exact same_entry H r (by simp only [Fin.isValue]; show _ = j.val / 128; simp; omega) (by show _ = j.val % 128; simp; omega)

/-- The gated heads of a tile, projected. -/
def mix (H : Fin 8 → FVec Ideal S256x128 .f32) (Z : Vec Ideal S1x256x1024 .bf16) (W : Vec Ideal S1024x1024 .bf16) : FVec Ideal S256x1024 .f32 :=
  matmul (F := Ideal) (φ₂ := .bf16) dot_S256x1024_S1024x1024_S256x1024_1_0_0_1_n_n none
    (truncf .bf16 (mulf (side H) (extf .f32 (shapeCast S256x1024 Z shapeCasts_S1x256x1024_S256x1024) bitsLt_bf16_f32)) bitsLt_bf16_f32) W
    (constant S256x1024 .f32 0x00000000#32)

theorem mix_apply (H : Fin 8 → FVec Ideal S256x128 .f32) (Z : Vec Ideal S1x256x1024 .bf16) (W : Vec Ideal S1024x1024 .bf16) (r : Fin 256) (k : Fin 1024) :
    mix H Z W (ix2 r k) = Ffn.dot (fun j => side H (ix2 r j) * Z (ix3 0 r j)) (fun j => W (ix2 j k)) := by
  unfold Ffn.dot
  pointwise [mix]

end Cert.Gdn
-- ==== Proof.Gdn.Tile.lean ====
/- One tile of tokens at the end of a gated delta layer, from its blocks. -/
module

public import proofs.«01_k».proof.Proof.Gdn.Pays
public import proofs.«01_k».proof.Proof.Ffn.Block

@[expose] public section

set_option maxRecDepth 16384

noncomputable section

namespace Cert.Gdn

open Cert.Kernel3Ideal Cert.Kernel3Ideal.Gen Cert.Ffn Idealize.ShloMosaic Idealize.ShloMosaic.Pointwise

/-- A token's row of the mixer, projected: each head's sum of the two scans, normed, gated and met with the out-projection. -/
def readRow (s z : Fin 1024 → EReal) (g : Fin 128 → EReal) (wo : Fin 1024 → Fin 1024 → EReal) (l : Fin 1024) : EReal :=
  dot (fun j => headRms (fun d => s ⟨128 * (j.val / 128) + d.val, by omega⟩) g ⟨j.val % 128, by omega⟩ * z j) (fun j => wo j l)

/-- Row `r` of a tile's mixer, projected. -/
def readOf (f b : Vec Ideal S1x8x256x128 .bf16) (z : Vec Ideal S1x256x1024 .bf16) (N : Vec Ideal S1x128 .f32) (W : Vec Ideal S1024x1024 .bf16)
    (r : Fin 256) : Fin 1024 → EReal :=
  readRow (fun j => f (ix4 0 ⟨j.val / 128, by omega⟩ r ⟨j.val % 128, by omega⟩) + b (ix4 0 ⟨j.val / 128, by omega⟩ r ⟨j.val % 128, by omega⟩))
    (fun j => z (ix3 0 r j)) (fun d => N (ix2 0 d)) (fun j l => W (ix2 j l))

section Loads

variable {sig' : RefSig}

theorem head_inb (h : Fin 8) : ∀ d, (![0, h.val, 0, 0] : Fin 4 → ℕ) d + S1x1x256x128.size d ≤ S1x8x256x128.size d := by
  intro d
  match d with
  | ⟨0, _⟩ => exact Nat.le_refl 1
  | ⟨1, _⟩ => show h.val + 1 ≤ 8; omega
  | ⟨2, _⟩ => exact Nat.le_refl 256
  | ⟨3, _⟩ => exact Nat.le_refl 128

/-- One head of a tile of a scan, loaded. -/
abbrev headLoad {a : Memref sig' .tc .vmem S1x8x256x128 .bf16} (ha : a.IsWhole) (x : Vec Ideal S1x8x256x128 .bf16) (h : Fin 8) :
    Vec Ideal S1x1x256x128 .bf16 :=
  View.readAt (Elt Ideal) a.view (Rect.unit (s := S1x8x256x128) ![0, h.val, 0, 0] S1x1x256x128.size (head_inb h)).toLoadRect (ha.unread x)

theorem headLoad_apply {a : Memref sig' .tc .vmem S1x8x256x128 .bf16} (ha : a.IsWhole) (x : Vec Ideal S1x8x256x128 .bf16) (h : Fin 8)
    (r : Fin 256) (d : Fin 128) : headLoad ha x h (ix4 0 0 r d) = x (ix4 0 h r d) := by
  refine (congrFun (ha.read_unread x) _).trans (congrArg x (funext fun e => Fin.ext ?_))
  match e with
  | ⟨0, _⟩ => rfl
  | ⟨1, _⟩ => show h.val + 1 * 0 = h.val; omega
  | ⟨2, _⟩ => show 0 + 1 * r.val = r.val; omega
  | ⟨3, _⟩ => show 0 + 1 * d.val = d.val; omega

end Loads

section Tile

variable {sig' : RefSig} {a1 : Memref sig' .tc .vmem S1x256x1024 .f32} {a2 a3 : Memref sig' .tc .vmem S1x8x256x128 .bf16}
  {a4 : Memref sig' .tc .vmem S1x256x1024 .bf16} {a5 : Memref sig' .tc .vmem S1x1x6x1024 .f32} {a11 : Memref sig' .tc .vmem S1x128 .f32}
  {a12 : Memref sig' .tc .vmem S4x1024 .f32} {a13 : Memref sig' .tc .vmem S1024x1024 .bf16} {a15 : Memref sig' .tc .vmem S2816x1024 .bf16}
  (h11 : a11.IsWhole) (h12 : a12.IsWhole) (h13 : a13.IsWhole)
  (N : Vec Ideal S1x128 .f32) (G : Vec Ideal S4x1024 .f32) (O : Vec Ideal S1024x1024 .bf16)

/-- The projected mixer's rows of a tile, from its loads. -/
abbrev yOf (h2 : a2.IsWhole) (h3 : a3.IsWhole) (h4 : a4.IsWhole) (f b : Vec Ideal S1x8x256x128 .bf16) (z : Vec Ideal S1x256x1024 .bf16) :
    FVec Ideal S256x1024 .f32 :=
  mix (fun h => k0_pay2 (F := Ideal) (headLoad h2 f h) (headLoad h3 b h) (full2 h11 N inb_S1x128_S1x128_0_0))
    (full3 h4 z inb_S1x256x1024_S1x256x1024_0_0_0) (full2 h13 O inb_S1024x1024_S1024x1024_0_0)

theorem yOf_apply (h2 : a2.IsWhole) (h3 : a3.IsWhole) (h4 : a4.IsWhole) (f b : Vec Ideal S1x8x256x128 .bf16) (z : Vec Ideal S1x256x1024 .bf16)
    (r : Fin 256) (l : Fin 1024) : yOf h11 h13 N O h2 h3 h4 f b z (ix2 r l) = readOf f b z N O r l := by
  refine (mix_apply _ _ _ r l).trans ?_
  rw [full3_eq h4 z, full2_eq h13 O, full2_eq h11 N]
  unfold readOf readRow
  refine congrArg (fun u => dot u _) (funext fun j => congrArg (· * _) ?_)
  rw [side_apply, head_apply]
  refine congrArg (fun u => headRms u _ _) (funext fun d => ?_)
  rw [headLoad_apply, headLoad_apply]
  have e : (⟨(128 * (j.val / 128) + d.val) / 128, by omega⟩ : Fin 8) = ⟨j.val / 128, by omega⟩ := Fin.ext (by show (128 * (j.val / 128) + d.val) / 128 = j.val / 128; omega)
  have e' : (⟨(128 * (j.val / 128) + d.val) % 128, by omega⟩ : Fin 128) = d := Fin.ext (by show (128 * (j.val / 128) + d.val) % 128 = d.val; omega)
  show _ = f (ix4 0 ⟨(128 * (j.val / 128) + d.val) / 128, _⟩ r ⟨(128 * (j.val / 128) + d.val) % 128, _⟩)
    + b (ix4 0 ⟨(128 * (j.val / 128) + d.val) / 128, _⟩ r ⟨(128 * (j.val / 128) + d.val) % 128, _⟩)
  rw [e, e']

/-- What the feed-forward part of a tile reads. -/
abbrev hidOf (h1 : a1.IsWhole) (h2 : a2.IsWhole) (h3 : a3.IsWhole) (h4 : a4.IsWhole) (h5 : a5.IsWhole) (x : Vec Ideal S1x256x1024 .f32)
    (f b : Vec Ideal S1x8x256x128 .bf16) (z : Vec Ideal S1x256x1024 .bf16) (m : Vec Ideal S1x1x6x1024 .f32) : FVec Ideal S256x1024 .bf16 :=
  Kernel2Ideal.Gen.k0_pay26 (F := Ideal) (full2 h12 G inb_S4x1024_S4x1024_0_0) (yOf h11 h13 N O h2 h3 h4 f b z)
    (full4 h5 m inb_S1x1x6x1024_S1x1x6x1024_0_0_0_0) (full3 h1 x inb_S1x256x1024_S1x256x1024_0_0_0)

/-- A tile after the layer, from its loads. -/
abbrev tileOf (h15 : a15.IsWhole) (D : Vec Ideal S2816x1024 .bf16) (h1 : a1.IsWhole) (h2 : a2.IsWhole) (h3 : a3.IsWhole) (h4 : a4.IsWhole) (h5 : a5.IsWhole)
    (x : Vec Ideal S1x256x1024 .f32) (f b : Vec Ideal S1x8x256x128 .bf16) (z : Vec Ideal S1x256x1024 .bf16) (m : Vec Ideal S1x1x6x1024 .f32)
    (A : Vec Ideal S1x256x2816 .bf16) : FVec Ideal S1x256x1024 .f32 :=
  Kernel2Ideal.Gen.k0_pay23 (F := Ideal) (full2 h12 G inb_S4x1024_S4x1024_0_0)
    (Kernel2Ideal.Gen.k0_pay3 (full4 h5 m inb_S1x1x6x1024_S1x1x6x1024_0_0_0_0))
    (Kernel2Ideal.Gen.k0_pay25 (full2 h12 G inb_S4x1024_S4x1024_0_0) (yOf h11 h13 N O h2 h3 h4 f b z)
      (full4 h5 m inb_S1x1x6x1024_S1x1x6x1024_0_0_0_0) (full3 h1 x inb_S1x256x1024_S1x256x1024_0_0_0))
    A (full2 h15 D inb_S2816x1024_S2816x1024_0_0)

/-- Its row: the layer's row from the token's row and the mixer's projected row. -/
theorem tileOf_apply (h15 : a15.IsWhole) (W : Vec Ideal S1024x5632 .bf16) (D : Vec Ideal S2816x1024 .bf16)
    (h1 : a1.IsWhole) (h2 : a2.IsWhole) (h3 : a3.IsWhole) (h4 : a4.IsWhole) (h5 : a5.IsWhole)
    (x : Vec Ideal S1x256x1024 .f32) (f b : Vec Ideal S1x8x256x128 .bf16) (z : Vec Ideal S1x256x1024 .bf16) (m : Vec Ideal S1x1x6x1024 .f32)
    (A : Vec Ideal S1x256x2816 .bf16)
    (hA : ∀ r j, A (ix3 0 r j) = unitAt (hidOf h11 h12 h13 N G O h1 h2 h3 h4 h5 x f b z m) W r j) (r : Fin 256) (k : Fin 1024) :
    tileOf h11 h12 h13 N G O h15 D h1 h2 h3 h4 h5 x f b z m A (ix3 0 r k)
      = out (parOf m G W D) (fun j => x (ix3 0 r j)) (readOf f b z N O r) k := by
  refine (tile_apply _ _ _ _ W _ A hA r k).trans ?_
  rw [full2_eq h12 G, full2_eq h15 D, full4_eq h5 m, full3_eq h1 x]
  exact congrArg (fun y => out _ _ y k) (funext fun l => yOf_apply h11 h13 N O h2 h3 h4 f b z r l)

end Tile

end Cert.Gdn
-- ==== Proof.Gdn.Block.lean ====
/- The block the kernel writes at a grid point: two tiles of tokens after the layer. -/
module

public import proofs.«01_k».proof.Proof.Gen.Kernel3Ideal.Value
public import proofs.«01_k».proof.Proof.Gdn.Tile

@[expose] public section

set_option maxRecDepth 16384

noncomputable section

namespace Cert.Gdn

open Cert.Kernel3Ideal Cert.Kernel3Ideal.Gen Cert.Ffn Cert.Gdn Idealize.ShloMosaic Idealize.ShloMosaic.Pointwise

section Run

variable
  {arg1 : Memref sig .tc .vmem S1x256x1024 .f32}
  {arg2 : Memref sig .tc .vmem S1x8x256x128 .bf16}
  {arg3 : Memref sig .tc .vmem S1x8x256x128 .bf16}
  {arg4 : Memref sig .tc .vmem S1x256x1024 .bf16}
  {arg5 : Memref sig .tc .vmem S1x1x6x1024 .f32}
  {arg6 : Memref sig .tc .vmem S1x256x1024 .f32}
  {arg7 : Memref sig .tc .vmem S1x8x256x128 .bf16}
  {arg8 : Memref sig .tc .vmem S1x8x256x128 .bf16}
  {arg9 : Memref sig .tc .vmem S1x256x1024 .bf16}
  {arg10 : Memref sig .tc .vmem S1x1x6x1024 .f32}
  {arg11 : Memref sig .tc .vmem S1x128 .f32}
  {arg12 : Memref sig .tc .vmem S4x1024 .f32}
  {arg13 : Memref sig .tc .vmem S1024x1024 .bf16}
  {arg14 : Memref sig .tc .vmem S1024x5632 .bf16}
  {arg15 : Memref sig .tc .vmem S2816x1024 .bf16}
  {arg16 : Memref sig .tc .vmem S1x512x1024 .f32}
  {arg17 : Memref sig .tc .vmem S2x256x2816 .bf16}
  (h1 : arg1.IsWhole) (h2 : arg2.IsWhole) (h3 : arg3.IsWhole) (h4 : arg4.IsWhole) (h5 : arg5.IsWhole) (h6 : arg6.IsWhole) (h7 : arg7.IsWhole) (h8 :
  arg8.IsWhole) (h9 : arg9.IsWhole) (h10 : arg10.IsWhole) (h11 : arg11.IsWhole) (h12 : arg12.IsWhole) (h13 : arg13.IsWhole) (h14 : arg14.IsWhole) (h15
  : arg15.IsWhole) (h16 : arg16.IsWhole) (h17 : arg17.IsWhole)
  (x0 : Vec Ideal S1x256x1024 .f32) (x1 : Vec Ideal S1x8x256x128 .bf16) (x2 : Vec Ideal S1x8x256x128 .bf16) (x3 : Vec Ideal S1x256x1024 .bf16) (x4 :
  Vec Ideal S1x1x6x1024 .f32) (x5 : Vec Ideal S1x256x1024 .f32) (x6 : Vec Ideal S1x8x256x128 .bf16) (x7 : Vec Ideal S1x8x256x128 .bf16) (x8 : Vec
  Ideal S1x256x1024 .bf16) (x9 : Vec Ideal S1x1x6x1024 .f32) (x10 : Vec Ideal S1x128 .f32) (x11 : Vec Ideal S4x1024 .f32) (x12 : Vec Ideal S1024x1024
  .bf16) (x13 : Vec Ideal S1024x5632 .bf16) (x14 : Vec Ideal S2816x1024 .bf16)

/-- The first tile's hidden units, loaded, -/
theorem load_fst (c : Dev nD) (r : Fin 256) (j : Fin 2816) :
    kernelRun0_A.sl.v517 (F := Ideal)
      c arg1 h1 arg2 h2 arg3 h3 arg4 h4 arg5 h5 arg11 h11 arg12 h12 arg13 h13 arg14 h14 arg17 x0 x1 x2 x3 x4 x10 x11 x12 x13 (ix3 0 r j)
      = unitAt (hidOf h11 h12 h13 x10 x11 x12 h1 h2 h3 h4 h5 x0 x1 x2 x3 x4) x13 r j := by
  unfold kernelRun0_A.sl.v517
  refine Cols.load (m := 0) (H := hidOf h11 h12 h13 x10 x11 x12 h1 h2 h3 h4 h5 x0 x1 x2 x3 x4) (W := x13) ?_ rfl _ r j
  exact
  .chunk (b := 2560) h14 rfl rfl rfl (by decide) (by rfl) <| .chunk (b := 2304) h14 rfl rfl rfl (by decide) (by rfl) <|
  .chunk (b := 2048) h14 rfl rfl rfl (by decide) (by rfl) <| .chunk (b := 1792) h14 rfl rfl rfl (by decide) (by rfl) <|
  .chunk (b := 1536) h14 rfl rfl rfl (by decide) (by rfl) <| .chunk (b := 1280) h14 rfl rfl rfl (by decide) (by rfl) <|
  .chunk (b := 1024) h14 rfl rfl rfl (by decide) (by rfl) <| .chunk (b := 768) h14 rfl rfl rfl (by decide) (by rfl) <|
  .chunk (b := 512) h14 rfl rfl rfl (by decide) (by rfl) <| .chunk (b := 256) h14 rfl rfl rfl (by decide) (by rfl) <|
  .chunk (b := 0) h14 rfl rfl rfl (by decide) (by rfl) (.nil _)

/-- and the second's. -/
theorem load_snd (c : Dev nD) (r : Fin 256) (j : Fin 2816) :
    kernelRun0_A.sl.v705 (F := Ideal)
      c arg1 h1 arg2 h2 arg3 h3 arg4 h4 arg5 h5 arg6 h6 arg7 h7 arg8 h8 arg9 h9 arg10 h10 arg11 h11 arg12 h12 arg13 h13 arg14 h14 arg17 x0 x1 x2 x3 x4
      x5 x6 x7 x8 x9 x10 x11 x12 x13 (ix3 0 r j)
      = unitAt (hidOf h11 h12 h13 x10 x11 x12 h6 h7 h8 h9 h10 x5 x6 x7 x8 x9) x13 r j := by
  unfold kernelRun0_A.sl.v705
  refine Cols.load (m := 1) (H := hidOf h11 h12 h13 x10 x11 x12 h6 h7 h8 h9 h10 x5 x6 x7 x8 x9) (W := x13) ?_ rfl _ r j
  exact
  .chunk (b := 2560) h14 rfl rfl rfl (by decide) (by rfl) <| .chunk (b := 2304) h14 rfl rfl rfl (by decide) (by rfl) <|
  .chunk (b := 2048) h14 rfl rfl rfl (by decide) (by rfl) <| .chunk (b := 1792) h14 rfl rfl rfl (by decide) (by rfl) <|
  .chunk (b := 1536) h14 rfl rfl rfl (by decide) (by rfl) <| .chunk (b := 1280) h14 rfl rfl rfl (by decide) (by rfl) <|
  .chunk (b := 1024) h14 rfl rfl rfl (by decide) (by rfl) <| .chunk (b := 768) h14 rfl rfl rfl (by decide) (by rfl) <|
  .chunk (b := 512) h14 rfl rfl rfl (by decide) (by rfl) <| .chunk (b := 256) h14 rfl rfl rfl (by decide) (by rfl) <|
  .chunk (b := 0) h14 rfl rfl rfl (by decide) (by rfl) (.nil _)

/-- The block's two stores. -/
theorem run_eq (c : Dev nD) (i : grid0.Coords) :
    (kernelRun0_A (F := Ideal)
      c i arg1 h1 arg2 h2 arg3 h3 arg4 h4 arg5 h5 arg6 h6 arg7 h7 arg8 h8 arg9 h9 arg10 h10 arg11 h11 arg12 h12 arg13 h13 arg14 h14 arg15 h15 arg16
      h16 arg17 h17 x0 x1 x2 x3 x4 x5 x6 x7 x8 x9 x10 x11 x12 x13 x14).1
      = two inb_S1x512x1024_S1x256x1024_0_0_0 inb_S1x512x1024_S1x256x1024_0_256_0
          (tileOf h11 h12 h13 x10 x11 x12 h15 x14 h1 h2 h3 h4 h5 x0 x1 x2 x3 x4
            (kernelRun0_A.sl.v517 (F := Ideal)
              c arg1 h1 arg2 h2 arg3 h3 arg4 h4 arg5 h5 arg11 h11 arg12 h12 arg13 h13 arg14 h14 arg17 x0 x1 x2 x3 x4 x10 x11 x12 x13))
          (tileOf h11 h12 h13 x10 x11 x12 h15 x14 h6 h7 h8 h9 h10 x5 x6 x7 x8 x9
            (kernelRun0_A.sl.v705 (F := Ideal)
              c arg1 h1 arg2 h2 arg3 h3 arg4 h4 arg5 h5 arg6 h6 arg7 h7 arg8 h8 arg9 h9 arg10 h10 arg11 h11 arg12 h12 arg13 h13 arg14 h14 arg17 x0 x1
              x2 x3 x4 x5 x6 x7 x8 x9 x10 x11 x12 x13)) := by
  rfl

/-- The block's first half, -/
theorem block_fst (c : Dev nD) (i : grid0.Coords) (r : Fin 256) (R : Fin 512) (hR : R.val = r.val) (k : Fin 1024) :
    out0_A_15 (F := Ideal)
      c i arg1 h1 arg2 h2 arg3 h3 arg4 h4 arg5 h5 arg6 h6 arg7 h7 arg8 h8 arg9 h9 arg10 h10 arg11 h11 arg12 h12 arg13 h13 arg14 h14 arg15 h15 arg16
      h16 arg17 h17 x0 x1 x2 x3 x4 x5 x6 x7 x8 x9 x10 x11 x12 x13 x14 (ix3 0 R k)
      = out (parOf x4 x11 x13 x14) (fun j => x0 (ix3 0 r j)) (readOf x1 x2 x3 x10 x12 r) k := by
  refine (congrFun (View.read_writes_junk_eq_canon VO0_15 _) _).trans ?_
  rw [run_eq]
  exact (two_fst _ _ _ _ r R hR k).trans (tileOf_apply h11 h12 h13 x10 x11 x12 h15 x13 x14 h1 h2 h3 h4 h5 x0 x1 x2 x3 x4 _ (load_fst _ _ _ _ _ _ _ _ _ _ _ _ _ _ _ _ _ _ c) r k)

/-- and its second. -/
theorem block_snd (c : Dev nD) (i : grid0.Coords) (r : Fin 256) (R : Fin 512) (hR : R.val = 256 + r.val) (k : Fin 1024) :
    out0_A_15 (F := Ideal)
      c i arg1 h1 arg2 h2 arg3 h3 arg4 h4 arg5 h5 arg6 h6 arg7 h7 arg8 h8 arg9 h9 arg10 h10 arg11 h11 arg12 h12 arg13 h13 arg14 h14 arg15 h15 arg16
      h16 arg17 h17 x0 x1 x2 x3 x4 x5 x6 x7 x8 x9 x10 x11 x12 x13 x14 (ix3 0 R k)
      = out (parOf x9 x11 x13 x14) (fun j => x5 (ix3 0 r j)) (readOf x6 x7 x8 x10 x12 r) k := by
  refine (congrFun (View.read_writes_junk_eq_canon VO0_15 _) _).trans ?_
  rw [run_eq]
  exact (two_snd _ _ _ _ r R hR k).trans
    (tileOf_apply h11 h12 h13 x10 x11 x12 h15 x13 x14 h6 h7 h8 h9 h10 x5 x6 x7 x8 x9 _ (load_snd _ _ _ _ _ _ _ _ _ _ _ _ _ _ _ _ _ _ _ _ _ _ _ _ _ _ _ _ c) r k)

end Run

end Cert.Gdn
-- ==== Proof.Gdn.Spec.lean ====
/- The result of a gated delta layer's end, token by token. -/
module

public import proofs.«01_k».proof.Proof.Gdn.Tile
public import proofs.«01_k».proof.Proof.Ffn.Spec

@[expose] public section

noncomputable section

namespace Cert.Gdn

open Cert.Kernel3Ideal Cert.Ffn Idealize.ShloMosaic Idealize.ShloMosaic.Pointwise

variable (F B : Vec Ideal S32x8x2304x128 .bf16) (Z : Vec Ideal S32x2304x1024 .bf16) (N : Vec Ideal S128 .f32) (Wo : Vec Ideal S1024x1024 .bf16)

/-- The sum of the two scans of a token, feature by feature. -/
def scans (b : Fin 32) (s : Fin 2304) (j : Fin 1024) : EReal :=
  F (ix4 b ⟨j.val / 128, by omega⟩ s ⟨j.val % 128, by omega⟩) + B (ix4 b ⟨j.val / 128, by omega⟩ s ⟨j.val % 128, by omega⟩)

/-- A token's row of the mixer, projected. -/
def readAt (b : Fin 32) (s : Fin 2304) : Fin 1024 → EReal :=
  readRow (scans F B b s) (fun j => Z (ix3 b s j)) (fun d => N (ix1 d)) (fun j l => Wo (ix2 j l))

/-- The layer's end for a token. -/
def ending (X : Vec Ideal S32x2304x1024 .f32) (Md : Vec Ideal S32x2x6x1024 .f32) (G : Vec Ideal S4x1024 .f32) (W : Vec Ideal S1024x5632 .bf16)
    (D : Vec Ideal S2816x1024 .bf16) (b : Fin 32) (s : Fin 2304) (k : Fin 1024) : EReal :=
  token X Md G W D (readAt F B Z N Wo b s) b s k

end Cert.Gdn
-- ==== Proof.Gdn.Array.lean ====
/- The result array of the kernel. -/
module

public import proofs.«01_k».proof.Proof.Gdn.Block
public import proofs.«01_k».proof.Proof.Gdn.Spec
public import Idealize.ShloMosaic.Lib.Pipeline.ValueKit

@[expose] public section

set_option maxRecDepth 16384

noncomputable section

namespace Cert.Gdn

open Cert.Kernel3Ideal Cert.Kernel3Ideal.Gen Idealize.ShloMosaic Idealize.ShloMosaic.TcCoe Idealize.SL.Sem
open Cert.Gdn (ending readRow readAt readOf scans)
open Cert.Ffn (Par parOf par out token kindOf kindOf_val batchOf tokOf)
open Idealize.ShloMosaic.Pointwise

variable (m : (ℓ : Loc nD τ sig) → Buf (Elt Ideal) ℓ)

/-- Each window's block index at a point: the first tile's, -/
theorem index0 : ∀ t : Fin cfg0.N, win0_0.index t = ![2 * t.val / 9, 2 * t.val % 9, 0] :=
  (by decide +kernel : ∀ t : Fin grid0.N, _)
theorem index1 : ∀ t : Fin cfg0.N, win0_1.index t = ![2 * t.val / 9, 0, 2 * t.val % 9, 0] :=
  (by decide +kernel : ∀ t : Fin grid0.N, _)
theorem index2 : ∀ t : Fin cfg0.N, win0_2.index t = ![2 * t.val / 9, 0, 2 * t.val % 9, 0] :=
  (by decide +kernel : ∀ t : Fin grid0.N, _)
theorem index3 : ∀ t : Fin cfg0.N, win0_3.index t = ![2 * t.val / 9, 2 * t.val % 9, 0] :=
  (by decide +kernel : ∀ t : Fin grid0.N, _)
theorem index4 : ∀ t : Fin cfg0.N, win0_4.index t = ![2 * t.val / 9, min (2 * t.val % 9) 1, 0, 0] :=
  (by decide +kernel : ∀ t : Fin grid0.N, _)
/-- the second tile's, -/
theorem index5 : ∀ t : Fin cfg0.N, win0_5.index t = ![(2 * t.val + 1) / 9, (2 * t.val + 1) % 9, 0] :=
  (by decide +kernel : ∀ t : Fin grid0.N, _)
theorem index6 : ∀ t : Fin cfg0.N, win0_6.index t = ![(2 * t.val + 1) / 9, 0, (2 * t.val + 1) % 9, 0] :=
  (by decide +kernel : ∀ t : Fin grid0.N, _)
theorem index7 : ∀ t : Fin cfg0.N, win0_7.index t = ![(2 * t.val + 1) / 9, 0, (2 * t.val + 1) % 9, 0] :=
  (by decide +kernel : ∀ t : Fin grid0.N, _)
theorem index8 : ∀ t : Fin cfg0.N, win0_8.index t = ![(2 * t.val + 1) / 9, (2 * t.val + 1) % 9, 0] :=
  (by decide +kernel : ∀ t : Fin grid0.N, _)
theorem index9 : ∀ t : Fin cfg0.N, win0_9.index t = ![(2 * t.val + 1) / 9, min ((2 * t.val + 1) % 9) 1, 0, 0] :=
  (by decide +kernel : ∀ t : Fin grid0.N, _)
/-- the weights', -/
theorem index10 : ∀ t : Fin cfg0.N, win0_10.index t = ![0, 0] :=
  (by decide +kernel : ∀ t : Fin grid0.N, _)
theorem index11 : ∀ t : Fin cfg0.N, win0_11.index t = ![0, 0] :=
  (by decide +kernel : ∀ t : Fin grid0.N, _)
theorem index12 : ∀ t : Fin cfg0.N, win0_12.index t = ![0, 0] :=
  (by decide +kernel : ∀ t : Fin grid0.N, _)
theorem index13 : ∀ t : Fin cfg0.N, win0_13.index t = ![0, 0] :=
  (by decide +kernel : ∀ t : Fin grid0.N, _)
theorem index14 : ∀ t : Fin cfg0.N, win0_14.index t = ![0, 0] :=
  (by decide +kernel : ∀ t : Fin grid0.N, _)
/-- and the result's. -/
theorem index15 : ∀ t : Fin cfg0.N, win0_15.index t = ![t.val, 0, 0] :=
  (by decide +kernel : ∀ t : Fin grid0.N, _)

/-- The grid has 144 points. -/
theorem lt_grid (t : Fin cfg0.N) : t.val < 144 := by have h : cfg0.N = 144 := N_0; have := t.isLt; omega

/-- A point, as a number. -/
abbrev ptOf (t : Fin cfg0.N) : Fin 144 := ⟨t.val, lt_grid t⟩

variable (c : Dev nD) (t : Fin cfg0.N)

/-- The arguments of a device. -/
abbrev aX : FVec Ideal S32x2304x1024 .f32 := m ((c : Thread nD τ).loc main_arg0)
abbrev aF : FVec Ideal S32x8x2304x128 .bf16 := m ((c : Thread nD τ).loc main_arg1)
abbrev aB : FVec Ideal S32x8x2304x128 .bf16 := m ((c : Thread nD τ).loc main_arg2)
abbrev aZ : FVec Ideal S32x2304x1024 .bf16 := m ((c : Thread nD τ).loc main_arg3)
abbrev aN : FVec Ideal S128 .f32 := m ((c : Thread nD τ).loc main_arg4)
abbrev aM : FVec Ideal S32x2x6x1024 .f32 := m ((c : Thread nD τ).loc main_arg5)
abbrev aG : FVec Ideal S4x1024 .f32 := m ((c : Thread nD τ).loc main_arg6)
abbrev aP : FVec Ideal S1024x1024 .bf16 := m ((c : Thread nD τ).loc main_arg7)
abbrev aW : FVec Ideal S1024x5632 .bf16 := m ((c : Thread nD τ).loc main_arg8)
abbrev aD : FVec Ideal S2816x1024 .bf16 := m ((c : Thread nD τ).loc main_arg9)

/-- The tokens of the first tile, -/
theorem iblk0 (r : Fin 256) (j : Fin 1024) (b : Fin 32) (s : Fin 2304) (hb : b.val = 2 * t.val / 9) (hs : s.val = 256 * (2 * t.val % 9) + r.val) :
    iblk m c 0 t (ix3 0 r j) = aX m c (ix3 b s j) := by
  blk_simp [iblk, index0]
  rw [V_main_arg0]
  refine congrArg _ ?_
  blk_ext [index0]

/-- its scans, -/
theorem iblk1 (h : Fin 8) (r : Fin 256) (d : Fin 128) (b : Fin 32) (s : Fin 2304) (hb : b.val = 2 * t.val / 9) (hs : s.val = 256 * (2 * t.val % 9) + r.val) :
    iblk m c 1 t (ix4 0 h r d) = aF m c (ix4 b h s d) := by
  blk_simp [iblk, index1]
  rw [V_main_arg1]
  refine congrArg _ ?_
  blk_ext [index1]

/-- both of them, -/
theorem iblk2 (h : Fin 8) (r : Fin 256) (d : Fin 128) (b : Fin 32) (s : Fin 2304) (hb : b.val = 2 * t.val / 9) (hs : s.val = 256 * (2 * t.val % 9) + r.val) :
    iblk m c 2 t (ix4 0 h r d) = aB m c (ix4 b h s d) := by
  blk_simp [iblk, index2]
  rw [V_main_arg2]
  refine congrArg _ ?_
  blk_ext [index2]

/-- its gates, -/
theorem iblk3 (r : Fin 256) (j : Fin 1024) (b : Fin 32) (s : Fin 2304) (hb : b.val = 2 * t.val / 9) (hs : s.val = 256 * (2 * t.val % 9) + r.val) :
    iblk m c 3 t (ix3 0 r j) = aZ m c (ix3 b s j) := by
  blk_simp [iblk, index3]
  rw [V_main_arg3]
  refine congrArg _ ?_
  blk_ext [index3]

/-- and its vectors. -/
theorem iblk4 (i : Fin 6) (k : Fin 1024) (b : Fin 32) (n : Fin 2) (hb : b.val = 2 * t.val / 9) (hn : n.val = min (2 * t.val % 9) 1) :
    iblk m c 4 t (ix4 0 0 i k) = aM m c (ix4 b n i k) := by
  blk_simp [iblk, index4]
  rw [V_main_arg5]
  refine congrArg _ ?_
  blk_ext [index4]

/-- The tokens of the second tile, -/
theorem iblk5 (r : Fin 256) (j : Fin 1024) (b : Fin 32) (s : Fin 2304) (hb : b.val = (2 * t.val + 1) / 9) (hs : s.val = 256 * ((2 * t.val + 1) % 9) + r.val) :
    iblk m c 5 t (ix3 0 r j) = aX m c (ix3 b s j) := by
  blk_simp [iblk, index5]
  rw [V_main_arg0]
  refine congrArg _ ?_
  blk_ext [index5]

/-- its scans, -/
theorem iblk6 (h : Fin 8) (r : Fin 256) (d : Fin 128) (b : Fin 32) (s : Fin 2304) (hb : b.val = (2 * t.val + 1) / 9) (hs : s.val = 256 * ((2 * t.val + 1) % 9) + r.val) :
    iblk m c 6 t (ix4 0 h r d) = aF m c (ix4 b h s d) := by
  blk_simp [iblk, index6]
  rw [V_main_arg1]
  refine congrArg _ ?_
  blk_ext [index6]

/-- both of them, -/
theorem iblk7 (h : Fin 8) (r : Fin 256) (d : Fin 128) (b : Fin 32) (s : Fin 2304) (hb : b.val = (2 * t.val + 1) / 9) (hs : s.val = 256 * ((2 * t.val + 1) % 9) + r.val) :
    iblk m c 7 t (ix4 0 h r d) = aB m c (ix4 b h s d) := by
  blk_simp [iblk, index7]
  rw [V_main_arg2]
  refine congrArg _ ?_
  blk_ext [index7]

/-- its gates, -/
theorem iblk8 (r : Fin 256) (j : Fin 1024) (b : Fin 32) (s : Fin 2304) (hb : b.val = (2 * t.val + 1) / 9) (hs : s.val = 256 * ((2 * t.val + 1) % 9) + r.val) :
    iblk m c 8 t (ix3 0 r j) = aZ m c (ix3 b s j) := by
  blk_simp [iblk, index8]
  rw [V_main_arg3]
  refine congrArg _ ?_
  blk_ext [index8]

/-- and its vectors. -/
theorem iblk9 (i : Fin 6) (k : Fin 1024) (b : Fin 32) (n : Fin 2) (hb : b.val = (2 * t.val + 1) / 9) (hn : n.val = min ((2 * t.val + 1) % 9) 1) :
    iblk m c 9 t (ix4 0 0 i k) = aM m c (ix4 b n i k) := by
  blk_simp [iblk, index9]
  rw [V_main_arg5]
  refine congrArg _ ?_
  blk_ext [index9]

/-- The heads' norm's weights, -/
theorem iblk10 (d : Fin 128) : iblk m c 10 t (ix2 0 d) = aN m c (ix1 d) := by
  blk_simp [iblk, index10]
  entry_read
  have e : ((View.whole main_v0).slice (win0_10.rect t)).emb (ix2 0 d) = ix2 0 d := by blk_ext [index10]
  rw [e]
  exact Gdn.reshape_apply _ d

/-- the other norms' weights, -/
theorem iblk11 (i : Fin 4) (k : Fin 1024) :
    iblk m c 11 t (ix2 i k) = aG m c (ix2 i k) := by
  blk_simp [iblk, index11]
  rw [V_main_arg6]
  refine congrArg _ ?_
  blk_ext [index11]

/-- the out-projection, -/
theorem iblk12 (j l : Fin 1024) :
    iblk m c 12 t (ix2 j l) = aP m c (ix2 j l) := by
  blk_simp [iblk, index12]
  rw [V_main_arg7]
  refine congrArg _ ?_
  blk_ext [index12]

/-- and the feed-forward part's weights, -/
theorem iblk13 (k : Fin 1024) (j : Fin 5632) :
    iblk m c 13 t (ix2 k j) = aW m c (ix2 k j) := by
  blk_simp [iblk, index13]
  rw [V_main_arg8]
  refine congrArg _ ?_
  blk_ext [index13]

/-- both of them. -/
theorem iblk14 (j : Fin 2816) (k : Fin 1024) :
    iblk m c 14 t (ix2 j k) = aD m c (ix2 j k) := by
  blk_simp [iblk, index14]
  rw [V_main_arg9]
  refine congrArg _ ?_
  blk_ext [index14]

/-- What the rows of a tile meet. -/
theorem par_eq (M : Vec Ideal S1x1x6x1024 .f32) (b : Fin 32) (n : Fin 2) (hM : ∀ i k, M (ix4 0 0 i k) = aM m c (ix4 b n i k)) :
    parOf M (iblk m c 11 t) (iblk m c 13 t) (iblk m c 14 t) = par (aM m c) (aG m c) (aW m c) (aD m c) b n := by
  unfold parOf par
  simp only [hM, iblk11, iblk13, iblk14]

/-- A tile's row of the mixer, projected. -/
theorem read_eq (f b : Vec Ideal S1x8x256x128 .bf16) (z : Vec Ideal S1x256x1024 .bf16) (r : Fin 256) (n : Fin 32) (s : Fin 2304)
    (hf : ∀ h d, f (ix4 0 h r d) = aF m c (ix4 n h s d)) (hb : ∀ h d, b (ix4 0 h r d) = aB m c (ix4 n h s d)) (hz : ∀ j, z (ix3 0 r j) = aZ m c (ix3 n s j)) :
    readOf f b z (iblk m c 10 t) (iblk m c 12 t) r = readAt (aF m c) (aB m c) (aZ m c) (aN m c) (aP m c) n s := by
  unfold readOf readAt scans
  simp only [hf, hb, hz, iblk10, iblk12]

/-- The whole result, at an index. -/
abbrev resAt (p : Fin 144) (R : Fin 512) (k : Fin 1024) : EReal :=
  ending (aF m c) (aB m c) (aZ m c) (aN m c) (aP m c) (aX m c) (aM m c) (aG m c) (aW m c) (aD m c) (batchOf p R) (tokOf p R) k

/-- What a point leaves in the first half of its block, -/
theorem after_fst (r : Fin 256) (R : Fin 512) (hR : R.val = r.val) (k : Fin 1024) :
    (dats m 0 c).after 15 t (ix3 0 R k) = resAt m c (ptOf t) R k := by
  have ht := lt_grid t
  rw [after0_15]
  refine (block_fst
    (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) _
    _ _ _ _ _ _ _ _ _ _ _ _ _ _ _ c _ r R hR k).trans ?_
  unfold resAt ending token
  rw [par_eq m c t _ (batchOf (ptOf t) R) (kindOf (tokOf (ptOf t) R)) fun i k => iblk4 m c t i k _ _ (by dsimp only; omega) (by rw [kindOf_val]; dsimp only; omega)]
  refine congrArg₂ (fun x y => out _ x y k) (funext fun j => iblk0 m c t r j _ _ (by dsimp only; omega) (by dsimp only; omega)) ?_
  refine read_eq m c t _ _ _ r _ _ (fun h d => ?_) (fun h d => ?_) (fun j => ?_)
  · exact iblk1 m c t h r d _ _ (by dsimp only; omega) (by dsimp only; omega)
  · exact iblk2 m c t h r d _ _ (by dsimp only; omega) (by dsimp only; omega)
  · exact iblk3 m c t r j _ _ (by dsimp only; omega) (by dsimp only; omega)

/-- and in the second. -/
theorem after_snd (r : Fin 256) (R : Fin 512) (hR : R.val = 256 + r.val) (k : Fin 1024) :
    (dats m 0 c).after 15 t (ix3 0 R k) = resAt m c (ptOf t) R k := by
  have ht := lt_grid t
  rw [after0_15]
  refine (block_snd
    (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) _
    _ _ _ _ _ _ _ _ _ _ _ _ _ _ _ c _ r R hR k).trans ?_
  unfold resAt ending token
  rw [par_eq m c t _ (batchOf (ptOf t) R) (kindOf (tokOf (ptOf t) R)) fun i k => iblk9 m c t i k _ _ (by dsimp only; omega) (by rw [kindOf_val]; dsimp only; omega)]
  refine congrArg₂ (fun x y => out _ x y k) (funext fun j => iblk5 m c t r j _ _ (by dsimp only; omega) (by dsimp only; omega)) ?_
  refine read_eq m c t _ _ _ r _ _ (fun h d => ?_) (fun h d => ?_) (fun j => ?_)
  · exact iblk6 m c t h r d _ _ (by dsimp only; omega) (by dsimp only; omega)
  · exact iblk7 m c t h r d _ _ (by dsimp only; omega) (by dsimp only; omega)
  · exact iblk8 m c t r j _ _ (by dsimp only; omega) (by dsimp only; omega)

/-- What a point leaves in its block of the result. -/
theorem after_apply (R : Fin 512) (k : Fin 1024) : (dats m 0 c).after 15 t (ix3 0 R k) = resAt m c (ptOf t) R k := by
  by_cases h : R.val < 256
  · exact after_fst m c t ⟨R.val, h⟩ R rfl k
  · exact after_snd m c t ⟨R.val - 256, by omega⟩ R (by dsimp only; omega) k

/-- The result's blocks fill its array. -/
theorem cover15 (i : S144x512x1024.Idx) : ∃ t : Fin cfg0.N, (cfg0.win 15).flush t = true ∧ i ∈ ((cfg0.win 15).blk t).view.set := by
  have hN : cfg0.N = 144 := N_0
  have h0 : (i 0 : ℕ) < 144 := (i 0).isLt
  have h1 : (i 1 : ℕ) < 512 := (i 1).isLt
  have h2 : (i 2 : ℕ) < 1024 := (i 2).isLt
  obtain ⟨t, et⟩ : ∃ t : Fin cfg0.N, t.val = (i 0 : ℕ) := ⟨⟨(i 0 : ℕ), by omega⟩, rfl⟩
  refine ⟨t, flush0_15 t, ?_⟩
  mem_blk [index15]
  omega

/-- The whole result array after the run. -/
theorem result_eq : (dats m 0 c).arrAt 15 cfg0.N = fun i : S144x512x1024.Idx => resAt m c (i 0) (i 1) (i 2) := by
  refine (dats m 0 c).arrAt_eq_of_emb 15 _ (fun t hf y => ?_) cover15
  have h0 : ((y 0 : Fin 1) : ℕ) < 1 := (y 0).isLt
  have hy : y = (ix3 (0 : Fin 1) (y 1) (y 2) : S1x512x1024.Idx) := by
    funext a
    match a with
    | ⟨0, _⟩ => exact Fin.ext (by show ((y 0 : Fin 1) : ℕ) = 0; omega)
    | ⟨1, _⟩ => rfl
    | ⟨2, _⟩ => rfl
  have e0 : (win0_15.blk t).view.emb y 0 = ptOf t := Fin.ext (by blk_simp [index15])
  have e1 : (win0_15.blk t).view.emb y 1 = (y 1 : Fin 512) := Fin.ext (by blk_simp [index15])
  have e2 : (win0_15.blk t).view.emb y 2 = (y 2 : Fin 1024) := Fin.ext (by blk_simp [index15])
  show (dats m 0 c).after 15 t y = resAt m c ((win0_15.blk t).view.emb y 0) ((win0_15.blk t).view.emb y 1) ((win0_15.blk t).view.emb y 2)
  rw [e0, e1, e2]
  exact (congrArg ((dats m 0 c).after 15 t) hy).trans (after_apply m c t (y 1) (y 2))

end Cert.Gdn
-- ==== Proof.GdnRef.Equation.lean ====
/- The reference's gated delta layer's end is the kernel's, token by token. -/
module

public import proofs.«01_k».proof.Proof.Gen.Reference3Ideal.Read
public import proofs.«01_k».proof.Proof.FfnRef.Equation
public import proofs.«01_k».proof.Proof.Gdn.Spec

@[expose] public section

set_option maxRecDepth 16384

noncomputable section

namespace Cert.GdnRef

open Cert.Reference3Ideal Cert.Reference3Ideal.Gen Cert.Reference3Ideal.Read Idealize.ShloMosaic Idealize.ShloMosaic.Pointwise Cert.Ffn Cert.Gdn

variable (x0 : FVec Ideal S32x2304x1024 .f32) (x1 x2 : FVec Ideal S32x8x2304x128 .bf16) (x3 : FVec Ideal S32x2304x1024 .bf16) (x4 : FVec Ideal S128 .f32)
  (x5 : FVec Ideal S32x2x6x1024 .f32) (x6 : FVec Ideal S4x1024 .f32) (x7 : FVec Ideal S1024x1024 .bf16) (x8 : FVec Ideal S1024x5632 .bf16)
  (x9 : FVec Ideal S2816x1024 .bf16)

/-- The reference finishes the layer as it does after the attention. -/
theorem stage : val_main_v100 (F := Ideal) x0 x1 x2 x3 x4 x5 x6 x7 x8 x9
    = FfnRef.finish x0 (val_main_v22 (F := Ideal) x1 x2 x3 x4 x7) (Reference2Ideal.Read.val_main_v13 (F := Ideal) x5) x6 x8 x9 := by
  rfl

/-- A head of a token, normed. -/
theorem head (b : Fin 32) (s : Fin 2304) (h : Fin 8) (d : Fin 128) :
    val_main_v16 (F := Ideal) x1 x2 x4 (ix4 b s h d) = headRms (fun j => x1 (ix4 b h s j) + x2 (ix4 b h s j)) (fun j => x4 (ix1 j)) d := by
  unfold headRms
  pointwise [val_main_v16, val_main_v15, val_main_v14, val_main_v13, val_main_v12, val_main_v11, val_main_v10, val_main_v9, val_main_v8, val_main_v7,
    val_main_v6, val_main_v5, val_main_v4, val_main_v3, val_main_v2, val_main_v1, val_main_v0, val_main_cst, val_main_cst_0, val_main_cst_1]

/-- The heads side by side, gated. -/
theorem gated (b : Fin 32) (s : Fin 2304) (j : Fin 1024) :
    val_main_v20 (F := Ideal) x1 x2 x3 x4 (ix3 b s j)
      = headRms (fun d => scans x1 x2 b s ⟨128 * (j.val / 128) + d.val, by omega⟩) (fun d => x4 (ix1 d)) ⟨j.val % 128, by omega⟩ * x3 (ix3 b s j) := by
  have e : idx_main_v20 (ix3 b s j) = ix4 b s (⟨j.val / 128, by omega⟩ : Fin 8) (⟨j.val % 128, by omega⟩ : Fin 128) := by
    funext a
    match a with
    | ⟨0, _⟩ => exact Fin.ext (by show ((b.val * 2304 + s.val) * 1024 + j.val) / 2359296 = b.val; omega)
    | ⟨1, _⟩ => exact Fin.ext (by show ((b.val * 2304 + s.val) * 1024 + j.val) / 1024 % 2304 = s.val; omega)
    | ⟨2, _⟩ => exact Fin.ext (by show ((b.val * 2304 + s.val) * 1024 + j.val) / 128 % 8 = j.val / 128; omega)
    | ⟨3, _⟩ => exact Fin.ext (by show ((b.val * 2304 + s.val) * 1024 + j.val) % 128 = j.val % 128; omega)
  have e' : idx_main_v18 (ix4 b s (⟨j.val / 128, by omega⟩ : Fin 8) (⟨j.val % 128, by omega⟩ : Fin 128)) = ix3 b s j := by
    funext a
    match a with
    | ⟨0, _⟩ => exact Fin.ext (by show (((b.val * 2304 + s.val) * 8 + j.val / 128) * 128 + j.val % 128) / 2359296 = b.val; omega)
    | ⟨1, _⟩ => exact Fin.ext (by show (((b.val * 2304 + s.val) * 8 + j.val / 128) * 128 + j.val % 128) / 1024 % 2304 = s.val; omega)
    | ⟨2, _⟩ => exact Fin.ext (by show (((b.val * 2304 + s.val) * 8 + j.val / 128) * 128 + j.val % 128) % 1024 = j.val; omega)
  have hd : (fun d : Fin 128 => x1 (ix4 b (⟨j.val / 128, by omega⟩ : Fin 8) s d) + x2 (ix4 b (⟨j.val / 128, by omega⟩ : Fin 8) s d))
      = fun d => scans x1 x2 b s ⟨128 * (j.val / 128) + d.val, by omega⟩ := by
    funext d
    unfold scans
    have q : (⟨(128 * (j.val / 128) + d.val) / 128, by omega⟩ : Fin 8) = ⟨j.val / 128, by omega⟩ :=
      Fin.ext (by show (128 * (j.val / 128) + d.val) / 128 = j.val / 128; omega)
    have q' : (⟨(128 * (j.val / 128) + d.val) % 128, by omega⟩ : Fin 128) = d := Fin.ext (by show (128 * (j.val / 128) + d.val) % 128 = d.val; omega)
    rw [q, q']
  rw [val_main_v20_apply, e, val_main_v19_apply, head, val_main_v18_apply, e', hd]
  rfl

/-- Projected. -/
theorem proj (b : Fin 32) (s : Fin 2304) (l : Fin 1024) : val_main_v22 (F := Ideal) x1 x2 x3 x4 x7 (ix3 b s l) = readAt x1 x2 x3 x4 x7 b s l := by
  rw [val_main_v22_apply]
  unfold readAt readRow dot
  refine Finset.sum_congr rfl fun k _ => ?_
  refine congrArg₂ (fun (p q : EReal) => p * q) ?_ ?_
  · exact (congrArg _ (funext fun a => match a with | ⟨0, _⟩ => rfl | ⟨1, _⟩ => rfl | ⟨2, _⟩ => rfl)).trans (gated x1 x2 x3 x4 b s k)
  · exact congrArg x7 (funext fun a => match a with | ⟨0, _⟩ => rfl | ⟨1, _⟩ => rfl)

/-- The reference's layer, at a token. -/
theorem token_eq (b : Fin 32) (s : Fin 2304) (k : Fin 1024) :
    val_main_v100 (F := Ideal) x0 x1 x2 x3 x4 x5 x6 x7 x8 x9 (ix3 b s k) = ending x1 x2 x3 x4 x7 x0 x5 x6 x8 x9 b s k := by
  rw [stage]
  refine (FfnRef.finish_token x0 x5 x6 x8 x9 _ b s k).trans ?_
  exact congrArg (fun y => token x0 x5 x6 x8 x9 y b s k) (funext fun l => proj x1 x2 x3 x4 x7 b s l)

/-- The token at an index of the result. -/
theorem token_idx (i : S144x512x1024.Idx) : idx_main_v101 i = ix3 (batchOf (i 0) (i 1)) (tokOf (i 0) (i 1)) (i 2) := FfnRef.token_idx i

/-- The reference's result. -/
theorem result_eq : val_main_v101 (F := Ideal) x0 x1 x2 x3 x4 x5 x6 x7 x8 x9
    = fun i : S144x512x1024.Idx => ending x1 x2 x3 x4 x7 x0 x5 x6 x8 x9 (batchOf (i 0) (i 1)) (tokOf (i 0) (i 1)) (i 2) := by
  funext i
  rw [val_main_v101_apply, token_idx]
  exact token_eq x0 x1 x2 x3 x4 x5 x6 x7 x8 x9 _ _ _

end Cert.GdnRef
-- ==== Proof.GdnClaims.lean ====
module

public import proofs.«01_k».proof.Defs
public import proofs.«01_k».proof.Proof.Gdn.Array
public import proofs.«01_k».proof.Proof.GdnRef.Equation
public import proofs.«01_k».proof.Proof.Gen.Kernel3.Frame
public import proofs.«01_k».proof.Proof.Gen.Kernel3Ideal.Frame

@[expose] public section

noncomputable section

namespace Cert.Proof.GdnClaims

open Idealize.ShloMosaic Idealize.ShloMosaic.TcCoe Idealize.SL.Sem

/-- The kernel at the end of an odd layer runs, with its arguments unchanged. -/
theorem frame_p : Cert.quiescent_Kernel3 := fun m ρ _ => Cert.Kernel3.Gen.frame m ρ
/-- So does it over the reals. -/
theorem frame_pi : Cert.quiescent_Kernel3Ideal := fun m ρ _ => Cert.Kernel3Ideal.Gen.frame m ρ
/-- The reference runs, with its arguments unchanged. -/
theorem frame_ri : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

/-- The ideal kernel is the kernel's own text. -/
theorem preserves : Cert.preserves_Kernel3_Kernel3Ideal := trivial

/-- Over the reals the kernel and the reference end with one result. -/
theorem algebraic : Cert.algebraic_Kernel3Ideal_Reference3Ideal := by
  intro m ρ m' ρ' _ hagree
  refine ⟨fun c => fun i : Cert.Kernel3Ideal.S144x512x1024.Idx => Cert.Gdn.resAt m c (i 0) (i 1) (i 2), ?_, ?_⟩
  · exact (θ_run Cert.Kernel3Ideal.defs _ _).mono (fun r h c => ⟨(h c).1.trans (Cert.Gdn.result_eq m c), (h c).2⟩)
      (Cert.Kernel3Ideal.Value.run_blocks m ρ)
  · refine (θ_run Cert.Reference3Ideal.defs _ _).mono (fun r h c => ⟨(h c).1.trans ?_, (h c).2⟩) (Cert.Reference3Ideal.Value.run (F := Ideal) m' ρ')
    obtain ⟨e0, e1, e2, e3, e4, e5, e6, e7, e8, e9⟩ := hagree c
    refine (Cert.Reference3Ideal.Read.val_main_v101_eq (StableHlo.launchContents m' c)).trans ?_
    refine (Cert.GdnRef.result_eq _ _ _ _ _ _ _ _ _ _).trans ?_
    show (fun i : Cert.Kernel3Ideal.S144x512x1024.Idx =>
      Cert.Gdn.ending (m' ((c.tc : Thread Cert.Reference3Ideal.nD Cert.Reference3Ideal.τ).loc Cert.Reference3Ideal.main_arg1))
        (m' ((c.tc : Thread Cert.Reference3Ideal.nD Cert.Reference3Ideal.τ).loc Cert.Reference3Ideal.main_arg2))
        (m' ((c.tc : Thread Cert.Reference3Ideal.nD Cert.Reference3Ideal.τ).loc Cert.Reference3Ideal.main_arg3))
        (m' ((c.tc : Thread Cert.Reference3Ideal.nD Cert.Reference3Ideal.τ).loc Cert.Reference3Ideal.main_arg4))
        (m' ((c.tc : Thread Cert.Reference3Ideal.nD Cert.Reference3Ideal.τ).loc Cert.Reference3Ideal.main_arg7))
        (m' ((c.tc : Thread Cert.Reference3Ideal.nD Cert.Reference3Ideal.τ).loc Cert.Reference3Ideal.main_arg0))
        (m' ((c.tc : Thread Cert.Reference3Ideal.nD Cert.Reference3Ideal.τ).loc Cert.Reference3Ideal.main_arg5))
        (m' ((c.tc : Thread Cert.Reference3Ideal.nD Cert.Reference3Ideal.τ).loc Cert.Reference3Ideal.main_arg6))
        (m' ((c.tc : Thread Cert.Reference3Ideal.nD Cert.Reference3Ideal.τ).loc Cert.Reference3Ideal.main_arg8))
        (m' ((c.tc : Thread Cert.Reference3Ideal.nD Cert.Reference3Ideal.τ).loc Cert.Reference3Ideal.main_arg9))
        (Cert.Ffn.batchOf (i 0) (i 1)) (Cert.Ffn.tokOf (i 0) (i 1)) (i 2)) = _
    rw [e0, e1, e2, e3, e4, e5, e6, e7, e8, e9]

end Cert.Proof.GdnClaims
-- ==== Proof.GdnLast.Block.lean ====
/- The block the kernel writes at a grid point: two tiles of tokens after the layer, the context's tiles left out. -/
module

public import proofs.«01_k».proof.Proof.Gen.Kernel4Ideal.Value
public import proofs.«01_k».proof.Proof.Gdn.Tile

@[expose] public section

set_option maxRecDepth 16384

noncomputable section

namespace Cert.GdnLast

open Cert.Kernel4Ideal Cert.Kernel4Ideal.Gen Cert.Ffn Cert.Gdn Idealize.ShloMosaic Idealize.ShloMosaic.Pointwise

section Run

variable
  {arg1 : Memref sig .tc .vmem S1x256x1024 .f32}
  {arg2 : Memref sig .tc .vmem S1x8x256x128 .bf16}
  {arg3 : Memref sig .tc .vmem S1x8x256x128 .bf16}
  {arg4 : Memref sig .tc .vmem S1x256x1024 .bf16}
  {arg5 : Memref sig .tc .vmem S1x1x6x1024 .f32}
  {arg6 : Memref sig .tc .vmem S1x256x1024 .f32}
  {arg7 : Memref sig .tc .vmem S1x8x256x128 .bf16}
  {arg8 : Memref sig .tc .vmem S1x8x256x128 .bf16}
  {arg9 : Memref sig .tc .vmem S1x256x1024 .bf16}
  {arg10 : Memref sig .tc .vmem S1x1x6x1024 .f32}
  {arg11 : Memref sig .tc .vmem S1x128 .f32}
  {arg12 : Memref sig .tc .vmem S4x1024 .f32}
  {arg13 : Memref sig .tc .vmem S1024x1024 .bf16}
  {arg14 : Memref sig .tc .vmem S1024x5632 .bf16}
  {arg15 : Memref sig .tc .vmem S2816x1024 .bf16}
  {arg16 : Memref sig .tc .vmem S1x512x1024 .f32}
  {arg17 : Memref sig .tc .vmem S2x256x2816 .bf16}
  (h1 : arg1.IsWhole) (h2 : arg2.IsWhole) (h3 : arg3.IsWhole) (h4 : arg4.IsWhole) (h5 : arg5.IsWhole) (h6 : arg6.IsWhole) (h7 : arg7.IsWhole) (h8 :
  arg8.IsWhole) (h9 : arg9.IsWhole) (h10 : arg10.IsWhole) (h11 : arg11.IsWhole) (h12 : arg12.IsWhole) (h13 : arg13.IsWhole) (h14 : arg14.IsWhole) (h15
  : arg15.IsWhole) (h16 : arg16.IsWhole) (h17 : arg17.IsWhole)
  (x0 : Vec Ideal S1x256x1024 .f32) (x1 : Vec Ideal S1x8x256x128 .bf16) (x2 : Vec Ideal S1x8x256x128 .bf16) (x3 : Vec Ideal S1x256x1024 .bf16) (x4 :
  Vec Ideal S1x1x6x1024 .f32) (x5 : Vec Ideal S1x256x1024 .f32) (x6 : Vec Ideal S1x8x256x128 .bf16) (x7 : Vec Ideal S1x8x256x128 .bf16) (x8 : Vec
  Ideal S1x256x1024 .bf16) (x9 : Vec Ideal S1x1x6x1024 .f32) (x10 : Vec Ideal S1x128 .f32) (x11 : Vec Ideal S4x1024 .f32) (x12 : Vec Ideal S1024x1024
  .bf16) (x13 : Vec Ideal S1024x5632 .bf16) (x14 : Vec Ideal S2816x1024 .bf16)

/-- The first tile's hidden units, loaded, -/
theorem load_fst (c : Dev nD) (r : Fin 256) (j : Fin 2816) :
    kernelRun0_A.sl.v517 (F := Ideal)
      c arg1 h1 arg2 h2 arg3 h3 arg4 h4 arg5 h5 arg11 h11 arg12 h12 arg13 h13 arg14 h14 arg17 x0 x1 x2 x3 x4 x10 x11 x12 x13 (ix3 0 r j)
      = unitAt (hidOf h11 h12 h13 x10 x11 x12 h1 h2 h3 h4 h5 x0 x1 x2 x3 x4) x13 r j := by
  unfold kernelRun0_A.sl.v517
  refine Cols.load (m := 0) (H := hidOf h11 h12 h13 x10 x11 x12 h1 h2 h3 h4 h5 x0 x1 x2 x3 x4) (W := x13) ?_ rfl _ r j
  exact
  .chunk (b := 2560) h14 rfl rfl rfl (by decide) (by rfl) <| .chunk (b := 2304) h14 rfl rfl rfl (by decide) (by rfl) <|
  .chunk (b := 2048) h14 rfl rfl rfl (by decide) (by rfl) <| .chunk (b := 1792) h14 rfl rfl rfl (by decide) (by rfl) <|
  .chunk (b := 1536) h14 rfl rfl rfl (by decide) (by rfl) <| .chunk (b := 1280) h14 rfl rfl rfl (by decide) (by rfl) <|
  .chunk (b := 1024) h14 rfl rfl rfl (by decide) (by rfl) <| .chunk (b := 768) h14 rfl rfl rfl (by decide) (by rfl) <|
  .chunk (b := 512) h14 rfl rfl rfl (by decide) (by rfl) <| .chunk (b := 256) h14 rfl rfl rfl (by decide) (by rfl) <|
  .chunk (b := 0) h14 rfl rfl rfl (by decide) (by rfl) (.nil _)

/-- and the second's. -/
theorem load_snd (c : Dev nD) (r : Fin 256) (j : Fin 2816) :
    kernelRun0_A.sl.v705 (F := Ideal)
      c arg1 h1 arg2 h2 arg3 h3 arg4 h4 arg5 h5 arg6 h6 arg7 h7 arg8 h8 arg9 h9 arg10 h10 arg11 h11 arg12 h12 arg13 h13 arg14 h14 arg17 x0 x1 x2 x3 x4
      x5 x6 x7 x8 x9 x10 x11 x12 x13 (ix3 0 r j)
      = unitAt (hidOf h11 h12 h13 x10 x11 x12 h6 h7 h8 h9 h10 x5 x6 x7 x8 x9) x13 r j := by
  unfold kernelRun0_A.sl.v705
  refine Cols.load (m := 1) (H := hidOf h11 h12 h13 x10 x11 x12 h6 h7 h8 h9 h10 x5 x6 x7 x8 x9) (W := x13) ?_ rfl _ r j
  exact
  .chunk (b := 2560) h14 rfl rfl rfl (by decide) (by rfl) <| .chunk (b := 2304) h14 rfl rfl rfl (by decide) (by rfl) <|
  .chunk (b := 2048) h14 rfl rfl rfl (by decide) (by rfl) <| .chunk (b := 1792) h14 rfl rfl rfl (by decide) (by rfl) <|
  .chunk (b := 1536) h14 rfl rfl rfl (by decide) (by rfl) <| .chunk (b := 1280) h14 rfl rfl rfl (by decide) (by rfl) <|
  .chunk (b := 1024) h14 rfl rfl rfl (by decide) (by rfl) <| .chunk (b := 768) h14 rfl rfl rfl (by decide) (by rfl) <|
  .chunk (b := 512) h14 rfl rfl rfl (by decide) (by rfl) <| .chunk (b := 256) h14 rfl rfl rfl (by decide) (by rfl) <|
  .chunk (b := 0) h14 rfl rfl rfl (by decide) (by rfl) (.nil _)

/-- The block's two stores. -/
theorem run_eq (c : Dev nD) (i : grid0.Coords) :
    (kernelRun0_A (F := Ideal)
      c i arg1 h1 arg2 h2 arg3 h3 arg4 h4 arg5 h5 arg6 h6 arg7 h7 arg8 h8 arg9 h9 arg10 h10 arg11 h11 arg12 h12 arg13 h13 arg14 h14 arg15 h15 arg16
      h16 arg17 h17 x0 x1 x2 x3 x4 x5 x6 x7 x8 x9 x10 x11 x12 x13 x14).1
      = two inb_S1x512x1024_S1x256x1024_0_0_0 inb_S1x512x1024_S1x256x1024_0_256_0
          (tileOf h11 h12 h13 x10 x11 x12 h15 x14 h1 h2 h3 h4 h5 x0 x1 x2 x3 x4
            (kernelRun0_A.sl.v517 (F := Ideal)
              c arg1 h1 arg2 h2 arg3 h3 arg4 h4 arg5 h5 arg11 h11 arg12 h12 arg13 h13 arg14 h14 arg17 x0 x1 x2 x3 x4 x10 x11 x12 x13))
          (tileOf h11 h12 h13 x10 x11 x12 h15 x14 h6 h7 h8 h9 h10 x5 x6 x7 x8 x9
            (kernelRun0_A.sl.v705 (F := Ideal)
              c arg1 h1 arg2 h2 arg3 h3 arg4 h4 arg5 h5 arg6 h6 arg7 h7 arg8 h8 arg9 h9 arg10 h10 arg11 h11 arg12 h12 arg13 h13 arg14 h14 arg17 x0 x1
              x2 x3 x4 x5 x6 x7 x8 x9 x10 x11 x12 x13)) := by
  rfl

/-- The block's first half, -/
theorem block_fst (c : Dev nD) (i : grid0.Coords) (r : Fin 256) (R : Fin 512) (hR : R.val = r.val) (k : Fin 1024) :
    out0_A_15 (F := Ideal)
      c i arg1 h1 arg2 h2 arg3 h3 arg4 h4 arg5 h5 arg6 h6 arg7 h7 arg8 h8 arg9 h9 arg10 h10 arg11 h11 arg12 h12 arg13 h13 arg14 h14 arg15 h15 arg16
      h16 arg17 h17 x0 x1 x2 x3 x4 x5 x6 x7 x8 x9 x10 x11 x12 x13 x14 (ix3 0 R k)
      = out (parOf x4 x11 x13 x14) (fun j => x0 (ix3 0 r j)) (readOf x1 x2 x3 x10 x12 r) k := by
  refine (congrFun (View.read_writes_junk_eq_canon VO0_15 _) _).trans ?_
  rw [run_eq]
  exact (two_fst _ _ _ _ r R hR k).trans (tileOf_apply h11 h12 h13 x10 x11 x12 h15 x13 x14 h1 h2 h3 h4 h5 x0 x1 x2 x3 x4 _ (load_fst _ _ _ _ _ _ _ _ _ _ _ _ _ _ _ _ _ _ c) r k)

/-- and its second. -/
theorem block_snd (c : Dev nD) (i : grid0.Coords) (r : Fin 256) (R : Fin 512) (hR : R.val = 256 + r.val) (k : Fin 1024) :
    out0_A_15 (F := Ideal)
      c i arg1 h1 arg2 h2 arg3 h3 arg4 h4 arg5 h5 arg6 h6 arg7 h7 arg8 h8 arg9 h9 arg10 h10 arg11 h11 arg12 h12 arg13 h13 arg14 h14 arg15 h15 arg16
      h16 arg17 h17 x0 x1 x2 x3 x4 x5 x6 x7 x8 x9 x10 x11 x12 x13 x14 (ix3 0 R k)
      = out (parOf x9 x11 x13 x14) (fun j => x5 (ix3 0 r j)) (readOf x6 x7 x8 x10 x12 r) k := by
  refine (congrFun (View.read_writes_junk_eq_canon VO0_15 _) _).trans ?_
  rw [run_eq]
  exact (two_snd _ _ _ _ r R hR k).trans
    (tileOf_apply h11 h12 h13 x10 x11 x12 h15 x13 x14 h6 h7 h8 h9 h10 x5 x6 x7 x8 x9 _ (load_snd _ _ _ _ _ _ _ _ _ _ _ _ _ _ _ _ _ _ _ _ _ _ _ _ _ _ _ _ c) r k)

end Run

end Cert.GdnLast
-- ==== Proof.GdnLast.Array.lean ====
/- The result array of the kernel in the last layer. -/
module

public import proofs.«01_k».proof.Proof.GdnLast.Block
public import proofs.«01_k».proof.Proof.Gdn.Spec
public import Idealize.ShloMosaic.Lib.Pipeline.ValueKit

@[expose] public section

set_option maxRecDepth 16384

noncomputable section

namespace Cert.GdnLast

open Cert.Kernel4Ideal Cert.Kernel4Ideal.Gen Idealize.ShloMosaic Idealize.ShloMosaic.TcCoe Idealize.SL.Sem
open Cert.Gdn (ending readRow readAt readOf scans)
open Cert.Ffn (Par parOf par out token kindOf kindOf_val)
open Idealize.ShloMosaic.Pointwise

variable (m : (ℓ : Loc nD τ sig) → Buf (Elt Ideal) ℓ)

/-- Each window's block index at a point: the first tile's, -/
theorem index0 : ∀ t : Fin cfg0.N, win0_0.index t = ![2 * t.val / 8, 2 * t.val % 8 + 1, 0] :=
  (by decide +kernel : ∀ t : Fin grid0.N, _)
theorem index1 : ∀ t : Fin cfg0.N, win0_1.index t = ![2 * t.val / 8, 0, 2 * t.val % 8 + 1, 0] :=
  (by decide +kernel : ∀ t : Fin grid0.N, _)
theorem index2 : ∀ t : Fin cfg0.N, win0_2.index t = ![2 * t.val / 8, 0, 2 * t.val % 8 + 1, 0] :=
  (by decide +kernel : ∀ t : Fin grid0.N, _)
theorem index3 : ∀ t : Fin cfg0.N, win0_3.index t = ![2 * t.val / 8, 2 * t.val % 8 + 1, 0] :=
  (by decide +kernel : ∀ t : Fin grid0.N, _)
theorem index4 : ∀ t : Fin cfg0.N, win0_4.index t = ![2 * t.val / 8, min (2 * t.val % 8 + 1) 1, 0, 0] :=
  (by decide +kernel : ∀ t : Fin grid0.N, _)
/-- the second tile's, -/
theorem index5 : ∀ t : Fin cfg0.N, win0_5.index t = ![(2 * t.val + 1) / 8, (2 * t.val + 1) % 8 + 1, 0] :=
  (by decide +kernel : ∀ t : Fin grid0.N, _)
theorem index6 : ∀ t : Fin cfg0.N, win0_6.index t = ![(2 * t.val + 1) / 8, 0, (2 * t.val + 1) % 8 + 1, 0] :=
  (by decide +kernel : ∀ t : Fin grid0.N, _)
theorem index7 : ∀ t : Fin cfg0.N, win0_7.index t = ![(2 * t.val + 1) / 8, 0, (2 * t.val + 1) % 8 + 1, 0] :=
  (by decide +kernel : ∀ t : Fin grid0.N, _)
theorem index8 : ∀ t : Fin cfg0.N, win0_8.index t = ![(2 * t.val + 1) / 8, (2 * t.val + 1) % 8 + 1, 0] :=
  (by decide +kernel : ∀ t : Fin grid0.N, _)
theorem index9 : ∀ t : Fin cfg0.N, win0_9.index t = ![(2 * t.val + 1) / 8, min ((2 * t.val + 1) % 8 + 1) 1, 0, 0] :=
  (by decide +kernel : ∀ t : Fin grid0.N, _)
/-- the weights', -/
theorem index10 : ∀ t : Fin cfg0.N, win0_10.index t = ![0, 0] :=
  (by decide +kernel : ∀ t : Fin grid0.N, _)
theorem index11 : ∀ t : Fin cfg0.N, win0_11.index t = ![0, 0] :=
  (by decide +kernel : ∀ t : Fin grid0.N, _)
theorem index12 : ∀ t : Fin cfg0.N, win0_12.index t = ![0, 0] :=
  (by decide +kernel : ∀ t : Fin grid0.N, _)
theorem index13 : ∀ t : Fin cfg0.N, win0_13.index t = ![0, 0] :=
  (by decide +kernel : ∀ t : Fin grid0.N, _)
theorem index14 : ∀ t : Fin cfg0.N, win0_14.index t = ![0, 0] :=
  (by decide +kernel : ∀ t : Fin grid0.N, _)
/-- and the result's. -/
theorem index15 : ∀ t : Fin cfg0.N, win0_15.index t = ![t.val, 0, 0] :=
  (by decide +kernel : ∀ t : Fin grid0.N, _)

/-- The grid has 128 points. -/
theorem lt_grid (t : Fin cfg0.N) : t.val < 128 := by have h : cfg0.N = 128 := N_0; have := t.isLt; omega

/-- A point, as a number. -/
abbrev ptOf (t : Fin cfg0.N) : Fin 128 := ⟨t.val, lt_grid t⟩

/-- The token at a row of the result. -/
abbrev batchOf (t : Fin 128) (R : Fin 512) : Fin 32 := ⟨(512 * t.val + R.val) / 2048, by omega⟩
abbrev tokOf (t : Fin 128) (R : Fin 512) : Fin 2304 := ⟨256 + (512 * t.val + R.val) % 2048, by omega⟩

variable (c : Dev nD) (t : Fin cfg0.N)

/-- The arguments of a device. -/
abbrev aX : FVec Ideal S32x2304x1024 .f32 := m ((c : Thread nD τ).loc main_arg0)
abbrev aF : FVec Ideal S32x8x2304x128 .bf16 := m ((c : Thread nD τ).loc main_arg1)
abbrev aB : FVec Ideal S32x8x2304x128 .bf16 := m ((c : Thread nD τ).loc main_arg2)
abbrev aZ : FVec Ideal S32x2304x1024 .bf16 := m ((c : Thread nD τ).loc main_arg3)
abbrev aN : FVec Ideal S128 .f32 := m ((c : Thread nD τ).loc main_arg4)
abbrev aM : FVec Ideal S32x2x6x1024 .f32 := m ((c : Thread nD τ).loc main_arg5)
abbrev aG : FVec Ideal S4x1024 .f32 := m ((c : Thread nD τ).loc main_arg6)
abbrev aP : FVec Ideal S1024x1024 .bf16 := m ((c : Thread nD τ).loc main_arg7)
abbrev aW : FVec Ideal S1024x5632 .bf16 := m ((c : Thread nD τ).loc main_arg8)
abbrev aD : FVec Ideal S2816x1024 .bf16 := m ((c : Thread nD τ).loc main_arg9)

/-- The tokens of the first tile, -/
theorem iblk0 (r : Fin 256) (j : Fin 1024) (b : Fin 32) (s : Fin 2304) (hb : b.val = 2 * t.val / 8) (hs : s.val = 256 * (2 * t.val % 8 + 1) + r.val) :
    iblk m c 0 t (ix3 0 r j) = aX m c (ix3 b s j) := by
  blk_simp [iblk, index0]
  rw [V_main_arg0]
  refine congrArg _ ?_
  blk_ext [index0]

/-- its scans, -/
theorem iblk1 (h : Fin 8) (r : Fin 256) (d : Fin 128) (b : Fin 32) (s : Fin 2304) (hb : b.val = 2 * t.val / 8) (hs : s.val = 256 * (2 * t.val % 8 + 1) + r.val) :
    iblk m c 1 t (ix4 0 h r d) = aF m c (ix4 b h s d) := by
  blk_simp [iblk, index1]
  rw [V_main_arg1]
  refine congrArg _ ?_
  blk_ext [index1]

/-- both of them, -/
theorem iblk2 (h : Fin 8) (r : Fin 256) (d : Fin 128) (b : Fin 32) (s : Fin 2304) (hb : b.val = 2 * t.val / 8) (hs : s.val = 256 * (2 * t.val % 8 + 1) + r.val) :
    iblk m c 2 t (ix4 0 h r d) = aB m c (ix4 b h s d) := by
  blk_simp [iblk, index2]
  rw [V_main_arg2]
  refine congrArg _ ?_
  blk_ext [index2]

/-- its gates, -/
theorem iblk3 (r : Fin 256) (j : Fin 1024) (b : Fin 32) (s : Fin 2304) (hb : b.val = 2 * t.val / 8) (hs : s.val = 256 * (2 * t.val % 8 + 1) + r.val) :
    iblk m c 3 t (ix3 0 r j) = aZ m c (ix3 b s j) := by
  blk_simp [iblk, index3]
  rw [V_main_arg3]
  refine congrArg _ ?_
  blk_ext [index3]

/-- and its vectors. -/
theorem iblk4 (i : Fin 6) (k : Fin 1024) (b : Fin 32) (n : Fin 2) (hb : b.val = 2 * t.val / 8) (hn : n.val = min (2 * t.val % 8 + 1) 1) :
    iblk m c 4 t (ix4 0 0 i k) = aM m c (ix4 b n i k) := by
  blk_simp [iblk, index4]
  rw [V_main_arg5]
  refine congrArg _ ?_
  blk_ext [index4]

/-- The tokens of the second tile, -/
theorem iblk5 (r : Fin 256) (j : Fin 1024) (b : Fin 32) (s : Fin 2304) (hb : b.val = (2 * t.val + 1) / 8) (hs : s.val = 256 * ((2 * t.val + 1) % 8 + 1) + r.val) :
    iblk m c 5 t (ix3 0 r j) = aX m c (ix3 b s j) := by
  blk_simp [iblk, index5]
  rw [V_main_arg0]
  refine congrArg _ ?_
  blk_ext [index5]

/-- its scans, -/
theorem iblk6 (h : Fin 8) (r : Fin 256) (d : Fin 128) (b : Fin 32) (s : Fin 2304) (hb : b.val = (2 * t.val + 1) / 8) (hs : s.val = 256 * ((2 * t.val + 1) % 8 + 1) + r.val) :
    iblk m c 6 t (ix4 0 h r d) = aF m c (ix4 b h s d) := by
  blk_simp [iblk, index6]
  rw [V_main_arg1]
  refine congrArg _ ?_
  blk_ext [index6]

/-- both of them, -/
theorem iblk7 (h : Fin 8) (r : Fin 256) (d : Fin 128) (b : Fin 32) (s : Fin 2304) (hb : b.val = (2 * t.val + 1) / 8) (hs : s.val = 256 * ((2 * t.val + 1) % 8 + 1) + r.val) :
    iblk m c 7 t (ix4 0 h r d) = aB m c (ix4 b h s d) := by
  blk_simp [iblk, index7]
  rw [V_main_arg2]
  refine congrArg _ ?_
  blk_ext [index7]

/-- its gates, -/
theorem iblk8 (r : Fin 256) (j : Fin 1024) (b : Fin 32) (s : Fin 2304) (hb : b.val = (2 * t.val + 1) / 8) (hs : s.val = 256 * ((2 * t.val + 1) % 8 + 1) + r.val) :
    iblk m c 8 t (ix3 0 r j) = aZ m c (ix3 b s j) := by
  blk_simp [iblk, index8]
  rw [V_main_arg3]
  refine congrArg _ ?_
  blk_ext [index8]

/-- and its vectors. -/
theorem iblk9 (i : Fin 6) (k : Fin 1024) (b : Fin 32) (n : Fin 2) (hb : b.val = (2 * t.val + 1) / 8) (hn : n.val = min ((2 * t.val + 1) % 8 + 1) 1) :
    iblk m c 9 t (ix4 0 0 i k) = aM m c (ix4 b n i k) := by
  blk_simp [iblk, index9]
  rw [V_main_arg5]
  refine congrArg _ ?_
  blk_ext [index9]

/-- The heads' norm's weights, -/
theorem iblk10 (d : Fin 128) : iblk m c 10 t (ix2 0 d) = aN m c (ix1 d) := by
  blk_simp [iblk, index10]
  entry_read
  have e : ((View.whole main_v0).slice (win0_10.rect t)).emb (ix2 0 d) = ix2 0 d := by blk_ext [index10]
  rw [e]
  exact Gdn.reshape_apply _ d

/-- the other norms' weights, -/
theorem iblk11 (i : Fin 4) (k : Fin 1024) :
    iblk m c 11 t (ix2 i k) = aG m c (ix2 i k) := by
  blk_simp [iblk, index11]
  rw [V_main_arg6]
  refine congrArg _ ?_
  blk_ext [index11]

/-- the out-projection, -/
theorem iblk12 (j l : Fin 1024) :
    iblk m c 12 t (ix2 j l) = aP m c (ix2 j l) := by
  blk_simp [iblk, index12]
  rw [V_main_arg7]
  refine congrArg _ ?_
  blk_ext [index12]

/-- and the feed-forward part's weights, -/
theorem iblk13 (k : Fin 1024) (j : Fin 5632) :
    iblk m c 13 t (ix2 k j) = aW m c (ix2 k j) := by
  blk_simp [iblk, index13]
  rw [V_main_arg8]
  refine congrArg _ ?_
  blk_ext [index13]

/-- both of them. -/
theorem iblk14 (j : Fin 2816) (k : Fin 1024) :
    iblk m c 14 t (ix2 j k) = aD m c (ix2 j k) := by
  blk_simp [iblk, index14]
  rw [V_main_arg9]
  refine congrArg _ ?_
  blk_ext [index14]

/-- What the rows of a tile meet. -/
theorem par_eq (M : Vec Ideal S1x1x6x1024 .f32) (b : Fin 32) (n : Fin 2) (hM : ∀ i k, M (ix4 0 0 i k) = aM m c (ix4 b n i k)) :
    parOf M (iblk m c 11 t) (iblk m c 13 t) (iblk m c 14 t) = par (aM m c) (aG m c) (aW m c) (aD m c) b n := by
  unfold parOf par
  simp only [hM, iblk11, iblk13, iblk14]

/-- A tile's row of the mixer, projected. -/
theorem read_eq (f b : Vec Ideal S1x8x256x128 .bf16) (z : Vec Ideal S1x256x1024 .bf16) (r : Fin 256) (n : Fin 32) (s : Fin 2304)
    (hf : ∀ h d, f (ix4 0 h r d) = aF m c (ix4 n h s d)) (hb : ∀ h d, b (ix4 0 h r d) = aB m c (ix4 n h s d)) (hz : ∀ j, z (ix3 0 r j) = aZ m c (ix3 n s j)) :
    readOf f b z (iblk m c 10 t) (iblk m c 12 t) r = readAt (aF m c) (aB m c) (aZ m c) (aN m c) (aP m c) n s := by
  unfold readOf readAt scans
  simp only [hf, hb, hz, iblk10, iblk12]

/-- The whole result, at an index. -/
abbrev resAt (p : Fin 128) (R : Fin 512) (k : Fin 1024) : EReal :=
  ending (aF m c) (aB m c) (aZ m c) (aN m c) (aP m c) (aX m c) (aM m c) (aG m c) (aW m c) (aD m c) (batchOf p R) (tokOf p R) k

/-- What a point leaves in the first half of its block, -/
theorem after_fst (r : Fin 256) (R : Fin 512) (hR : R.val = r.val) (k : Fin 1024) :
    (dats m 0 c).after 15 t (ix3 0 R k) = resAt m c (ptOf t) R k := by
  have ht := lt_grid t
  rw [after0_15]
  refine (block_fst
    (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) _
    _ _ _ _ _ _ _ _ _ _ _ _ _ _ _ c _ r R hR k).trans ?_
  unfold resAt ending token
  rw [par_eq m c t _ (batchOf (ptOf t) R) (kindOf (tokOf (ptOf t) R)) fun i k => iblk4 m c t i k _ _ (by dsimp only; omega) (by rw [kindOf_val]; dsimp only; omega)]
  refine congrArg₂ (fun x y => out _ x y k) (funext fun j => iblk0 m c t r j _ _ (by dsimp only; omega) (by dsimp only; omega)) ?_
  refine read_eq m c t _ _ _ r _ _ (fun h d => ?_) (fun h d => ?_) (fun j => ?_)
  · exact iblk1 m c t h r d _ _ (by dsimp only; omega) (by dsimp only; omega)
  · exact iblk2 m c t h r d _ _ (by dsimp only; omega) (by dsimp only; omega)
  · exact iblk3 m c t r j _ _ (by dsimp only; omega) (by dsimp only; omega)

/-- and in the second. -/
theorem after_snd (r : Fin 256) (R : Fin 512) (hR : R.val = 256 + r.val) (k : Fin 1024) :
    (dats m 0 c).after 15 t (ix3 0 R k) = resAt m c (ptOf t) R k := by
  have ht := lt_grid t
  rw [after0_15]
  refine (block_snd
    (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) _
    _ _ _ _ _ _ _ _ _ _ _ _ _ _ _ c _ r R hR k).trans ?_
  unfold resAt ending token
  rw [par_eq m c t _ (batchOf (ptOf t) R) (kindOf (tokOf (ptOf t) R)) fun i k => iblk9 m c t i k _ _ (by dsimp only; omega) (by rw [kindOf_val]; dsimp only; omega)]
  refine congrArg₂ (fun x y => out _ x y k) (funext fun j => iblk5 m c t r j _ _ (by dsimp only; omega) (by dsimp only; omega)) ?_
  refine read_eq m c t _ _ _ r _ _ (fun h d => ?_) (fun h d => ?_) (fun j => ?_)
  · exact iblk6 m c t h r d _ _ (by dsimp only; omega) (by dsimp only; omega)
  · exact iblk7 m c t h r d _ _ (by dsimp only; omega) (by dsimp only; omega)
  · exact iblk8 m c t r j _ _ (by dsimp only; omega) (by dsimp only; omega)

/-- What a point leaves in its block of the result. -/
theorem after_apply (R : Fin 512) (k : Fin 1024) : (dats m 0 c).after 15 t (ix3 0 R k) = resAt m c (ptOf t) R k := by
  by_cases h : R.val < 256
  · exact after_fst m c t ⟨R.val, h⟩ R rfl k
  · exact after_snd m c t ⟨R.val - 256, by omega⟩ R (by dsimp only; omega) k

/-- The result's blocks fill its array. -/
theorem cover15 (i : S128x512x1024.Idx) : ∃ t : Fin cfg0.N, (cfg0.win 15).flush t = true ∧ i ∈ ((cfg0.win 15).blk t).view.set := by
  have hN : cfg0.N = 128 := N_0
  have h0 : (i 0 : ℕ) < 128 := (i 0).isLt
  have h1 : (i 1 : ℕ) < 512 := (i 1).isLt
  have h2 : (i 2 : ℕ) < 1024 := (i 2).isLt
  obtain ⟨t, et⟩ : ∃ t : Fin cfg0.N, t.val = (i 0 : ℕ) := ⟨⟨(i 0 : ℕ), by omega⟩, rfl⟩
  refine ⟨t, flush0_15 t, ?_⟩
  mem_blk [index15]
  omega

/-- The whole result array after the run. -/
theorem result_eq : (dats m 0 c).arrAt 15 cfg0.N = fun i : S128x512x1024.Idx => resAt m c (i 0) (i 1) (i 2) := by
  refine (dats m 0 c).arrAt_eq_of_emb 15 _ (fun t hf y => ?_) cover15
  have h0 : ((y 0 : Fin 1) : ℕ) < 1 := (y 0).isLt
  have hy : y = (ix3 (0 : Fin 1) (y 1) (y 2) : S1x512x1024.Idx) := by
    funext a
    match a with
    | ⟨0, _⟩ => exact Fin.ext (by show ((y 0 : Fin 1) : ℕ) = 0; omega)
    | ⟨1, _⟩ => rfl
    | ⟨2, _⟩ => rfl
  have e0 : (win0_15.blk t).view.emb y 0 = ptOf t := Fin.ext (by blk_simp [index15])
  have e1 : (win0_15.blk t).view.emb y 1 = (y 1 : Fin 512) := Fin.ext (by blk_simp [index15])
  have e2 : (win0_15.blk t).view.emb y 2 = (y 2 : Fin 1024) := Fin.ext (by blk_simp [index15])
  show (dats m 0 c).after 15 t y = resAt m c ((win0_15.blk t).view.emb y 0) ((win0_15.blk t).view.emb y 1) ((win0_15.blk t).view.emb y 2)
  rw [e0, e1, e2]
  exact (congrArg ((dats m 0 c).after 15 t) hy).trans (after_apply m c t (y 1) (y 2))

end Cert.GdnLast
-- ==== Proof.GdnLastRef.Equation.lean ====
/- The reference's last layer is the kernel's, on the latent tokens. -/
module

public import proofs.«01_k».proof.Proof.Gen.Reference4Ideal.Read
public import proofs.«01_k».proof.Proof.GdnRef.Equation
public import proofs.«01_k».proof.Proof.GdnLast.Array

@[expose] public section

set_option maxRecDepth 16384

noncomputable section

namespace Cert.GdnLastRef

open Cert.Reference4Ideal Cert.Reference4Ideal.Gen Cert.Reference4Ideal.Read Idealize.ShloMosaic Idealize.ShloMosaic.Pointwise
open Cert.Gdn (ending)
open Cert.GdnLast (batchOf tokOf)

variable (x0 : FVec Ideal S32x2304x1024 .f32) (x1 x2 : FVec Ideal S32x8x2304x128 .bf16) (x3 : FVec Ideal S32x2304x1024 .bf16) (x4 : FVec Ideal S128 .f32)
  (x5 : FVec Ideal S32x2x6x1024 .f32) (x6 : FVec Ideal S4x1024 .f32) (x7 : FVec Ideal S1024x1024 .bf16) (x8 : FVec Ideal S1024x5632 .bf16)
  (x9 : FVec Ideal S2816x1024 .bf16)

/-- The layer is the other odd layer's. -/
theorem stage : val_main_v100 (F := Ideal) x0 x1 x2 x3 x4 x5 x6 x7 x8 x9
    = Reference3Ideal.Read.val_main_v100 (F := Ideal) x0 x1 x2 x3 x4 x5 x6 x7 x8 x9 := by
  rfl

/-- The token at an index of the result. -/
theorem token_idx (i : S128x512x1024.Idx) : idx_main_v101 (idx_main_v102 i) = ix3 (batchOf (i 0) (i 1)) (tokOf (i 0) (i 1)) (i 2) := by
  have h1 : (i 1 : ℕ) < 512 := (i 1).isLt
  have h2 : (i 2 : ℕ) < 1024 := (i 2).isLt
  funext a
  match a with
  | ⟨0, _⟩ => exact Fin.ext (by show (((i 0).val * 512 + (i 1).val) * 1024 + (i 2).val) / 2097152 = (512 * (i 0).val + (i 1).val) / 2048; omega)
  | ⟨1, _⟩ =>
    exact Fin.ext (by
      show 256 + (((i 0).val * 512 + (i 1).val) * 1024 + (i 2).val) / 1024 % 2048 = 256 + (512 * (i 0).val + (i 1).val) % 2048
      omega)
  | ⟨2, _⟩ => exact Fin.ext (by show (((i 0).val * 512 + (i 1).val) * 1024 + (i 2).val) % 1024 = (i 2).val; omega)

/-- The reference's result. -/
theorem result_eq : val_main_v102 (F := Ideal) x0 x1 x2 x3 x4 x5 x6 x7 x8 x9
    = fun i : S128x512x1024.Idx => ending x1 x2 x3 x4 x7 x0 x5 x6 x8 x9 (batchOf (i 0) (i 1)) (tokOf (i 0) (i 1)) (i 2) := by
  funext i
  rw [val_main_v102_apply, val_main_v101_apply, token_idx, stage]
  exact GdnRef.token_eq x0 x1 x2 x3 x4 x5 x6 x7 x8 x9 _ _ _

end Cert.GdnLastRef
-- ==== Proof.GdnLastClaims.lean ====
module

public import proofs.«01_k».proof.Defs
public import proofs.«01_k».proof.Proof.GdnLast.Array
public import proofs.«01_k».proof.Proof.GdnLastRef.Equation
public import proofs.«01_k».proof.Proof.Gen.Kernel4.Frame
public import proofs.«01_k».proof.Proof.Gen.Kernel4Ideal.Frame

@[expose] public section

noncomputable section

namespace Cert.Proof.GdnLastClaims

open Idealize.ShloMosaic Idealize.ShloMosaic.TcCoe Idealize.SL.Sem

/-- The kernel at the end of the last layer runs, with its arguments unchanged. -/
theorem frame_p : Cert.quiescent_Kernel4 := fun m ρ _ => Cert.Kernel4.Gen.frame m ρ
/-- So does it over the reals. -/
theorem frame_pi : Cert.quiescent_Kernel4Ideal := fun m ρ _ => Cert.Kernel4Ideal.Gen.frame m ρ
/-- The reference runs, with its arguments unchanged. -/
theorem frame_ri : Cert.quiescent_Reference4Ideal := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)

/-- The ideal kernel is the kernel's own text. -/
theorem preserves : Cert.preserves_Kernel4_Kernel4Ideal := trivial

/-- Over the reals the kernel and the reference end with one result. -/
theorem algebraic : Cert.algebraic_Kernel4Ideal_Reference4Ideal := by
  intro m ρ m' ρ' _ hagree
  refine ⟨fun c => fun i : Cert.Kernel4Ideal.S128x512x1024.Idx => Cert.GdnLast.resAt m c (i 0) (i 1) (i 2), ?_, ?_⟩
  · exact (θ_run Cert.Kernel4Ideal.defs _ _).mono (fun r h c => ⟨(h c).1.trans (Cert.GdnLast.result_eq m c), (h c).2⟩)
      (Cert.Kernel4Ideal.Value.run_blocks m ρ)
  · refine (θ_run Cert.Reference4Ideal.defs _ _).mono (fun r h c => ⟨(h c).1.trans ?_, (h c).2⟩) (Cert.Reference4Ideal.Value.run (F := Ideal) m' ρ')
    obtain ⟨e0, e1, e2, e3, e4, e5, e6, e7, e8, e9⟩ := hagree c
    refine (Cert.Reference4Ideal.Read.val_main_v102_eq (StableHlo.launchContents m' c)).trans ?_
    refine (Cert.GdnLastRef.result_eq _ _ _ _ _ _ _ _ _ _).trans ?_
    show (fun i : Cert.Kernel4Ideal.S128x512x1024.Idx =>
      Cert.Gdn.ending (m' ((c.tc : Thread Cert.Reference4Ideal.nD Cert.Reference4Ideal.τ).loc Cert.Reference4Ideal.main_arg1))
        (m' ((c.tc : Thread Cert.Reference4Ideal.nD Cert.Reference4Ideal.τ).loc Cert.Reference4Ideal.main_arg2))
        (m' ((c.tc : Thread Cert.Reference4Ideal.nD Cert.Reference4Ideal.τ).loc Cert.Reference4Ideal.main_arg3))
        (m' ((c.tc : Thread Cert.Reference4Ideal.nD Cert.Reference4Ideal.τ).loc Cert.Reference4Ideal.main_arg4))
        (m' ((c.tc : Thread Cert.Reference4Ideal.nD Cert.Reference4Ideal.τ).loc Cert.Reference4Ideal.main_arg7))
        (m' ((c.tc : Thread Cert.Reference4Ideal.nD Cert.Reference4Ideal.τ).loc Cert.Reference4Ideal.main_arg0))
        (m' ((c.tc : Thread Cert.Reference4Ideal.nD Cert.Reference4Ideal.τ).loc Cert.Reference4Ideal.main_arg5))
        (m' ((c.tc : Thread Cert.Reference4Ideal.nD Cert.Reference4Ideal.τ).loc Cert.Reference4Ideal.main_arg6))
        (m' ((c.tc : Thread Cert.Reference4Ideal.nD Cert.Reference4Ideal.τ).loc Cert.Reference4Ideal.main_arg8))
        (m' ((c.tc : Thread Cert.Reference4Ideal.nD Cert.Reference4Ideal.τ).loc Cert.Reference4Ideal.main_arg9))
        (Cert.GdnLast.batchOf (i 0) (i 1)) (Cert.GdnLast.tokOf (i 0) (i 1)) (i 2)) = _
    rw [e0, e1, e2, e3, e4, e5, e6, e7, e8, e9]

end Cert.Proof.GdnLastClaims
-- ==== Proof.Proj.Row.lean ====
/- The projection of a token: its heads, turned by the position's angles. -/
module

public import proofs.«01_k».proof.Proof.Ffn.Row

@[expose] public section

noncomputable section

namespace Cert.Proj

open Idealize.ShloMosaic

/-- The place in a head that a place is turned with. -/
def swap (d : Fin 64) : Fin 64 := ⟨if d.val % 32 < 16 then d.val + 16 else d.val - 16, by split <;> omega⟩

/-- A head turned: `c` and `s` weigh a place and the one it is turned with. -/
def turn (x c s : Fin 64 → EReal) (d : Fin 64) : EReal := x d * c d + x (swap d) * s d

/-- A head divided by its root mean square, weighted. -/
def norm64 (x g : Fin 64 → EReal) (d : Fin 64) : EReal :=
  x d * Ideal.rsqrt (Ideal.div (∑ j, x j * x j) (Ideal.ofBits .f32 0x42800000#32) + Ideal.ofBits .f32 0x358637BD#32) * g d

/-- Head `h` of a row of `n` heads. -/
def head {n : ℕ} (P : Fin (64 * n) → EReal) (h : Fin n) (d : Fin 64) : EReal := P ⟨64 * h.val + d.val, by omega⟩

/-- The heads of a row, those from the ninth on normed, all turned. -/
def heads {n : ℕ} (P : Fin (64 * n) → EReal) (g c s : Fin 64 → EReal) (h : Fin n) (d : Fin 64) : EReal :=
  turn (if h.val < 8 then head P h else norm64 (head P h) g) c s d

/-- The queries of a token, scaled. -/
def query (P : Fin 1024 → EReal) (g c s : Fin 64 → EReal) (i : Fin 1024) : EReal :=
  heads (n := 16) P g c s ⟨i.val / 64, by omega⟩ ⟨i.val % 64, by omega⟩ * Ideal.ofBits .f32 0x3E38AA3B#32

/-- The keys of a token. -/
def key (P : Fin 640 → EReal) (g c s : Fin 64 → EReal) (i : Fin 640) : EReal :=
  heads (n := 10) P g c s ⟨i.val / 64, by omega⟩ ⟨i.val % 64, by omega⟩

/-- The values of a token: four heads of 128 and two of 64, ones after each. -/
def value (P : Fin 640 → EReal) (i : Fin 736) : EReal :=
  if h : i.val < 576 then
    if h' : i.val % 144 < 128 then P ⟨128 * (i.val / 144) + i.val % 144, by omega⟩ else Ideal.ofBits .f32 0x3F800000#32
  else
    if h' : (i.val - 576) % 80 < 64 then P ⟨512 + 64 * ((i.val - 576) / 80) + (i.val - 576) % 80, by omega⟩ else Ideal.ofBits .f32 0x3F800000#32

end Cert.Proj
-- ==== Proof.Proj.Pays.lean ====
/- The projection kernel's values for one tile of tokens, read at an index. -/
module

public import proofs.«01_k».proof.Proof.Proj.Row
public import proofs.«01_k».proof.Proof.Gen.Kernel5Ideal.Skeleton
public import Idealize.ShloMosaic.Lib.Pointwise
public import Idealize.ShloMosaic.Lib.Pipeline.Value

@[expose] public section

set_option maxRecDepth 16384

noncomputable section

namespace Cert.Proj

open Cert.Kernel5Ideal Cert.Kernel5Ideal.Gen Idealize.ShloMosaic Idealize.ShloMosaic.Pointwise

/-- A tile's rows, normed, scaled and shifted. -/
theorem hid_apply (X : Vec Ideal S1x256x1024 .f32) (M : Vec Ideal S1x1x6x1024 .f32) (G : Vec Ideal S1x1024 .f32) (t : Fin 256) (k : Fin 1024) :
    k0_pay2 (F := Ideal) X M G (ix2 t k)
      = Ffn.hid (fun j => X (ix3 0 t j)) (fun j => M (ix4 0 0 0 j)) (fun j => M (ix4 0 0 1 j)) (fun j => G (ix2 0 j)) k := by
  unfold Ffn.hid Ffn.rms
  pointwise [k0_pay2]

/-- The queries' products. -/
theorem wide_apply (H : FVec Ideal S256x1024 .bf16) (W : Vec Ideal S1024x1024 .bf16) (i : Fin 1024) (t : Fin 256) :
    k0_pay9 (F := Ideal) H W (ix2 i t) = Ffn.dot (fun k => W (ix2 i k)) (fun k => H (ix2 t k)) := by
  unfold Ffn.dot
  pointwise [k0_pay9]

/-- The keys' products, and the values'. -/
theorem slim_apply (H : FVec Ideal S256x1024 .bf16) (W : Vec Ideal S640x1024 .bf16) (i : Fin 640) (t : Fin 256) :
    k0_pay8 (F := Ideal) H W (ix2 i t) = Ffn.dot (fun k => W (ix2 i k)) (fun k => H (ix2 t k)) := by
  unfold Ffn.dot
  pointwise [k0_pay8]

/-- A head of a tile, turned. -/
def turned (X C S : FVec Ideal S64x256 .f32) : FVec Ideal S64x256 .f32 :=
  addf (mulf X C) (mulf (concatenate S64x256 0
    [⟨S16x256, extractStridedSlice S16x256 ![16, 0] X slices_S64x256_o16_0_S16x256⟩, ⟨S16x256, extractStridedSlice S16x256 ![0, 0] X slices_S64x256_o0_0_S16x256⟩,
     ⟨S16x256, extractStridedSlice S16x256 ![48, 0] X slices_S64x256_o48_0_S16x256⟩, ⟨S16x256, extractStridedSlice S16x256 ![32, 0] X slices_S64x256_o32_0_S16x256⟩]
    concatenates_S16x256_S16x256_S16x256_S16x256_S64x256_d0) S)

theorem turned_apply (X C S : FVec Ideal S64x256 .f32) (d : Fin 64) (t : Fin 256) :
    turned X C S (ix2 d t) = turn (fun j => X (ix2 j t)) (fun j => C (ix2 j t)) (fun j => S (ix2 j t)) d := by
  unfold turn
  pointwise [turned]
  refine congrArg (fun v : EReal => X (ix2 d t) * C (ix2 d t) + v * S (ix2 d t)) ?_
  have e : (swap d).val = if d.val % 32 < 16 then d.val + 16 else d.val - 16 := rfl
  generalize swap d = w at e ⊢
  split_ifs at e ⊢ <;> first | omega | exact congrArg (fun j => X (ix2 j t)) (Fin.ext (by rw [e]; simp; first | omega | (split <;> omega) | (intro; omega)))

/-- A head of a tile, normed. -/
def normed (X : FVec Ideal S64x256 .f32) (g : FVec Ideal S64x1 .f32) : FVec Ideal S64x256 .f32 :=
  mulf (mulf X (broadcastTo S64x256 (rsqrt (addf (divf
      (shapeCast S1x256 (multiReduction .add [0] S256 (mulf X X) 0x00000000#32 reduces_S64x256_S256 (.inl rfl) rfl) shapeCasts_S256_S1x256)
      (broadcast S1x256 (Scalar.ofBits .f32 0x42800000#32))) (broadcast S1x256 (Scalar.ofBits .f32 0x358637BD#32)))) broadcasts_S1x256_S64x256))
    (broadcastTo S64x256 g broadcasts_S64x1_S64x256)

theorem normed_apply (X : FVec Ideal S64x256 .f32) (g : FVec Ideal S64x1 .f32) (d : Fin 64) (t : Fin 256) :
    normed X g (ix2 d t) = norm64 (fun j => X (ix2 j t)) (fun j => g (ix2 j 0)) d := by
  unfold norm64
  pointwise [normed]

/-- A head scaled, as it is stored. -/
def scaled (X : FVec Ideal S64x256 .f32) : FVec Ideal S1x64x256 .bf16 :=
  shapeCast S1x64x256 (truncf .bf16 (mulf X (broadcast S64x256 (Scalar.ofBits .f32 0x3E38AA3B#32))) bitsLt_bf16_f32) shapeCasts_S64x256_S1x64x256

theorem scaled_apply (X : FVec Ideal S64x256 .f32) (d : Fin 64) (t : Fin 256) :
    scaled X (ix3 0 d t) = (X (ix2 d t) : EReal) * Ideal.ofBits .f32 0x3E38AA3B#32 := by
  pointwise [scaled]

/-- A piece of a stack of rows. -/
theorem piece_apply {N n : ℕ} {xs : List ((s : Shape) × (s.Idx → EReal))} (h : Shape.Concatenates (xs.map (·.1)) ⟨2, ![N, 256]⟩ 0) (k : ℕ) (hk : k < xs.length)
    (x : FVec Ideal ⟨2, ![n, 256]⟩ .f32) (hx : xs[k] = ⟨⟨2, ![n, 256]⟩, x⟩) (o : ℕ)
    (ho : (((xs.take k).map (·.1)).map fun s => if h : s.rank = 2 then s.size ((0 : Fin 2).cast h.symm) else 0).sum = o)
    (i : Fin N) (d : Fin n) (t : Fin 256) (e : o + d.val = i.val) : concatenate ⟨2, ![N, 256]⟩ 0 xs h (ix2 i t) = x (ix2 d t) := by
  refine concatenate_apply_piece (t := ⟨2, ![N, 256]⟩) 0 xs h (ix2 i t) k hk _ x hx rfl o ho (ix2 d t) (fun b hb => ?_) e
  match b with
  | ⟨0, _⟩ => exact absurd rfl hb
  | ⟨1, _⟩ => rfl

/-- The ten key heads, one above another, -/
def stack (H : Fin 10 → FVec Ideal S64x256 .f32) : FVec Ideal S640x256 .f32 :=
  concatenate S640x256 0
    [⟨S64x256, H 0⟩, ⟨S64x256, H 1⟩, ⟨S64x256, H 2⟩, ⟨S64x256, H 3⟩, ⟨S64x256, H 4⟩, ⟨S64x256, H 5⟩, ⟨S64x256, H 6⟩, ⟨S64x256, H 7⟩, ⟨S64x256, H 8⟩, ⟨S64x256, H 9⟩]
    concatenates_S64x256_S64x256_S64x256_S64x256_S64x256_S64x256_S64x256_S64x256_S64x256_S64x256_S640x256_d0

theorem stack_apply (H : Fin 10 → FVec Ideal S64x256 .f32) (h : Fin 10) (d : Fin 64) (i : Fin 640) (e : i.val = 64 * h.val + d.val) (t : Fin 256) :
    stack H (ix2 i t) = H h (ix2 d t) := by
  unfold stack
  fin_cases h
  · exact piece_apply _ 0 (Nat.le_of_ble_eq_true rfl) _ rfl 0 rfl i d t e.symm
  · exact piece_apply _ 1 (Nat.le_of_ble_eq_true rfl) _ rfl 64 rfl i d t e.symm
  · exact piece_apply _ 2 (Nat.le_of_ble_eq_true rfl) _ rfl 128 rfl i d t e.symm
  · exact piece_apply _ 3 (Nat.le_of_ble_eq_true rfl) _ rfl 192 rfl i d t e.symm
  · exact piece_apply _ 4 (Nat.le_of_ble_eq_true rfl) _ rfl 256 rfl i d t e.symm
  · exact piece_apply _ 5 (Nat.le_of_ble_eq_true rfl) _ rfl 320 rfl i d t e.symm
  · exact piece_apply _ 6 (Nat.le_of_ble_eq_true rfl) _ rfl 384 rfl i d t e.symm
  · exact piece_apply _ 7 (Nat.le_of_ble_eq_true rfl) _ rfl 448 rfl i d t e.symm
  · exact piece_apply _ 8 (Nat.le_of_ble_eq_true rfl) _ rfl 512 rfl i d t e.symm
  · exact piece_apply _ 9 (Nat.le_of_ble_eq_true rfl) _ rfl 576 rfl i d t e.symm

/-- and turned to rows of tokens. -/
def ten (H : Fin 10 → FVec Ideal S64x256 .f32) : FVec Ideal S1x256x640 .bf16 :=
  shapeCast S1x256x640 (truncf .bf16 (transpose S256x640 [1, 0] (stack H) transposes_S640x256_p1_0_S256x640) bitsLt_bf16_f32) shapeCasts_S256x640_S1x256x640

theorem ten_apply (H : Fin 10 → FVec Ideal S64x256 .f32) (h : Fin 10) (d : Fin 64) (i : Fin 640) (e : i.val = 64 * h.val + d.val) (t : Fin 256) :
    ten H (ix3 0 t i) = H h (ix2 d t) := by
  refine Eq.trans ?_ (stack_apply H h d i e t)
  pointwise [ten]

/-- Rows of a product, from row `o`. -/
theorem cut_apply (P : FVec Ideal S640x256 .f32) (o : ℕ) (h : S640x256.Slices ![o, 0] S128x256) (d : Fin 128) (j : Fin 640) (e : j.val = o + d.val) (t : Fin 256) :
    extractStridedSlice S128x256 ![o, 0] P h (ix2 d t) = P (ix2 j t) := by
  exact Eq.trans (b := P (ix2 ⟨o + d.val, by omega⟩ t)) (by pointwise) (congrArg (fun j => P (ix2 j t)) (Fin.ext e.symm))

theorem cut64_apply (P : FVec Ideal S640x256 .f32) (o : ℕ) (h : S640x256.Slices ![o, 0] S64x256) (d : Fin 64) (j : Fin 640) (e : j.val = o + d.val) (t : Fin 256) :
    extractStridedSlice S64x256 ![o, 0] P h (ix2 d t) = P (ix2 j t) := by
  exact Eq.trans (b := P (ix2 ⟨o + d.val, by omega⟩ t)) (by pointwise) (congrArg (fun j => P (ix2 j t)) (Fin.ext e.symm))

theorem cutq_apply (P : FVec Ideal S1024x256 .f32) (o : ℕ) (h : S1024x256.Slices ![o, 0] S64x256) (d : Fin 64) (j : Fin 1024) (e : j.val = o + d.val) (t : Fin 256) :
    extractStridedSlice S64x256 ![o, 0] P h (ix2 d t) = P (ix2 j t) := by
  exact Eq.trans (b := P (ix2 ⟨o + d.val, by omega⟩ t)) (by pointwise) (congrArg (fun j => P (ix2 j t)) (Fin.ext e.symm))

/-- Ones. -/
abbrev ones : FVec Ideal S16x256 .f32 := broadcast S16x256 (Scalar.ofBits .f32 0x3F800000#32)

/-- The values' heads with ones after each. -/
def laid (P : FVec Ideal S640x256 .f32) : FVec Ideal S736x256 .f32 :=
  concatenate S736x256 0
    [⟨S128x256, extractStridedSlice S128x256 ![0, 0] P slices_S640x256_o0_0_S128x256⟩, ⟨S16x256, ones⟩,
     ⟨S128x256, extractStridedSlice S128x256 ![128, 0] P slices_S640x256_o128_0_S128x256⟩, ⟨S16x256, ones⟩,
     ⟨S128x256, extractStridedSlice S128x256 ![256, 0] P slices_S640x256_o256_0_S128x256⟩, ⟨S16x256, ones⟩,
     ⟨S128x256, extractStridedSlice S128x256 ![384, 0] P slices_S640x256_o384_0_S128x256⟩, ⟨S16x256, ones⟩,
     ⟨S64x256, extractStridedSlice S64x256 ![512, 0] P slices_S640x256_o512_0_S64x256⟩, ⟨S16x256, ones⟩,
     ⟨S64x256, extractStridedSlice S64x256 ![576, 0] P slices_S640x256_o576_0_S64x256⟩, ⟨S16x256, ones⟩]
    concatenates_S128x256_S16x256_S128x256_S16x256_S128x256_S16x256_S128x256_S16x256_S64x256_S16x256_S64x256_S16x256_S736x256_d0

theorem laid_wide (P : FVec Ideal S640x256 .f32) (h : Fin 4) (d : Fin 128) (i : Fin 736) (e : i.val = 144 * h.val + d.val) (t : Fin 256) :
    laid P (ix2 i t) = P (ix2 ⟨128 * h.val + d.val, by omega⟩ t) := by
  unfold laid
  fin_cases h
  · exact (piece_apply _ 0 (Nat.le_of_ble_eq_true rfl) _ rfl 0 rfl i d t e.symm).trans (cut_apply P _ _ d _ rfl t)
  · exact (piece_apply _ 2 (Nat.le_of_ble_eq_true rfl) _ rfl 144 rfl i d t e.symm).trans (cut_apply P _ _ d _ rfl t)
  · exact (piece_apply _ 4 (Nat.le_of_ble_eq_true rfl) _ rfl 288 rfl i d t e.symm).trans (cut_apply P _ _ d _ rfl t)
  · exact (piece_apply _ 6 (Nat.le_of_ble_eq_true rfl) _ rfl 432 rfl i d t e.symm).trans (cut_apply P _ _ d _ rfl t)

theorem laid_wide_one (P : FVec Ideal S640x256 .f32) (h : Fin 4) (d : Fin 16) (i : Fin 736) (e : i.val = 144 * h.val + 128 + d.val) (t : Fin 256) :
    laid P (ix2 i t) = Ideal.ofBits .f32 0x3F800000#32 := by
  unfold laid
  fin_cases h
  · exact piece_apply _ 1 (Nat.le_of_ble_eq_true rfl) ones rfl 128 rfl i d t e.symm
  · exact piece_apply _ 3 (Nat.le_of_ble_eq_true rfl) ones rfl 272 rfl i d t e.symm
  · exact piece_apply _ 5 (Nat.le_of_ble_eq_true rfl) ones rfl 416 rfl i d t e.symm
  · exact piece_apply _ 7 (Nat.le_of_ble_eq_true rfl) ones rfl 560 rfl i d t e.symm

theorem laid_slim (P : FVec Ideal S640x256 .f32) (h : Fin 2) (d : Fin 64) (i : Fin 736) (e : i.val = 576 + 80 * h.val + d.val) (t : Fin 256) :
    laid P (ix2 i t) = P (ix2 ⟨512 + 64 * h.val + d.val, by omega⟩ t) := by
  unfold laid
  fin_cases h
  · exact (piece_apply _ 8 (Nat.le_of_ble_eq_true rfl) _ rfl 576 rfl i d t e.symm).trans (cut64_apply P _ _ d _ rfl t)
  · exact (piece_apply _ 10 (Nat.le_of_ble_eq_true rfl) _ rfl 656 rfl i d t e.symm).trans (cut64_apply P _ _ d _ rfl t)

theorem laid_slim_one (P : FVec Ideal S640x256 .f32) (h : Fin 2) (d : Fin 16) (i : Fin 736) (e : i.val = 576 + 80 * h.val + 64 + d.val) (t : Fin 256) :
    laid P (ix2 i t) = Ideal.ofBits .f32 0x3F800000#32 := by
  unfold laid
  fin_cases h
  · exact piece_apply _ 9 (Nat.le_of_ble_eq_true rfl) ones rfl 640 rfl i d t e.symm
  · exact piece_apply _ 11 (Nat.le_of_ble_eq_true rfl) ones rfl 720 rfl i d t e.symm

/-- The values with their ones, as stored. -/
theorem value_apply (P : FVec Ideal S640x256 .f32) (i : Fin 736) (t : Fin 256) :
    k0_pay55 (F := Ideal) P (ix3 0 i t) = value (fun j => P (ix2 j t)) i := by
  have h0 : k0_pay55 (F := Ideal) P
    = shapeCast S1x736x256 (truncf .bf16 (laid P) bitsLt_bf16_f32 : FVec Ideal S736x256 .bf16) shapeCasts_S736x256_S1x736x256 := rfl
  rw [h0]
  refine Eq.trans (b := laid P (ix2 i t)) (by pointwise) ?_
  unfold value
  split_ifs with h h' h'
  · exact laid_wide P ⟨i.val / 144, by omega⟩ ⟨i.val % 144, h'⟩ i (by dsimp only; omega) t
  · exact laid_wide_one P ⟨i.val / 144, by omega⟩ ⟨i.val % 144 - 128, by omega⟩ i (by dsimp only; omega) t
  · exact laid_slim P ⟨(i.val - 576) / 80, by omega⟩ ⟨(i.val - 576) % 80, h'⟩ i (by dsimp only; omega) t
  · exact laid_slim_one P ⟨(i.val - 576) / 80, by omega⟩ ⟨(i.val - 576) % 80 - 64, by omega⟩ i (by dsimp only; omega) t

end Cert.Proj
-- ==== Proof.Proj.Block.lean ====
/- The blocks the kernel writes at a grid point: the queries, keys and values of two tiles of tokens. -/
module

public import proofs.«01_k».proof.Proof.Gen.Kernel5Ideal.Value
public import proofs.«01_k».proof.Proof.Attn.Walk
public import proofs.«01_k».proof.Proof.Proj.Pays

@[expose] public section

set_option maxRecDepth 16384

noncomputable section

namespace Cert.Proj

open Cert.Kernel5Ideal Cert.Kernel5Ideal.Gen Idealize.ShloMosaic Idealize.ShloMosaic.Pointwise

/-! ## The block of queries: sixteen heads of two tiles -/

/-- The heads stored so far hold what `f` says, up to row `n` of the two tiles' rows. -/
def Filled (f : Fin 2 → Fin 1024 → Fin 256 → EReal) (n : ℕ) (L : List (View.Piece (Elt Ideal) S2x1024x256 .bf16)) : Prop :=
  ∀ (m : Fin 2) (r : Fin 1024) (t : Fin 256), 1024 * m.val + r.val < n → View.canon L (ix3 m r t) = f m r t

/-- One more head. -/
theorem Filled.head {f : Fin 2 → Fin 1024 → Fin 256 → EReal} {n : ℕ} {L : List (View.Piece (Elt Ideal) S2x1024x256 .bf16)} (hL : Filled f n L) (m o : ℕ) (hm : m < 2)
    (ho : o + 64 ≤ 1024) (hn : n = 1024 * m + o) (inb : ∀ a, (![m, o, 0] : Fin 3 → ℕ) a + S1x64x256.size a ≤ S2x1024x256.size a) (p : FVec Ideal S1x64x256 .bf16)
    (hp : ∀ (d : Fin 64) (t : Fin 256), p (ix3 0 d t) = f ⟨m, hm⟩ ⟨o + d.val, by omega⟩ t) :
    Filled f (n + 64) (⟨Rect.unit (s := S2x1024x256) ![m, o, 0] S1x64x256.size inb, p⟩ :: L) := by
  intro m' r t h
  by_cases h' : 1024 * m'.val + r.val < n
  · refine (View.canon_cons_of_not_mem _ _ ?_).trans (hL m' r t h')
    intro hx
    obtain ⟨x, hx0, he⟩ := (LoadRect.mem_set _).mp hx (0 : Fin 3)
    obtain ⟨y, hy0, hf⟩ := (LoadRect.mem_set _).mp hx (1 : Fin 3)
    have hx1 : x < 1 := hx0
    have he' : m'.val = m + 1 * x := he
    have hf' : r.val = o + 1 * y := hf
    omega
  · have hm' : m = m'.val := by omega
    have he := Attn.slot_emb (n0 := 2) (n1 := 1024) m o m' ⟨r.val - o, by omega⟩ r t hm' (by show o + (r.val - o) = r.val; omega) inb
    rw [← he]
    refine (View.canon_cons_emb _ _ _ _).trans ((hp _ t).trans ?_)
    have e1 : (⟨m, hm⟩ : Fin 2) = m' := Fin.ext hm'
    have e2 : (⟨o + (r.val - o), by omega⟩ : Fin 1024) = r := Fin.ext (by show o + (r.val - o) = r.val; omega)
    show f ⟨m, hm⟩ ⟨o + (r.val - o), _⟩ t = f m' r t
    rw [e1, e2]

/-- What a tile's queries are: from its products, the tables and the norm's weights. -/
abbrev queryOf (P : FVec Ideal S1024x256 .f32) (C S : FVec Ideal S64x256 .f32) (g : FVec Ideal S64x1 .f32) (r : Fin 1024) (t : Fin 256) : EReal :=
  query (fun j => P (ix2 j t)) (fun j => g (ix2 j 0)) (fun j => C (ix2 j t)) (fun j => S (ix2 j t)) r

/-- A plain head, stored, -/
theorem plain_head (P : FVec Ideal S1024x256 .f32) (C S : FVec Ideal S64x256 .f32) (g : FVec Ideal S64x1 .f32) (h : Fin 16) (h8 : h.val < 8) (sl : S1024x256.Slices ![64 * h.val, 0] S64x256)
    (d : Fin 64) (t : Fin 256) :
    scaled (turned (extractStridedSlice S64x256 ![64 * h.val, 0] P sl) C S) (ix3 0 d t) = queryOf P C S g ⟨64 * h.val + d.val, by omega⟩ t := by
  rw [scaled_apply, turned_apply]
  have e1 : (⟨(64 * h.val + d.val) / 64, by omega⟩ : Fin 16) = h := Fin.ext (by show (64 * h.val + d.val) / 64 = h.val; omega)
  have e2 : (⟨(64 * h.val + d.val) % 64, by omega⟩ : Fin 64) = d := Fin.ext (by show (64 * h.val + d.val) % 64 = d.val; omega)
  unfold queryOf query
  dsimp only
  rw [e1, e2]
  unfold heads
  rw [if_pos h8]
  refine congrArg (fun X => turn X _ _ d * _) (funext fun j => ?_)
  exact cutq_apply P _ sl j _ rfl t

/-- a normed one, -/
theorem normed_head (P : FVec Ideal S1024x256 .f32) (C S : FVec Ideal S64x256 .f32) (g : FVec Ideal S64x1 .f32) (h : Fin 16) (h8 : ¬h.val < 8)
    (sl : S1024x256.Slices ![64 * h.val, 0] S64x256) (d : Fin 64) (t : Fin 256) :
    scaled (turned (normed (extractStridedSlice S64x256 ![64 * h.val, 0] P sl) g) C S) (ix3 0 d t) = queryOf P C S g ⟨64 * h.val + d.val, by omega⟩ t := by
  rw [scaled_apply, turned_apply]
  have e1 : (⟨(64 * h.val + d.val) / 64, by omega⟩ : Fin 16) = h := Fin.ext (by show (64 * h.val + d.val) / 64 = h.val; omega)
  have e2 : (⟨(64 * h.val + d.val) % 64, by omega⟩ : Fin 64) = d := Fin.ext (by show (64 * h.val + d.val) % 64 = d.val; omega)
  unfold queryOf query
  dsimp only
  rw [e1, e2]
  unfold heads
  rw [if_neg h8]
  refine congrArg (fun X => turn X _ _ d * _) (funext fun j => ?_)
  rw [normed_apply]
  refine congrArg (fun X => norm64 X _ j) (funext fun i => ?_)
  exact cutq_apply P _ sl i _ rfl t

/-- The two tiles' queries. -/
def both {n : ℕ} {α : Type} (f0 f1 : Fin n → α → EReal) (m : Fin 2) (r : Fin n) (t : α) : EReal := if m.val = 0 then f0 r t else f1 r t

section Tiles

variable {P0 P1 : FVec Ideal S1024x256 .f32} {C0 S0 C1 S1 : FVec Ideal S64x256 .f32} {g0 g1 : FVec Ideal S64x1 .f32} {n : ℕ} {L : List (View.Piece (Elt Ideal) S2x1024x256 .bf16)}

/-- The block so far. -/
abbrev Heads (P0 P1 : FVec Ideal S1024x256 .f32) (C0 S0 C1 S1 : FVec Ideal S64x256 .f32) (g0 g1 : FVec Ideal S64x1 .f32) (n : ℕ)
    (L : List (View.Piece (Elt Ideal) S2x1024x256 .bf16)) : Prop := Filled (both (queryOf P0 C0 S0 g0) (queryOf P1 C1 S1 g1)) n L

/-- A plain head of the first tile, -/
theorem Heads.plain0 (hL : Heads P0 P1 C0 S0 C1 S1 g0 g1 n L) (h : Fin 16) (h8 : h.val < 8) (hn : n = 64 * h.val) (sl : S1024x256.Slices ![64 * h.val, 0] S64x256)
    {p : FVec Ideal S1x64x256 .bf16} (hp : p = scaled (turned (extractStridedSlice S64x256 ![64 * h.val, 0] P0 sl) C0 S0))
    {inb : ∀ a, (![0, 64 * h.val, 0] : Fin 3 → ℕ) a + S1x64x256.size a ≤ S2x1024x256.size a} :
    Heads P0 P1 C0 S0 C1 S1 g0 g1 (n + 64) (⟨Rect.unit (s := S2x1024x256) ![0, 64 * h.val, 0] S1x64x256.size inb, p⟩ :: L) :=
  hL.head 0 (64 * h.val) (by omega) (by omega) (by omega) inb p fun d t => (congrFun hp _).trans (plain_head P0 C0 S0 g0 h h8 sl d t)

/-- a normed one, -/
theorem Heads.normed0 (hL : Heads P0 P1 C0 S0 C1 S1 g0 g1 n L) (h : Fin 16) (h8 : ¬h.val < 8) (hn : n = 64 * h.val) (sl : S1024x256.Slices ![64 * h.val, 0] S64x256)
    {p : FVec Ideal S1x64x256 .bf16} (hp : p = scaled (turned (normed (extractStridedSlice S64x256 ![64 * h.val, 0] P0 sl) g0) C0 S0))
    {inb : ∀ a, (![0, 64 * h.val, 0] : Fin 3 → ℕ) a + S1x64x256.size a ≤ S2x1024x256.size a} :
    Heads P0 P1 C0 S0 C1 S1 g0 g1 (n + 64) (⟨Rect.unit (s := S2x1024x256) ![0, 64 * h.val, 0] S1x64x256.size inb, p⟩ :: L) :=
  hL.head 0 (64 * h.val) (by omega) (by omega) (by omega) inb p fun d t => (congrFun hp _).trans (normed_head P0 C0 S0 g0 h h8 sl d t)

/-- and the same of the second. -/
theorem Heads.plain1 (hL : Heads P0 P1 C0 S0 C1 S1 g0 g1 n L) (h : Fin 16) (h8 : h.val < 8) (hn : n = 1024 + 64 * h.val) (sl : S1024x256.Slices ![64 * h.val, 0] S64x256)
    {p : FVec Ideal S1x64x256 .bf16} (hp : p = scaled (turned (extractStridedSlice S64x256 ![64 * h.val, 0] P1 sl) C1 S1))
    {inb : ∀ a, (![1, 64 * h.val, 0] : Fin 3 → ℕ) a + S1x64x256.size a ≤ S2x1024x256.size a} :
    Heads P0 P1 C0 S0 C1 S1 g0 g1 (n + 64) (⟨Rect.unit (s := S2x1024x256) ![1, 64 * h.val, 0] S1x64x256.size inb, p⟩ :: L) :=
  hL.head 1 (64 * h.val) (by omega) (by omega) (by omega) inb p fun d t => (congrFun hp _).trans (plain_head P1 C1 S1 g1 h h8 sl d t)

theorem Heads.normed1 (hL : Heads P0 P1 C0 S0 C1 S1 g0 g1 n L) (h : Fin 16) (h8 : ¬h.val < 8) (hn : n = 1024 + 64 * h.val) (sl : S1024x256.Slices ![64 * h.val, 0] S64x256)
    {p : FVec Ideal S1x64x256 .bf16} (hp : p = scaled (turned (normed (extractStridedSlice S64x256 ![64 * h.val, 0] P1 sl) g1) C1 S1))
    {inb : ∀ a, (![1, 64 * h.val, 0] : Fin 3 → ℕ) a + S1x64x256.size a ≤ S2x1024x256.size a} :
    Heads P0 P1 C0 S0 C1 S1 g0 g1 (n + 64) (⟨Rect.unit (s := S2x1024x256) ![1, 64 * h.val, 0] S1x64x256.size inb, p⟩ :: L) :=
  hL.head 1 (64 * h.val) (by omega) (by omega) (by omega) inb p fun d t => (congrFun hp _).trans (normed_head P1 C1 S1 g1 h h8 sl d t)

end Tiles

variable (x0 : Vec Ideal S1x256x1024 .f32) (x1 : Vec Ideal S1x1x6x1024 .f32) (x2 x3 : Vec Ideal S64x256 .f32) (x4 : Vec Ideal S1x256x1024 .f32) (x5 : Vec Ideal S1x1x6x1024 .f32)
  (x6 x7 : Vec Ideal S64x256 .f32) (x8 : Vec Ideal S1x1024 .f32) (x9 : Vec Ideal S2304x1024 .bf16) (x10 : Vec Ideal S2x64x1 .f32)

/-- The block of queries, from the products. -/
theorem queries_eq (m : Fin 2) (r : Fin 1024) (t : Fin 256) :
    out0_11 (F := Ideal) x0 x1 x2 x3 x4 x5 x6 x7 x8 x9 x10 (ix3 m r t)
      = both (queryOf (k0_pay113 x0 x1 x2 x3 x4 x5 x6 x7 x8 x9 x10) (k0_pay114 x0 x1 x2 x3 x4 x5 x6 x7 x8 x9 x10) (k0_pay115 x0 x1 x2 x3 x4 x5 x6 x7 x8 x9 x10)
              (k0_pay116 x0 x1 x2 x3 x4 x5 x6 x7 x8 x9 x10))
          (queryOf (k0_pay118 x0 x1 x2 x3 x4 x5 x6 x7 x8 x9 x10) (k0_pay119 x0 x1 x2 x3 x4 x5 x6 x7 x8 x9 x10) (k0_pay120 x0 x1 x2 x3 x4 x5 x6 x7 x8 x9 x10)
              (k0_pay121 x0 x1 x2 x3 x4 x5 x6 x7 x8 x9 x10)) m r t := by
  unfold out0_11
  generalize k0_pay113 x0 x1 x2 x3 x4 x5 x6 x7 x8 x9 x10 = P0
  generalize k0_pay114 x0 x1 x2 x3 x4 x5 x6 x7 x8 x9 x10 = C0
  generalize k0_pay115 x0 x1 x2 x3 x4 x5 x6 x7 x8 x9 x10 = S0
  generalize k0_pay116 x0 x1 x2 x3 x4 x5 x6 x7 x8 x9 x10 = g0
  generalize k0_pay118 x0 x1 x2 x3 x4 x5 x6 x7 x8 x9 x10 = P1
  generalize k0_pay119 x0 x1 x2 x3 x4 x5 x6 x7 x8 x9 x10 = C1
  generalize k0_pay120 x0 x1 x2 x3 x4 x5 x6 x7 x8 x9 x10 = S1
  generalize k0_pay121 x0 x1 x2 x3 x4 x5 x6 x7 x8 x9 x10 = g1
  have h0 : Heads P0 P1 C0 S0 C1 S1 g0 g1 0 [] := fun _ _ _ h => absurd h (Nat.not_lt_zero _)
  refine (?_ : Heads P0 P1 C0 S0 C1 S1 g0 g1 2048 _) m r t (by omega)
  exact
  Heads.normed1 (h := 15) (h8 := by decide) (hn := rfl) (sl := slices_S1024x256_o960_0_S64x256) (hp := rfl) <|
  Heads.normed1 (h := 14) (h8 := by decide) (hn := rfl) (sl := slices_S1024x256_o896_0_S64x256) (hp := rfl) <|
  Heads.normed1 (h := 13) (h8 := by decide) (hn := rfl) (sl := slices_S1024x256_o832_0_S64x256) (hp := rfl) <|
  Heads.normed1 (h := 12) (h8 := by decide) (hn := rfl) (sl := slices_S1024x256_o768_0_S64x256) (hp := rfl) <|
  Heads.normed1 (h := 11) (h8 := by decide) (hn := rfl) (sl := slices_S1024x256_o704_0_S64x256) (hp := rfl) <|
  Heads.normed1 (h := 10) (h8 := by decide) (hn := rfl) (sl := slices_S1024x256_o640_0_S64x256) (hp := rfl) <|
  Heads.normed1 (h := 9) (h8 := by decide) (hn := rfl) (sl := slices_S1024x256_o576_0_S64x256) (hp := rfl) <|
  Heads.normed1 (h := 8) (h8 := by decide) (hn := rfl) (sl := slices_S1024x256_o512_0_S64x256) (hp := rfl) <|
  Heads.plain1 (h := 7) (h8 := by decide) (hn := rfl) (sl := slices_S1024x256_o448_0_S64x256) (hp := rfl) <|
  Heads.plain1 (h := 6) (h8 := by decide) (hn := rfl) (sl := slices_S1024x256_o384_0_S64x256) (hp := rfl) <|
  Heads.plain1 (h := 5) (h8 := by decide) (hn := rfl) (sl := slices_S1024x256_o320_0_S64x256) (hp := rfl) <|
  Heads.plain1 (h := 4) (h8 := by decide) (hn := rfl) (sl := slices_S1024x256_o256_0_S64x256) (hp := rfl) <|
  Heads.plain1 (h := 3) (h8 := by decide) (hn := rfl) (sl := slices_S1024x256_o192_0_S64x256) (hp := rfl) <|
  Heads.plain1 (h := 2) (h8 := by decide) (hn := rfl) (sl := slices_S1024x256_o128_0_S64x256) (hp := rfl) <|
  Heads.plain1 (h := 1) (h8 := by decide) (hn := rfl) (sl := slices_S1024x256_o64_0_S64x256) (hp := rfl) <|
  Heads.plain1 (h := 0) (h8 := by decide) (hn := rfl) (sl := slices_S1024x256_o0_0_S64x256) (hp := rfl) <|
  Heads.normed0 (h := 15) (h8 := by decide) (hn := rfl) (sl := slices_S1024x256_o960_0_S64x256) (hp := rfl) <|
  Heads.normed0 (h := 14) (h8 := by decide) (hn := rfl) (sl := slices_S1024x256_o896_0_S64x256) (hp := rfl) <|
  Heads.normed0 (h := 13) (h8 := by decide) (hn := rfl) (sl := slices_S1024x256_o832_0_S64x256) (hp := rfl) <|
  Heads.normed0 (h := 12) (h8 := by decide) (hn := rfl) (sl := slices_S1024x256_o768_0_S64x256) (hp := rfl) <|
  Heads.normed0 (h := 11) (h8 := by decide) (hn := rfl) (sl := slices_S1024x256_o704_0_S64x256) (hp := rfl) <|
  Heads.normed0 (h := 10) (h8 := by decide) (hn := rfl) (sl := slices_S1024x256_o640_0_S64x256) (hp := rfl) <|
  Heads.normed0 (h := 9) (h8 := by decide) (hn := rfl) (sl := slices_S1024x256_o576_0_S64x256) (hp := rfl) <|
  Heads.normed0 (h := 8) (h8 := by decide) (hn := rfl) (sl := slices_S1024x256_o512_0_S64x256) (hp := rfl) <|
  Heads.plain0 (h := 7) (h8 := by decide) (hn := rfl) (sl := slices_S1024x256_o448_0_S64x256) (hp := rfl) <|
  Heads.plain0 (h := 6) (h8 := by decide) (hn := rfl) (sl := slices_S1024x256_o384_0_S64x256) (hp := rfl) <|
  Heads.plain0 (h := 5) (h8 := by decide) (hn := rfl) (sl := slices_S1024x256_o320_0_S64x256) (hp := rfl) <|
  Heads.plain0 (h := 4) (h8 := by decide) (hn := rfl) (sl := slices_S1024x256_o256_0_S64x256) (hp := rfl) <|
  Heads.plain0 (h := 3) (h8 := by decide) (hn := rfl) (sl := slices_S1024x256_o192_0_S64x256) (hp := rfl) <|
  Heads.plain0 (h := 2) (h8 := by decide) (hn := rfl) (sl := slices_S1024x256_o128_0_S64x256) (hp := rfl) <|
  Heads.plain0 (h := 1) (h8 := by decide) (hn := rfl) (sl := slices_S1024x256_o64_0_S64x256) (hp := rfl) <|
  Heads.plain0 (h := 0) (h8 := by decide) (hn := rfl) (sl := slices_S1024x256_o0_0_S64x256) (hp := rfl) <| h0

end Cert.Proj
-- ==== Proof.Proj.Sides.lean ====
/- The blocks of queries, keys and values at a grid point, from the blocks the point reads. -/
module

public import proofs.«01_k».proof.Proof.Proj.Block

@[expose] public section

set_option maxRecDepth 16384

noncomputable section

namespace Cert.Proj

open Cert.Kernel5Ideal Cert.Kernel5Ideal.Gen Idealize.ShloMosaic Idealize.ShloMosaic.Pointwise

/-- A head's rows lie in the keys'. -/
theorem slices10 (h : Fin 10) : S640x256.Slices ![64 * h.val, 0] S64x256 := by
  fin_cases h
  · exact slices_S640x256_o0_0_S64x256
  · exact slices_S640x256_o64_0_S64x256
  · exact slices_S640x256_o128_0_S64x256
  · exact slices_S640x256_o192_0_S64x256
  · exact slices_S640x256_o256_0_S64x256
  · exact slices_S640x256_o320_0_S64x256
  · exact slices_S640x256_o384_0_S64x256
  · exact slices_S640x256_o448_0_S64x256
  · exact slices_S640x256_o512_0_S64x256
  · exact slices_S640x256_o576_0_S64x256

/-- A tile's key head, as the kernel computes it. -/
def keyHead (K : FVec Ideal S640x256 .f32) (C S : FVec Ideal S64x256 .f32) (g : FVec Ideal S64x1 .f32) (h : Fin 10) : FVec Ideal S64x256 .f32 :=
  turned (if h.val < 8 then extractStridedSlice S64x256 ![64 * h.val, 0] K (slices10 h) else normed (extractStridedSlice S64x256 ![64 * h.val, 0] K (slices10 h)) g) C S

/-- What a tile's keys are. -/
abbrev keyOf (K : FVec Ideal S640x256 .f32) (C S : FVec Ideal S64x256 .f32) (g : FVec Ideal S64x1 .f32) (t : Fin 256) (i : Fin 640) : EReal :=
  key (fun j => K (ix2 j t)) (fun j => g (ix2 j 0)) (fun j => C (ix2 j t)) (fun j => S (ix2 j t)) i

theorem keyHead_apply (K : FVec Ideal S640x256 .f32) (C S : FVec Ideal S64x256 .f32) (g : FVec Ideal S64x1 .f32) (t : Fin 256) (i : Fin 640) :
    ten (keyHead K C S g) (ix3 0 t i) = keyOf K C S g t i := by
  have e1 : i.val = 64 * (⟨i.val / 64, by omega⟩ : Fin 10).val + (⟨i.val % 64, by omega⟩ : Fin 64).val := by dsimp only; omega
  refine (ten_apply _ _ _ i e1 t).trans ?_
  unfold keyOf key heads keyHead
  rw [turned_apply]
  refine congrArg (fun X => turn X _ _ _) (funext fun j => ?_)
  split_ifs with h8
  · exact cut64_apply K _ (slices10 _) j _ rfl t
  · rw [normed_apply]
    exact congrArg (fun X => norm64 X _ j) (funext fun d => cut64_apply K _ (slices10 _) d _ rfl t)

/-! ## What a point reads -/

section Reads

variable (X : Vec Ideal S1x256x1024 .f32) (M : Vec Ideal S1x1x6x1024 .f32) (G : Vec Ideal S1x1024 .f32) (W : Vec Ideal S2304x1024 .bf16) (A : Vec Ideal S64x256 .f32)
  (Q : Vec Ideal S2x64x1 .f32)

theorem whole_tokens : View.ld X r0_0 = X := View.ld_unit_zero (funext fun a => match a with | ⟨0, _⟩ => rfl | ⟨1, _⟩ => rfl | ⟨2, _⟩ => rfl) _ X
theorem whole_vectors : View.ld M r0_1 = M :=
  View.ld_unit_zero (funext fun a => match a with | ⟨0, _⟩ => rfl | ⟨1, _⟩ => rfl | ⟨2, _⟩ => rfl | ⟨3, _⟩ => rfl) _ M
theorem whole_norm : View.ld G r0_2 = G := View.ld_unit_zero (funext fun a => match a with | ⟨0, _⟩ => rfl | ⟨1, _⟩ => rfl) _ G
theorem whole_table : View.ld A r0_6 = A := View.ld_unit_zero (funext fun a => match a with | ⟨0, _⟩ => rfl | ⟨1, _⟩ => rfl) _ A

theorem rows_queries (i k : Fin 1024) : View.ld W r0_4 (ix2 i k) = W (ix2 ⟨i.val, by omega⟩ k) := by
  unfold r0_4
  rw [View.ld_unit]
  pointwise
theorem rows_keys (i : Fin 640) (k : Fin 1024) : View.ld W r0_3 (ix2 i k) = W (ix2 ⟨1024 + i.val, by omega⟩ k) := by
  unfold r0_3
  rw [View.ld_unit]
  pointwise
theorem rows_values (i : Fin 640) (k : Fin 1024) : View.ld W r0_5 (ix2 i k) = W (ix2 ⟨1664 + i.val, by omega⟩ k) := by
  unfold r0_5
  rw [View.ld_unit]
  pointwise

theorem table_apply (d : Fin 64) (t : Fin 256) : k0_pay11 (F := Ideal) (View.ld A r0_6) (ix2 d t) = A (ix2 d t) := by
  rw [whole_table]
  pointwise [k0_pay11]

theorem norm_queries (d : Fin 64) : k0_pay13 (F := Ideal) (View.ld Q r0_7) (ix2 d 0) = Q (ix3 0 d 0) := by
  unfold r0_7
  rw [View.ld_unit]
  pointwise [k0_pay13]
theorem norm_keys (d : Fin 64) : k0_pay14 (F := Ideal) (View.ld Q r0_8) (ix2 d 0) = Q (ix3 1 d 0) := by
  unfold r0_8
  rw [View.ld_unit]
  pointwise [k0_pay14]

/-- A row of the tile before the projection. -/
def hidRow (t : Fin 256) : Fin 1024 → EReal :=
  Ffn.hid (fun j => X (ix3 0 t j)) (fun j => M (ix4 0 0 0 j)) (fun j => M (ix4 0 0 1 j)) (fun j => G (ix2 0 j))

theorem hidRow_eq (t : Fin 256) : (fun k => k0_pay2 (F := Ideal) (View.ld X r0_0) (View.ld M r0_1) (View.ld G r0_2) (ix2 t k)) = hidRow X M G t := by
  rw [whole_tokens, whole_vectors, whole_norm]
  exact funext fun k => hid_apply X M G t k

/-- The second tile's rows are computed alike. -/
theorem second_hid (X : Vec Ideal S1x256x1024 .f32) (M : Vec Ideal S1x1x6x1024 .f32) (G : Vec Ideal S1x1024 .f32) :
    k0_pay7 (F := Ideal) (k0_pay3 X) (k0_pay4 M) (k0_pay5 G) (k0_pay6 X) = k0_pay2 X M G := by
  rfl

/-- What the projection's rows are multiplied with. -/
abbrev hidden : FVec Ideal S256x1024 .bf16 := k0_pay2 (F := Ideal) (View.ld X r0_0) (View.ld M r0_1) (View.ld G r0_2)

theorem product_queries (t : Fin 256) (i : Fin 1024) :
    k0_pay9 (F := Ideal) (hidden X M G) (View.ld W r0_4) (ix2 i t) = Ffn.dot (fun k => W (ix2 ⟨i.val, by omega⟩ k)) (hidRow X M G t) := by
  refine (wide_apply _ _ i t).trans ?_
  rw [hidRow_eq]
  exact congrArg (fun w => Ffn.dot w _) (funext fun k => rows_queries W i k)
theorem product_keys (t : Fin 256) (i : Fin 640) :
    k0_pay8 (F := Ideal) (hidden X M G) (View.ld W r0_3) (ix2 i t) = Ffn.dot (fun k => W (ix2 ⟨1024 + i.val, by omega⟩ k)) (hidRow X M G t) := by
  refine (slim_apply _ _ i t).trans ?_
  rw [hidRow_eq]
  exact congrArg (fun w => Ffn.dot w _) (funext fun k => rows_keys W i k)
theorem product_values (t : Fin 256) (i : Fin 640) :
    k0_pay8 (F := Ideal) (hidden X M G) (View.ld W r0_5) (ix2 i t) = Ffn.dot (fun k => W (ix2 ⟨1664 + i.val, by omega⟩ k)) (hidRow X M G t) := by
  refine (slim_apply _ _ i t).trans ?_
  rw [hidRow_eq]
  exact congrArg (fun w => Ffn.dot w _) (funext fun k => rows_values W i k)

variable (C S : Vec Ideal S64x256 .f32)

/-- A tile's queries, -/
def tileQ (r : Fin 1024) (t : Fin 256) : EReal :=
  query (fun i => Ffn.dot (fun k => W (ix2 ⟨i.val, by omega⟩ k)) (hidRow X M G t)) (fun d => Q (ix3 0 d 0)) (fun d => C (ix2 d t)) (fun d => S (ix2 d t)) r
/-- keys, -/
def tileK (t : Fin 256) (i : Fin 640) : EReal :=
  key (fun i => Ffn.dot (fun k => W (ix2 ⟨1024 + i.val, by omega⟩ k)) (hidRow X M G t)) (fun d => Q (ix3 1 d 0)) (fun d => C (ix2 d t)) (fun d => S (ix2 d t)) i
/-- and values. -/
def tileV (r : Fin 736) (t : Fin 256) : EReal :=
  value (fun i => Ffn.dot (fun k => W (ix2 ⟨1664 + i.val, by omega⟩ k)) (hidRow X M G t)) r

theorem queryOf_eq (r : Fin 1024) (t : Fin 256) :
    queryOf (k0_pay9 (F := Ideal) (hidden X M G) (View.ld W r0_4)) (k0_pay11 (F := Ideal) (View.ld C r0_6)) (k0_pay11 (F := Ideal) (View.ld S r0_6))
      (k0_pay13 (F := Ideal) (View.ld Q r0_7)) r t = tileQ X M G W Q C S r t := by
  unfold queryOf tileQ
  simp only [product_queries, table_apply, norm_queries]

theorem keyOf_eq (t : Fin 256) (i : Fin 640) :
    keyOf (k0_pay8 (F := Ideal) (hidden X M G) (View.ld W r0_3)) (k0_pay11 (F := Ideal) (View.ld C r0_6)) (k0_pay11 (F := Ideal) (View.ld S r0_6))
      (k0_pay14 (F := Ideal) (View.ld Q r0_8)) t i = tileK X M G W Q C S t i := by
  unfold keyOf tileK
  simp only [product_keys, table_apply, norm_keys]

theorem valueOf_eq (r : Fin 736) (t : Fin 256) : k0_pay55 (F := Ideal) (k0_pay8 (F := Ideal) (hidden X M G) (View.ld W r0_5)) (ix3 0 r t) = tileV X M G W r t := by
  rw [value_apply]
  unfold tileV
  simp only [product_values]

end Reads

variable (x0 : Vec Ideal S1x256x1024 .f32) (x1 : Vec Ideal S1x1x6x1024 .f32) (x2 x3 : Vec Ideal S64x256 .f32) (x4 : Vec Ideal S1x256x1024 .f32) (x5 : Vec Ideal S1x1x6x1024 .f32)
  (x6 x7 : Vec Ideal S64x256 .f32) (x8 : Vec Ideal S1x1024 .f32) (x9 : Vec Ideal S2304x1024 .bf16) (x10 : Vec Ideal S2x64x1 .f32)

/-- The block of queries: the first tile's, -/
theorem queries_fst (r : Fin 1024) (t : Fin 256) : out0_11 (F := Ideal) x0 x1 x2 x3 x4 x5 x6 x7 x8 x9 x10 (ix3 0 r t) = tileQ x0 x1 x8 x9 x10 x2 x3 r t :=
  (queries_eq x0 x1 x2 x3 x4 x5 x6 x7 x8 x9 x10 0 r t).trans (queryOf_eq x0 x1 x8 x9 x10 x2 x3 r t)
/-- and the second's. -/
theorem queries_snd (r : Fin 1024) (t : Fin 256) : out0_11 (F := Ideal) x0 x1 x2 x3 x4 x5 x6 x7 x8 x9 x10 (ix3 1 r t) = tileQ x4 x5 x8 x9 x10 x6 x7 r t :=
  (queries_eq x0 x1 x2 x3 x4 x5 x6 x7 x8 x9 x10 1 r t).trans (queryOf_eq x4 x5 x8 x9 x10 x6 x7 r t)

/-- The keys' two stores. -/
theorem keys_eq : out0_12 (F := Ideal) x0 x1 x2 x3 x4 x5 x6 x7 x8 x9 x10
    = View.canon [⟨r0_27, ten (keyHead (k0_pay8 (F := Ideal) (hidden x4 x5 x8) (View.ld x9 r0_3)) (k0_pay11 (F := Ideal) (View.ld x6 r0_6)) (k0_pay11 (F := Ideal) (View.ld x7 r0_6))
          (k0_pay14 (F := Ideal) (View.ld x10 r0_8)))⟩,
        ⟨r0_9, ten (keyHead (k0_pay8 (F := Ideal) (hidden x0 x1 x8) (View.ld x9 r0_3)) (k0_pay11 (F := Ideal) (View.ld x2 r0_6)) (k0_pay11 (F := Ideal) (View.ld x3 r0_6))
          (k0_pay14 (F := Ideal) (View.ld x10 r0_8)))⟩] := by
  rfl

/-- The block of keys: the first tile's, -/
theorem keys_fst (t : Fin 256) (i : Fin 640) : out0_12 (F := Ideal) x0 x1 x2 x3 x4 x5 x6 x7 x8 x9 x10 (ix3 0 t i) = tileK x0 x1 x8 x9 x10 x2 x3 t i := by
  rw [keys_eq]
  refine (Attn.canon_other 1 0 t i (by decide) _ _ _).trans ((Attn.canon_slot 0 0 t t i rfl rfl _ _ _).trans ?_)
  exact (keyHead_apply _ _ _ _ t i).trans (keyOf_eq x0 x1 x8 x9 x10 x2 x3 t i)
/-- and the second's. -/
theorem keys_snd (t : Fin 256) (i : Fin 640) : out0_12 (F := Ideal) x0 x1 x2 x3 x4 x5 x6 x7 x8 x9 x10 (ix3 1 t i) = tileK x4 x5 x8 x9 x10 x6 x7 t i := by
  rw [keys_eq]
  refine (Attn.canon_slot 1 1 t t i rfl rfl _ _ _).trans ?_
  exact (keyHead_apply _ _ _ _ t i).trans (keyOf_eq x4 x5 x8 x9 x10 x6 x7 t i)

/-- The values' two stores. -/
theorem values_eq : out0_13 (F := Ideal) x0 x1 x2 x3 x4 x5 x6 x7 x8 x9 x10
    = View.canon [⟨r0_44, k0_pay55 (F := Ideal) (k0_pay8 (F := Ideal) (hidden x4 x5 x8) (View.ld x9 r0_5))⟩,
        ⟨r0_26, k0_pay55 (F := Ideal) (k0_pay8 (F := Ideal) (hidden x0 x1 x8) (View.ld x9 r0_5))⟩] := by
  rfl

/-- The block of values: the first tile's, -/
theorem values_fst (r : Fin 736) (t : Fin 256) : out0_13 (F := Ideal) x0 x1 x2 x3 x4 x5 x6 x7 x8 x9 x10 (ix3 0 r t) = tileV x0 x1 x8 x9 r t := by
  rw [values_eq]
  exact (Attn.canon_other 1 0 r t (by decide) _ _ _).trans ((Attn.canon_slot 0 0 r r t rfl rfl _ _ _).trans (valueOf_eq x0 x1 x8 x9 r t))
/-- and the second's. -/
theorem values_snd (r : Fin 736) (t : Fin 256) : out0_13 (F := Ideal) x0 x1 x2 x3 x4 x5 x6 x7 x8 x9 x10 (ix3 1 r t) = tileV x4 x5 x8 x9 r t := by
  rw [values_eq]
  exact (Attn.canon_slot 1 1 r r t rfl rfl _ _ _).trans (valueOf_eq x4 x5 x8 x9 r t)

end Cert.Proj
-- ==== Proof.Proj.Index.lean ====
/- Where each grid point's blocks lie. -/
module

public import proofs.«01_k».proof.Proof.Proj.Sides
public import Idealize.ShloMosaic.Lib.Pipeline.ValueKit

@[expose] public section

set_option maxRecDepth 16384

noncomputable section

namespace Cert.Proj

open Cert.Kernel5Ideal Cert.Kernel5Ideal.Gen Idealize.ShloMosaic Idealize.ShloMosaic.TcCoe Idealize.SL.Sem
open Idealize.ShloMosaic.Pointwise

variable (m : (ℓ : Loc nD τ sig) → Buf (Elt Ideal) ℓ)

/-- Each window's block index at a point: the first tile's, -/
theorem index0 : ∀ t : Fin cfg0.N, win0_0.index t = ![2 * t.val / 9, 2 * t.val % 9, 0] :=
  (by decide +kernel : ∀ t : Fin grid0.N, _)
theorem index1 : ∀ t : Fin cfg0.N, win0_1.index t = ![2 * t.val / 9, min (2 * t.val % 9) 1, 0, 0] :=
  (by decide +kernel : ∀ t : Fin grid0.N, _)
theorem index2 : ∀ t : Fin cfg0.N, win0_2.index t = ![0, 2 * t.val % 9] :=
  (by decide +kernel : ∀ t : Fin grid0.N, _)
theorem index3 : ∀ t : Fin cfg0.N, win0_3.index t = ![0, 2 * t.val % 9] :=
  (by decide +kernel : ∀ t : Fin grid0.N, _)
/-- the second tile's, -/
theorem index4 : ∀ t : Fin cfg0.N, win0_4.index t = ![(2 * t.val + 1) / 9, (2 * t.val + 1) % 9, 0] :=
  (by decide +kernel : ∀ t : Fin grid0.N, _)
theorem index5 : ∀ t : Fin cfg0.N, win0_5.index t = ![(2 * t.val + 1) / 9, min ((2 * t.val + 1) % 9) 1, 0, 0] :=
  (by decide +kernel : ∀ t : Fin grid0.N, _)
theorem index6 : ∀ t : Fin cfg0.N, win0_6.index t = ![0, (2 * t.val + 1) % 9] :=
  (by decide +kernel : ∀ t : Fin grid0.N, _)
theorem index7 : ∀ t : Fin cfg0.N, win0_7.index t = ![0, (2 * t.val + 1) % 9] :=
  (by decide +kernel : ∀ t : Fin grid0.N, _)
/-- the weights', -/
theorem index8 : ∀ t : Fin cfg0.N, win0_8.index t = ![0, 0] :=
  (by decide +kernel : ∀ t : Fin grid0.N, _)
theorem index9 : ∀ t : Fin cfg0.N, win0_9.index t = ![0, 0] :=
  (by decide +kernel : ∀ t : Fin grid0.N, _)
theorem index10 : ∀ t : Fin cfg0.N, win0_10.index t = ![0, 0, 0] :=
  (by decide +kernel : ∀ t : Fin grid0.N, _)
/-- and the results'. -/
theorem index11 : ∀ t : Fin cfg0.N, win0_11.index t = ![t.val, 0, 0] :=
  (by decide +kernel : ∀ t : Fin grid0.N, _)
theorem index12 : ∀ t : Fin cfg0.N, win0_12.index t = ![t.val, 0, 0] :=
  (by decide +kernel : ∀ t : Fin grid0.N, _)
theorem index13 : ∀ t : Fin cfg0.N, win0_13.index t = ![t.val, 0, 0] :=
  (by decide +kernel : ∀ t : Fin grid0.N, _)

/-- The grid has 144 points. -/
theorem lt_grid (t : Fin cfg0.N) : t.val < 144 := by have h : cfg0.N = 144 := N_0; have := t.isLt; omega

variable (c : Dev nD) (t : Fin cfg0.N)

/-- The arguments of a device. -/
abbrev aX : FVec Ideal S32x2304x1024 .f32 := m ((c : Thread nD τ).loc main_arg0)
abbrev aM : FVec Ideal S32x2x6x1024 .f32 := m ((c : Thread nD τ).loc main_arg1)
abbrev aG : FVec Ideal S4x1024 .f32 := m ((c : Thread nD τ).loc main_arg2)
abbrev aW : FVec Ideal S1024x2304 .f32 := m ((c : Thread nD τ).loc main_arg3)
abbrev aC : FVec Ideal S2048x64 .f32 := m ((c : Thread nD τ).loc main_arg4)
abbrev aS : FVec Ideal S2048x64 .f32 := m ((c : Thread nD τ).loc main_arg5)
abbrev aQ : FVec Ideal S2x64 .f32 := m ((c : Thread nD τ).loc main_arg6)

/-- The tokens of the first tile, -/
theorem iblk0 (r : Fin 256) (j : Fin 1024) (b : Fin 32) (s : Fin 2304) (hb : b.val = 2 * t.val / 9) (hs : s.val = 256 * (2 * t.val % 9) + r.val) :
    iblk m c 0 t (ix3 0 r j) = aX m c (ix3 b s j) := by
  blk_simp [iblk, index0]
  rw [V_main_arg0]
  refine congrArg _ ?_
  blk_ext [index0]

/-- its vectors, -/
theorem iblk1 (i : Fin 6) (k : Fin 1024) (b : Fin 32) (n : Fin 2) (hb : b.val = 2 * t.val / 9) (hn : n.val = min (2 * t.val % 9) 1) :
    iblk m c 1 t (ix4 0 0 i k) = aM m c (ix4 b n i k) := by
  blk_simp [iblk, index1]
  rw [V_main_arg1]
  refine congrArg _ ?_
  blk_ext [index1]

/-- The tokens of the second tile, -/
theorem iblk4 (r : Fin 256) (j : Fin 1024) (b : Fin 32) (s : Fin 2304) (hb : b.val = (2 * t.val + 1) / 9) (hs : s.val = 256 * ((2 * t.val + 1) % 9) + r.val) :
    iblk m c 4 t (ix3 0 r j) = aX m c (ix3 b s j) := by
  blk_simp [iblk, index4]
  rw [V_main_arg0]
  refine congrArg _ ?_
  blk_ext [index4]

/-- its vectors, -/
theorem iblk5 (i : Fin 6) (k : Fin 1024) (b : Fin 32) (n : Fin 2) (hb : b.val = (2 * t.val + 1) / 9) (hn : n.val = min ((2 * t.val + 1) % 9) 1) :
    iblk m c 5 t (ix4 0 0 i k) = aM m c (ix4 b n i k) := by
  blk_simp [iblk, index5]
  rw [V_main_arg1]
  refine congrArg _ ?_
  blk_ext [index5]

end Cert.Proj
-- ==== Proof.Proj.Spec.lean ====
/- What the projections are: the queries, keys and values of a token from the layer's arguments. -/
module

public import proofs.«01_k».proof.Proof.Ffn.Spec
public import proofs.«01_k».proof.Proof.Proj.Row

@[expose] public section

noncomputable section

namespace Cert.Proj

open Idealize.ShloMosaic Idealize.ShloMosaic.Pointwise

/-- The column of the weights that a row of the kernel's order comes from. -/
def perm (r : ℕ) : ℕ :=
  if r < 512 then r else if r < 1024 then r + 1024 else if r < 1536 then r - 512 else if r < 1664 then r + 512 else if r < 2176 then r - 640 else r

theorem perm_lt {r : ℕ} (h : r < 2304) : perm r < 2304 := by unfold perm; split_ifs <;> omega

/-- The sign of the sine at a place of a head. -/
def signOf (d : Fin 64) : EReal := if d.val % 32 < 16 then Ideal.ofBits .f32 0xBF800000#32 else Ideal.ofBits .f32 0x3F800000#32

variable (X : FVec Ideal ⟨3, ![32, 2304, 1024]⟩ .f32) (M : FVec Ideal ⟨4, ![32, 2, 6, 1024]⟩ .f32) (G : FVec Ideal ⟨2, ![4, 1024]⟩ .f32)
  (W : FVec Ideal ⟨2, ![1024, 2304]⟩ .f32) (C S : FVec Ideal ⟨2, ![2048, 64]⟩ .f32) (Q : FVec Ideal ⟨2, ![2, 64]⟩ .f32)

/-- The cosines of a token: ones for the context's, -/
def cosAt (s : Fin 2304) (d : Fin 64) : EReal := if h : s.val < 256 then Ideal.ofBits .f32 0x3F800000#32 else C (ix2 ⟨s.val - 256, by omega⟩ d)
/-- and its sines, signed: zeros for the context's. -/
def sinAt (s : Fin 2304) (d : Fin 64) : EReal :=
  (if h : s.val < 256 then Ideal.ofBits .f32 0x00000000#32 else S (ix2 ⟨s.val - 256, by omega⟩ d)) * signOf d

/-- A token normed, scaled and shifted. -/
def hidAt (b : Fin 32) (s : Fin 2304) : Fin 1024 → EReal :=
  Ffn.hid (fun j => X (ix3 b s j)) (fun j => M (ix4 b (Ffn.kindOf s) 0 j)) (fun j => M (ix4 b (Ffn.kindOf s) 1 j)) (fun j => G (ix2 0 j))

/-- A row of its projection, in the kernel's order. -/
def rowAt (b : Fin 32) (s : Fin 2304) (o : ℕ) (h : o < 2304) : EReal := Ffn.dot (fun k => W (ix2 k ⟨perm o, perm_lt h⟩)) (hidAt X M G b s)

/-- A token's queries, -/
def queryAt (b : Fin 32) (s : Fin 2304) (r : Fin 1024) : EReal :=
  query (fun i => rowAt X M G W b s i.val (by omega)) (fun d => Q (ix2 0 d)) (cosAt C s) (sinAt S s) r
/-- keys, -/
def keyAt (b : Fin 32) (s : Fin 2304) (r : Fin 640) : EReal :=
  key (fun i => rowAt X M G W b s (1024 + i.val) (by omega)) (fun d => Q (ix2 1 d)) (cosAt C s) (sinAt S s) r
/-- and values. -/
def valueAt (b : Fin 32) (s : Fin 2304) (r : Fin 736) : EReal := value (fun i => rowAt X M G W b s (1664 + i.val) (by omega)) r

/-- The batch of a tile, -/
abbrev rowOf (p : Fin 288) : Fin 32 := ⟨p.val / 9, by omega⟩
/-- and the token at a place of it. -/
abbrev place (p : Fin 288) (t : Fin 256) : Fin 2304 := ⟨256 * (p.val % 9) + t.val, by omega⟩

end Cert.Proj
-- ==== Proof.Proj.Host.lean ====
/- The operands the kernel's host makes: the tables and the weights in the kernel's order. -/
module

public import proofs.«01_k».proof.Proof.Proj.Index
public import proofs.«01_k».proof.Proof.Proj.Spec

@[expose] public section

set_option maxRecDepth 65536

noncomputable section

namespace Cert.Proj

open Cert.Kernel5Ideal Cert.Kernel5Ideal.Gen Idealize.ShloMosaic Idealize.ShloMosaic.TcCoe Idealize.SL.Sem
open Idealize.ShloMosaic.Pointwise

/-- The weights' columns in the kernel's order. -/
def sorted (W : FVec Ideal S1024x2304 .f32) : FVec Ideal S1024x2304 .f32 :=
  concatenate S1024x2304 1 [⟨S1024x512, extractStridedSlice S1024x512 ![0, 0] W slices_S1024x2304_S1024x512_0_0⟩,
    ⟨S1024x512, extractStridedSlice S1024x512 ![0, 1536] W slices_S1024x2304_S1024x512_0_1536⟩,
    ⟨S1024x512, extractStridedSlice S1024x512 ![0, 512] W slices_S1024x2304_S1024x512_0_512⟩,
    ⟨S1024x128, extractStridedSlice S1024x128 ![0, 2048] W slices_S1024x2304_S1024x128_0_2048⟩,
    ⟨S1024x512, extractStridedSlice S1024x512 ![0, 1024] W slices_S1024x2304_S1024x512_0_1024⟩,
    ⟨S1024x128, extractStridedSlice S1024x128 ![0, 2176] W slices_S1024x2304_S1024x128_0_2176⟩]
    concatenates_S1024x512_S1024x512_S1024x512_S1024x128_S1024x512_S1024x128_S1024x2304_d1

/-- A piece of columns side by side. -/
theorem column_apply {n : ℕ} {xs : List ((s : Shape) × (s.Idx → EReal))} (h : Shape.Concatenates (xs.map (·.1)) S1024x2304 1) (k : ℕ) (hk : k < xs.length)
    (x : FVec Ideal ⟨2, ![1024, n]⟩ .f32) (hx : xs[k] = ⟨⟨2, ![1024, n]⟩, x⟩) (o : ℕ)
    (ho : (((xs.take k).map (·.1)).map fun s => if h : s.rank = 2 then s.size ((1 : Fin 2).cast h.symm) else 0).sum = o)
    (j : Fin 1024) (i : Fin 2304) (d : Fin n) (e : o + d.val = i.val) : concatenate S1024x2304 1 xs h (ix2 j i) = x (ix2 j d) := by
  refine concatenate_apply_piece (t := S1024x2304) 1 xs h (ix2 j i) k hk _ x hx rfl o ho (ix2 j d) (fun b hb => ?_) e
  match b with
  | ⟨0, _⟩ => rfl
  | ⟨1, _⟩ => exact absurd rfl hb

theorem wide_cols (W : FVec Ideal S1024x2304 .f32) (o : ℕ) (h : S1024x2304.Slices ![0, o] S1024x512) (j : Fin 1024) (d : Fin 512) (i : Fin 2304) (e : o + d.val = i.val) :
    extractStridedSlice S1024x512 ![0, o] W h (ix2 j d) = W (ix2 j i) :=
  Eq.trans (b := W (ix2 j ⟨o + d.val, by omega⟩)) (by pointwise) (congrArg (fun i => W (ix2 j i)) (Fin.ext e))
theorem slim_cols (W : FVec Ideal S1024x2304 .f32) (o : ℕ) (h : S1024x2304.Slices ![0, o] S1024x128) (j : Fin 1024) (d : Fin 128) (i : Fin 2304) (e : o + d.val = i.val) :
    extractStridedSlice S1024x128 ![0, o] W h (ix2 j d) = W (ix2 j i) :=
  Eq.trans (b := W (ix2 j ⟨o + d.val, by omega⟩)) (by pointwise) (congrArg (fun i => W (ix2 j i)) (Fin.ext e))

theorem sorted_apply (W : FVec Ideal S1024x2304 .f32) (j : Fin 1024) (r : Fin 2304) : sorted W (ix2 j r) = W (ix2 j ⟨perm r.val, perm_lt r.isLt⟩) := by
  unfold sorted
  have hp : perm r.val = if r.val < 512 then r.val else if r.val < 1024 then r.val + 1024 else if r.val < 1536 then r.val - 512 else
    if r.val < 1664 then r.val + 512 else if r.val < 2176 then r.val - 640 else r.val := rfl
  generalize perm_lt r.isLt = hl
  generalize perm r.val = q at hp hl
  split_ifs at hp with h1 h2 h3 h4 h5
  · exact (column_apply _ 0 (Nat.le_of_ble_eq_true rfl) _ rfl 0 rfl j r ⟨r.val, h1⟩ (by dsimp only; omega)).trans (wide_cols W _ _ j _ _ (by dsimp only; omega))
  · exact (column_apply _ 1 (Nat.le_of_ble_eq_true rfl) _ rfl 512 rfl j r ⟨r.val - 512, by omega⟩ (by dsimp only; omega)).trans (wide_cols W _ _ j _ _ (by dsimp only; omega))
  · exact (column_apply _ 2 (Nat.le_of_ble_eq_true rfl) _ rfl 1024 rfl j r ⟨r.val - 1024, by omega⟩ (by dsimp only; omega)).trans (wide_cols W _ _ j _ _ (by dsimp only; omega))
  · exact (column_apply _ 3 (Nat.le_of_ble_eq_true rfl) _ rfl 1536 rfl j r ⟨r.val - 1536, by omega⟩ (by dsimp only; omega)).trans (slim_cols W _ _ j _ _ (by dsimp only; omega))
  · exact (column_apply _ 4 (Nat.le_of_ble_eq_true rfl) _ rfl 1664 rfl j r ⟨r.val - 1664, by omega⟩ (by dsimp only; omega)).trans (wide_cols W _ _ j _ _ (by dsimp only; omega))
  · exact (column_apply _ 5 (Nat.le_of_ble_eq_true rfl) _ rfl 2176 rfl j r ⟨r.val - 2176, by omega⟩ (by dsimp only; omega)).trans (slim_cols W _ _ j _ _ (by dsimp only; omega))

/-- The signs of the sines. -/
def signs : FVec Ideal S64 .f32 :=
  shapeCast S64 (broadcastInDim S2x32 ![0, 1] bcast_S1x32_S2x32_0_1
    (shapeCast S1x32 (shapeCast S32 (broadcastInDim S2x16 ![0] bcast_S2_S2x16_0 fun i => FloatOps.ofBits FTy.f32 (lit0 (S2.rowMajor i))) shapeCasts_S2x16_S32) shapeCasts_S32_S1x32))
    shapeCasts_S2x32_S64

theorem signs_apply (d : Fin 64) : signs (ix1 d) = signOf d := by
  have h : signs (ix1 d) = Ideal.ofBits .f32 (lit0 (S2.rowMajor (ix1 ⟨d.val % 32 / 16, by omega⟩))) := by pointwise [signs]
  rw [h]
  unfold signOf
  by_cases hd : d.val % 32 < 16
  · rw [if_pos hd]
    have e : (⟨d.val % 32 / 16, by omega⟩ : Fin 2) = 0 := Fin.ext (by show d.val % 32 / 16 = 0; omega)
    rw [e]
    rfl
  · rw [if_neg hd]
    have e : (⟨d.val % 32 / 16, by omega⟩ : Fin 2) = 1 := Fin.ext (by show d.val % 32 / 16 = 1; omega)
    rw [e]
    rfl

/-- The table of cosines, -/
def cosines (C : FVec Ideal S2048x64 .f32) : FVec Ideal S64x2304 .f32 :=
  transpose S64x2304 [1, 0] (concatenate S2304x64 0
    [⟨S256x64, broadcastInDim S256x64 ![] bcast_S_S256x64 (constant S_ FTy.f32 1065353216#32)⟩, ⟨S2048x64, C⟩] concatenates_S256x64_S2048x64_S2304x64_d0)
    transposes_S2304x64_S64x2304_1_0

theorem cosines_apply (C : FVec Ideal S2048x64 .f32) (d : Fin 64) (s : Fin 2304) : cosines C (ix2 d s) = cosAt C s d := by
  unfold cosAt
  pointwise [cosines]

/-- and of sines. -/
def sines (S : FVec Ideal S2048x64 .f32) : FVec Ideal S64x2304 .f32 :=
  transpose S64x2304 [1, 0] (mulf (concatenate S2304x64 0
    [⟨S256x64, broadcastInDim S256x64 ![] bcast_S_S256x64 (constant S_ FTy.f32 0#32)⟩, ⟨S2048x64, S⟩] concatenates_S256x64_S2048x64_S2304x64_d0)
    (broadcastInDim S2304x64 ![0, 1] bcast_S1x64_S2304x64_0_1 (broadcastInDim S1x64 ![1] bcast_S64_S1x64_1 signs)))
    transposes_S2304x64_S64x2304_1_0

theorem sines_apply (S : FVec Ideal S2048x64 .f32) (d : Fin 64) (s : Fin 2304) : sines S (ix2 d s) = sinAt S s d := by
  unfold sinAt
  rw [← signs_apply]
  pointwise [sines]

variable (m : (ℓ : Loc nD τ sig) → Buf (Elt Ideal) ℓ) (c : Dev nD)

/-- The kernel's operands are these. -/
theorem V_cosines : (V m c main_v9 : FVec Ideal S64x2304 .f32) = cosines (aC m c) := by rfl
theorem V_sines : (V m c main_v13 : FVec Ideal S64x2304 .f32) = sines (aS m c) := by rfl
theorem V_weights : (V m c main_v22 : FVec Ideal S2304x1024 .bf16)
    = truncf .bf16 (transpose S2304x1024 [1, 0] (sorted (aW m c)) transposes_S1024x2304_S2304x1024_1_0) bitsLt_bf16_f32 := by rfl
theorem V_heads : (V m c main_v23 : FVec Ideal S2x64x1 .f32) = shapeCast S2x64x1 (aQ m c) shapeCasts_S2x64_S2x64x1 := by rfl
theorem V_norm : (V m c main_v24 : FVec Ideal S1x1024 .f32) = extractStridedSlice S1x1024 ![0, 0] (aG m c) slices_S4x1024_S1x1024_0_0 := by rfl

end Cert.Proj
-- ==== Proof.Proj.Array.lean ====
/- The result arrays of the kernel: the queries, the keys and the values. -/
module

public import proofs.«01_k».proof.Proof.Proj.Host

@[expose] public section

set_option maxRecDepth 16384

noncomputable section

namespace Cert.Proj

open Cert.Kernel5Ideal Cert.Kernel5Ideal.Gen Idealize.ShloMosaic Idealize.ShloMosaic.TcCoe Idealize.SL.Sem
open Idealize.ShloMosaic.Pointwise

variable (m : (ℓ : Loc nD τ sig) → Buf (Elt Ideal) ℓ) (c : Dev nD) (t : Fin cfg0.N)

/-- The first tile's cosines, -/
theorem iblk2 (d : Fin 64) (r : Fin 256) (s : Fin 2304) (hs : s.val = 256 * (2 * t.val % 9) + r.val) : iblk m c 2 t (ix2 d r) = cosAt (aC m c) s d := by
  refine Eq.trans ?_ (cosines_apply (aC m c) d s)
  rw [← V_cosines]
  blk_simp [iblk, index2]
  refine congrArg _ ?_
  blk_ext [index2]

/-- and sines. -/
theorem iblk3 (d : Fin 64) (r : Fin 256) (s : Fin 2304) (hs : s.val = 256 * (2 * t.val % 9) + r.val) : iblk m c 3 t (ix2 d r) = sinAt (aS m c) s d := by
  refine Eq.trans ?_ (sines_apply (aS m c) d s)
  rw [← V_sines]
  blk_simp [iblk, index3]
  refine congrArg _ ?_
  blk_ext [index3]

/-- The second tile's cosines, -/
theorem iblk6 (d : Fin 64) (r : Fin 256) (s : Fin 2304) (hs : s.val = 256 * ((2 * t.val + 1) % 9) + r.val) : iblk m c 6 t (ix2 d r) = cosAt (aC m c) s d := by
  refine Eq.trans ?_ (cosines_apply (aC m c) d s)
  rw [← V_cosines]
  blk_simp [iblk, index6]
  refine congrArg _ ?_
  blk_ext [index6]

/-- and sines. -/
theorem iblk7 (d : Fin 64) (r : Fin 256) (s : Fin 2304) (hs : s.val = 256 * ((2 * t.val + 1) % 9) + r.val) : iblk m c 7 t (ix2 d r) = sinAt (aS m c) s d := by
  refine Eq.trans ?_ (sines_apply (aS m c) d s)
  rw [← V_sines]
  blk_simp [iblk, index7]
  refine congrArg _ ?_
  blk_ext [index7]

/-- The norm's weights, -/
theorem iblk8 (j : Fin 1024) : iblk m c 8 t (ix2 0 j) = aG m c (ix2 0 j) := by
  refine Eq.trans (b := (V m c main_v24 : FVec Ideal S1x1024 .f32) (ix2 0 j)) ?_ ?_
  · blk_simp [iblk, index8]
    refine congrArg _ ?_
    blk_ext [index8]
  · rw [V_norm]
    pointwise

/-- the projection's, -/
theorem iblk9 (r : Fin 2304) (k : Fin 1024) : iblk m c 9 t (ix2 r k) = aW m c (ix2 k ⟨perm r.val, perm_lt r.isLt⟩) := by
  refine Eq.trans (b := (V m c main_v22 : FVec Ideal S2304x1024 .bf16) (ix2 r k)) ?_ ?_
  · blk_simp [iblk, index9]
    refine congrArg _ ?_
    blk_ext [index9]
  · rw [V_weights, ← sorted_apply (aW m c) k r]
    pointwise

/-- and the heads' norms'. -/
theorem iblk10 (n : Fin 2) (d : Fin 64) : iblk m c 10 t (ix3 n d 0) = aQ m c (ix2 n d) := by
  refine Eq.trans (b := (V m c main_v23 : FVec Ideal S2x64x1 .f32) (ix3 n d 0)) ?_ ?_
  · blk_simp [iblk, index10]
    refine congrArg _ ?_
    blk_ext [index10]
  · rw [V_heads]
    pointwise

/-- A row of the first tile before the projection, -/
theorem hidRow_fst (p : Fin 288) (hp : p.val = 2 * t.val) (r : Fin 256) : hidRow (iblk m c 0 t) (iblk m c 1 t) (iblk m c 8 t) r = hidAt (aX m c) (aM m c) (aG m c) (rowOf p) (place p r) := by
  have ht := lt_grid t
  have hk : (Ffn.kindOf (place p r)).val = min (2 * t.val % 9) 1 := by rw [Ffn.kindOf_val]; dsimp only; rw [hp]; omega
  have hb : (rowOf p).val = 2 * t.val / 9 := by dsimp only; rw [hp]
  have hs : (place p r).val = 256 * (2 * t.val % 9) + r.val := by dsimp only; rw [hp]
  unfold hidRow hidAt
  simp only [iblk8, fun i k => iblk1 m c t i k _ _ hb hk, fun j => iblk0 m c t r j _ _ hb hs]

/-- its queries, -/
theorem queryTile_fst (p : Fin 288) (hp : p.val = 2 * t.val) (i : Fin 1024) (r : Fin 256) :
    tileQ (iblk m c 0 t) (iblk m c 1 t) (iblk m c 8 t) (iblk m c 9 t) (iblk m c 10 t) (iblk m c 2 t) (iblk m c 3 t) i r
      = queryAt (aX m c) (aM m c) (aG m c) (aW m c) (aC m c) (aS m c) (aQ m c) (rowOf p) (place p r) i := by
  have hs : (place p r).val = 256 * (2 * t.val % 9) + r.val := by dsimp only; rw [hp]
  unfold tileQ queryAt rowAt
  simp only [hidRow_fst m c t p hp r, iblk9, iblk10, fun d => iblk2 m c t d r _ hs, fun d => iblk3 m c t d r _ hs]

/-- keys, -/
theorem keyTile_fst (p : Fin 288) (hp : p.val = 2 * t.val) (r : Fin 256) (i : Fin 640) :
    tileK (iblk m c 0 t) (iblk m c 1 t) (iblk m c 8 t) (iblk m c 9 t) (iblk m c 10 t) (iblk m c 2 t) (iblk m c 3 t) r i
      = keyAt (aX m c) (aM m c) (aG m c) (aW m c) (aC m c) (aS m c) (aQ m c) (rowOf p) (place p r) i := by
  have hs : (place p r).val = 256 * (2 * t.val % 9) + r.val := by dsimp only; rw [hp]
  unfold tileK keyAt rowAt
  simp only [hidRow_fst m c t p hp r, iblk9, iblk10, fun d => iblk2 m c t d r _ hs, fun d => iblk3 m c t d r _ hs]

/-- and values. -/
theorem valueTile_fst (p : Fin 288) (hp : p.val = 2 * t.val) (i : Fin 736) (r : Fin 256) :
    tileV (iblk m c 0 t) (iblk m c 1 t) (iblk m c 8 t) (iblk m c 9 t) i r = valueAt (aX m c) (aM m c) (aG m c) (aW m c) (rowOf p) (place p r) i := by
  unfold tileV valueAt rowAt
  simp only [hidRow_fst m c t p hp r, iblk9]

/-- A row of the second tile before the projection, -/
theorem hidRow_snd (p : Fin 288) (hp : p.val = (2 * t.val + 1)) (r : Fin 256) : hidRow (iblk m c 4 t) (iblk m c 5 t) (iblk m c 8 t) r = hidAt (aX m c) (aM m c) (aG m c) (rowOf p) (place p r) := by
  have ht := lt_grid t
  have hk : (Ffn.kindOf (place p r)).val = min ((2 * t.val + 1) % 9) 1 := by rw [Ffn.kindOf_val]; dsimp only; rw [hp]; omega
  have hb : (rowOf p).val = (2 * t.val + 1) / 9 := by dsimp only; rw [hp]
  have hs : (place p r).val = 256 * ((2 * t.val + 1) % 9) + r.val := by dsimp only; rw [hp]
  unfold hidRow hidAt
  simp only [iblk8, fun i k => iblk5 m c t i k _ _ hb hk, fun j => iblk4 m c t r j _ _ hb hs]

/-- its queries, -/
theorem queryTile_snd (p : Fin 288) (hp : p.val = (2 * t.val + 1)) (i : Fin 1024) (r : Fin 256) :
    tileQ (iblk m c 4 t) (iblk m c 5 t) (iblk m c 8 t) (iblk m c 9 t) (iblk m c 10 t) (iblk m c 6 t) (iblk m c 7 t) i r
      = queryAt (aX m c) (aM m c) (aG m c) (aW m c) (aC m c) (aS m c) (aQ m c) (rowOf p) (place p r) i := by
  have hs : (place p r).val = 256 * ((2 * t.val + 1) % 9) + r.val := by dsimp only; rw [hp]
  unfold tileQ queryAt rowAt
  simp only [hidRow_snd m c t p hp r, iblk9, iblk10, fun d => iblk6 m c t d r _ hs, fun d => iblk7 m c t d r _ hs]

/-- keys, -/
theorem keyTile_snd (p : Fin 288) (hp : p.val = (2 * t.val + 1)) (r : Fin 256) (i : Fin 640) :
    tileK (iblk m c 4 t) (iblk m c 5 t) (iblk m c 8 t) (iblk m c 9 t) (iblk m c 10 t) (iblk m c 6 t) (iblk m c 7 t) r i
      = keyAt (aX m c) (aM m c) (aG m c) (aW m c) (aC m c) (aS m c) (aQ m c) (rowOf p) (place p r) i := by
  have hs : (place p r).val = 256 * ((2 * t.val + 1) % 9) + r.val := by dsimp only; rw [hp]
  unfold tileK keyAt rowAt
  simp only [hidRow_snd m c t p hp r, iblk9, iblk10, fun d => iblk6 m c t d r _ hs, fun d => iblk7 m c t d r _ hs]

/-- and values. -/
theorem valueTile_snd (p : Fin 288) (hp : p.val = (2 * t.val + 1)) (i : Fin 736) (r : Fin 256) :
    tileV (iblk m c 4 t) (iblk m c 5 t) (iblk m c 8 t) (iblk m c 9 t) i r = valueAt (aX m c) (aM m c) (aG m c) (aW m c) (rowOf p) (place p r) i := by
  unfold tileV valueAt rowAt
  simp only [hidRow_snd m c t p hp r, iblk9]

/-- The queries, at an index, -/
abbrev queryRes (p : Fin 288) (a : Fin 1024) (b : Fin 256) : EReal := queryAt (aX m c) (aM m c) (aG m c) (aW m c) (aC m c) (aS m c) (aQ m c) (rowOf p) (place p b) a

/-- what a point leaves in its block of them, -/
theorem query_after (h : Fin 2) (p : Fin 288) (hp : p.val = 2 * t.val + h.val) (a : Fin 1024) (b : Fin 256) :
    (dats m 0 c).after 11 t (ix3 h a b) = queryRes m c p a b := by
  rw [after0_11]
  match h, hp with
  | ⟨0, _⟩, hp => exact (queries_fst _ _ _ _ _ _ _ _ _ _ _ a b).trans (queryTile_fst m c t p hp a b)
  | ⟨1, _⟩, hp => exact (queries_snd _ _ _ _ _ _ _ _ _ _ _ a b).trans (queryTile_snd m c t p hp a b)

theorem query_cover (i : S288x1024x256.Idx) : ∃ t : Fin cfg0.N, (cfg0.win 11).flush t = true ∧ i ∈ ((cfg0.win 11).blk t).view.set := by
  have hN : cfg0.N = 144 := N_0
  have h0 : (i 0 : ℕ) < 288 := (i 0).isLt
  have h1 : (i 1 : ℕ) < 1024 := (i 1).isLt
  have h2 : (i 2 : ℕ) < 256 := (i 2).isLt
  obtain ⟨t, et⟩ : ∃ t : Fin cfg0.N, t.val = (i 0 : ℕ) / 2 := ⟨⟨(i 0 : ℕ) / 2, by omega⟩, rfl⟩
  refine ⟨t, flush0_11 t, ?_⟩
  mem_blk [index11]
  omega

/-- and their whole array after the run. -/
theorem query_result : (dats m 0 c).arrAt 11 cfg0.N = fun i : S288x1024x256.Idx => queryRes m c (i 0) (i 1) (i 2) := by
  refine (dats m 0 c).arrAt_eq_of_emb 11 _ (fun t hf y => ?_) (query_cover)
  have hy : y = (ix3 (y 0) (y 1) (y 2) : S2x1024x256.Idx) := by
    funext a
    match a with
    | ⟨0, _⟩ => rfl
    | ⟨1, _⟩ => rfl
    | ⟨2, _⟩ => rfl
  have e0 : ((win0_11.blk t).view.emb y 0).val = 2 * t.val + (y 0 : Fin 2).val := by blk_simp [index11]; omega
  have e1 : (win0_11.blk t).view.emb y 1 = (y 1 : Fin 1024) := Fin.ext (by blk_simp [index11])
  have e2 : (win0_11.blk t).view.emb y 2 = (y 2 : Fin 256) := Fin.ext (by blk_simp [index11])
  show (dats m 0 c).after 11 t y = queryRes m c ((win0_11.blk t).view.emb y 0) ((win0_11.blk t).view.emb y 1) ((win0_11.blk t).view.emb y 2)
  rw [e1, e2]
  exact (congrArg ((dats m 0 c).after 11 t) hy).trans (query_after m c t (y 0) _ e0 (y 1) (y 2))

/-- The keys, at an index, -/
abbrev keyRes (p : Fin 288) (a : Fin 256) (b : Fin 640) : EReal := keyAt (aX m c) (aM m c) (aG m c) (aW m c) (aC m c) (aS m c) (aQ m c) (rowOf p) (place p a) b

/-- what a point leaves in its block of them, -/
theorem key_after (h : Fin 2) (p : Fin 288) (hp : p.val = 2 * t.val + h.val) (a : Fin 256) (b : Fin 640) :
    (dats m 0 c).after 12 t (ix3 h a b) = keyRes m c p a b := by
  rw [after0_12]
  match h, hp with
  | ⟨0, _⟩, hp => exact (keys_fst _ _ _ _ _ _ _ _ _ _ _ a b).trans (keyTile_fst m c t p hp a b)
  | ⟨1, _⟩, hp => exact (keys_snd _ _ _ _ _ _ _ _ _ _ _ a b).trans (keyTile_snd m c t p hp a b)

theorem key_cover (i : S288x256x640.Idx) : ∃ t : Fin cfg0.N, (cfg0.win 12).flush t = true ∧ i ∈ ((cfg0.win 12).blk t).view.set := by
  have hN : cfg0.N = 144 := N_0
  have h0 : (i 0 : ℕ) < 288 := (i 0).isLt
  have h1 : (i 1 : ℕ) < 256 := (i 1).isLt
  have h2 : (i 2 : ℕ) < 640 := (i 2).isLt
  obtain ⟨t, et⟩ : ∃ t : Fin cfg0.N, t.val = (i 0 : ℕ) / 2 := ⟨⟨(i 0 : ℕ) / 2, by omega⟩, rfl⟩
  refine ⟨t, flush0_12 t, ?_⟩
  mem_blk [index12]
  omega

/-- and their whole array after the run. -/
theorem key_result : (dats m 0 c).arrAt 12 cfg0.N = fun i : S288x256x640.Idx => keyRes m c (i 0) (i 1) (i 2) := by
  refine (dats m 0 c).arrAt_eq_of_emb 12 _ (fun t hf y => ?_) (key_cover)
  have hy : y = (ix3 (y 0) (y 1) (y 2) : S2x256x640.Idx) := by
    funext a
    match a with
    | ⟨0, _⟩ => rfl
    | ⟨1, _⟩ => rfl
    | ⟨2, _⟩ => rfl
  have e0 : ((win0_12.blk t).view.emb y 0).val = 2 * t.val + (y 0 : Fin 2).val := by blk_simp [index12]; omega
  have e1 : (win0_12.blk t).view.emb y 1 = (y 1 : Fin 256) := Fin.ext (by blk_simp [index12])
  have e2 : (win0_12.blk t).view.emb y 2 = (y 2 : Fin 640) := Fin.ext (by blk_simp [index12])
  show (dats m 0 c).after 12 t y = keyRes m c ((win0_12.blk t).view.emb y 0) ((win0_12.blk t).view.emb y 1) ((win0_12.blk t).view.emb y 2)
  rw [e1, e2]
  exact (congrArg ((dats m 0 c).after 12 t) hy).trans (key_after m c t (y 0) _ e0 (y 1) (y 2))

/-- The values, at an index, -/
abbrev valueRes (p : Fin 288) (a : Fin 736) (b : Fin 256) : EReal := valueAt (aX m c) (aM m c) (aG m c) (aW m c) (rowOf p) (place p b) a

/-- what a point leaves in its block of them, -/
theorem value_after (h : Fin 2) (p : Fin 288) (hp : p.val = 2 * t.val + h.val) (a : Fin 736) (b : Fin 256) :
    (dats m 0 c).after 13 t (ix3 h a b) = valueRes m c p a b := by
  rw [after0_13]
  match h, hp with
  | ⟨0, _⟩, hp => exact (values_fst _ _ _ _ _ _ _ _ _ _ _ a b).trans (valueTile_fst m c t p hp a b)
  | ⟨1, _⟩, hp => exact (values_snd _ _ _ _ _ _ _ _ _ _ _ a b).trans (valueTile_snd m c t p hp a b)

theorem value_cover (i : S288x736x256.Idx) : ∃ t : Fin cfg0.N, (cfg0.win 13).flush t = true ∧ i ∈ ((cfg0.win 13).blk t).view.set := by
  have hN : cfg0.N = 144 := N_0
  have h0 : (i 0 : ℕ) < 288 := (i 0).isLt
  have h1 : (i 1 : ℕ) < 736 := (i 1).isLt
  have h2 : (i 2 : ℕ) < 256 := (i 2).isLt
  obtain ⟨t, et⟩ : ∃ t : Fin cfg0.N, t.val = (i 0 : ℕ) / 2 := ⟨⟨(i 0 : ℕ) / 2, by omega⟩, rfl⟩
  refine ⟨t, flush0_13 t, ?_⟩
  mem_blk [index13]
  omega

/-- and their whole array after the run. -/
theorem value_result : (dats m 0 c).arrAt 13 cfg0.N = fun i : S288x736x256.Idx => valueRes m c (i 0) (i 1) (i 2) := by
  refine (dats m 0 c).arrAt_eq_of_emb 13 _ (fun t hf y => ?_) (value_cover)
  have hy : y = (ix3 (y 0) (y 1) (y 2) : S2x736x256.Idx) := by
    funext a
    match a with
    | ⟨0, _⟩ => rfl
    | ⟨1, _⟩ => rfl
    | ⟨2, _⟩ => rfl
  have e0 : ((win0_13.blk t).view.emb y 0).val = 2 * t.val + (y 0 : Fin 2).val := by blk_simp [index13]; omega
  have e1 : (win0_13.blk t).view.emb y 1 = (y 1 : Fin 736) := Fin.ext (by blk_simp [index13])
  have e2 : (win0_13.blk t).view.emb y 2 = (y 2 : Fin 256) := Fin.ext (by blk_simp [index13])
  show (dats m 0 c).after 13 t y = valueRes m c ((win0_13.blk t).view.emb y 0) ((win0_13.blk t).view.emb y 1) ((win0_13.blk t).view.emb y 2)
  rw [e1, e2]
  exact (congrArg ((dats m 0 c).after 13 t) hy).trans (value_after m c t (y 0) _ e0 (y 1) (y 2))

end Cert.Proj
-- ==== Proof.ProjRef.Tokens.lean ====
/- The reference's projected rows, token by token. -/
module

public import proofs.«01_k».proof.Proof.Gen.Reference5Ideal.Read
public import proofs.«01_k».proof.Proof.FfnRef.Finish
public import proofs.«01_k».proof.Proof.Proj.Spec

@[expose] public section

set_option maxRecDepth 16384

noncomputable section

namespace Cert.ProjRef

open Cert.Reference5Ideal Cert.Reference5Ideal.Gen Cert.Reference5Ideal.Read Idealize.ShloMosaic Idealize.ShloMosaic.Pointwise Cert.Proj

variable (x0 : FVec Ideal S32x2304x1024 .f32) (x1 : FVec Ideal S32x2x6x1024 .f32) (x2 : FVec Ideal S4x1024 .f32) (x3 : FVec Ideal S1024x2304 .f32)

/-- The rows of the context normed, weighted by `g`, -/
def normedC (Y : FVec Ideal S32x256x1024 .f32) (g : FVec Ideal S1024 .f32) : FVec Ideal S32x256x1024 .f32 :=
  mulf (mulf Y (broadcastInDim S32x256x1024 ![0, 1, 2] bcast_S32x256x1_S32x256x1024_0_1_2
      (Host.rsqrt (addf (Host.divf
        (broadcastInDim S32x256x1 ![0, 1] bcast_S32x256_S32x256x1_0_1 (Host.reduceAdd (mulf Y Y) (constant S_ .f32 0x00000000#32) reducesTo_S32x256x1024_S32x256_d2 h_S_))
        (broadcastInDim S32x256x1 ![] bcast_S_S32x256x1 (constant S_ .f32 0x44800000#32)))
        (broadcastInDim S32x256x1 ![] bcast_S_S32x256x1 (constant S_ .f32 0x358637BD#32))))))
    (broadcastInDim S32x256x1024 ![0, 1, 2] bcast_S1x1x1024_S32x256x1024_0_1_2 (broadcastInDim S1x1x1024 ![2] bcast_S1024_S1x1x1024_2 g))

theorem normedC_apply (Y : FVec Ideal S32x256x1024 .f32) (g : FVec Ideal S1024 .f32) (b : Fin 32) (s : Fin 256) (k : Fin 1024) :
    normedC Y g (ix3 b s k) = Ffn.rms (fun j => Y (ix3 b s j)) (fun j => g (ix1 j)) k := by
  unfold Ffn.rms
  pointwise [normedC]

/-- and the latent ones. -/
def normedL (Y : FVec Ideal S32x2048x1024 .f32) (g : FVec Ideal S1024 .f32) : FVec Ideal S32x2048x1024 .f32 :=
  mulf (mulf Y (broadcastInDim S32x2048x1024 ![0, 1, 2] bcast_S32x2048x1_S32x2048x1024_0_1_2
      (Host.rsqrt (addf (Host.divf
        (broadcastInDim S32x2048x1 ![0, 1] bcast_S32x2048_S32x2048x1_0_1 (Host.reduceAdd (mulf Y Y) (constant S_ .f32 0x00000000#32) reducesTo_S32x2048x1024_S32x2048_d2 h_S_))
        (broadcastInDim S32x2048x1 ![] bcast_S_S32x2048x1 (constant S_ .f32 0x44800000#32)))
        (broadcastInDim S32x2048x1 ![] bcast_S_S32x2048x1 (constant S_ .f32 0x358637BD#32))))))
    (broadcastInDim S32x2048x1024 ![0, 1, 2] bcast_S1x1x1024_S32x2048x1024_0_1_2 (broadcastInDim S1x1x1024 ![2] bcast_S1024_S1x1x1024_2 g))

theorem normedL_apply (Y : FVec Ideal S32x2048x1024 .f32) (g : FVec Ideal S1024 .f32) (b : Fin 32) (s : Fin 2048) (k : Fin 1024) :
    normedL Y g (ix3 b s k) = Ffn.rms (fun j => Y (ix3 b s j)) (fun j => g (ix1 j)) k := by
  unfold Ffn.rms
  pointwise [normedL]

theorem stageC : val_main_v17 (F := Ideal) x0 x2 = normedC (val_main_v0 (F := Ideal) x0) (val_main_v4 (F := Ideal) x2) := rfl

theorem stageL : val_main_v90 (F := Ideal) x0 x2 = normedL (val_main_v73 (F := Ideal) x0) (val_main_v77 (F := Ideal) x2) := rfl

/-- The context's rows before the projection, -/
theorem hidC (b : Fin 32) (l : Fin 256) (k : Fin 1024) :
    val_main_v29 (F := Ideal) x0 x1 x2 (ix3 b l k) = hidAt x0 x1 x2 b ⟨l.val, by omega⟩ k := by
  have kind : Ffn.kindOf ⟨l.val, by omega⟩ = 0 := by unfold Ffn.kindOf; rw [if_pos (by exact l.isLt)]
  have tok (j : Fin 1024) : val_main_v0 (F := Ideal) x0 (ix3 b l j) = x0 (ix3 b ⟨l.val, by omega⟩ j) := by
    pointwise [val_main_v0]
  have wt (j : Fin 1024) : val_main_v4 (F := Ideal) x2 (ix1 j) = x2 (ix2 0 j) := by
    pointwise [val_main_v4, val_main_v3]
  have sc : val_main_v26 (F := Ideal) x1 (ix3 b l k) = Ideal.ofBits .f32 0x3F800000#32 + x1 (ix4 b 0 1 k) := by
    pointwise [val_main_v26, val_main_v25, val_main_v24, val_main_cst_2, val_main_v23, val_main_v22, val_main_v21, val_main_v2, val_main_v1]
  have sh : val_main_v28 (F := Ideal) x1 (ix3 b l k) = x1 (ix4 b 0 0 k) := by
    pointwise [val_main_v28, val_main_v20, val_main_v19, val_main_v18, val_main_v2, val_main_v1]
  unfold hidAt Ffn.hid
  rw [kind, val_main_v29_apply, val_main_v27_apply, stageC, normedC_apply, sc, sh]
  simp only [tok, wt]
  rfl

/-- and the latent rows. -/
theorem hidL (b : Fin 32) (l : Fin 2048) (k : Fin 1024) :
    val_main_v102 (F := Ideal) x0 x1 x2 (ix3 b l k) = hidAt x0 x1 x2 b ⟨256 + l.val, by omega⟩ k := by
  have kind : Ffn.kindOf ⟨256 + l.val, by omega⟩ = 1 := by unfold Ffn.kindOf; rw [if_neg (by show ¬ 256 + l.val < 256; omega)]
  have tok (j : Fin 1024) : val_main_v73 (F := Ideal) x0 (ix3 b l j) = x0 (ix3 b ⟨256 + l.val, by omega⟩ j) := by
    pointwise [val_main_v73]
  have wt (j : Fin 1024) : val_main_v77 (F := Ideal) x2 (ix1 j) = x2 (ix2 0 j) := by
    pointwise [val_main_v77, val_main_v76]
  have sc : val_main_v99 (F := Ideal) x1 (ix3 b l k) = Ideal.ofBits .f32 0x3F800000#32 + x1 (ix4 b 1 1 k) := by
    pointwise [val_main_v99, val_main_v98, val_main_v97, val_main_cst_12, val_main_v96, val_main_v95, val_main_v94, val_main_v75, val_main_v74]
  have sh : val_main_v101 (F := Ideal) x1 (ix3 b l k) = x1 (ix4 b 1 0 k) := by
    pointwise [val_main_v101, val_main_v93, val_main_v92, val_main_v91, val_main_v75, val_main_v74]
  unfold hidAt Ffn.hid
  rw [kind, val_main_v102_apply, val_main_v100_apply, stageL, normedL_apply, sc, sh]
  simp only [tok, wt]
  rfl

/-- Column `o` of token `s`'s projected row. -/
def colAt (b : Fin 32) (s : Fin 2304) (o : ℕ) (h : o < 2304) : EReal :=
  Ffn.dot (fun k => x3 (ix2 k ⟨o, h⟩)) (hidAt x0 x1 x2 b s)

/-- The context's projected rows, -/
theorem dotC (b : Fin 32) (l : Fin 256) (o : Fin 2304) :
    val_main_v30 (F := Ideal) x0 x1 x2 x3 (ix3 b l o) = colAt x0 x1 x2 x3 b ⟨l.val, by omega⟩ o.val o.isLt := by
  rw [val_main_v30_apply]
  unfold colAt Ffn.dot
  refine Finset.sum_congr rfl fun k _ => (congr (congrArg (· * ·) ?_) ?_).trans (mul_comm _ _)
  · exact (congrArg _ (funext fun a => match a with | ⟨0, _⟩ => rfl | ⟨1, _⟩ => rfl | ⟨2, _⟩ => rfl)).trans (hidC x0 x1 x2 b l k)
  · exact congrArg x3 (funext fun a => match a with | ⟨0, _⟩ => rfl | ⟨1, _⟩ => rfl)

/-- and the latent ones. -/
theorem dotL (b : Fin 32) (l : Fin 2048) (o : Fin 2304) :
    val_main_v103 (F := Ideal) x0 x1 x2 x3 (ix3 b l o) = colAt x0 x1 x2 x3 b ⟨256 + l.val, by omega⟩ o.val o.isLt := by
  rw [val_main_v103_apply]
  unfold colAt Ffn.dot
  refine Finset.sum_congr rfl fun k _ => (congr (congrArg (· * ·) ?_) ?_).trans (mul_comm _ _)
  · exact (congrArg _ (funext fun a => match a with | ⟨0, _⟩ => rfl | ⟨1, _⟩ => rfl | ⟨2, _⟩ => rfl)).trans (hidL x0 x1 x2 b l k)
  · exact congrArg x3 (funext fun a => match a with | ⟨0, _⟩ => rfl | ⟨1, _⟩ => rfl)

end Cert.ProjRef
-- ==== Proof.ProjRef.Rope.lean ====
/- The reference's norm of a head and its turning by position, over any array of heads. -/
module

public import proofs.«01_k».proof.Proof.Gen.Reference5Ideal.Read
public import proofs.«01_k».proof.Proof.FfnRef.Finish
public import proofs.«01_k».proof.Proof.Proj.Spec

@[expose] public section

set_option maxRecDepth 16384

noncomputable section

namespace Cert.ProjRef

open Cert.Reference5Ideal Cert.Reference5Ideal.Gen Cert.Reference5Ideal.Read Idealize.ShloMosaic Idealize.ShloMosaic.Pointwise Cert.Proj

variable (x4 x5 : FVec Ideal S2048x64 .f32) (x6 : FVec Ideal S2x64 .f32)

/-- The two by four query heads of the context, normed over their 64 numbers, -/
def headsC (Y : FVec Ideal S32x256x2x4x64 .f32) (g : FVec Ideal S64 .f32) : FVec Ideal S32x256x2x4x64 .f32 :=
  mulf (mulf Y (broadcastInDim S32x256x2x4x64 ![0, 1, 2, 3, 4] bcast_S32x256x2x4x1_S32x256x2x4x64_0_1_2_3_4
      (Host.rsqrt (addf (Host.divf
        (broadcastInDim S32x256x2x4x1 ![0, 1, 2, 3] bcast_S32x256x2x4_S32x256x2x4x1_0_1_2_3 (Host.reduceAdd (mulf Y Y) (constant S_ .f32 0x00000000#32) reducesTo_S32x256x2x4x64_S32x256x2x4_d4 h_S_))
        (broadcastInDim S32x256x2x4x1 ![] bcast_S_S32x256x2x4x1 (constant S_ .f32 0x42800000#32)))
        (broadcastInDim S32x256x2x4x1 ![] bcast_S_S32x256x2x4x1 (constant S_ .f32 0x358637BD#32))))))
    (broadcastInDim S32x256x2x4x64 ![0, 1, 2, 3, 4] bcast_S1x1x1x1x64_S32x256x2x4x64_0_1_2_3_4 (broadcastInDim S1x1x1x1x64 ![4] bcast_S64_S1x1x1x1x64_4 g))

theorem headsC_apply (Y : FVec Ideal S32x256x2x4x64 .f32) (g : FVec Ideal S64 .f32) (b : Fin 32) (s : Fin 256) (h : Fin 2) (u : Fin 4) (d : Fin 64) :
    headsC Y g (ix5 b s h u d) = norm64 (fun j => Y (ix5 b s h u j)) (fun j => g (ix1 j)) d := by
  unfold norm64
  pointwise [headsC]

/-- and the latent ones; -/
def headsL (Y : FVec Ideal S32x2048x2x4x64 .f32) (g : FVec Ideal S64 .f32) : FVec Ideal S32x2048x2x4x64 .f32 :=
  mulf (mulf Y (broadcastInDim S32x2048x2x4x64 ![0, 1, 2, 3, 4] bcast_S32x2048x2x4x1_S32x2048x2x4x64_0_1_2_3_4
      (Host.rsqrt (addf (Host.divf
        (broadcastInDim S32x2048x2x4x1 ![0, 1, 2, 3] bcast_S32x2048x2x4_S32x2048x2x4x1_0_1_2_3 (Host.reduceAdd (mulf Y Y) (constant S_ .f32 0x00000000#32) reducesTo_S32x2048x2x4x64_S32x2048x2x4_d4 h_S_))
        (broadcastInDim S32x2048x2x4x1 ![] bcast_S_S32x2048x2x4x1 (constant S_ .f32 0x42800000#32)))
        (broadcastInDim S32x2048x2x4x1 ![] bcast_S_S32x2048x2x4x1 (constant S_ .f32 0x358637BD#32))))))
    (broadcastInDim S32x2048x2x4x64 ![0, 1, 2, 3, 4] bcast_S1x1x1x1x64_S32x2048x2x4x64_0_1_2_3_4 (broadcastInDim S1x1x1x1x64 ![4] bcast_S64_S1x1x1x1x64_4 g))

theorem headsL_apply (Y : FVec Ideal S32x2048x2x4x64 .f32) (g : FVec Ideal S64 .f32) (b : Fin 32) (s : Fin 2048) (h : Fin 2) (u : Fin 4) (d : Fin 64) :
    headsL Y g (ix5 b s h u d) = norm64 (fun j => Y (ix5 b s h u j)) (fun j => g (ix1 j)) d := by
  unfold norm64
  pointwise [headsL]

/-- the two key heads of the context, -/
def keysC (Y : FVec Ideal S32x256x2x64 .f32) (g : FVec Ideal S64 .f32) : FVec Ideal S32x256x2x64 .f32 :=
  mulf (mulf Y (broadcastInDim S32x256x2x64 ![0, 1, 2, 3] bcast_S32x256x2x1_S32x256x2x64_0_1_2_3
      (Host.rsqrt (addf (Host.divf
        (broadcastInDim S32x256x2x1 ![0, 1, 2] bcast_S32x256x2_S32x256x2x1_0_1_2 (Host.reduceAdd (mulf Y Y) (constant S_ .f32 0x00000000#32) reducesTo_S32x256x2x64_S32x256x2_d3 h_S_))
        (broadcastInDim S32x256x2x1 ![] bcast_S_S32x256x2x1 (constant S_ .f32 0x42800000#32)))
        (broadcastInDim S32x256x2x1 ![] bcast_S_S32x256x2x1 (constant S_ .f32 0x358637BD#32))))))
    (broadcastInDim S32x256x2x64 ![0, 1, 2, 3] bcast_S1x1x1x64_S32x256x2x64_0_1_2_3 (broadcastInDim S1x1x1x64 ![3] bcast_S64_S1x1x1x64_3 g))

theorem keysC_apply (Y : FVec Ideal S32x256x2x64 .f32) (g : FVec Ideal S64 .f32) (b : Fin 32) (s : Fin 256) (h : Fin 2) (d : Fin 64) :
    keysC Y g (ix4 b s h d) = norm64 (fun j => Y (ix4 b s h j)) (fun j => g (ix1 j)) d := by
  unfold norm64
  pointwise [keysC]

/-- and the latent ones. -/
def keysL (Y : FVec Ideal S32x2048x2x64 .f32) (g : FVec Ideal S64 .f32) : FVec Ideal S32x2048x2x64 .f32 :=
  mulf (mulf Y (broadcastInDim S32x2048x2x64 ![0, 1, 2, 3] bcast_S32x2048x2x1_S32x2048x2x64_0_1_2_3
      (Host.rsqrt (addf (Host.divf
        (broadcastInDim S32x2048x2x1 ![0, 1, 2] bcast_S32x2048x2_S32x2048x2x1_0_1_2 (Host.reduceAdd (mulf Y Y) (constant S_ .f32 0x00000000#32) reducesTo_S32x2048x2x64_S32x2048x2_d3 h_S_))
        (broadcastInDim S32x2048x2x1 ![] bcast_S_S32x2048x2x1 (constant S_ .f32 0x42800000#32)))
        (broadcastInDim S32x2048x2x1 ![] bcast_S_S32x2048x2x1 (constant S_ .f32 0x358637BD#32))))))
    (broadcastInDim S32x2048x2x64 ![0, 1, 2, 3] bcast_S1x1x1x64_S32x2048x2x64_0_1_2_3 (broadcastInDim S1x1x1x64 ![3] bcast_S64_S1x1x1x64_3 g))

theorem keysL_apply (Y : FVec Ideal S32x2048x2x64 .f32) (g : FVec Ideal S64 .f32) (b : Fin 32) (s : Fin 2048) (h : Fin 2) (d : Fin 64) :
    keysL Y g (ix4 b s h d) = norm64 (fun j => Y (ix4 b s h j)) (fun j => g (ix1 j)) d := by
  unfold norm64
  pointwise [keysL]

end Cert.ProjRef
-- ==== Proof.ProjRef.Turn.lean ====
/- The reference's turning of a head by its position, over any array of heads. -/
module

public import proofs.«01_k».proof.Proof.Gen.Reference5Ideal.Read
public import proofs.«01_k».proof.Proof.FfnRef.Finish
public import proofs.«01_k».proof.Proof.Proj.Spec

@[expose] public section

set_option maxRecDepth 16384

noncomputable section

namespace Cert.ProjRef

open Cert.Reference5Ideal Cert.Reference5Ideal.Gen Cert.Reference5Ideal.Read Idealize.ShloMosaic Idealize.ShloMosaic.Pointwise Cert.Proj

variable (C S : FVec Ideal S2048x64 .f32)

theorem neg_one_eq : Ideal.ofBits .f32 0xBF800000#32 = (-1 : EReal) := by
  simp [Ideal.ofBits, Ideal.ieee]
  rw [← EReal.coe_mul]; norm_num

/-- The neighbour a place is turned with, its sign taken from the sine. -/
theorem sign_swap (x : Fin 64 → EReal) (s : EReal) (d : Fin 64) :
    x (swap d) * (s * signOf d) = (if d.val % 32 < 16 then - x (swap d) else x (swap d)) * s := by
  unfold signOf
  split_ifs
  · rw [neg_one_eq, ← mul_assoc, mul_comm, ← mul_assoc, EReal.neg_mul, one_mul]
  · rw [FfnRef.one_eq, mul_one]

theorem turn_signed (x c s : Fin 64 → EReal) (d : Fin 64) :
    turn x c (fun j => s j * signOf j) d = x d * c d + (if d.val % 32 < 16 then - x (swap d) else x (swap d)) * s d :=
  congrArg (x d * c d + ·) (sign_swap x (s d) d)

/-- The four quarters of a turned head: each is its neighbour, the first and the third with the sign changed. -/
theorem four_parts (x : Fin 64 → EReal) (d : Fin 64) :
    (if _ : d.val < 16 then - x ⟨16 + d.val, by omega⟩ else if _ : d.val - 16 < 16 then x ⟨d.val - 16, by omega⟩
      else if _ : d.val - 16 - 16 < 16 then - x ⟨48 + (d.val - 16 - 16), by omega⟩ else x ⟨32 + (d.val - 16 - 16 - 16), by omega⟩)
      = if d.val % 32 < 16 then - x (swap d) else x (swap d) := by
  have e : (swap d).val = if d.val % 32 < 16 then d.val + 16 else d.val - 16 := rfl
  generalize swap d = w at e ⊢
  split_ifs at e ⊢ <;> first | omega | exact congrArg (fun j => - x j) (Fin.ext (by rw [e]; simp; omega)) | exact congrArg x (Fin.ext (by rw [e]; simp; omega)) | exact congrArg x (Fin.ext e.symm)

/-- The four by two query heads turned, -/
def turnedA (Y : FVec Ideal S32x2048x4x2x64 .f32) : FVec Ideal S32x2048x4x2x64 .f32 :=
  addf (mulf Y (broadcastInDim S32x2048x4x2x64 ![0, 1, 2, 3, 4] bcast_S1x2048x1x1x64_S32x2048x4x2x64_0_1_2_3_4 (shapeCast S1x2048x1x1x64 C shapeCasts_S2048x64_S1x2048x1x1x64)))
    (mulf (concatenate S32x2048x4x2x64 4
      [⟨S32x2048x4x2x16, Host.negf (extractStridedSlice S32x2048x4x2x16 ![0, 0, 0, 0, 16] Y slices_S32x2048x4x2x64_S32x2048x4x2x16_0_0_0_0_16)⟩,
       ⟨S32x2048x4x2x16, extractStridedSlice S32x2048x4x2x16 ![0, 0, 0, 0, 0] Y slices_S32x2048x4x2x64_S32x2048x4x2x16_0_0_0_0_0⟩,
       ⟨S32x2048x4x2x16, Host.negf (extractStridedSlice S32x2048x4x2x16 ![0, 0, 0, 0, 48] Y slices_S32x2048x4x2x64_S32x2048x4x2x16_0_0_0_0_48)⟩,
       ⟨S32x2048x4x2x16, extractStridedSlice S32x2048x4x2x16 ![0, 0, 0, 0, 32] Y slices_S32x2048x4x2x64_S32x2048x4x2x16_0_0_0_0_32⟩]
      concatenates_S32x2048x4x2x16_S32x2048x4x2x16_S32x2048x4x2x16_S32x2048x4x2x16_S32x2048x4x2x64_d4)
      (broadcastInDim S32x2048x4x2x64 ![0, 1, 2, 3, 4] bcast_S1x2048x1x1x64_S32x2048x4x2x64_0_1_2_3_4 (shapeCast S1x2048x1x1x64 S shapeCasts_S2048x64_S1x2048x1x1x64)))

theorem turnedA_apply (Y : FVec Ideal S32x2048x4x2x64 .f32) (b : Fin 32) (s : Fin 2048) (h : Fin 4) (u : Fin 2) (d : Fin 64) :
    turnedA C S Y (ix5 b s h u d) = turn (fun j => Y (ix5 b s h u j)) (fun j => C (ix2 s j)) (fun j => S (ix2 s j) * signOf j) d := by
  rw [turn_signed]
  pointwise [turnedA]
  exact congrArg (fun v : EReal => Y (ix5 b s h u d) * C (ix2 s d) + v * S (ix2 s d)) (four_parts (fun j => Y (ix5 b s h u j)) d)

/-- the two by four normed ones, -/
def turnedB (Y : FVec Ideal S32x2048x2x4x64 .f32) : FVec Ideal S32x2048x2x4x64 .f32 :=
  addf (mulf Y (broadcastInDim S32x2048x2x4x64 ![0, 1, 2, 3, 4] bcast_S1x2048x1x1x64_S32x2048x2x4x64_0_1_2_3_4 (shapeCast S1x2048x1x1x64 C shapeCasts_S2048x64_S1x2048x1x1x64)))
    (mulf (concatenate S32x2048x2x4x64 4
      [⟨S32x2048x2x4x16, Host.negf (extractStridedSlice S32x2048x2x4x16 ![0, 0, 0, 0, 16] Y slices_S32x2048x2x4x64_S32x2048x2x4x16_0_0_0_0_16)⟩,
       ⟨S32x2048x2x4x16, extractStridedSlice S32x2048x2x4x16 ![0, 0, 0, 0, 0] Y slices_S32x2048x2x4x64_S32x2048x2x4x16_0_0_0_0_0⟩,
       ⟨S32x2048x2x4x16, Host.negf (extractStridedSlice S32x2048x2x4x16 ![0, 0, 0, 0, 48] Y slices_S32x2048x2x4x64_S32x2048x2x4x16_0_0_0_0_48)⟩,
       ⟨S32x2048x2x4x16, extractStridedSlice S32x2048x2x4x16 ![0, 0, 0, 0, 32] Y slices_S32x2048x2x4x64_S32x2048x2x4x16_0_0_0_0_32⟩]
      concatenates_S32x2048x2x4x16_S32x2048x2x4x16_S32x2048x2x4x16_S32x2048x2x4x16_S32x2048x2x4x64_d4)
      (broadcastInDim S32x2048x2x4x64 ![0, 1, 2, 3, 4] bcast_S1x2048x1x1x64_S32x2048x2x4x64_0_1_2_3_4 (shapeCast S1x2048x1x1x64 S shapeCasts_S2048x64_S1x2048x1x1x64)))

theorem turnedB_apply (Y : FVec Ideal S32x2048x2x4x64 .f32) (b : Fin 32) (s : Fin 2048) (h : Fin 2) (u : Fin 4) (d : Fin 64) :
    turnedB C S Y (ix5 b s h u d) = turn (fun j => Y (ix5 b s h u j)) (fun j => C (ix2 s j)) (fun j => S (ix2 s j) * signOf j) d := by
  rw [turn_signed]
  pointwise [turnedB]
  exact congrArg (fun v : EReal => Y (ix5 b s h u d) * C (ix2 s d) + v * S (ix2 s d)) (four_parts (fun j => Y (ix5 b s h u j)) d)

/-- and the two normed key heads. -/
def turnedK (Y : FVec Ideal S32x2048x2x64 .f32) : FVec Ideal S32x2048x2x64 .f32 :=
  addf (mulf Y (broadcastInDim S32x2048x2x64 ![0, 1, 2, 3] bcast_S1x2048x1x64_S32x2048x2x64_0_1_2_3 (shapeCast S1x2048x1x64 C shapeCasts_S2048x64_S1x2048x1x64)))
    (mulf (concatenate S32x2048x2x64 3
      [⟨S32x2048x2x16, Host.negf (extractStridedSlice S32x2048x2x16 ![0, 0, 0, 16] Y slices_S32x2048x2x64_S32x2048x2x16_0_0_0_16)⟩,
       ⟨S32x2048x2x16, extractStridedSlice S32x2048x2x16 ![0, 0, 0, 0] Y slices_S32x2048x2x64_S32x2048x2x16_0_0_0_0⟩,
       ⟨S32x2048x2x16, Host.negf (extractStridedSlice S32x2048x2x16 ![0, 0, 0, 48] Y slices_S32x2048x2x64_S32x2048x2x16_0_0_0_48)⟩,
       ⟨S32x2048x2x16, extractStridedSlice S32x2048x2x16 ![0, 0, 0, 32] Y slices_S32x2048x2x64_S32x2048x2x16_0_0_0_32⟩]
      concatenates_S32x2048x2x16_S32x2048x2x16_S32x2048x2x16_S32x2048x2x16_S32x2048x2x64_d3)
      (broadcastInDim S32x2048x2x64 ![0, 1, 2, 3] bcast_S1x2048x1x64_S32x2048x2x64_0_1_2_3 (shapeCast S1x2048x1x64 S shapeCasts_S2048x64_S1x2048x1x64)))

theorem turnedK_apply (Y : FVec Ideal S32x2048x2x64 .f32) (b : Fin 32) (s : Fin 2048) (h : Fin 2) (d : Fin 64) :
    turnedK C S Y (ix4 b s h d) = turn (fun j => Y (ix4 b s h j)) (fun j => C (ix2 s j)) (fun j => S (ix2 s j) * signOf j) d := by
  rw [turn_signed]
  pointwise [turnedK]
  exact congrArg (fun v : EReal => Y (ix4 b s h d) * C (ix2 s d) + v * S (ix2 s d)) (four_parts (fun j => Y (ix4 b s h j)) d)

end Cert.ProjRef
-- ==== Proof.ProjRef.Heads.lean ====
/- The reference's heads of a token: cut from its projected row, normed where they are, turned by its position. -/
module

public import proofs.«01_k».proof.Proof.ProjRef.Tokens
public import proofs.«01_k».proof.Proof.ProjRef.Rope
public import proofs.«01_k».proof.Proof.ProjRef.Turn

@[expose] public section

set_option maxRecDepth 16384

noncomputable section

namespace Cert.ProjRef

open Cert.Reference5Ideal Cert.Reference5Ideal.Gen Cert.Reference5Ideal.Read Idealize.ShloMosaic Idealize.ShloMosaic.Pointwise Cert.Proj

variable (x0 : FVec Ideal S32x2304x1024 .f32) (x1 : FVec Ideal S32x2x6x1024 .f32) (x2 : FVec Ideal S4x1024 .f32) (x3 : FVec Ideal S1024x2304 .f32)
  (x4 x5 : FVec Ideal S2048x64 .f32) (x6 : FVec Ideal S2x64 .f32)

/-- A token of the context is not turned: its cosine is one and its sine zero. -/
theorem turn_context (x : Fin 64 → EReal) (s : Fin 2304) (h : s.val < 256) (d : Fin 64) : turn x (cosAt x4 s) (sinAt x5 s) d = x d := by
  unfold turn cosAt sinAt
  rw [dif_pos h, dif_pos h, FfnRef.one_eq, FfnRef.zero_eq, zero_mul, mul_zero, mul_one, add_zero]

/-- A latent token is turned by its row of the tables. -/
theorem turn_latent (x : Fin 64 → EReal) (l : Fin 2048) (d : Fin 64) :
    turn x (cosAt x4 ⟨256 + l.val, by omega⟩) (sinAt x5 ⟨256 + l.val, by omega⟩) d = turn x (fun j => x4 (ix2 l j)) (fun j => x5 (ix2 l j) * signOf j) d := by
  have n : ¬ 256 + l.val < 256 := by omega
  have e : (⟨256 + l.val - 256, by omega⟩ : Fin 2048) = l := Fin.ext (by show 256 + l.val - 256 = l.val; omega)
  have hc (j : Fin 64) : cosAt x4 ⟨256 + l.val, by omega⟩ j = x4 (ix2 l j) := by
    unfold cosAt; rw [dif_neg n]; exact congrArg (fun k => x4 (ix2 k j)) e
  have hs (j : Fin 64) : sinAt x5 ⟨256 + l.val, by omega⟩ j = x5 (ix2 l j) * signOf j := by
    unfold sinAt; rw [dif_neg n]; exact congrArg (fun k => x5 (ix2 k j) * signOf j) e
  unfold turn
  rw [hc, hs]

/-- The plain query heads, -/
theorem dqC (b : Fin 32) (l : Fin 256) (h : Fin 4) (u : Fin 2) (d : Fin 64) :
    val_main_v37 (F := Ideal) x0 x1 x2 x3 (ix5 b l h u d) = colAt x0 x1 x2 x3 b ⟨l.val, by omega⟩ (h.val * 128 + u.val * 64 + d.val) (by omega) := by
  have e : val_main_v37 (F := Ideal) x0 x1 x2 x3 (ix5 b l h u d) = val_main_v30 (F := Ideal) x0 x1 x2 x3 (ix3 b l ⟨h.val * 128 + u.val * 64 + d.val, by omega⟩) := by
    pointwise [val_main_v37, val_main_v31]
  exact e.trans (dotC x0 x1 x2 x3 b l _)

theorem dqL (b : Fin 32) (l : Fin 2048) (h : Fin 4) (u : Fin 2) (d : Fin 64) :
    val_main_v110 (F := Ideal) x0 x1 x2 x3 (ix5 b l h u d) = colAt x0 x1 x2 x3 b ⟨256 + l.val, by omega⟩ (h.val * 128 + u.val * 64 + d.val) (by omega) := by
  have e : val_main_v110 (F := Ideal) x0 x1 x2 x3 (ix5 b l h u d) = val_main_v103 (F := Ideal) x0 x1 x2 x3 (ix3 b l ⟨h.val * 128 + u.val * 64 + d.val, by omega⟩) := by
    pointwise [val_main_v110, val_main_v104]
  exact e.trans (dotL x0 x1 x2 x3 b l _)

/-- the plain key heads, -/
theorem dkC (b : Fin 32) (l : Fin 256) (h : Fin 4) (u : Fin 2) (d : Fin 64) :
    val_main_v38 (F := Ideal) x0 x1 x2 x3 (ix5 b l h u d) = colAt x0 x1 x2 x3 b ⟨l.val, by omega⟩ (512 + (h.val * 128 + u.val * 64 + d.val)) (by omega) := by
  have e : val_main_v38 (F := Ideal) x0 x1 x2 x3 (ix5 b l h u d) = val_main_v30 (F := Ideal) x0 x1 x2 x3 (ix3 b l ⟨512 + (h.val * 128 + u.val * 64 + d.val), by omega⟩) := by
    pointwise [val_main_v38, val_main_v32]
  exact e.trans (dotC x0 x1 x2 x3 b l _)

theorem dkL (b : Fin 32) (l : Fin 2048) (h : Fin 4) (u : Fin 2) (d : Fin 64) :
    val_main_v111 (F := Ideal) x0 x1 x2 x3 (ix5 b l h u d) = colAt x0 x1 x2 x3 b ⟨256 + l.val, by omega⟩ (512 + (h.val * 128 + u.val * 64 + d.val)) (by omega) := by
  have e : val_main_v111 (F := Ideal) x0 x1 x2 x3 (ix5 b l h u d) = val_main_v103 (F := Ideal) x0 x1 x2 x3 (ix3 b l ⟨512 + (h.val * 128 + u.val * 64 + d.val), by omega⟩) := by
    pointwise [val_main_v111, val_main_v105]
  exact e.trans (dotL x0 x1 x2 x3 b l _)

/-- their values, -/
theorem dvC (b : Fin 32) (l : Fin 256) (h : Fin 4) (d : Fin 128) :
    val_main_v39 (F := Ideal) x0 x1 x2 x3 (ix4 b l h d) = colAt x0 x1 x2 x3 b ⟨l.val, by omega⟩ (1024 + (h.val * 128 + d.val)) (by omega) := by
  have e : val_main_v39 (F := Ideal) x0 x1 x2 x3 (ix4 b l h d) = val_main_v30 (F := Ideal) x0 x1 x2 x3 (ix3 b l ⟨1024 + (h.val * 128 + d.val), by omega⟩) := by
    pointwise [val_main_v39, val_main_v33]
  exact e.trans (dotC x0 x1 x2 x3 b l _)

theorem dvL (b : Fin 32) (l : Fin 2048) (h : Fin 4) (d : Fin 128) :
    val_main_v112 (F := Ideal) x0 x1 x2 x3 (ix4 b l h d) = colAt x0 x1 x2 x3 b ⟨256 + l.val, by omega⟩ (1024 + (h.val * 128 + d.val)) (by omega) := by
  have e : val_main_v112 (F := Ideal) x0 x1 x2 x3 (ix4 b l h d) = val_main_v103 (F := Ideal) x0 x1 x2 x3 (ix3 b l ⟨1024 + (h.val * 128 + d.val), by omega⟩) := by
    pointwise [val_main_v112, val_main_v106]
  exact e.trans (dotL x0 x1 x2 x3 b l _)

/-- the query heads of the groups before their norm, -/
theorem gqC (b : Fin 32) (l : Fin 256) (h : Fin 2) (u : Fin 4) (d : Fin 64) :
    val_main_v40 (F := Ideal) x0 x1 x2 x3 (ix5 b l h u d) = colAt x0 x1 x2 x3 b ⟨l.val, by omega⟩ (1536 + (h.val * 256 + u.val * 64 + d.val)) (by omega) := by
  have e : val_main_v40 (F := Ideal) x0 x1 x2 x3 (ix5 b l h u d) = val_main_v30 (F := Ideal) x0 x1 x2 x3 (ix3 b l ⟨1536 + (h.val * 256 + u.val * 64 + d.val), by omega⟩) := by
    pointwise [val_main_v40, val_main_v34]
  exact e.trans (dotC x0 x1 x2 x3 b l _)

theorem gqL (b : Fin 32) (l : Fin 2048) (h : Fin 2) (u : Fin 4) (d : Fin 64) :
    val_main_v113 (F := Ideal) x0 x1 x2 x3 (ix5 b l h u d) = colAt x0 x1 x2 x3 b ⟨256 + l.val, by omega⟩ (1536 + (h.val * 256 + u.val * 64 + d.val)) (by omega) := by
  have e : val_main_v113 (F := Ideal) x0 x1 x2 x3 (ix5 b l h u d) = val_main_v103 (F := Ideal) x0 x1 x2 x3 (ix3 b l ⟨1536 + (h.val * 256 + u.val * 64 + d.val), by omega⟩) := by
    pointwise [val_main_v113, val_main_v107]
  exact e.trans (dotL x0 x1 x2 x3 b l _)

/-- their key heads, -/
theorem gkC (b : Fin 32) (l : Fin 256) (h : Fin 2) (d : Fin 64) :
    val_main_v56 (F := Ideal) x0 x1 x2 x3 (ix4 b l h d) = colAt x0 x1 x2 x3 b ⟨l.val, by omega⟩ (2048 + (h.val * 64 + d.val)) (by omega) := by
  have e : val_main_v56 (F := Ideal) x0 x1 x2 x3 (ix4 b l h d) = val_main_v30 (F := Ideal) x0 x1 x2 x3 (ix3 b l ⟨2048 + (h.val * 64 + d.val), by omega⟩) := by
    pointwise [val_main_v56, val_main_v35]
  exact e.trans (dotC x0 x1 x2 x3 b l _)

theorem gkL (b : Fin 32) (l : Fin 2048) (h : Fin 2) (d : Fin 64) :
    val_main_v129 (F := Ideal) x0 x1 x2 x3 (ix4 b l h d) = colAt x0 x1 x2 x3 b ⟨256 + l.val, by omega⟩ (2048 + (h.val * 64 + d.val)) (by omega) := by
  have e : val_main_v129 (F := Ideal) x0 x1 x2 x3 (ix4 b l h d) = val_main_v103 (F := Ideal) x0 x1 x2 x3 (ix3 b l ⟨2048 + (h.val * 64 + d.val), by omega⟩) := by
    pointwise [val_main_v129, val_main_v108]
  exact e.trans (dotL x0 x1 x2 x3 b l _)

/-- and their values. -/
theorem gvC (b : Fin 32) (l : Fin 256) (h : Fin 2) (d : Fin 64) :
    val_main_v72 (F := Ideal) x0 x1 x2 x3 (ix4 b l h d) = colAt x0 x1 x2 x3 b ⟨l.val, by omega⟩ (2176 + (h.val * 64 + d.val)) (by omega) := by
  have e : val_main_v72 (F := Ideal) x0 x1 x2 x3 (ix4 b l h d) = val_main_v30 (F := Ideal) x0 x1 x2 x3 (ix3 b l ⟨2176 + (h.val * 64 + d.val), by omega⟩) := by
    pointwise [val_main_v72, val_main_v36]
  exact e.trans (dotC x0 x1 x2 x3 b l _)

theorem gvL (b : Fin 32) (l : Fin 2048) (h : Fin 2) (d : Fin 64) :
    val_main_v145 (F := Ideal) x0 x1 x2 x3 (ix4 b l h d) = colAt x0 x1 x2 x3 b ⟨256 + l.val, by omega⟩ (2176 + (h.val * 64 + d.val)) (by omega) := by
  have e : val_main_v145 (F := Ideal) x0 x1 x2 x3 (ix4 b l h d) = val_main_v103 (F := Ideal) x0 x1 x2 x3 (ix3 b l ⟨2176 + (h.val * 64 + d.val), by omega⟩) := by
    pointwise [val_main_v145, val_main_v109]
  exact e.trans (dotL x0 x1 x2 x3 b l _)

end Cert.ProjRef
-- ==== Proof.ProjRef.Joined.lean ====
/- The reference's heads of both kinds of token, joined along the sequence. -/
module

public import proofs.«01_k».proof.Proof.ProjRef.Heads

@[expose] public section

set_option maxRecDepth 16384

noncomputable section

namespace Cert.ProjRef

open Cert.Reference5Ideal Cert.Reference5Ideal.Gen Cert.Reference5Ideal.Read Idealize.ShloMosaic Idealize.ShloMosaic.Pointwise Cert.Proj

variable (x0 : FVec Ideal S32x2304x1024 .f32) (x1 : FVec Ideal S32x2x6x1024 .f32) (x2 : FVec Ideal S4x1024 .f32) (x3 : FVec Ideal S1024x2304 .f32)
  (x4 x5 : FVec Ideal S2048x64 .f32) (x6 : FVec Ideal S2x64 .f32)

/-- What is read of the context's tokens first and the latent ones after them is read of every token. -/
theorem joined (P : Fin 2304 → EReal) (f : Fin 256 → EReal) (g : Fin 2048 → EReal) (hf : ∀ l, f l = P ⟨l.val, by omega⟩)
    (hg : ∀ l, g l = P ⟨256 + l.val, by omega⟩) (s : Fin 2304) :
    (if h : s.val < 256 then f ⟨s.val, h⟩ else g ⟨s.val - 256, by omega⟩) = P s := by
  split
  · next h => exact hf ⟨s.val, h⟩
  · next h => exact (hg ⟨s.val - 256, by omega⟩).trans (congrArg P (Fin.ext (by show 256 + (s.val - 256) = s.val; omega)))

theorem stage_dq : val_main_v159 (F := Ideal) x0 x1 x2 x3 x4 x5 = turnedA x4 x5 (val_main_v110 (F := Ideal) x0 x1 x2 x3) := rfl
theorem stage_dk : val_main_v173 (F := Ideal) x0 x1 x2 x3 x4 x5 = turnedA x4 x5 (val_main_v111 (F := Ideal) x0 x1 x2 x3) := rfl
theorem stage_gqC : val_main_v55 (F := Ideal) x0 x1 x2 x3 x6 = headsC (val_main_v40 (F := Ideal) x0 x1 x2 x3) (val_main_v42 (F := Ideal) x6) := rfl
theorem stage_gqL : val_main_v187 (F := Ideal) x0 x1 x2 x3 x4 x5 x6 = turnedB x4 x5 (headsL (val_main_v113 (F := Ideal) x0 x1 x2 x3) (val_main_v115 (F := Ideal) x6)) := rfl
theorem stage_gkC : val_main_v71 (F := Ideal) x0 x1 x2 x3 x6 = keysC (val_main_v56 (F := Ideal) x0 x1 x2 x3) (val_main_v58 (F := Ideal) x6) := rfl
theorem stage_gkL : val_main_v201 (F := Ideal) x0 x1 x2 x3 x4 x5 x6 = turnedK x4 x5 (keysL (val_main_v129 (F := Ideal) x0 x1 x2 x3) (val_main_v131 (F := Ideal) x6)) := rfl

/-- The weights of the norm: the first row the queries', the second the keys'. -/
theorem weights (j : Fin 64) :
    (val_main_v42 (F := Ideal) x6 (ix1 j) = x6 (ix2 0 j) ∧ val_main_v115 (F := Ideal) x6 (ix1 j) = x6 (ix2 0 j))
      ∧ (val_main_v58 (F := Ideal) x6 (ix1 j) = x6 (ix2 1 j) ∧ val_main_v131 (F := Ideal) x6 (ix1 j) = x6 (ix2 1 j)) := by
  refine ⟨⟨?_, ?_⟩, ?_, ?_⟩
  · pointwise [val_main_v42, val_main_v41]
  · pointwise [val_main_v115, val_main_v114]
  · pointwise [val_main_v58, val_main_v57]
  · pointwise [val_main_v131, val_main_v130]

/-- The plain query heads of every token, turned by its position, -/
theorem dq_joined (b : Fin 32) (s : Fin 2304) (h : Fin 4) (u : Fin 2) (d : Fin 64) :
    val_main_v202 (F := Ideal) x0 x1 x2 x3 x4 x5 (ix5 b s h u d) = turn (fun j => colAt x0 x1 x2 x3 b s (h.val * 128 + u.val * 64 + j.val) (by omega)) (cosAt x4 s) (sinAt x5 s) d := by
  have e : val_main_v202 (F := Ideal) x0 x1 x2 x3 x4 x5 (ix5 b s h u d) = if hs : s.val < 256 then val_main_v37 (F := Ideal) x0 x1 x2 x3 (ix5 b ⟨s.val, hs⟩ h u d)
      else val_main_v159 (F := Ideal) x0 x1 x2 x3 x4 x5 (ix5 b ⟨s.val - 256, by omega⟩ h u d) := by
    pointwise [val_main_v202]
  rw [e]
  refine joined (fun s => turn (fun j => colAt x0 x1 x2 x3 b s (h.val * 128 + u.val * 64 + j.val) (by omega)) (cosAt x4 s) (sinAt x5 s) d) (fun l => val_main_v37 (F := Ideal) x0 x1 x2 x3 (ix5 b l h u d)) (fun l => val_main_v159 (F := Ideal) x0 x1 x2 x3 x4 x5 (ix5 b l h u d)) (fun l => ?_) (fun l => ?_) s
  · refine Eq.trans ?_ (turn_context x4 x5 _ _ l.isLt d).symm
    exact dqC x0 x1 x2 x3 b l h u d
  · refine (congrFun (stage_dq x0 x1 x2 x3 x4 x5) _).trans ((turnedA_apply x4 x5 _ b l h u d).trans (Eq.trans ?_ (turn_latent x4 x5 _ l d).symm))
    exact congrArg (fun x => turn x (fun j => x4 (ix2 l j)) (fun j => x5 (ix2 l j) * signOf j) d) (funext fun j => dqL x0 x1 x2 x3 b l h u j)

/-- the plain key heads, -/
theorem dk_joined (b : Fin 32) (s : Fin 2304) (h : Fin 4) (u : Fin 2) (d : Fin 64) :
    val_main_v203 (F := Ideal) x0 x1 x2 x3 x4 x5 (ix5 b s h u d) = turn (fun j => colAt x0 x1 x2 x3 b s (512 + (h.val * 128 + u.val * 64 + j.val)) (by omega)) (cosAt x4 s) (sinAt x5 s) d := by
  have e : val_main_v203 (F := Ideal) x0 x1 x2 x3 x4 x5 (ix5 b s h u d) = if hs : s.val < 256 then val_main_v38 (F := Ideal) x0 x1 x2 x3 (ix5 b ⟨s.val, hs⟩ h u d)
      else val_main_v173 (F := Ideal) x0 x1 x2 x3 x4 x5 (ix5 b ⟨s.val - 256, by omega⟩ h u d) := by
    pointwise [val_main_v203]
  rw [e]
  refine joined (fun s => turn (fun j => colAt x0 x1 x2 x3 b s (512 + (h.val * 128 + u.val * 64 + j.val)) (by omega)) (cosAt x4 s) (sinAt x5 s) d) (fun l => val_main_v38 (F := Ideal) x0 x1 x2 x3 (ix5 b l h u d)) (fun l => val_main_v173 (F := Ideal) x0 x1 x2 x3 x4 x5 (ix5 b l h u d)) (fun l => ?_) (fun l => ?_) s
  · refine Eq.trans ?_ (turn_context x4 x5 _ _ l.isLt d).symm
    exact dkC x0 x1 x2 x3 b l h u d
  · refine (congrFun (stage_dk x0 x1 x2 x3 x4 x5) _).trans ((turnedA_apply x4 x5 _ b l h u d).trans (Eq.trans ?_ (turn_latent x4 x5 _ l d).symm))
    exact congrArg (fun x => turn x (fun j => x4 (ix2 l j)) (fun j => x5 (ix2 l j) * signOf j) d) (funext fun j => dkL x0 x1 x2 x3 b l h u j)

/-- their values, not turned, -/
theorem dv_joined (b : Fin 32) (s : Fin 2304) (h : Fin 4) (d : Fin 128) :
    val_main_v204 (F := Ideal) x0 x1 x2 x3 (ix4 b s h d) = colAt x0 x1 x2 x3 b s (1024 + (h.val * 128 + d.val)) (by omega) := by
  have e : val_main_v204 (F := Ideal) x0 x1 x2 x3 (ix4 b s h d) = if hs : s.val < 256 then val_main_v39 (F := Ideal) x0 x1 x2 x3 (ix4 b ⟨s.val, hs⟩ h d)
      else val_main_v112 (F := Ideal) x0 x1 x2 x3 (ix4 b ⟨s.val - 256, by omega⟩ h d) := by
    pointwise [val_main_v204]
  rw [e]
  refine joined (fun s => colAt x0 x1 x2 x3 b s (1024 + (h.val * 128 + d.val)) (by omega)) (fun l => val_main_v39 (F := Ideal) x0 x1 x2 x3 (ix4 b l h d)) (fun l => val_main_v112 (F := Ideal) x0 x1 x2 x3 (ix4 b l h d)) (fun l => ?_) (fun l => ?_) s
  · exact dvC x0 x1 x2 x3 b l h d
  · exact dvL x0 x1 x2 x3 b l h d

/-- the query heads of the groups, normed and turned, -/
theorem gq_joined (b : Fin 32) (s : Fin 2304) (h : Fin 2) (u : Fin 4) (d : Fin 64) :
    val_main_v205 (F := Ideal) x0 x1 x2 x3 x4 x5 x6 (ix5 b s h u d) = turn (norm64 (fun j => colAt x0 x1 x2 x3 b s (1536 + (h.val * 256 + u.val * 64 + j.val)) (by omega)) (fun j => x6 (ix2 0 j))) (cosAt x4 s) (sinAt x5 s) d := by
  have e : val_main_v205 (F := Ideal) x0 x1 x2 x3 x4 x5 x6 (ix5 b s h u d) = if hs : s.val < 256 then val_main_v55 (F := Ideal) x0 x1 x2 x3 x6 (ix5 b ⟨s.val, hs⟩ h u d)
      else val_main_v187 (F := Ideal) x0 x1 x2 x3 x4 x5 x6 (ix5 b ⟨s.val - 256, by omega⟩ h u d) := by
    pointwise [val_main_v205]
  rw [e]
  refine joined (fun s => turn (norm64 (fun j => colAt x0 x1 x2 x3 b s (1536 + (h.val * 256 + u.val * 64 + j.val)) (by omega)) (fun j => x6 (ix2 0 j))) (cosAt x4 s) (sinAt x5 s) d) (fun l => val_main_v55 (F := Ideal) x0 x1 x2 x3 x6 (ix5 b l h u d)) (fun l => val_main_v187 (F := Ideal) x0 x1 x2 x3 x4 x5 x6 (ix5 b l h u d)) (fun l => ?_) (fun l => ?_) s
  · refine (congrFun (stage_gqC x0 x1 x2 x3 x6) _).trans ((headsC_apply _ _ b l h u d).trans (Eq.trans ?_ (turn_context x4 x5 _ _ l.isLt d).symm))
    exact congrArg₂ (fun x g => norm64 x g d) (funext fun j => gqC x0 x1 x2 x3 b l h u j) (funext fun j => (weights x6 j).1.1)
  · refine (congrFun (stage_gqL x0 x1 x2 x3 x4 x5 x6) _).trans ((turnedB_apply x4 x5 _ b l h u d).trans (Eq.trans ?_ (turn_latent x4 x5 _ l d).symm))
    refine congrArg (fun x => turn x (fun j => x4 (ix2 l j)) (fun j => x5 (ix2 l j) * signOf j) d) (funext fun j => (headsL_apply _ _ b l h u j).trans ?_)
    exact congrArg₂ (fun x g => norm64 x g j) (funext fun k => gqL x0 x1 x2 x3 b l h u k) (funext fun k => (weights x6 k).1.2)

/-- their key heads, -/
theorem gk_joined (b : Fin 32) (s : Fin 2304) (h : Fin 2) (d : Fin 64) :
    val_main_v206 (F := Ideal) x0 x1 x2 x3 x4 x5 x6 (ix4 b s h d) = turn (norm64 (fun j => colAt x0 x1 x2 x3 b s (2048 + (h.val * 64 + j.val)) (by omega)) (fun j => x6 (ix2 1 j))) (cosAt x4 s) (sinAt x5 s) d := by
  have e : val_main_v206 (F := Ideal) x0 x1 x2 x3 x4 x5 x6 (ix4 b s h d) = if hs : s.val < 256 then val_main_v71 (F := Ideal) x0 x1 x2 x3 x6 (ix4 b ⟨s.val, hs⟩ h d)
      else val_main_v201 (F := Ideal) x0 x1 x2 x3 x4 x5 x6 (ix4 b ⟨s.val - 256, by omega⟩ h d) := by
    pointwise [val_main_v206]
  rw [e]
  refine joined (fun s => turn (norm64 (fun j => colAt x0 x1 x2 x3 b s (2048 + (h.val * 64 + j.val)) (by omega)) (fun j => x6 (ix2 1 j))) (cosAt x4 s) (sinAt x5 s) d) (fun l => val_main_v71 (F := Ideal) x0 x1 x2 x3 x6 (ix4 b l h d)) (fun l => val_main_v201 (F := Ideal) x0 x1 x2 x3 x4 x5 x6 (ix4 b l h d)) (fun l => ?_) (fun l => ?_) s
  · refine (congrFun (stage_gkC x0 x1 x2 x3 x6) _).trans ((keysC_apply _ _ b l h d).trans (Eq.trans ?_ (turn_context x4 x5 _ _ l.isLt d).symm))
    exact congrArg₂ (fun x g => norm64 x g d) (funext fun j => gkC x0 x1 x2 x3 b l h j) (funext fun j => (weights x6 j).2.1)
  · refine (congrFun (stage_gkL x0 x1 x2 x3 x4 x5 x6) _).trans ((turnedK_apply x4 x5 _ b l h d).trans (Eq.trans ?_ (turn_latent x4 x5 _ l d).symm))
    refine congrArg (fun x => turn x (fun j => x4 (ix2 l j)) (fun j => x5 (ix2 l j) * signOf j) d) (funext fun j => (keysL_apply _ _ b l h j).trans ?_)
    exact congrArg₂ (fun x g => norm64 x g j) (funext fun k => gkL x0 x1 x2 x3 b l h k) (funext fun k => (weights x6 k).2.2)

/-- and their values. -/
theorem gv_joined (b : Fin 32) (s : Fin 2304) (h : Fin 2) (d : Fin 64) :
    val_main_v207 (F := Ideal) x0 x1 x2 x3 (ix4 b s h d) = colAt x0 x1 x2 x3 b s (2176 + (h.val * 64 + d.val)) (by omega) := by
  have e : val_main_v207 (F := Ideal) x0 x1 x2 x3 (ix4 b s h d) = if hs : s.val < 256 then val_main_v72 (F := Ideal) x0 x1 x2 x3 (ix4 b ⟨s.val, hs⟩ h d)
      else val_main_v145 (F := Ideal) x0 x1 x2 x3 (ix4 b ⟨s.val - 256, by omega⟩ h d) := by
    pointwise [val_main_v207]
  rw [e]
  refine joined (fun s => colAt x0 x1 x2 x3 b s (2176 + (h.val * 64 + d.val)) (by omega)) (fun l => val_main_v72 (F := Ideal) x0 x1 x2 x3 (ix4 b l h d)) (fun l => val_main_v145 (F := Ideal) x0 x1 x2 x3 (ix4 b l h d)) (fun l => ?_) (fun l => ?_) s
  · exact gvC x0 x1 x2 x3 b l h d
  · exact gvL x0 x1 x2 x3 b l h d

end Cert.ProjRef
-- ==== Proof.ProjRef.Equation.lean ====
/- The reference's queries, keys and values, each the formula of the kernel's. -/
module

public import proofs.«01_k».proof.Proof.ProjRef.Joined

@[expose] public section

set_option maxRecDepth 16384

noncomputable section

namespace Cert.ProjRef

open Cert.Reference5Ideal Cert.Reference5Ideal.Gen Cert.Reference5Ideal.Read Idealize.ShloMosaic Idealize.ShloMosaic.Pointwise Cert.Proj

variable (x0 : FVec Ideal S32x2304x1024 .f32) (x1 : FVec Ideal S32x2x6x1024 .f32) (x2 : FVec Ideal S4x1024 .f32) (x3 : FVec Ideal S1024x2304 .f32)
  (x4 x5 : FVec Ideal S2048x64 .f32) (x6 : FVec Ideal S2x64 .f32)

/-- The row the kernel keeps at `o` is the column of the weights sorted there. -/
theorem sorted_column (b : Fin 32) (s : Fin 2304) (o : ℕ) (h : o < 2304) (o' : ℕ) (h' : o' < 2304) (e : perm o = o') :
    colAt x0 x1 x2 x3 b s o' h' = rowAt x0 x1 x2 x3 b s o h := by
  subst e; rfl

/-- The queries of a token. -/
theorem query_read (b : Fin 32) (s : Fin 2304) (r : Fin 1024) :
    val_main_v212 (F := Ideal) x0 x1 x2 x3 x4 x5 x6 (ix3 b s r) = queryAt x0 x1 x2 x3 x4 x5 x6 b s r := by
  have e : val_main_v212 (F := Ideal) x0 x1 x2 x3 x4 x5 x6 (ix3 b s r)
      = (if _ : r.val < 512 then val_main_v202 (F := Ideal) x0 x1 x2 x3 x4 x5 (ix5 b s ⟨r.val / 128, by omega⟩ ⟨r.val / 64 % 2, by omega⟩ ⟨r.val % 64, by omega⟩)
        else val_main_v205 (F := Ideal) x0 x1 x2 x3 x4 x5 x6 (ix5 b s ⟨(r.val - 512) / 256, by omega⟩ ⟨(r.val - 512) / 64 % 4, by omega⟩ ⟨(r.val - 512) % 64, by omega⟩))
        * Ideal.ofBits .f32 0x3E38AA3B#32 := by
    pointwise [val_main_v212, val_main_v211, val_main_cst_19, val_main_v210, val_main_v208, val_main_v209]
  rw [e]
  unfold queryAt query heads
  refine congrArg (· * Ideal.ofBits .f32 0x3E38AA3B#32) ?_
  split
  · next h =>
    refine (dq_joined x0 x1 x2 x3 x4 x5 b s _ _ _).trans ?_
    refine congrArg (fun x => turn x (cosAt x4 s) (sinAt x5 s) ⟨r.val % 64, by omega⟩) (Eq.trans (funext fun j => ?_) (if_pos (by show r.val / 64 < 8; omega)).symm)
    exact sorted_column x0 x1 x2 x3 b s (64 * (r.val / 64) + j.val) (by omega) _ _ (by show perm (64 * (r.val / 64) + j.val) = r.val / 128 * 128 + r.val / 64 % 2 * 64 + j.val; unfold perm; split_ifs <;> omega)
  · next h =>
    refine (gq_joined x0 x1 x2 x3 x4 x5 x6 b s _ _ _).trans ?_
    refine congrArg₂ (fun x d => turn x (cosAt x4 s) (sinAt x5 s) d) (Eq.trans (congrArg (fun x => norm64 x fun j => x6 (ix2 0 j)) (funext fun j => ?_)) (if_neg (by show ¬ r.val / 64 < 8; omega)).symm)
      (Fin.ext (by show (r.val - 512) % 64 = r.val % 64; omega))
    exact sorted_column x0 x1 x2 x3 b s (64 * (r.val / 64) + j.val) (by omega) _ _ (by show perm (64 * (r.val / 64) + j.val) = 1536 + ((r.val - 512) / 256 * 256 + (r.val - 512) / 64 % 4 * 64 + j.val); unfold perm; split_ifs <;> omega)

/-- The keys of a token. -/
theorem key_read (b : Fin 32) (s : Fin 2304) (r : Fin 640) :
    val_main_v215 (F := Ideal) x0 x1 x2 x3 x4 x5 x6 (ix3 b s r) = keyAt x0 x1 x2 x3 x4 x5 x6 b s r := by
  have e : val_main_v215 (F := Ideal) x0 x1 x2 x3 x4 x5 x6 (ix3 b s r)
      = if _ : r.val < 512 then val_main_v203 (F := Ideal) x0 x1 x2 x3 x4 x5 (ix5 b s ⟨r.val / 128, by omega⟩ ⟨r.val / 64 % 2, by omega⟩ ⟨r.val % 64, by omega⟩)
        else val_main_v206 (F := Ideal) x0 x1 x2 x3 x4 x5 x6 (ix4 b s ⟨(r.val - 512) / 64, by omega⟩ ⟨(r.val - 512) % 64, by omega⟩) := by
    pointwise [val_main_v215, val_main_v213, val_main_v214]
  rw [e]
  unfold keyAt key heads
  split
  · next h =>
    refine (dk_joined x0 x1 x2 x3 x4 x5 b s _ _ _).trans ?_
    refine congrArg (fun x => turn x (cosAt x4 s) (sinAt x5 s) ⟨r.val % 64, by omega⟩) (Eq.trans (funext fun j => ?_) (if_pos (by show r.val / 64 < 8; omega)).symm)
    exact sorted_column x0 x1 x2 x3 b s (1024 + (64 * (r.val / 64) + j.val)) (by omega) _ _ (by show perm (1024 + (64 * (r.val / 64) + j.val)) = 512 + (r.val / 128 * 128 + r.val / 64 % 2 * 64 + j.val); unfold perm; split_ifs <;> omega)
  · next h =>
    refine (gk_joined x0 x1 x2 x3 x4 x5 x6 b s _ _).trans ?_
    refine congrArg₂ (fun x d => turn x (cosAt x4 s) (sinAt x5 s) d) (Eq.trans (congrArg (fun x => norm64 x fun j => x6 (ix2 1 j)) (funext fun j => ?_)) (if_neg (by show ¬ r.val / 64 < 8; omega)).symm)
      (Fin.ext (by show (r.val - 512) % 64 = r.val % 64; omega))
    exact sorted_column x0 x1 x2 x3 b s (1024 + (64 * (r.val / 64) + j.val)) (by omega) _ _ (by show perm (1024 + (64 * (r.val / 64) + j.val)) = 2048 + ((r.val - 512) / 64 * 64 + j.val); unfold perm; split_ifs <;> omega)

/-- The values of a token. -/
theorem value_read (b : Fin 32) (s : Fin 2304) (r : Fin 736) :
    val_main_v222 (F := Ideal) x0 x1 x2 x3 (ix3 b s r) = valueAt x0 x1 x2 x3 b s r := by
  have e : val_main_v222 (F := Ideal) x0 x1 x2 x3 (ix3 b s r)
      = if _ : r.val < 576 then
          if _ : r.val % 144 < 128 then val_main_v204 (F := Ideal) x0 x1 x2 x3 (ix4 b s ⟨r.val / 144, by omega⟩ ⟨r.val % 144, by omega⟩) else Ideal.ofBits .f32 0x3F800000#32
        else
          if _ : (r.val - 576) % 80 < 64 then val_main_v207 (F := Ideal) x0 x1 x2 x3 (ix4 b s ⟨(r.val - 576) / 80, by omega⟩ ⟨(r.val - 576) % 80, by omega⟩)
          else Ideal.ofBits .f32 0x3F800000#32 := by
    pointwise [val_main_v222, val_main_v221, val_main_v220, val_main_v219, val_main_v218, val_main_cst_21, val_main_v217, val_main_v216, val_main_cst_20]
  rw [e]
  unfold valueAt value
  split
  · split
    · refine (dv_joined x0 x1 x2 x3 b s _ _).trans (sorted_column x0 x1 x2 x3 b s _ _ _ _ ?_)
      show perm (1664 + (128 * (r.val / 144) + r.val % 144)) = 1024 + (r.val / 144 * 128 + r.val % 144)
      unfold perm; split_ifs <;> omega
    · rfl
  · split
    · refine (gv_joined x0 x1 x2 x3 b s _ _).trans (sorted_column x0 x1 x2 x3 b s _ _ _ _ ?_)
      show perm (1664 + (512 + 64 * ((r.val - 576) / 80) + (r.val - 576) % 80)) = 2176 + ((r.val - 576) / 80 * 64 + (r.val - 576) % 80)
      unfold perm; split_ifs <;> omega
    · rfl

/-- The token at a place of a tile. -/
theorem place_eq (p : Fin 288) (t : Fin 256) : (⟨p.val % 9 * 256 + t.val, by omega⟩ : Fin 2304) = place p t :=
  Fin.ext (by show p.val % 9 * 256 + t.val = 256 * (p.val % 9) + t.val; omega)

/-- The reference's queries, tile by tile. -/
theorem q_eq : val_main_v225 (F := Ideal) x0 x1 x2 x3 x4 x5 x6
    = fun i : S288x1024x256.Idx => queryAt x0 x1 x2 x3 x4 x5 x6 (rowOf (i 0)) (place (i 0) (i 2)) (i 1) := by
  funext i
  obtain ⟨p, r, t, rfl⟩ : ∃ (p : Fin 288) (r : Fin 1024) (t : Fin 256), i = ix3 p r t := ⟨i 0, i 1, i 2, eq_ix3 i⟩
  have e : val_main_v225 (F := Ideal) x0 x1 x2 x3 x4 x5 x6 (ix3 p r t)
      = val_main_v212 (F := Ideal) x0 x1 x2 x3 x4 x5 x6 (ix3 ⟨p.val / 9, by omega⟩ ⟨p.val % 9 * 256 + t.val, by omega⟩ r) := by
    pointwise [val_main_v225, val_main_v224, val_main_v223]
  rw [e, place_eq, query_read]
  rfl

/-- The reference's keys. -/
theorem k_eq : val_main_v227 (F := Ideal) x0 x1 x2 x3 x4 x5 x6
    = fun i : S288x256x640.Idx => keyAt x0 x1 x2 x3 x4 x5 x6 (rowOf (i 0)) (place (i 0) (i 1)) (i 2) := by
  funext i
  obtain ⟨p, t, r, rfl⟩ : ∃ (p : Fin 288) (t : Fin 256) (r : Fin 640), i = ix3 p t r := ⟨i 0, i 1, i 2, eq_ix3 i⟩
  have e : val_main_v227 (F := Ideal) x0 x1 x2 x3 x4 x5 x6 (ix3 p t r)
      = val_main_v215 (F := Ideal) x0 x1 x2 x3 x4 x5 x6 (ix3 ⟨p.val / 9, by omega⟩ ⟨p.val % 9 * 256 + t.val, by omega⟩ r) := by
    pointwise [val_main_v227, val_main_v226]
  rw [e, place_eq, key_read]
  rfl

/-- The reference's values. -/
theorem v_eq : val_main_v230 (F := Ideal) x0 x1 x2 x3
    = fun i : S288x736x256.Idx => valueAt x0 x1 x2 x3 (rowOf (i 0)) (place (i 0) (i 2)) (i 1) := by
  funext i
  obtain ⟨p, r, t, rfl⟩ : ∃ (p : Fin 288) (r : Fin 736) (t : Fin 256), i = ix3 p r t := ⟨i 0, i 1, i 2, eq_ix3 i⟩
  have e : val_main_v230 (F := Ideal) x0 x1 x2 x3 (ix3 p r t)
      = val_main_v222 (F := Ideal) x0 x1 x2 x3 (ix3 ⟨p.val / 9, by omega⟩ ⟨p.val % 9 * 256 + t.val, by omega⟩ r) := by
    pointwise [val_main_v230, val_main_v229, val_main_v228]
  rw [e, place_eq, value_read]
  rfl

end Cert.ProjRef
-- ==== Proof.ProjClaims.lean ====
/- The claims about the projection to queries, keys and values. -/
module

public import proofs.«01_k».proof.Defs
public import proofs.«01_k».proof.Proof.Proj.Array
public import proofs.«01_k».proof.Proof.ProjRef.Equation
public import proofs.«01_k».proof.Proof.Gen.Reference5Ideal.Run
public import proofs.«01_k».proof.Proof.Gen.Kernel5.Frame
public import proofs.«01_k».proof.Proof.Gen.Kernel5Ideal.Frame

@[expose] public section

noncomputable section

namespace Cert.Proof.ProjClaims

open Idealize.ShloMosaic Idealize.ShloMosaic.TcCoe Idealize.SL.Sem Cert.Proj Cert.Kernel5Ideal

/-- The projection runs, with its arguments unchanged. -/
theorem frame_p : Cert.quiescent_Kernel5 := fun m ρ _ => Cert.Kernel5.Gen.frame m ρ
/-- So does it over the reals. -/
theorem frame_pi : Cert.quiescent_Kernel5Ideal := fun m ρ _ => Cert.Kernel5Ideal.Gen.frame m ρ
/-- Its reference runs, with its arguments unchanged. -/
theorem frame_ri : Cert.quiescent_Reference5Ideal := fun m ρ _ =>
  (θ_run Cert.Reference5Ideal.defs _ _).mono (fun r h => ⟨fun c => (h c).2.2.2, Idealize.ShloMosaic.sem_eq_zero_of_no_sems (by decide) r.2⟩)
    (Cert.Reference5Ideal.Value.run (F := Ideal) m ρ)

/-- The ideal projection is the kernel's own text. -/
theorem preserves : Cert.preserves_Kernel5_Kernel5Ideal := trivial

variable (m : (ℓ : Loc nD τ sig) → Buf (Elt Ideal) ℓ) (c : Dev nD)
  (y0 : FVec Ideal ⟨3, ![32, 2304, 1024]⟩ .f32) (y1 : FVec Ideal ⟨4, ![32, 2, 6, 1024]⟩ .f32) (y2 : FVec Ideal ⟨2, ![4, 1024]⟩ .f32)
  (y3 : FVec Ideal ⟨2, ![1024, 2304]⟩ .f32) (y4 y5 : FVec Ideal ⟨2, ![2048, 64]⟩ .f32) (y6 : FVec Ideal ⟨2, ![2, 64]⟩ .f32)

/-- Queries of equal arguments are equal, -/
theorem same_query (e0 : y0 = aX m c) (e1 : y1 = aM m c) (e2 : y2 = aG m c) (e3 : y3 = aW m c) (e4 : y4 = aC m c) (e5 : y5 = aS m c) (e6 : y6 = aQ m c) :
    (fun i : S288x1024x256.Idx => queryAt y0 y1 y2 y3 y4 y5 y6 (rowOf (i 0)) (place (i 0) (i 2)) (i 1))
      = fun i : S288x1024x256.Idx => queryRes m c (i 0) (i 1) (i 2) := by
  rw [e0, e1, e2, e3, e4, e5, e6]

/-- and keys, -/
theorem same_key (e0 : y0 = aX m c) (e1 : y1 = aM m c) (e2 : y2 = aG m c) (e3 : y3 = aW m c) (e4 : y4 = aC m c) (e5 : y5 = aS m c) (e6 : y6 = aQ m c) :
    (fun i : S288x256x640.Idx => keyAt y0 y1 y2 y3 y4 y5 y6 (rowOf (i 0)) (place (i 0) (i 1)) (i 2))
      = fun i : S288x256x640.Idx => keyRes m c (i 0) (i 1) (i 2) := by
  rw [e0, e1, e2, e3, e4, e5, e6]

/-- and values. -/
theorem same_value (e0 : y0 = aX m c) (e1 : y1 = aM m c) (e2 : y2 = aG m c) (e3 : y3 = aW m c) :
    (fun i : S288x736x256.Idx => valueAt y0 y1 y2 y3 (rowOf (i 0)) (place (i 0) (i 2)) (i 1))
      = fun i : S288x736x256.Idx => valueRes m c (i 0) (i 1) (i 2) := by
  rw [e0, e1, e2, e3]

/-- Over the reals the projection and its reference end with the same queries, keys and values. -/
theorem algebraic : Cert.algebraic_Kernel5Ideal_Reference5Ideal := by
  intro m ρ m' ρ' _ hagree
  refine ⟨fun c => fun i : S288x1024x256.Idx => queryRes m c (i 0) (i 1) (i 2), fun c => fun i : S288x256x640.Idx => keyRes m c (i 0) (i 1) (i 2),
    fun c => fun i : S288x736x256.Idx => valueRes m c (i 0) (i 1) (i 2), ?_, ?_⟩
  · exact (θ_run Cert.Kernel5Ideal.defs _ _).mono (fun r h c => ⟨(h c).1.trans (query_result m c), (h c).2.1.trans (key_result m c),
      (h c).2.2.1.trans (value_result m c), (h c).2.2.2⟩) (Cert.Kernel5Ideal.Value.run_blocks m ρ)
  · refine (θ_run Cert.Reference5Ideal.defs _ _).mono (fun r h c => ?_) (Cert.Reference5Ideal.Value.run (F := Ideal) m' ρ')
    obtain ⟨e0, e1, e2, e3, e4, e5, e6⟩ := hagree c
    refine ⟨(h c).1.trans ?_, (h c).2.1.trans ?_, (h c).2.2.1.trans ?_, (h c).2.2.2⟩
    · exact ((Cert.Reference5Ideal.Read.val_main_v225_eq (StableHlo.launchContents m' c)).trans (Cert.ProjRef.q_eq _ _ _ _ _ _ _)).trans (same_query m c _ _ _ _ _ _ _ e0 e1 e2 e3 e4 e5 e6)
    · exact ((Cert.Reference5Ideal.Read.val_main_v227_eq (StableHlo.launchContents m' c)).trans (Cert.ProjRef.k_eq _ _ _ _ _ _ _)).trans (same_key m c _ _ _ _ _ _ _ e0 e1 e2 e3 e4 e5 e6)
    · exact ((Cert.Reference5Ideal.Read.val_main_v230_eq (StableHlo.launchContents m' c)).trans (Cert.ProjRef.v_eq _ _ _ _)).trans (same_value m c _ _ _ _ e0 e1 e2 e3)

end Cert.Proof.ProjClaims
-- ==== Proof.lean ====
module

public import proofs.«01_k».proof.Defs
public import proofs.«01_k».proof.Proof.Claims
public import proofs.«01_k».proof.Proof.FfnClaims
public import proofs.«01_k».proof.Proof.GdnClaims
public import proofs.«01_k».proof.Proof.GdnLastClaims
public import proofs.«01_k».proof.Proof.ProjClaims
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import Idealize.ShloMosaic.Adequacy
public import Idealize.ShloMosaic.Init

@[expose] public section

noncomputable section

namespace Cert.Proof

open Idealize.ShloMosaic Idealize.SL.Sem Cert.Kernel

theorem claim : Cert.Claim := ⟨
  Cert.Kernel.Gen.facts, Cert.KernelIdeal.Gen.facts, Cert.ReferenceIdeal.Gen.facts, Cert.Kernel2.Gen.facts, Cert.Kernel2Ideal.Gen.facts,
  Cert.Reference2Ideal.Gen.facts, Cert.Kernel3.Gen.facts, Cert.Kernel3Ideal.Gen.facts, Cert.Reference3Ideal.Gen.facts, Cert.Kernel4.Gen.facts,
  Cert.Kernel4Ideal.Gen.facts, Cert.Reference4Ideal.Gen.facts, Cert.Kernel5.Gen.facts, Cert.Kernel5Ideal.Gen.facts,
  Cert.Reference5Ideal.Gen.facts, Cert.Pre_finite.Gen.facts, AttnClaims.frame_p, AttnClaims.frame_pi, AttnClaims.frame_pi_finite,
  AttnClaims.frame_ri, AttnClaims.frame_ri_finite, FfnClaims.frame_p, FfnClaims.frame_pi, FfnClaims.frame_ri, GdnClaims.frame_p,
  GdnClaims.frame_pi, GdnClaims.frame_ri, GdnLastClaims.frame_p, GdnLastClaims.frame_pi, GdnLastClaims.frame_ri, ProjClaims.frame_p,
  ProjClaims.frame_pi, ProjClaims.frame_ri, AttnClaims.preserves, AttnClaims.algebraic, FfnClaims.preserves, FfnClaims.algebraic,
  GdnClaims.preserves, GdnClaims.algebraic, GdnLastClaims.preserves, GdnLastClaims.algebraic, ProjClaims.preserves, ProjClaims.algebraic⟩

end Cert.Proof

end
